-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12)
      ∧ r.2.mem ((c.tc : Thread Cert.Kernel7.nD Cert.Kernel7.τ).loc Cert.Kernel7.main_arg13) = m ((c.tc : Thread Cert.Kernel7.nD Cert.Kernel7.τ).loc Cert.Kernel7.main_arg13)
      ∧ r.2.mem ((c.tc : Thread Cert.Kernel7.nD Cert.Kernel7.τ).loc Cert.Kernel7.main_arg14) = m ((c.tc : Thread Cert.Kernel7.nD Cert.Kernel7.τ).loc Cert.Kernel7.main_arg14)
      ∧ r.2.mem ((c.tc : Thread Cert.Kernel7.nD Cert.Kernel7.τ).loc Cert.Kernel7.main_arg15) = m ((c.tc : Thread Cert.Kernel7.nD Cert.Kernel7.τ).loc Cert.Kernel7.main_arg15)
      ∧ r.2.mem ((c.tc : Thread Cert.Kernel7.nD Cert.Kernel7.τ).loc Cert.Kernel7.main_arg16) = m ((c.tc : Thread Cert.Kernel7.nD Cert.Kernel7.τ).loc Cert.Kernel7.main_arg16))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
      ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
      ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15)
      ∧ r.2.mem ((c.tc : Thread Cert.Kernel7Ideal.nD Cert.Kernel7Ideal.τ).loc Cert.Kernel7Ideal.main_arg16) = m ((c.tc : Thread Cert.Kernel7Ideal.nD Cert.Kernel7Ideal.τ).loc Cert.Kernel7Ideal.main_arg16))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13)
      ∧ r.2.mem ((c.tc : Thread Cert.Reference7Ideal.nD Cert.Reference7Ideal.τ).loc Cert.Reference7Ideal.main_arg14) = m ((c.tc : Thread Cert.Reference7Ideal.nD Cert.Reference7Ideal.τ).loc Cert.Reference7Ideal.main_arg14)
      ∧ r.2.mem ((c.tc : Thread Cert.Reference7Ideal.nD Cert.Reference7Ideal.τ).loc Cert.Reference7Ideal.main_arg15) = m ((c.tc : Thread Cert.Reference7Ideal.nD Cert.Reference7Ideal.τ).loc Cert.Reference7Ideal.main_arg15)
      ∧ r.2.mem ((c.tc : Thread Cert.Reference7Ideal.nD Cert.Reference7Ideal.τ).loc Cert.Reference7Ideal.main_arg16) = m ((c.tc : Thread Cert.Reference7Ideal.nD Cert.Reference7Ideal.τ).loc Cert.Reference7Ideal.main_arg16))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v38)) (v2 : (c : Dev Cert.KernelIdeal.nD) → Buf (Elt Ideal) ((c.tc : Thread Cert.KernelIdeal.nD Cert.KernelIdeal.τ).loc Cert.KernelIdeal.main_v41)) (v3 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v38) = v1 c
          ∧ r.2.mem ((c.tc : Thread Cert.KernelIdeal.nD Cert.KernelIdeal.τ).loc Cert.KernelIdeal.main_v41) = v2 c
          ∧ r.2.mem ((c.tc : Thread Cert.KernelIdeal.nD Cert.KernelIdeal.τ).loc Cert.KernelIdeal.main_v44) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v117) = v1 c
          ∧ r.2.mem ((c.tc : Thread Cert.ReferenceIdeal.nD Cert.ReferenceIdeal.τ).loc Cert.ReferenceIdeal.main_v115) = v2 c
          ∧ r.2.mem ((c.tc : Thread Cert.ReferenceIdeal.nD Cert.ReferenceIdeal.τ).loc Cert.ReferenceIdeal.main_v113) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v11)) (v1 : (c : Dev Cert.Kernel3Ideal.nD) → Buf (Elt Ideal) ((c.tc : Thread Cert.Kernel3Ideal.nD Cert.Kernel3Ideal.τ).loc Cert.Kernel3Ideal.main_v12)) (v2 : (c : Dev Cert.Kernel3Ideal.nD) → Buf (Elt Ideal) ((c.tc : Thread Cert.Kernel3Ideal.nD Cert.Kernel3Ideal.τ).loc Cert.Kernel3Ideal.main_v15)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_v12) = v1 c
          ∧ r.2.mem ((c.tc : Thread Cert.Kernel3Ideal.nD Cert.Kernel3Ideal.τ).loc Cert.Kernel3Ideal.main_v15) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v90) = v0 c
          ∧ r.2.mem ((c.tc : Thread Cert.Reference3Ideal.nD Cert.Reference3Ideal.τ).loc Cert.Reference3Ideal.main_v93) = v1 c
          ∧ r.2.mem ((c.tc : Thread Cert.Reference3Ideal.nD Cert.Reference3Ideal.τ).loc Cert.Reference3Ideal.main_v100) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)
      ∧ m' ((c.tc : Thread Cert.Reference7Ideal.nD Cert.Reference7Ideal.τ).loc Cert.Reference7Ideal.main_arg13) = m ((c.tc : Thread Cert.Kernel7Ideal.nD Cert.Kernel7Ideal.τ).loc Cert.Kernel7Ideal.main_arg13)
      ∧ m' ((c.tc : Thread Cert.Reference7Ideal.nD Cert.Reference7Ideal.τ).loc Cert.Reference7Ideal.main_arg14) = m ((c.tc : Thread Cert.Kernel7Ideal.nD Cert.Kernel7Ideal.τ).loc Cert.Kernel7Ideal.main_arg14)
      ∧ m' ((c.tc : Thread Cert.Reference7Ideal.nD Cert.Reference7Ideal.τ).loc Cert.Reference7Ideal.main_arg15) = m ((c.tc : Thread Cert.Kernel7Ideal.nD Cert.Kernel7Ideal.τ).loc Cert.Kernel7Ideal.main_arg15)
      ∧ m' ((c.tc : Thread Cert.Reference7Ideal.nD Cert.Reference7Ideal.τ).loc Cert.Reference7Ideal.main_arg16) = m ((c.tc : Thread Cert.Kernel7Ideal.nD Cert.Kernel7Ideal.τ).loc Cert.Kernel7Ideal.main_arg16)) →
    ∃ (v0 : (c : Dev Cert.Kernel7Ideal.nD) → Buf (Elt Ideal) ((c.tc : Thread Cert.Kernel7Ideal.nD Cert.Kernel7Ideal.τ).loc Cert.Kernel7Ideal.main_v23)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v23) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
          ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
          ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
          ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15)
          ∧ r.2.mem ((c.tc : Thread Cert.Kernel7Ideal.nD Cert.Kernel7Ideal.τ).loc Cert.Kernel7Ideal.main_arg16) = m ((c.tc : Thread Cert.Kernel7Ideal.nD Cert.Kernel7Ideal.τ).loc Cert.Kernel7Ideal.main_arg16))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v63) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12)
          ∧ r.2.mem ((c.tc : Thread Cert.Reference7Ideal.nD Cert.Reference7Ideal.τ).loc Cert.Reference7Ideal.main_arg13) = m' ((c.tc : Thread Cert.Reference7Ideal.nD Cert.Reference7Ideal.τ).loc Cert.Reference7Ideal.main_arg13)
          ∧ r.2.mem ((c.tc : Thread Cert.Reference7Ideal.nD Cert.Reference7Ideal.τ).loc Cert.Reference7Ideal.main_arg14) = m' ((c.tc : Thread Cert.Reference7Ideal.nD Cert.Reference7Ideal.τ).loc Cert.Reference7Ideal.main_arg14)
          ∧ r.2.mem ((c.tc : Thread Cert.Reference7Ideal.nD Cert.Reference7Ideal.τ).loc Cert.Reference7Ideal.main_arg15) = m' ((c.tc : Thread Cert.Reference7Ideal.nD Cert.Reference7Ideal.τ).loc Cert.Reference7Ideal.main_arg15)
          ∧ r.2.mem ((c.tc : Thread Cert.Reference7Ideal.nD Cert.Reference7Ideal.τ).loc Cert.Reference7Ideal.main_arg16) = m' ((c.tc : Thread Cert.Reference7Ideal.nD Cert.Reference7Ideal.τ).loc Cert.Reference7Ideal.main_arg16))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v16) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v2)) (v1 : (c : Dev Cert.Kernel9Ideal.nD) → Buf (Elt Ideal) ((c.tc : Thread Cert.Kernel9Ideal.nD Cert.Kernel9Ideal.τ).loc Cert.Kernel9Ideal.main_v3)) (v2 : (c : Dev Cert.Kernel9Ideal.nD) → Buf (Elt Ideal) ((c.tc : Thread Cert.Kernel9Ideal.nD Cert.Kernel9Ideal.τ).loc Cert.Kernel9Ideal.main_v4)) (v3 : (c : Dev Cert.Kernel9Ideal.nD) → Buf (Elt Ideal) ((c.tc : Thread Cert.Kernel9Ideal.nD Cert.Kernel9Ideal.τ).loc Cert.Kernel9Ideal.main_v5)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_v3) = v1 c
          ∧ r.2.mem ((c.tc : Thread Cert.Kernel9Ideal.nD Cert.Kernel9Ideal.τ).loc Cert.Kernel9Ideal.main_v4) = v2 c
          ∧ r.2.mem ((c.tc : Thread Cert.Kernel9Ideal.nD Cert.Kernel9Ideal.τ).loc Cert.Kernel9Ideal.main_v5) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v0) = v0 c
          ∧ r.2.mem ((c.tc : Thread Cert.Reference9Ideal.nD Cert.Reference9Ideal.τ).loc Cert.Reference9Ideal.main_v2) = v1 c
          ∧ r.2.mem ((c.tc : Thread Cert.Reference9Ideal.nD Cert.Reference9Ideal.τ).loc Cert.Reference9Ideal.main_v1) = v2 c
          ∧ r.2.mem ((c.tc : Thread Cert.Reference9Ideal.nD Cert.Reference9Ideal.τ).loc Cert.Reference9Ideal.main_v3) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v10)) (v1 : (c : Dev Cert.Kernel12Ideal.nD) → Buf (Elt Ideal) ((c.tc : Thread Cert.Kernel12Ideal.nD Cert.Kernel12Ideal.τ).loc Cert.Kernel12Ideal.main_v13)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v10) = v0 c
          ∧ r.2.mem ((c.tc : Thread Cert.Kernel12Ideal.nD Cert.Kernel12Ideal.τ).loc Cert.Kernel12Ideal.main_v13) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v0) = v0 c
          ∧ r.2.mem ((c.tc : Thread Cert.Reference12Ideal.nD Cert.Reference12Ideal.τ).loc Cert.Reference12Ideal.main_v1) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v6)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v6) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v6)) (v1 : (c : Dev Cert.Kernel14Ideal.nD) → Buf (Elt Ideal) ((c.tc : Thread Cert.Kernel14Ideal.nD Cert.Kernel14Ideal.τ).loc Cert.Kernel14Ideal.main_v7)) (v2 : (c : Dev Cert.Kernel14Ideal.nD) → Buf (Elt Ideal) ((c.tc : Thread Cert.Kernel14Ideal.nD Cert.Kernel14Ideal.τ).loc Cert.Kernel14Ideal.main_v8)) (v3 : (c : Dev Cert.Kernel14Ideal.nD) → Buf (Elt Ideal) ((c.tc : Thread Cert.Kernel14Ideal.nD Cert.Kernel14Ideal.τ).loc Cert.Kernel14Ideal.main_v9)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v6) = v0 c
          ∧ r.2.mem ((c.tc : Thread Cert.Kernel14Ideal.nD Cert.Kernel14Ideal.τ).loc Cert.Kernel14Ideal.main_v7) = v1 c
          ∧ r.2.mem ((c.tc : Thread Cert.Kernel14Ideal.nD Cert.Kernel14Ideal.τ).loc Cert.Kernel14Ideal.main_v8) = v2 c
          ∧ r.2.mem ((c.tc : Thread Cert.Kernel14Ideal.nD Cert.Kernel14Ideal.τ).loc Cert.Kernel14Ideal.main_v9) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_arg0) = v0 c
          ∧ r.2.mem ((c.tc : Thread Cert.Reference14Ideal.nD Cert.Reference14Ideal.τ).loc Cert.Reference14Ideal.main_v23) = v1 c
          ∧ r.2.mem ((c.tc : Thread Cert.Reference14Ideal.nD Cert.Reference14Ideal.τ).loc Cert.Reference14Ideal.main_v4) = v2 c
          ∧ r.2.mem ((c.tc : Thread Cert.Reference14Ideal.nD Cert.Reference14Ideal.τ).loc Cert.Reference14Ideal.main_v10) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_v25) = v1 c
          ∧ r.2.mem ((c.tc : Thread Cert.Reference15Ideal.nD Cert.Reference15Ideal.τ).loc Cert.Reference15Ideal.main_v6) = v2 c
          ∧ r.2.mem ((c.tc : Thread Cert.Reference15Ideal.nD Cert.Reference15Ideal.τ).loc Cert.Reference15Ideal.main_v12) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v1_0)) (v1 : (c : Dev Cert.Kernel18Ideal.nD) → Buf (Elt Ideal) ((c.tc : Thread Cert.Kernel18Ideal.nD Cert.Kernel18Ideal.τ).loc Cert.Kernel18Ideal.main_v1_1)) (v2 : (c : Dev Cert.Kernel18Ideal.nD) → Buf (Elt Ideal) ((c.tc : Thread Cert.Kernel18Ideal.nD Cert.Kernel18Ideal.τ).loc Cert.Kernel18Ideal.main_v1_2)) (v3 : (c : Dev Cert.Kernel18Ideal.nD) → Buf (Elt Ideal) ((c.tc : Thread Cert.Kernel18Ideal.nD Cert.Kernel18Ideal.τ).loc Cert.Kernel18Ideal.main_v1_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1_0) = v0 c
          ∧ r.2.mem ((c.tc : Thread Cert.Kernel18Ideal.nD Cert.Kernel18Ideal.τ).loc Cert.Kernel18Ideal.main_v1_1) = v1 c
          ∧ r.2.mem ((c.tc : Thread Cert.Kernel18Ideal.nD Cert.Kernel18Ideal.τ).loc Cert.Kernel18Ideal.main_v1_2) = v2 c
          ∧ r.2.mem ((c.tc : Thread Cert.Kernel18Ideal.nD Cert.Kernel18Ideal.τ).loc Cert.Kernel18Ideal.main_v1_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_arg0) = v0 c
          ∧ r.2.mem ((c.tc : Thread Cert.Reference18Ideal.nD Cert.Reference18Ideal.τ).loc Cert.Reference18Ideal.main_v23) = v1 c
          ∧ r.2.mem ((c.tc : Thread Cert.Reference18Ideal.nD Cert.Reference18Ideal.τ).loc Cert.Reference18Ideal.main_v4) = v2 c
          ∧ r.2.mem ((c.tc : Thread Cert.Reference18Ideal.nD Cert.Reference18Ideal.τ).loc Cert.Reference18Ideal.main_v10) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v17) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
-- ==== Pre_finite.lean ====
abbrev S8x8448x96 : Shape := ⟨3, ![8, 8448, 96]⟩
abbrev S8x8448x64 : Shape := ⟨3, ![8, 8448, 64]⟩
abbrev S_ : Shape := ⟨0, ![]⟩

class Facts : Prop where
  bcast_S_S8x8448x96 : S_.BroadcastsInDim S8x8448x96 (![] : Fin 0 → Fin S8x8448x96.rank)
  reducesTo_S8x8448x96_S_d0_1_2 : S8x8448x96.ReducesTo [0, 1, 2] S_
  h_S_ : 0 < S_.numel
  bcast_S_S8x8448x64 : S_.BroadcastsInDim S8x8448x64 (![] : Fin 0 → Fin S8x8448x64.rank)
  reducesTo_S8x8448x64_S_d0_1_2 : S8x8448x64.ReducesTo [0, 1, 2] S_

variable [Facts]

def fn_part1 {F : FTy → Type} [FloatOps F] (main_v13 : IVec S_ 1) (main_v16 : IVec S8x8448x64 1) : IVec S_ 1 :=
  let main_c_5 : IVec S_ 1 := constantI S_ 1 1#1
  let main_v17 : IVec S_ 1 := (fun x v => Host.reduce IntOp.andi x v reducesTo_S8x8448x64_S_d0_1_2 h_S_) main_v16 main_c_5
  let main_v18 : IVec S_ 1 := andi main_v13 main_v17
  main_v18

def fn {F : FTy → Type} [FloatOps F] (main_arg0 : FVec F S8x8448x96 .f32) (main_arg1 : FVec F S8x8448x96 .f32) (main_arg2 : FVec F S8x8448x64 .f32) (main_arg3 : FVec F S8x8448x64 .f32) : IVec S_ 1 :=
  let main_v0 : FVec F S8x8448x96 .f32 := Host.absf main_arg0
  let main_cst : FVec F S_ .f32 := constant S_ .f32 0x7F800000#32
  let main_v1 : FVec F S8x8448x96 .f32 := broadcastInDim S8x8448x96 ![] bcast_S_S8x8448x96 main_cst
  let main_v2 : IVec S8x8448x96 1 := cmpf .olt main_v0 main_v1
  let main_c : IVec S_ 1 := constantI S_ 1 1#1
  let main_v3 : IVec S_ 1 := (fun x v => Host.reduce IntOp.andi x v reducesTo_S8x8448x96_S_d0_1_2 h_S_) main_v2 main_c
  let main_v4 : FVec F S8x8448x96 .f32 := Host.absf main_arg1
  let main_cst_0 : FVec F S_ .f32 := constant S_ .f32 0x7F800000#32
  let main_v5 : FVec F S8x8448x96 .f32 := broadcastInDim S8x8448x96 ![] bcast_S_S8x8448x96 main_cst_0
  let main_v6 : IVec S8x8448x96 1 := cmpf .olt main_v4 main_v5
  let main_c_1 : IVec S_ 1 := constantI S_ 1 1#1
  let main_v7 : IVec S_ 1 := (fun x v => Host.reduce IntOp.andi x v reducesTo_S8x8448x96_S_d0_1_2 h_S_) main_v6 main_c_1
  let main_v8 : IVec S_ 1 := andi main_v3 main_v7
  let main_v9 : FVec F S8x8448x64 .f32 := Host.absf main_arg2
  let main_cst_2 : FVec F S_ .f32 := constant S_ .f32 0x7F800000#32
  let main_v10 : FVec F S8x8448x64 .f32 := broadcastInDim S8x8448x64 ![] bcast_S_S8x8448x64 main_cst_2
  let main_v11 : IVec S8x8448x64 1 := cmpf .olt main_v9 main_v10
  let main_c_3 : IVec S_ 1 := constantI S_ 1 1#1
  let main_v12 : IVec S_ 1 := (fun x v => Host.reduce IntOp.andi x v reducesTo_S8x8448x64_S_d0_1_2 h_S_) main_v11 main_c_3
  let main_v13 : IVec S_ 1 := andi main_v8 main_v12
  let main_v14 : FVec F S8x8448x64 .f32 := Host.absf main_arg3
  let main_cst_4 : FVec F S_ .f32 := constant S_ .f32 0x7F800000#32
  let main_v15 : FVec F S8x8448x64 .f32 := broadcastInDim S8x8448x64 ![] bcast_S_S8x8448x64 main_cst_4
  let main_v16 : IVec S8x8448x64 1 := cmpf .olt main_v14 main_v15
  fn_part1 (F := F) main_v13 main_v16
-- ==== Kernel.lean ====
abbrev S8x8448x96 : Shape := ⟨3, ![8, 8448, 96]⟩
abbrev S8x8448x64 : Shape := ⟨3, ![8, 8448, 64]⟩
abbrev S_ : Shape := ⟨0, ![]⟩
abbrev S8448x8x96 : Shape := ⟨3, ![8448, 8, 96]⟩
abbrev S8448x8x128 : Shape := ⟨3, ![8448, 8, 128]⟩
abbrev S8448x1024 : Shape := ⟨2, ![8448, 1024]⟩
abbrev S8448x8x64 : Shape := ⟨3, ![8448, 8, 64]⟩
abbrev S256x1024 : Shape := ⟨2, ![256, 1024]⟩
abbrev S256x128 : Shape := ⟨2, ![256, 128]⟩
abbrev S256x1 : Shape := ⟨2, ![256, 1]⟩
abbrev S256x256 : Shape := ⟨2, ![256, 256]⟩
abbrev S256 : Shape := ⟨1, ![256]⟩
abbrev S8192x1024 : Shape := ⟨2, ![8192, 1024]⟩
abbrev S1024x128 : Shape := ⟨2, ![1024, 128]⟩
abbrev S8448x128 : Shape := ⟨2, ![8448, 128]⟩
abbrev S1024x1 : Shape := ⟨2, ![1024, 1]⟩
abbrev S768x128 : Shape := ⟨2, ![768, 128]⟩
abbrev S1024x768 : Shape := ⟨2, ![1024, 768]⟩
abbrev S1024 : Shape := ⟨1, ![1024]⟩

abbrev nBuf : Space → Nat
  | .hbm => 70
  | .vmem => 56
  | .smem => 0
  | _ => 0

abbrev bufTy : (tb : Table) → Fin (tcTables nBuf tb) → BufTy
  | .hbm, ⟨0, _⟩ => ⟨S8x8448x96, .f32⟩
  | .hbm, ⟨1, _⟩ => ⟨S8x8448x96, .f32⟩
  | .hbm, ⟨2, _⟩ => ⟨S8x8448x64, .f32⟩
  | .hbm, ⟨3, _⟩ => ⟨S8x8448x64, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8448x8x96, .f32⟩
  | .hbm, ⟨12, _⟩ => ⟨S_, .i32⟩
  | .hbm, ⟨13, _⟩ => ⟨S_, .f32⟩
  | .hbm, ⟨14, _⟩ => ⟨S8448x8x128, .f32⟩
  | .hbm, ⟨15, _⟩ => ⟨S8448x1024, .f32⟩
  | .hbm, ⟨16, _⟩ => ⟨S8448x1024, .f32⟩
  | .hbm, ⟨17, _⟩ => ⟨S8448x1024, .f32⟩
  | .hbm, ⟨18, _⟩ => ⟨S8448x1024, .bf16⟩
  | .hbm, ⟨19, _⟩ => ⟨S8448x8x96, .f32⟩
  | .hbm, ⟨20, _⟩ => ⟨S_, .i32⟩
  | .hbm, ⟨21, _⟩ => ⟨S_, .f32⟩
  | .hbm, ⟨22, _⟩ => ⟨S8448x8x128, .f32⟩
  | .hbm, ⟨23, _⟩ => ⟨S8448x1024, .f32⟩
  | .hbm, ⟨24, _⟩ => ⟨S8448x1024, .bf16⟩
  | .hbm, ⟨25, _⟩ => ⟨S8448x8x64, .f32⟩
  | .hbm, ⟨26, _⟩ => ⟨S_, .i32⟩
  | .hbm, ⟨27, _⟩ => ⟨S_, .f32⟩
  | .hbm, ⟨28, _⟩ => ⟨S8448x8x128, .f32⟩
  | .hbm, ⟨29, _⟩ => ⟨S8448x1024, .f32⟩
  | .hbm, ⟨30, _⟩ => ⟨S8448x1024, .bf16⟩
  | .hbm, ⟨31, _⟩ => ⟨S256x1024, .f32⟩
  | .hbm, ⟨32, _⟩ => ⟨S256x1024, .f32⟩
  | .hbm, ⟨33, _⟩ => ⟨S8192x1024, .f32⟩
  | .hbm, ⟨34, _⟩ => ⟨S8192x1024, .f32⟩
  | .hbm, ⟨35, _⟩ => ⟨S8448x1024, .f32⟩
  | .hbm, ⟨36, _⟩ => ⟨S8448x8x64, .f32⟩
  | .hbm, ⟨37, _⟩ => ⟨S_, .i32⟩
  | .hbm, ⟨38, _⟩ => ⟨S_, .f32⟩
  | .hbm, ⟨39, _⟩ => ⟨S8448x8x128, .f32⟩
  | .hbm, ⟨40, _⟩ => ⟨S8448x1024, .f32⟩
  | .hbm, ⟨41, _⟩ => ⟨S256x1024, .f32⟩
  | .hbm, ⟨42, _⟩ => ⟨S256x1024, .f32⟩
  | .hbm, ⟨43, _⟩ => ⟨S256x1024, .f32⟩
  | .hbm, ⟨44, _⟩ => ⟨S8192x1024, .f32⟩
  | .hbm, ⟨45, _⟩ => ⟨S8448x1024, .f32⟩
  | .hbm, ⟨46, _⟩ => ⟨S8448x1024, .f32⟩
  | .hbm, ⟨47, _⟩ => ⟨S8448x1024, .f32⟩
  | .hbm, ⟨48, _⟩ => ⟨S_, .i32⟩
  | .hbm, ⟨49, _⟩ => ⟨S_, .f32⟩
  | .hbm, ⟨50, _⟩ => ⟨S8448x1024, .f32⟩
  | .hbm, ⟨51, _⟩ => ⟨S8448x1024, .f32⟩
  | .hbm, ⟨52, _⟩ => ⟨S_, .i32⟩
  | .hbm, ⟨53, _⟩ => ⟨S_, .f32⟩
  | .hbm, ⟨54, _⟩ => ⟨S8448x1024, .f32⟩
  | .hbm, ⟨55, _⟩ => ⟨S8448x1024, .f32⟩
  | .hbm, ⟨56, _⟩ => ⟨S8448x8x128, .f32⟩
  | .hbm, ⟨57, _⟩ => ⟨S8448x8x64, .f32⟩
  | .hbm, ⟨58, _⟩ => ⟨S8x8448x64, .f32⟩
  | .hbm, ⟨59, _⟩ => ⟨S8448x1024, .f32⟩
  | .hbm, ⟨60, _⟩ => ⟨S8448x1024, .f32⟩
  | .hbm, ⟨61, _⟩ => ⟨S8448x8x128, .f32⟩
  | .hbm, ⟨62, _⟩ => ⟨S8448x8x96, .f32⟩
  | .hbm, ⟨63, _⟩ => ⟨S8x8448x96, .f32⟩
  | .hbm, ⟨64, _⟩ => ⟨S8448x8x128, .f32⟩
  | .hbm, ⟨65, _⟩ => ⟨S8448x8x96, .f32⟩
  | .hbm, ⟨66, _⟩ => ⟨S8x8448x96, .f32⟩
  | .hbm, ⟨67, _⟩ => ⟨S8448x8x128, .f32⟩
  | .hbm, ⟨68, _⟩ => ⟨S8448x8x64, .f32⟩
  | .hbm, ⟨69, _⟩ => ⟨S8x8448x64, .f32⟩
  | .local _ .vmem, ⟨0, _⟩ => ⟨S256x128, .bf16⟩
  | .local _ .vmem, ⟨1, _⟩ => ⟨S256x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S1024x128, .bf16⟩
  | .local _ .vmem, ⟨11, _⟩ => ⟨S1024x128, .bf16⟩
  | .local _ .vmem, ⟨12, _⟩ => ⟨S8448x128, .bf16⟩
  | .local _ .vmem, ⟨13, _⟩ => ⟨S8448x128, .bf16⟩
  | .local _ .vmem, ⟨14, _⟩ => ⟨S8448x128, .bf16⟩
  | .local _ .vmem, ⟨15, _⟩ => ⟨S8448x128, .bf16⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S256x128, .bf16⟩
  | .local _ .vmem, ⟨21, _⟩ => ⟨S256x128, .bf16⟩
  | .local _ .vmem, ⟨22, _⟩ => ⟨S256x128, .bf16⟩
  | .local _ .vmem, ⟨23, _⟩ => ⟨S256x128, .bf16⟩
  | .local _ .vmem, ⟨24, _⟩ => ⟨S256x128, .bf16⟩
  | .local _ .vmem, ⟨25, _⟩ => ⟨S256x128, .bf16⟩
  | .local _ .vmem, ⟨26, _⟩ => ⟨S256x128, .f32⟩
  | .local _ .vmem, ⟨27, _⟩ => ⟨S256x128, .f32⟩
  | .local _ .vmem, ⟨28, _⟩ => ⟨S256x128, .f32⟩
  | .local _ .vmem, ⟨29, _⟩ => ⟨S256x128, .f32⟩
  | .local _ .vmem, ⟨30, _⟩ => ⟨S256x128, .f32⟩
  | .local _ .vmem, ⟨31, _⟩ => ⟨S256x128, .f32⟩
  | .local _ .vmem, ⟨32, _⟩ => ⟨S256x128, .f32⟩
  | .local _ .vmem, ⟨33, _⟩ => ⟨S256x128, .f32⟩
  | .local _ .vmem, ⟨34, _⟩ => ⟨S256x128, .f32⟩
  | .local _ .vmem, ⟨35, _⟩ => ⟨S256x128, .f32⟩
  | .local _ .vmem, ⟨36, _⟩ => ⟨S256x128, .f32⟩
  | .local _ .vmem, ⟨37, _⟩ => ⟨S256x128, .f32⟩
  | .local _ .vmem, ⟨38, _⟩ => ⟨S1024x128, .bf16⟩
  | .local _ .vmem, ⟨39, _⟩ => ⟨S1024x128, .bf16⟩
  | .local _ .vmem, ⟨40, _⟩ => ⟨S8448x128, .bf16⟩
  | .local _ .vmem, ⟨41, _⟩ => ⟨S8448x128, .bf16⟩
  | .local _ .vmem, ⟨42, _⟩ => ⟨S8448x128, .bf16⟩
  | .local _ .vmem, ⟨43, _⟩ => ⟨S8448x128, .bf16⟩
  | .local _ .vmem, ⟨44, _⟩ => ⟨S1024x128, .f32⟩
  | .local _ .vmem, ⟨45, _⟩ => ⟨S1024x128, .f32⟩
  | .local _ .vmem, ⟨46, _⟩ => ⟨S1024x128, .f32⟩
  | .local _ .vmem, ⟨47, _⟩ => ⟨S1024x128, .f32⟩
  | .local _ .vmem, ⟨48, _⟩ => ⟨S1024x128, .f32⟩
  | .local _ .vmem, ⟨49, _⟩ => ⟨S1024x128, .f32⟩
  | .local _ .vmem, ⟨50, _⟩ => ⟨S1024x128, .f32⟩
  | .local _ .vmem, ⟨51, _⟩ => ⟨S1024x128, .f32⟩
  | .local _ .vmem, ⟨52, _⟩ => ⟨S8448x128, .f32⟩
  | .local _ .vmem, ⟨53, _⟩ => ⟨S8448x128, .f32⟩
  | .local _ .vmem, ⟨54, _⟩ => ⟨S8448x128, .f32⟩
  | .local _ .vmem, ⟨55, _⟩ => ⟨S8448x128, .f32⟩
  | _, _ => ⟨S8x8448x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_call1_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_call2_v0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18_0 : Ref sig .tc := ⟨.hbm, 31, rfl⟩
abbrev main_v18_1 : Ref sig .tc := ⟨.hbm, 32, rfl⟩
abbrev main_v19_0 : Ref sig .tc := ⟨.hbm, 33, rfl⟩
abbrev main_v19_1 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_call3_v0 : Ref sig .tc := ⟨.hbm, 38, rfl⟩
abbrev main_v22 : Ref sig .tc := ⟨.hbm, 39, rfl⟩
abbrev main_v23 : Ref sig .tc := ⟨.hbm, 40, rfl⟩
abbrev main_v24_0 : Ref sig .tc := ⟨.hbm, 41, rfl⟩
abbrev main_v24_1 : Ref sig .tc := ⟨.hbm, 42, rfl⟩
abbrev main_v24_2 : Ref sig .tc := ⟨.hbm, 43, rfl⟩
abbrev main_v25_0 : Ref sig .tc := ⟨.hbm, 44, rfl⟩
abbrev main_v25_1 : Ref sig .tc := ⟨.hbm, 45, rfl⟩
abbrev main_v25_2 : Ref sig .tc := ⟨.hbm, 46, rfl⟩
abbrev main_v26 : Ref sig .tc := ⟨.hbm, 47, rfl⟩
abbrev main_c_5 : Ref sig .tc := ⟨.hbm, 48, rfl⟩
abbrev main_call4_v0 : Ref sig .tc := ⟨.hbm, 49, rfl⟩
abbrev main_v27 : Ref sig .tc := ⟨.hbm, 50, rfl⟩
abbrev main_v28 : Ref sig .tc := ⟨.hbm, 51, rfl⟩
abbrev main_c_6 : Ref sig .tc := ⟨.hbm, 52, rfl⟩
abbrev main_call5_v0 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc2_stg5_0 : Ref sig .tc := ⟨.vmem, 30, rfl⟩
abbrev cc2_stg5_1 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg7_1 : Ref sig .tc := ⟨.vmem, 35, rfl⟩
abbrev cc2_stg8_0 : Ref sig .tc := ⟨.vmem, 36, rfl⟩
abbrev cc2_stg8_1 : Ref sig .tc := ⟨.vmem, 37, rfl⟩
abbrev cc3_stg0_0 : Ref sig .tc := ⟨.vmem, 38, rfl⟩
abbrev cc3_stg0_1 : Ref sig .tc := ⟨.vmem, 39, rfl⟩
abbrev cc3_stg1_0 : Ref sig .tc := ⟨.vmem, 40, rfl⟩
abbrev cc3_stg1_1 : Ref sig .tc := ⟨.vmem, 41, rfl⟩
abbrev cc3_stg2_0 : Ref sig .tc := ⟨.vmem, 42, rfl⟩
abbrev cc3_stg2_1 : Ref sig .tc := ⟨.vmem, 43, rfl⟩
abbrev cc3_stg3_0 : Ref sig .tc := ⟨.vmem, 44, rfl⟩
abbrev cc3_stg3_1 : Ref sig .tc := ⟨.vmem, 45, rfl⟩
abbrev cc3_stg4_0 : Ref sig .tc := ⟨.vmem, 46, rfl⟩
abbrev cc3_stg4_1 : Ref sig .tc := ⟨.vmem, 47, rfl⟩
abbrev cc3_stg5_0 : Ref sig .tc := ⟨.vmem, 48, rfl⟩
abbrev cc3_stg5_1 : Ref sig .tc := ⟨.vmem, 49, rfl⟩
abbrev cc3_stg6_0 : Ref sig .tc := ⟨.vmem, 50, rfl⟩
abbrev cc3_stg6_1 : Ref sig .tc := ⟨.vmem, 51, rfl⟩
abbrev cc3_stg7_0 : Ref sig .tc := ⟨.vmem, 52, rfl⟩
abbrev cc3_stg7_1 : Ref sig .tc := ⟨.vmem, 53, rfl⟩
abbrev cc3_stg8_0 : Ref sig .tc := ⟨.vmem, 54, rfl⟩
abbrev cc3_stg8_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29
abbrev cc2_sem5_0 : DmaSem sig := 30
abbrev cc2_sem5_1 : DmaSem sig := 31
abbrev cc2_sem6_0 : DmaSem sig := 32
abbrev cc2_sem6_1 : DmaSem sig := 33
abbrev cc2_sem7_0 : DmaSem sig := 34
abbrev cc2_sem7_1 : DmaSem sig := 35
abbrev cc2_sem8_0 : DmaSem sig := 36
abbrev cc2_sem8_1 : DmaSem sig := 37
abbrev cc3_sem0_0 : DmaSem sig := 38
abbrev cc3_sem0_1 : DmaSem sig := 39
abbrev cc3_sem1_0 : DmaSem sig := 40
abbrev cc3_sem1_1 : DmaSem sig := 41
abbrev cc3_sem2_0 : DmaSem sig := 42
abbrev cc3_sem2_1 : DmaSem sig := 43
abbrev cc3_sem3_0 : DmaSem sig := 44
abbrev cc3_sem3_1 : DmaSem sig := 45
abbrev cc3_sem4_0 : DmaSem sig := 46
abbrev cc3_sem4_1 : DmaSem sig := 47
abbrev cc3_sem5_0 : DmaSem sig := 48
abbrev cc3_sem5_1 : DmaSem sig := 49
abbrev cc3_sem6_0 : DmaSem sig := 50
abbrev cc3_sem6_1 : DmaSem sig := 51
abbrev cc3_sem7_0 : DmaSem sig := 52
abbrev cc3_sem7_1 : DmaSem sig := 53
abbrev cc3_sem8_0 : DmaSem sig := 54
abbrev cc3_sem8_1 : DmaSem sig := 55

abbrev nD : Nat := 1
abbrev τ : Topo := Topo.v7x

variable {F : FTy → Type} [FloatOps F]

abbrev grid0 : Pipeline.Grid := ⟨2, ![8, 1], ![false, false]⟩

def k0_mult1 (i : grid0.Coords) : BitVec 32 :=
  let c0_i32 : BitVec 32 := 0#32
  let arg1 : BitVec 32 := BitVec.ofNat 32 (i 1).val
  let c256_i32 : BitVec 32 := 256#32
  let v0 : BitVec 32 := Scalar.muli arg1 c256_i32
  let v1 : BitVec 32 := Scalar.addi c0_i32 v0
  v1
def k0_mult2 (i : grid0.Coords) : BitVec 32 :=
  let arg0 : BitVec 32 := BitVec.ofNat 32 (i 0).val
  let c128_i32 : BitVec 32 := 128#32
  let v3 : BitVec 32 := Scalar.muli arg0 c128_i32
  v3
def cc0_transform_0 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c0_i32 : BitVec 32 := 0#32
  let v1 : BitVec 32 := Scalar.addi c0_i32 v0
  let v2 : BitVec 32 := v1
  let c128_i32 : BitVec 32 := 128#32
  let v3 : BitVec 32 := Scalar.muli arg0 c128_i32
  let v4 : BitVec 32 := v3
  let c0_i32_0 : BitVec 32 := 0#32
  ![v2.toNat, v4.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![8, 8], ![false, false]⟩

def k1_mult1 (i : grid1.Coords) : BitVec 32 :=
  let c256_i32 : BitVec 32 := 256#32
  let arg1 : BitVec 32 := BitVec.ofNat 32 (i 1).val
  let c1024_i32 : BitVec 32 := 1024#32
  let v0 : BitVec 32 := Scalar.muli arg1 c1024_i32
  let v1 : BitVec 32 := Scalar.addi c256_i32 v0
  v1
def k1_mult2 (i : grid1.Coords) : BitVec 32 :=
  let arg0 : BitVec 32 := BitVec.ofNat 32 (i 0).val
  let c128_i32 : BitVec 32 := 128#32
  let v3 : BitVec 32 := Scalar.muli arg0 c128_i32
  v3
def cc1_transform_0 (i : grid1.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c256_i32 : BitVec 32 := 256#32
  let v1 : BitVec 32 := Scalar.addi c256_i32 v0
  let v2 : BitVec 32 := v1
  let c128_i32 : BitVec 32 := 128#32
  let v3 : BitVec 32 := Scalar.muli arg0 c128_i32
  let v4 : BitVec 32 := v3
  let c0_i32 : BitVec 32 := 0#32
  ![v2.toNat, v4.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8448x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8448x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![8, 1], ![false, false]⟩

def k2_mult1 (i : grid2.Coords) : BitVec 32 :=
  let c0_i32 : BitVec 32 := 0#32
  let arg1 : BitVec 32 := BitVec.ofNat 32 (i 1).val
  let c256_i32 : BitVec 32 := 256#32
  let v0 : BitVec 32 := Scalar.muli arg1 c256_i32
  let v1 : BitVec 32 := Scalar.addi c0_i32 v0
  v1
def k2_mult2 (i : grid2.Coords) : BitVec 32 :=
  let arg0 : BitVec 32 := BitVec.ofNat 32 (i 0).val
  let c128_i32 : BitVec 32 := 128#32
  let v3 : BitVec 32 := Scalar.muli arg0 c128_i32
  v3
def k2_mult3 (i : grid2.Coords) : BitVec 32 :=
  let c0_i32 : BitVec 32 := 0#32
  let arg1 : BitVec 32 := BitVec.ofNat 32 (i 1).val
  let c256_i32 : BitVec 32 := 256#32
  let v0 : BitVec 32 := Scalar.muli arg1 c256_i32
  let v1 : BitVec 32 := Scalar.addi c0_i32 v0
  v1
def k2_mult4 (i : grid2.Coords) : BitVec 32 :=
  let arg0 : BitVec 32 := BitVec.ofNat 32 (i 0).val
  let c128_i32 : BitVec 32 := 128#32
  let v3 : BitVec 32 := Scalar.muli arg0 c128_i32
  v3
def cc2_transform_0 (i : grid2.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c0_i32 : BitVec 32 := 0#32
  let v1 : BitVec 32 := Scalar.addi c0_i32 v0
  let v2 : BitVec 32 := v1
  let c128_i32 : BitVec 32 := 128#32
  let v3 : BitVec 32 := Scalar.muli arg0 c128_i32
  let v4 : BitVec 32 := v3
  let c0_i32_0 : BitVec 32 := 0#32
  ![v2.toNat, v4.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_5 (i : grid2.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c0_i32 : BitVec 32 := 0#32
  let v1 : BitVec 32 := Scalar.addi c0_i32 v0
  let v2 : BitVec 32 := v1
  let c128_i32 : BitVec 32 := 128#32
  let v3 : BitVec 32 := Scalar.muli arg0 c128_i32
  let v4 : BitVec 32 := v3
  let c0_i32_0 : BitVec 32 := 0#32
  ![v2.toNat, v4.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S256x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S256x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S256x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S256x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S256x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S256x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S256x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S256x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]

abbrev stage2_8 : Fin 2 → Memref sig .tc .vmem S256x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, false]

abbrev grid3 : Pipeline.Grid := ⟨2, ![8, 8], ![false, false]⟩

def k3_mult1 (i : grid3.Coords) : BitVec 32 :=
  let c256_i32 : BitVec 32 := 256#32
  let arg1 : BitVec 32 := BitVec.ofNat 32 (i 1).val
  let c1024_i32 : BitVec 32 := 1024#32
  let v0 : BitVec 32 := Scalar.muli arg1 c1024_i32
  let v1 : BitVec 32 := Scalar.addi c256_i32 v0
  v1
def k3_mult2 (i : grid3.Coords) : BitVec 32 :=
  let arg0 : BitVec 32 := BitVec.ofNat 32 (i 0).val
  let c128_i32 : BitVec 32 := 128#32
  let v3 : BitVec 32 := Scalar.muli arg0 c128_i32
  v3
def k3_mult3 (i : grid3.Coords) : BitVec 32 :=
  let c256_i32 : BitVec 32 := 256#32
  let arg1 : BitVec 32 := BitVec.ofNat 32 (i 1).val
  let c1024_i32 : BitVec 32 := 1024#32
  let v0 : BitVec 32 := Scalar.muli arg1 c1024_i32
  let v1 : BitVec 32 := Scalar.addi c256_i32 v0
  v1
def k3_mult4 (i : grid3.Coords) : BitVec 32 :=
  let arg0 : BitVec 32 := BitVec.ofNat 32 (i 0).val
  let c128_i32 : BitVec 32 := 128#32
  let v3 : BitVec 32 := Scalar.muli arg0 c128_i32
  v3
def cc3_transform_0 (i : grid3.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c256_i32 : BitVec 32 := 256#32
  let v1 : BitVec 32 := Scalar.addi c256_i32 v0
  let v2 : BitVec 32 := v1
  let c128_i32 : BitVec 32 := 128#32
  let v3 : BitVec 32 := Scalar.muli arg0 c128_i32
  let v4 : BitVec 32 := v3
  let c0_i32 : BitVec 32 := 0#32
  ![v2.toNat, v4.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_5 (i : grid3.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c256_i32 : BitVec 32 := 256#32
  let v1 : BitVec 32 := Scalar.addi c256_i32 v0
  let v2 : BitVec 32 := v1
  let c128_i32 : BitVec 32 := 128#32
  let v3 : BitVec 32 := Scalar.muli arg0 c128_i32
  let v4 : BitVec 32 := v3
  let c0_i32 : BitVec 32 := 0#32
  ![v2.toNat, v4.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage3_0 : Fin 2 → Memref sig .tc .vmem S1024x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S8448x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S8448x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1024x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1024x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S1024x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 2 → Memref sig .tc .vmem S1024x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev stage3_7 : Fin 2 → Memref sig .tc .vmem S8448x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, false]

abbrev stage3_8 : Fin 2 → Memref sig .tc .vmem S8448x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, false]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | _ => none
-- ==== ReferenceIdeal.lean ====
abbrev S8x8448x96 : Shape := ⟨3, ![8, 8448, 96]⟩
abbrev S8x8448x64 : Shape := ⟨3, ![8, 8448, 64]⟩
abbrev S8x256x96 : Shape := ⟨3, ![8, 256, 96]⟩
abbrev S8x256x64 : Shape := ⟨3, ![8, 256, 64]⟩
abbrev S8x256x256 : Shape := ⟨3, ![8, 256, 256]⟩
abbrev S_ : Shape := ⟨0, ![]⟩
abbrev S8x256 : Shape := ⟨2, ![8, 256]⟩
abbrev S8x256x1 : Shape := ⟨3, ![8, 256, 1]⟩
abbrev S8x8192x96 : Shape := ⟨3, ![8, 8192, 96]⟩
abbrev S8x8192x8448 : Shape := ⟨3, ![8, 8192, 8448]⟩
abbrev S8x8192 : Shape := ⟨2, ![8, 8192]⟩
abbrev S8x8192x1 : Shape := ⟨3, ![8, 8192, 1]⟩
abbrev S8x8192x64 : Shape := ⟨3, ![8, 8192, 64]⟩
abbrev S8x64x8448 : Shape := ⟨3, ![8, 64, 8448]⟩
abbrev S8x64x256 : Shape := ⟨3, ![8, 64, 256]⟩

abbrev nBuf : Space → Nat
  | .hbm => 152
  | .vmem => 0
  | .smem => 0
  | _ => 0

abbrev hbmTy0_0 (i : Nat) : BufTy := match i % 128 with
  | 0 => ⟨S8x8448x96, .f32⟩
  | 1 => ⟨S8x8448x96, .f32⟩
  | 2 => ⟨S8x8448x64, .f32⟩
  | 3 => ⟨S8x8448x64, .f32⟩
  | 4 => ⟨S8x256x96, .f32⟩
  | 5 => ⟨S8x256x96, .f32⟩
  | 6 => ⟨S8x256x64, .f32⟩
  | 7 => ⟨S8x256x256, .f32⟩
  | 8 => ⟨S_, .f32⟩
  | 9 => ⟨S_, .f32⟩
  | 10 => ⟨S8x256x256, .f32⟩
  | 11 => ⟨S8x256x256, .f32⟩
  | 12 => ⟨S_, .f32⟩
  | 13 => ⟨S8x256, .f32⟩
  | 14 => ⟨S8x256x1, .f32⟩
  | 15 => ⟨S8x256x256, .f32⟩
  | 16 => ⟨S8x256x256, .i1⟩
  | 17 => ⟨S8x256x256, .f32⟩
  | 18 => ⟨S_, .f32⟩
  | 19 => ⟨S8x256, .f32⟩
  | 20 => ⟨S_, .f32⟩
  | 21 => ⟨S8x256, .f32⟩
  | 22 => ⟨S8x256, .f32⟩
  | 23 => ⟨S_, .f32⟩
  | 24 => ⟨S8x256, .f32⟩
  | 25 => ⟨S8x256, .i1⟩
  | 26 => ⟨S_, .f32⟩
  | 27 => ⟨S8x256, .f32⟩
  | 28 => ⟨S8x256, .i1⟩
  | 29 => ⟨S_, .f32⟩
  | 30 => ⟨S8x256, .f32⟩
  | 31 => ⟨S_, .f32⟩
  | 32 => ⟨S8x256, .f32⟩
  | 33 => ⟨S_, .f32⟩
  | 34 => ⟨S8x256, .f32⟩
  | 35 => ⟨S8x256, .f32⟩
  | 36 => ⟨S8x256, .f32⟩
  | 37 => ⟨S8x256x1, .f32⟩
  | 38 => ⟨S8x256x256, .f32⟩
  | 39 => ⟨S8x256x256, .f32⟩
  | 40 => ⟨S8x256x256, .f32⟩
  | 41 => ⟨S_, .f32⟩
  | 42 => ⟨S8x256, .f32⟩
  | 43 => ⟨S8x256x1, .f32⟩
  | 44 => ⟨S8x256x256, .f32⟩
  | 45 => ⟨S8x256x256, .f32⟩
  | 46 => ⟨S8x256x1, .f32⟩
  | 47 => ⟨S_, .f32⟩
  | 48 => ⟨S8x256x1, .f32⟩
  | 49 => ⟨S8x256x1, .f32⟩
  | 50 => ⟨S8x256x64, .f32⟩
  | 51 => ⟨S8x8192x96, .f32⟩
  | 52 => ⟨S8x8192x8448, .f32⟩
  | 53 => ⟨S_, .f32⟩
  | 54 => ⟨S_, .f32⟩
  | 55 => ⟨S8x8192x8448, .f32⟩
  | 56 => ⟨S8x8192x8448, .f32⟩
  | 57 => ⟨S_, .f32⟩
  | 58 => ⟨S8x8192, .f32⟩
  | 59 => ⟨S8x8192x1, .f32⟩
  | 60 => ⟨S8x8192x8448, .f32⟩
  | 61 => ⟨S8x8192x8448, .i1⟩
  | 62 => ⟨S8x8192x8448, .f32⟩
  | 63 => ⟨S_, .f32⟩
  | 64 => ⟨S8x8192, .f32⟩
  | 65 => ⟨S_, .f32⟩
  | 66 => ⟨S8x8192, .f32⟩
  | 67 => ⟨S8x8192, .f32⟩
  | 68 => ⟨S_, .f32⟩
  | 69 => ⟨S8x8192, .f32⟩
  | 70 => ⟨S8x8192, .i1⟩
  | 71 => ⟨S_, .f32⟩
  | 72 => ⟨S8x8192, .f32⟩
  | 73 => ⟨S8x8192, .i1⟩
  | 74 => ⟨S_, .f32⟩
  | 75 => ⟨S8x8192, .f32⟩
  | 76 => ⟨S_, .f32⟩
  | 77 => ⟨S8x8192, .f32⟩
  | 78 => ⟨S_, .f32⟩
  | 79 => ⟨S8x8192, .f32⟩
  | 80 => ⟨S8x8192, .f32⟩
  | 81 => ⟨S8x8192, .f32⟩
  | 82 => ⟨S8x8192x1, .f32⟩
  | 83 => ⟨S8x8192x8448, .f32⟩
  | 84 => ⟨S8x8192x8448, .f32⟩
  | 85 => ⟨S8x8192x8448, .f32⟩
  | 86 => ⟨S_, .f32⟩
  | 87 => ⟨S8x8192, .f32⟩
  | 88 => ⟨S8x8192x1, .f32⟩
  | 89 => ⟨S8x8192x8448, .f32⟩
  | 90 => ⟨S8x8192x8448, .f32⟩
  | 91 => ⟨S8x8192x1, .f32⟩
  | 92 => ⟨S_, .f32⟩
  | 93 => ⟨S8x8192x1, .f32⟩
  | 94 => ⟨S8x8192x1, .f32⟩
  | 95 => ⟨S8x8192x64, .f32⟩
  | 96 => ⟨S8x8448x64, .f32⟩
  | 97 => ⟨S8x256x64, .f32⟩
  | 98 => ⟨S8x8192x64, .f32⟩
  | 99 => ⟨S8x64x8448, .f32⟩
  | 100 => ⟨S8x8448x64, .f32⟩
  | 101 => ⟨S8x8192x8448, .f32⟩
  | 102 => ⟨S8x8192x8448, .f32⟩
  | 103 => ⟨S8x8192x8448, .f32⟩
  | 104 => ⟨S8x8192x8448, .f32⟩
  | 105 => ⟨S_, .f32⟩
  | 106 => ⟨S8x8192, .f32⟩
  | 107 => ⟨S8x8192x1, .f32⟩
  | 108 => ⟨S8x8192x1, .f32⟩
  | 109 => ⟨S8x8192x8448, .f32⟩
  | 110 => ⟨S8x8192x8448, .f32⟩
  | 111 => ⟨S_, .f32⟩
  | 112 => ⟨S8x8192, .f32⟩
  | 113 => ⟨S8x8192x8448, .f32⟩
  | 114 => ⟨S8x8192x8448, .f32⟩
  | 115 => ⟨S8x8192x8448, .f32⟩
  | 116 => ⟨S8x8192x8448, .f32⟩
  | 117 => ⟨S8x8192x8448, .f32⟩
  | 118 => ⟨S8x8448x96, .f32⟩
  | 119 => ⟨S8x8192x96, .f32⟩
  | 120 => ⟨S_, .f32⟩
  | 121 => ⟨S8x8448x96, .f32⟩
  | 122 => ⟨S8x64x256, .f32⟩
  | 123 => ⟨S8x256x64, .f32⟩
  | 124 => ⟨S8x256x256, .f32⟩
  | 125 => ⟨S8x256x256, .f32⟩
  | 126 => ⟨S8x256x256, .f32⟩
  | 127 => ⟨S8x256x256, .f32⟩
  | _ => ⟨S8x8448x96, .f32⟩

abbrev hbmTy0_1 (i : Nat) : BufTy := match i % 128 with
  | 0 => ⟨S_, .f32⟩
  | 1 => ⟨S8x256, .f32⟩
  | 2 => ⟨S8x256x1, .f32⟩
  | 3 => ⟨S8x256x1, .f32⟩
  | 4 => ⟨S8x256x256, .f32⟩
  | 5 => ⟨S8x256x256, .f32⟩
  | 6 => ⟨S_, .f32⟩
  | 7 => ⟨S8x256, .f32⟩
  | 8 => ⟨S8x256x256, .f32⟩
  | 9 => ⟨S8x256x256, .f32⟩
  | 10 => ⟨S8x256x256, .f32⟩
  | 11 => ⟨S8x256x256, .f32⟩
  | 12 => ⟨S8x256x256, .f32⟩
  | 13 => ⟨S8x256x96, .f32⟩
  | 14 => ⟨S8x256x96, .f32⟩
  | 15 => ⟨S_, .f32⟩
  | 16 => ⟨S8x8448x64, .f32⟩
  | 17 => ⟨S8x8448x64, .f32⟩
  | 18 => ⟨S_, .f32⟩
  | 19 => ⟨S8x8448x96, .f32⟩
  | 20 => ⟨S8x8448x96, .f32⟩
  | 21 => ⟨S_, .f32⟩
  | 22 => ⟨S8x8448x96, .f32⟩
  | 23 => ⟨S8x8448x96, .f32⟩
  | _ => ⟨S8x8448x96, .f32⟩

abbrev hbmTy (i : Nat) : BufTy := match i / 128 with
  | 0 => hbmTy0_0 i
  | 1 => hbmTy0_1 i
  | _ => ⟨S8x8448x96, .f32⟩

abbrev bufTy : (tb : Table) → Fin (tcTables nBuf tb) → BufTy
  | .hbm, ⟨i, _⟩ => hbmTy i
  | _, _ => ⟨S8x8448x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_10 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_11 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_12 : Ref sig .tc := ⟨.hbm, 63, rfl⟩
abbrev main_v46 : Ref sig .tc := ⟨.hbm, 64, rfl⟩
abbrev main_cst_13 : Ref sig .tc := ⟨.hbm, 65, rfl⟩
abbrev main_v47 : Ref sig .tc := ⟨.hbm, 66, rfl⟩
abbrev main_v48 : Ref sig .tc := ⟨.hbm, 67, rfl⟩
abbrev main_cst_14 : Ref sig .tc := ⟨.hbm, 68, rfl⟩
abbrev main_v49 : Ref sig .tc := ⟨.hbm, 69, rfl⟩
abbrev main_v50 : Ref sig .tc := ⟨.hbm, 70, rfl⟩
abbrev main_cst_15 : Ref sig .tc := ⟨.hbm, 71, rfl⟩
abbrev main_v51 : Ref sig .tc := ⟨.hbm, 72, rfl⟩
abbrev main_v52 : Ref sig .tc := ⟨.hbm, 73, rfl⟩
abbrev main_cst_16 : Ref sig .tc := ⟨.hbm, 74, rfl⟩
abbrev main_v53 : Ref sig .tc := ⟨.hbm, 75, rfl⟩
abbrev main_cst_17 : Ref sig .tc := ⟨.hbm, 76, rfl⟩
abbrev main_v54 : Ref sig .tc := ⟨.hbm, 77, rfl⟩
abbrev main_cst_18 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_19 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_20 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_21 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_22 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_cst_23 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_cst_24 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_cst_25 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_cst_26 : Ref sig .tc := ⟨.hbm, 143, rfl⟩
abbrev main_v112 : Ref sig .tc := ⟨.hbm, 144, rfl⟩
abbrev main_v113 : Ref sig .tc := ⟨.hbm, 145, rfl⟩
abbrev main_cst_27 : Ref sig .tc := ⟨.hbm, 146, rfl⟩
abbrev main_v114 : Ref sig .tc := ⟨.hbm, 147, rfl⟩
abbrev main_v115 : Ref sig .tc := ⟨.hbm, 148, rfl⟩
abbrev main_cst_28 : Ref sig .tc := ⟨.hbm, 149, rfl⟩
abbrev main_v116 : Ref sig .tc := ⟨.hbm, 150, rfl⟩
abbrev main_v117 : Ref sig .tc := ⟨.hbm, 151, rfl⟩

abbrev nD : Nat := 1
abbrev τ : Topo := Topo.v7x

variable {F : FTy → Type} [FloatOps F]
-- ==== Kernel3.lean ====
abbrev S8448x1024 : Shape := ⟨2, ![8448, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S8448x2816 : Shape := ⟨2, ![8448, 2816]⟩
abbrev S1024x2816 : Shape := ⟨2, ![1024, 2816]⟩
abbrev S768x1024 : Shape := ⟨2, ![768, 1024]⟩
abbrev S768x2816 : Shape := ⟨2, ![768, 2816]⟩
abbrev S_ : Shape := ⟨0, ![]⟩
abbrev S5x2816 : Shape := ⟨2, ![5, 2816]⟩
abbrev S8x2816 : Shape := ⟨2, ![8, 2816]⟩
abbrev S1x2816 : Shape := ⟨2, ![1, 2816]⟩
abbrev S256x2816 : Shape := ⟨2, ![256, 2816]⟩

abbrev nBuf : Space → Nat
  | .hbm => 25
  | .vmem => 42
  | .smem => 0
  | _ => 0

abbrev bufTy : (tb : Table) → Fin (tcTables nBuf tb) → BufTy
  | .hbm, ⟨0, _⟩ => ⟨S8448x1024, .f32⟩
  | .hbm, ⟨1, _⟩ => ⟨S1024x5632, .f32⟩
  | .hbm, ⟨2, _⟩ => ⟨S3x2816, .f32⟩
  | .hbm, ⟨3, _⟩ => ⟨S2816, .f32⟩
  | .hbm, ⟨4, _⟩ => ⟨S2816x1024, .f32⟩
  | .hbm, ⟨5, _⟩ => ⟨S8448x1024, .f32⟩
  | .hbm, ⟨6, _⟩ => ⟨S8448x2816, .f32⟩
  | .hbm, ⟨7, _⟩ => ⟨S8448x2816, .f32⟩
  | .hbm, ⟨8, _⟩ => ⟨S1024x2816, .f32⟩
  | .hbm, ⟨9, _⟩ => ⟨S1024x2816, .bf16⟩
  | .hbm, ⟨10, _⟩ => ⟨S1024x2816, .f32⟩
  | .hbm, ⟨11, _⟩ => ⟨S1024x2816, .bf16⟩
  | .hbm, ⟨12, _⟩ => ⟨S2816x1024, .bf16⟩
  | .hbm, ⟨13, _⟩ => ⟨S8448x2816, .f32⟩
  | .hbm, ⟨14, _⟩ => ⟨S8448x2816, .f32⟩
  | .hbm, ⟨15, _⟩ => ⟨S_, .f32⟩
  | .hbm, ⟨16, _⟩ => ⟨S5x2816, .f32⟩
  | .hbm, ⟨17, _⟩ => ⟨S8x2816, .f32⟩
  | .hbm, ⟨18, _⟩ => ⟨S1x2816, .f32⟩
  | .hbm, ⟨19, _⟩ => ⟨S8448x2816, .bf16⟩
  | .hbm, ⟨20, _⟩ => ⟨S8448x1024, .f32⟩
  | .hbm, ⟨21, _⟩ => ⟨S8448x2816, .f32⟩
  | .hbm, ⟨22, _⟩ => ⟨S8448x1024, .f32⟩
  | .hbm, ⟨23, _⟩ => ⟨S8448x1024, .f32⟩
  | .hbm, ⟨24, _⟩ => ⟨S8448x1024, .f32⟩
  | .local _ .vmem, ⟨0, _⟩ => ⟨S768x1024, .f32⟩
  | .local _ .vmem, ⟨1, _⟩ => ⟨S768x1024, .f32⟩
  | .local _ .vmem, ⟨2, _⟩ => ⟨S1024x2816, .bf16⟩
  | .local _ .vmem, ⟨3, _⟩ => ⟨S768x2816, .f32⟩
  | .local _ .vmem, ⟨4, _⟩ => ⟨S768x2816, .f32⟩
  | .local _ .vmem, ⟨5, _⟩ => ⟨S768x1024, .f32⟩
  | .local _ .vmem, ⟨6, _⟩ => ⟨S768x1024, .f32⟩
  | .local _ .vmem, ⟨7, _⟩ => ⟨S1024x2816, .bf16⟩
  | .local _ .vmem, ⟨8, _⟩ => ⟨S768x2816, .f32⟩
  | .local _ .vmem, ⟨9, _⟩ => ⟨S768x2816, .f32⟩
  | .local _ .vmem, ⟨10, _⟩ => ⟨S256x2816, .f32⟩
  | .local _ .vmem, ⟨11, _⟩ => ⟨S256x2816, .f32⟩
  | .local _ .vmem, ⟨12, _⟩ => ⟨S8x2816, .f32⟩
  | .local _ .vmem, ⟨13, _⟩ => ⟨S8x2816, .f32⟩
  | .local _ .vmem, ⟨14, _⟩ => ⟨S8x2816, .f32⟩
  | .local _ .vmem, ⟨15, _⟩ => ⟨S8x2816, .f32⟩
  | .local _ .vmem, ⟨16, _⟩ => ⟨S256x2816, .f32⟩
  | .local _ .vmem, ⟨17, _⟩ => ⟨S256x2816, .f32⟩
  | .local _ .vmem, ⟨18, _⟩ => ⟨S8x2816, .f32⟩
  | .local _ .vmem, ⟨19, _⟩ => ⟨S1x2816, .f32⟩
  | .local _ .vmem, ⟨20, _⟩ => ⟨S256x2816, .bf16⟩
  | .local _ .vmem, ⟨21, _⟩ => ⟨S256x2816, .bf16⟩
  | .local _ .vmem, ⟨22, _⟩ => ⟨S768x2816, .bf16⟩
  | .local _ .vmem, ⟨23, _⟩ => ⟨S768x2816, .bf16⟩
  | .local _ .vmem, ⟨24, _⟩ => ⟨S2816x1024, .bf16⟩
  | .local _ .vmem, ⟨25, _⟩ => ⟨S768x1024, .f32⟩
  | .local _ .vmem, ⟨26, _⟩ => ⟨S768x1024, .f32⟩
  | .local _ .vmem, ⟨27, _⟩ => ⟨S768x1024, .f32⟩
  | .local _ .vmem, ⟨28, _⟩ => ⟨S768x1024, .f32⟩
  | .local _ .vmem, ⟨29, _⟩ => ⟨S2816x1024, .bf16⟩
  | .local _ .vmem, ⟨30, _⟩ => ⟨S768x2816, .f32⟩
  | .local _ .vmem, ⟨31, _⟩ => ⟨S768x2816, .f32⟩
  | .local _ .vmem, ⟨32, _⟩ => ⟨S768x2816, .f32⟩
  | .local _ .vmem, ⟨33, _⟩ => ⟨S768x2816, .f32⟩
  | .local _ .vmem, ⟨34, _⟩ => ⟨S1024x2816, .bf16⟩
  | .local _ .vmem, ⟨35, _⟩ => ⟨S768x1024, .f32⟩
  | .local _ .vmem, ⟨36, _⟩ => ⟨S768x1024, .f32⟩
  | .local _ .vmem, ⟨37, _⟩ => ⟨S768x2816, .f32⟩
  | .local _ .vmem, ⟨38, _⟩ => ⟨S768x2816, .f32⟩
  | .local _ .vmem, ⟨39, _⟩ => ⟨S1024x2816, .bf16⟩
  | .local _ .vmem, ⟨40, _⟩ => ⟨S768x1024, .f32⟩
  | .local _ .vmem, ⟨41, _⟩ => ⟨S768x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg6_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg2_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg2_1 : Ref sig .tc := ⟨.vmem, 36, rfl⟩
abbrev cc6_stg0_0 : Ref sig .tc := ⟨.vmem, 37, rfl⟩
abbrev cc6_stg0_1 : Ref sig .tc := ⟨.vmem, 38, rfl⟩
abbrev cc6_stg1_0 : Ref sig .tc := ⟨.vmem, 39, rfl⟩
abbrev cc6_stg2_0 : Ref sig .tc := ⟨.vmem, 40, rfl⟩
abbrev cc6_stg2_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc2_sem4_0 : DmaSem sig := 18
abbrev cc2_sem5_0 : DmaSem sig := 19
abbrev cc2_sem6_0 : DmaSem sig := 20
abbrev cc2_sem6_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26
abbrev cc4_sem0_0 : DmaSem sig := 27
abbrev cc4_sem0_1 : DmaSem sig := 28
abbrev cc4_sem1_0 : DmaSem sig := 29
abbrev cc4_sem2_0 : DmaSem sig := 30
abbrev cc4_sem2_1 : DmaSem sig := 31
abbrev cc5_sem0_0 : DmaSem sig := 32
abbrev cc5_sem0_1 : DmaSem sig := 33
abbrev cc5_sem1_0 : DmaSem sig := 34
abbrev cc5_sem2_0 : DmaSem sig := 35
abbrev cc5_sem2_1 : DmaSem sig := 36
abbrev cc6_sem0_0 : DmaSem sig := 37
abbrev cc6_sem0_1 : DmaSem sig := 38
abbrev cc6_sem1_0 : DmaSem sig := 39
abbrev cc6_sem2_0 : DmaSem sig := 40
abbrev cc6_sem2_1 : DmaSem sig := 41

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![11, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S768x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x2816 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S768x2816 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨1, ![33], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc2_transform_2 (i : grid2.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1055_i32 : BitVec 32 := 1055#32
  let v2 : BitVec 32 := Scalar.minsi v1 c1055_i32
  let c0_i32 : BitVec 32 := 0#32
  let c0_i32_0 : BitVec 32 := 0#32
  ![v2.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x2816 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8x2816 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8x2816 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x2816 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S8x2816 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x2816 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S256x2816 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨3, ![11, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S768x2816 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S2816x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S768x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![11, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S768x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S2816x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 2 → Memref sig .tc .vmem S768x2816 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![11, 1, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S768x2816 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 1 → Memref sig .tc .vmem S1024x2816 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 2 → Memref sig .tc .vmem S768x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![11, 1, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S768x2816 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 1 → Memref sig .tc .vmem S1024x2816 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true, true]

abbrev stage6_2 : Fin 2 → Memref sig .tc .vmem S768x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]
-- ==== Reference3Ideal.lean ====
abbrev S8448x1024 : Shape := ⟨2, ![8448, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S8448x2816 : Shape := ⟨2, ![8448, 2816]⟩
abbrev S256x1024 : Shape := ⟨2, ![256, 1024]⟩
abbrev S1024x2816 : Shape := ⟨2, ![1024, 2816]⟩
abbrev S256x2816 : Shape := ⟨2, ![256, 2816]⟩
abbrev S_ : Shape := ⟨0, ![]⟩
abbrev S1x2816 : Shape := ⟨2, ![1, 2816]⟩
abbrev S255x2816 : Shape := ⟨2, ![255, 2816]⟩
abbrev S8192x1024 : Shape := ⟨2, ![8192, 1024]⟩
abbrev S8192x2816 : Shape := ⟨2, ![8192, 2816]⟩
abbrev S8191x2816 : Shape := ⟨2, ![8191, 2816]⟩

abbrev nBuf : Space → Nat
  | .hbm => 120
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x5632, .f32⟩
  | .hbm, ⟨2, _⟩ => ⟨S3x2816, .f32⟩
  | .hbm, ⟨3, _⟩ => ⟨S2816, .f32⟩
  | .hbm, ⟨4, _⟩ => ⟨S2816x1024, .f32⟩
  | .hbm, ⟨5, _⟩ => ⟨S8448x1024, .f32⟩
  | .hbm, ⟨6, _⟩ => ⟨S8448x2816, .f32⟩
  | .hbm, ⟨7, _⟩ => ⟨S8448x2816, .f32⟩
  | .hbm, ⟨8, _⟩ => ⟨S256x1024, .f32⟩
  | .hbm, ⟨9, _⟩ => ⟨S1024x2816, .f32⟩
  | .hbm, ⟨10, _⟩ => ⟨S256x2816, .f32⟩
  | .hbm, ⟨11, _⟩ => ⟨S1024x2816, .f32⟩
  | .hbm, ⟨12, _⟩ => ⟨S256x2816, .f32⟩
  | .hbm, ⟨13, _⟩ => ⟨S_, .f32⟩
  | .hbm, ⟨14, _⟩ => ⟨S1x2816, .f32⟩
  | .hbm, ⟨15, _⟩ => ⟨S255x2816, .f32⟩
  | .hbm, ⟨16, _⟩ => ⟨S256x2816, .f32⟩
  | .hbm, ⟨17, _⟩ => ⟨S255x2816, .f32⟩
  | .hbm, ⟨18, _⟩ => ⟨S256x2816, .f32⟩
  | .hbm, ⟨19, _⟩ => ⟨S1x2816, .f32⟩
  | .hbm, ⟨20, _⟩ => ⟨S2816, .f32⟩
  | .hbm, ⟨21, _⟩ => ⟨S1x2816, .f32⟩
  | .hbm, ⟨22, _⟩ => ⟨S256x2816, .f32⟩
  | .hbm, ⟨23, _⟩ => ⟨S256x2816, .f32⟩
  | .hbm, ⟨24, _⟩ => ⟨S1x2816, .f32⟩
  | .hbm, ⟨25, _⟩ => ⟨S2816, .f32⟩
  | .hbm, ⟨26, _⟩ => ⟨S1x2816, .f32⟩
  | .hbm, ⟨27, _⟩ => ⟨S256x2816, .f32⟩
  | .hbm, ⟨28, _⟩ => ⟨S256x2816, .f32⟩
  | .hbm, ⟨29, _⟩ => ⟨S256x2816, .f32⟩
  | .hbm, ⟨30, _⟩ => ⟨S1x2816, .f32⟩
  | .hbm, ⟨31, _⟩ => ⟨S2816, .f32⟩
  | .hbm, ⟨32, _⟩ => ⟨S1x2816, .f32⟩
  | .hbm, ⟨33, _⟩ => ⟨S256x2816, .f32⟩
  | .hbm, ⟨34, _⟩ => ⟨S256x2816, .f32⟩
  | .hbm, ⟨35, _⟩ => ⟨S256x2816, .f32⟩
  | .hbm, ⟨36, _⟩ => ⟨S1x2816, .f32⟩
  | .hbm, ⟨37, _⟩ => ⟨S256x2816, .f32⟩
  | .hbm, ⟨38, _⟩ => ⟨S256x2816, .f32⟩
  | .hbm, ⟨39, _⟩ => ⟨S256x2816, .f32⟩
  | .hbm, ⟨40, _⟩ => ⟨S256x2816, .f32⟩
  | .hbm, ⟨41, _⟩ => ⟨S_, .f32⟩
  | .hbm, ⟨42, _⟩ => ⟨S256x2816, .f32⟩
  | .hbm, ⟨43, _⟩ => ⟨S256x2816, .f32⟩
  | .hbm, ⟨44, _⟩ => ⟨S256x2816, .f32⟩
  | .hbm, ⟨45, _⟩ => ⟨S_, .f32⟩
  | .hbm, ⟨46, _⟩ => ⟨S256x2816, .f32⟩
  | .hbm, ⟨47, _⟩ => ⟨S256x2816, .f32⟩
  | .hbm, ⟨48, _⟩ => ⟨S256x2816, .f32⟩
  | .hbm, ⟨49, _⟩ => ⟨S_, .f32⟩
  | .hbm, ⟨50, _⟩ => ⟨S256x2816, .f32⟩
  | .hbm, ⟨51, _⟩ => ⟨S256x2816, .f32⟩
  | .hbm, ⟨52, _⟩ => ⟨S_, .f32⟩
  | .hbm, ⟨53, _⟩ => ⟨S256x2816, .f32⟩
  | .hbm, ⟨54, _⟩ => ⟨S256x2816, .f32⟩
  | .hbm, ⟨55, _⟩ => ⟨S256x2816, .f32⟩
  | .hbm, ⟨56, _⟩ => ⟨S256x2816, .f32⟩
  | .hbm, ⟨57, _⟩ => ⟨S256x1024, .f32⟩
  | .hbm, ⟨58, _⟩ => ⟨S8192x1024, .f32⟩
  | .hbm, ⟨59, _⟩ => ⟨S1024x2816, .f32⟩
  | .hbm, ⟨60, _⟩ => ⟨S8192x2816, .f32⟩
  | .hbm, ⟨61, _⟩ => ⟨S1024x2816, .f32⟩
  | .hbm, ⟨62, _⟩ => ⟨S8192x2816, .f32⟩
  | .hbm, ⟨63, _⟩ => ⟨S_, .f32⟩
  | .hbm, ⟨64, _⟩ => ⟨S1x2816, .f32⟩
  | .hbm, ⟨65, _⟩ => ⟨S8191x2816, .f32⟩
  | .hbm, ⟨66, _⟩ => ⟨S8192x2816, .f32⟩
  | .hbm, ⟨67, _⟩ => ⟨S8191x2816, .f32⟩
  | .hbm, ⟨68, _⟩ => ⟨S8192x2816, .f32⟩
  | .hbm, ⟨69, _⟩ => ⟨S1x2816, .f32⟩
  | .hbm, ⟨70, _⟩ => ⟨S2816, .f32⟩
  | .hbm, ⟨71, _⟩ => ⟨S1x2816, .f32⟩
  | .hbm, ⟨72, _⟩ => ⟨S8192x2816, .f32⟩
  | .hbm, ⟨73, _⟩ => ⟨S8192x2816, .f32⟩
  | .hbm, ⟨74, _⟩ => ⟨S1x2816, .f32⟩
  | .hbm, ⟨75, _⟩ => ⟨S2816, .f32⟩
  | .hbm, ⟨76, _⟩ => ⟨S1x2816, .f32⟩
  | .hbm, ⟨77, _⟩ => ⟨S8192x2816, .f32⟩
  | .hbm, ⟨78, _⟩ => ⟨S8192x2816, .f32⟩
  | .hbm, ⟨79, _⟩ => ⟨S8192x2816, .f32⟩
  | .hbm, ⟨80, _⟩ => ⟨S1x2816, .f32⟩
  | .hbm, ⟨81, _⟩ => ⟨S2816, .f32⟩
  | .hbm, ⟨82, _⟩ => ⟨S1x2816, .f32⟩
  | .hbm, ⟨83, _⟩ => ⟨S8192x2816, .f32⟩
  | .hbm, ⟨84, _⟩ => ⟨S8192x2816, .f32⟩
  | .hbm, ⟨85, _⟩ => ⟨S8192x2816, .f32⟩
  | .hbm, ⟨86, _⟩ => ⟨S1x2816, .f32⟩
  | .hbm, ⟨87, _⟩ => ⟨S8192x2816, .f32⟩
  | .hbm, ⟨88, _⟩ => ⟨S8192x2816, .f32⟩
  | .hbm, ⟨89, _⟩ => ⟨S8192x2816, .f32⟩
  | .hbm, ⟨90, _⟩ => ⟨S8192x2816, .f32⟩
  | .hbm, ⟨91, _⟩ => ⟨S_, .f32⟩
  | .hbm, ⟨92, _⟩ => ⟨S8192x2816, .f32⟩
  | .hbm, ⟨93, _⟩ => ⟨S8192x2816, .f32⟩
  | .hbm, ⟨94, _⟩ => ⟨S8192x2816, .f32⟩
  | .hbm, ⟨95, _⟩ => ⟨S_, .f32⟩
  | .hbm, ⟨96, _⟩ => ⟨S8192x2816, .f32⟩
  | .hbm, ⟨97, _⟩ => ⟨S8192x2816, .f32⟩
  | .hbm, ⟨98, _⟩ => ⟨S8192x2816, .f32⟩
  | .hbm, ⟨99, _⟩ => ⟨S_, .f32⟩
  | .hbm, ⟨100, _⟩ => ⟨S8192x2816, .f32⟩
  | .hbm, ⟨101, _⟩ => ⟨S8192x2816, .f32⟩
  | .hbm, ⟨102, _⟩ => ⟨S_, .f32⟩
  | .hbm, ⟨103, _⟩ => ⟨S8192x2816, .f32⟩
  | .hbm, ⟨104, _⟩ => ⟨S8192x2816, .f32⟩
  | .hbm, ⟨105, _⟩ => ⟨S8192x2816, .f32⟩
  | .hbm, ⟨106, _⟩ => ⟨S8192x2816, .f32⟩
  | .hbm, ⟨107, _⟩ => ⟨S8192x1024, .f32⟩
  | .hbm, ⟨108, _⟩ => ⟨S8448x1024, .f32⟩
  | .hbm, ⟨109, _⟩ => ⟨S_, .f32⟩
  | .hbm, ⟨110, _⟩ => ⟨S8448x2816, .f32⟩
  | .hbm, ⟨111, _⟩ => ⟨S8448x1024, .f32⟩
  | .hbm, ⟨112, _⟩ => ⟨S8448x2816, .f32⟩
  | .hbm, ⟨113, _⟩ => ⟨S1024x2816, .f32⟩
  | .hbm, ⟨114, _⟩ => ⟨S8448x2816, .f32⟩
  | .hbm, ⟨115, _⟩ => ⟨S1024x2816, .f32⟩
  | .hbm, ⟨116, _⟩ => ⟨S8448x2816, .f32⟩
  | .hbm, ⟨117, _⟩ => ⟨S8448x1024, .f32⟩
  | .hbm, ⟨118, _⟩ => ⟨S8448x1024, .f32⟩
  | .hbm, ⟨119, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_0 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_1 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_2 : Ref sig .tc := ⟨.hbm, 49, rfl⟩
abbrev main_v38 : Ref sig .tc := ⟨.hbm, 50, rfl⟩
abbrev main_v39 : Ref sig .tc := ⟨.hbm, 51, rfl⟩
abbrev main_cst_3 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_4 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_cst_5 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_cst_6 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_cst_7 : Ref sig .tc := ⟨.hbm, 99, rfl⟩
abbrev main_v83 : Ref sig .tc := ⟨.hbm, 100, rfl⟩
abbrev main_v84 : Ref sig .tc := ⟨.hbm, 101, rfl⟩
abbrev main_cst_8 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_cst_9 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩

abbrev nD : Nat := 1
abbrev τ : Topo := Topo.v7x

variable {F : FTy → Type} [FloatOps F]
-- ==== Kernel4.lean ====
abbrev S8448x1024 : Shape := ⟨2, ![8448, 1024]⟩
abbrev S8448x2816 : Shape := ⟨2, ![8448, 2816]⟩
abbrev S1024x2816 : Shape := ⟨2, ![1024, 2816]⟩
abbrev S1408x1024 : Shape := ⟨2, ![1408, 1024]⟩
abbrev S1408x1408 : Shape := ⟨2, ![1408, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .f32⟩
  | .hbm, ⟨1, _⟩ => ⟨S8448x2816, .f32⟩
  | .hbm, ⟨2, _⟩ => ⟨S1024x2816, .f32⟩
  | .local _ .vmem, ⟨0, _⟩ => ⟨S1408x1024, .f32⟩
  | .local _ .vmem, ⟨1, _⟩ => ⟨S1408x1024, .f32⟩
  | .local _ .vmem, ⟨2, _⟩ => ⟨S1408x1408, .f32⟩
  | .local _ .vmem, ⟨3, _⟩ => ⟨S1408x1408, .f32⟩
  | .local _ .vmem, ⟨4, _⟩ => ⟨S1024x1408, .f32⟩
  | .local _ .vmem, ⟨5, _⟩ => ⟨S1024x1408, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 6], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .ne arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8448x1024 : Shape := ⟨2, ![8448, 1024]⟩
abbrev S8448x2816 : Shape := ⟨2, ![8448, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x2816, .f32⟩
  | .hbm, ⟨2, _⟩ => ⟨S_, .f32⟩
  | .hbm, ⟨3, _⟩ => ⟨S1024x2816, .f32⟩
  | .hbm, ⟨4, _⟩ => ⟨S8448x2816, .f32⟩
  | .hbm, ⟨5, _⟩ => ⟨S2816x1024, .f32⟩
  | .hbm, ⟨6, _⟩ => ⟨S1024x2816, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S8448x2816 : Shape := ⟨2, ![8448, 2816]⟩
abbrev S8448x1024 : Shape := ⟨2, ![8448, 1024]⟩
abbrev S2816x1024 : Shape := ⟨2, ![2816, 1024]⟩
abbrev S1408x1408 : Shape := ⟨2, ![1408, 1408]⟩
abbrev S1408x1024 : Shape := ⟨2, ![1408, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8448x2816, .f32⟩
  | .hbm, ⟨1, _⟩ => ⟨S8448x1024, .f32⟩
  | .hbm, ⟨2, _⟩ => ⟨S8448x2816, .bf16⟩
  | .hbm, ⟨3, _⟩ => ⟨S2816x1024, .f32⟩
  | .local _ .vmem, ⟨0, _⟩ => ⟨S1408x1408, .bf16⟩
  | .local _ .vmem, ⟨1, _⟩ => ⟨S1408x1408, .bf16⟩
  | .local _ .vmem, ⟨2, _⟩ => ⟨S1408x1024, .f32⟩
  | .local _ .vmem, ⟨3, _⟩ => ⟨S1408x1024, .f32⟩
  | .local _ .vmem, ⟨4, _⟩ => ⟨S1408x1024, .f32⟩
  | .local _ .vmem, ⟨5, _⟩ => ⟨S1408x1024, .f32⟩
  | _, _ => ⟨S8448x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 6], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .ne arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8448x2816 : Shape := ⟨2, ![8448, 2816]⟩
abbrev S8448x1024 : Shape := ⟨2, ![8448, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8448x2816, .f32⟩
  | .hbm, ⟨1, _⟩ => ⟨S8448x1024, .f32⟩
  | .hbm, ⟨2, _⟩ => ⟨S_, .f32⟩
  | .hbm, ⟨3, _⟩ => ⟨S2816x1024, .f32⟩
  | .hbm, ⟨4, _⟩ => ⟨S8448x1024, .f32⟩
  | .hbm, ⟨5, _⟩ => ⟨S1024x2816, .f32⟩
  | .hbm, ⟨6, _⟩ => ⟨S2816x1024, .f32⟩
  | _, _ => ⟨S8448x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S1024x7616 : Shape := ⟨2, ![1024, 7616]⟩
abbrev S8448x256 : Shape := ⟨2, ![8448, 256]⟩
abbrev S8448x128 : Shape := ⟨2, ![8448, 128]⟩
abbrev S8448x32 : Shape := ⟨2, ![8448, 32]⟩
abbrev S8448x512 : Shape := ⟨2, ![8448, 512]⟩
abbrev S8448x16 : Shape := ⟨2, ![8448, 16]⟩
abbrev S8448x1024 : Shape := ⟨2, ![8448, 1024]⟩
abbrev S_ : Shape := ⟨0, ![]⟩
abbrev S8448x64 : Shape := ⟨2, ![8448, 64]⟩
abbrev S8448x480 : Shape := ⟨2, ![8448, 480]⟩
abbrev S1024x2048 : Shape := ⟨2, ![1024, 2048]⟩
abbrev S1024x3072 : Shape := ⟨2, ![1024, 3072]⟩
abbrev S1024x384 : Shape := ⟨2, ![1024, 384]⟩
abbrev S1024x64 : Shape := ⟨2, ![1024, 64]⟩
abbrev S1024x32 : Shape := ⟨2, ![1024, 32]⟩
abbrev S1024x96 : Shape := ⟨2, ![1024, 96]⟩
abbrev S1024x8192 : Shape := ⟨2, ![1024, 8192]⟩
abbrev S384x512 : Shape := ⟨2, ![384, 512]⟩
abbrev S384x1024 : Shape := ⟨2, ![384, 1024]⟩
abbrev S384x2048 : Shape := ⟨2, ![384, 2048]⟩

abbrev nBuf : Space → Nat
  | .hbm => 48
  | .vmem => 36
  | .smem => 0
  | _ => 0

abbrev bufTy : (tb : Table) → Fin (tcTables nBuf tb) → BufTy
  | .hbm, ⟨0, _⟩ => ⟨S1024x7616, .f32⟩
  | .hbm, ⟨1, _⟩ => ⟨S8448x256, .f32⟩
  | .hbm, ⟨2, _⟩ => ⟨S8448x128, .f32⟩
  | .hbm, ⟨3, _⟩ => ⟨S8448x32, .f32⟩
  | .hbm, ⟨4, _⟩ => ⟨S8448x512, .f32⟩
  | .hbm, ⟨5, _⟩ => ⟨S8448x512, .f32⟩
  | .hbm, ⟨6, _⟩ => ⟨S8448x512, .f32⟩
  | .hbm, ⟨7, _⟩ => ⟨S8448x512, .f32⟩
  | .hbm, ⟨8, _⟩ => ⟨S8448x16, .f32⟩
  | .hbm, ⟨9, _⟩ => ⟨S8448x16, .f32⟩
  | .hbm, ⟨10, _⟩ => ⟨S8448x512, .f32⟩
  | .hbm, ⟨11, _⟩ => ⟨S8448x512, .f32⟩
  | .hbm, ⟨12, _⟩ => ⟨S8448x512, .f32⟩
  | .hbm, ⟨13, _⟩ => ⟨S8448x512, .f32⟩
  | .hbm, ⟨14, _⟩ => ⟨S8448x1024, .f32⟩
  | .hbm, ⟨15, _⟩ => ⟨S8448x1024, .f32⟩
  | .hbm, ⟨16, _⟩ => ⟨S8448x1024, .f32⟩
  | .hbm, ⟨17, _⟩ => ⟨S8448x512, .f32⟩
  | .hbm, ⟨18, _⟩ => ⟨S8448x512, .f32⟩
  | .hbm, ⟨19, _⟩ => ⟨S8448x512, .f32⟩
  | .hbm, ⟨20, _⟩ => ⟨S8448x512, .f32⟩
  | .hbm, ⟨21, _⟩ => ⟨S8448x512, .f32⟩
  | .hbm, ⟨22, _⟩ => ⟨S8448x512, .f32⟩
  | .hbm, ⟨23, _⟩ => ⟨S_, .f32⟩
  | .hbm, ⟨24, _⟩ => ⟨S8448x64, .f32⟩
  | .hbm, ⟨25, _⟩ => ⟨S_, .f32⟩
  | .hbm, ⟨26, _⟩ => ⟨S8448x32, .f32⟩
  | .hbm, ⟨27, _⟩ => ⟨S8448x512, .f32⟩
  | .hbm, ⟨28, _⟩ => ⟨S_, .f32⟩
  | .hbm, ⟨29, _⟩ => ⟨S8448x480, .f32⟩
  | .hbm, ⟨30, _⟩ => ⟨S8448x512, .f32⟩
  | .hbm, ⟨31, _⟩ => ⟨S1024x2048, .f32⟩
  | .hbm, ⟨32, _⟩ => ⟨S1024x2048, .f32⟩
  | .hbm, ⟨33, _⟩ => ⟨S1024x3072, .f32⟩
  | .hbm, ⟨34, _⟩ => ⟨S1024x384, .f32⟩
  | .hbm, ⟨35, _⟩ => ⟨S_, .f32⟩
  | .hbm, ⟨36, _⟩ => ⟨S1024x64, .f32⟩
  | .hbm, ⟨37, _⟩ => ⟨S1024x32, .f32⟩
  | .hbm, ⟨38, _⟩ => ⟨S_, .f32⟩
  | .hbm, ⟨39, _⟩ => ⟨S1024x32, .f32⟩
  | .hbm, ⟨40, _⟩ => ⟨S1024x32, .f32⟩
  | .hbm, ⟨41, _⟩ => ⟨S_, .f32⟩
  | .hbm, ⟨42, _⟩ => ⟨S1024x96, .f32⟩
  | .hbm, ⟨43, _⟩ => ⟨S_, .f32⟩
  | .hbm, ⟨44, _⟩ => ⟨S1024x384, .f32⟩
  | .hbm, ⟨45, _⟩ => ⟨S1024x8192, .f32⟩
  | .hbm, ⟨46, _⟩ => ⟨S1024x8192, .bf16⟩
  | .hbm, ⟨47, _⟩ => ⟨S8448x1024, .f32⟩
  | .local _ .vmem, ⟨0, _⟩ => ⟨S384x512, .f32⟩
  | .local _ .vmem, ⟨1, _⟩ => ⟨S384x512, .f32⟩
  | .local _ .vmem, ⟨2, _⟩ => ⟨S384x512, .f32⟩
  | .local _ .vmem, ⟨3, _⟩ => ⟨S384x512, .f32⟩
  | .local _ .vmem, ⟨4, _⟩ => ⟨S384x512, .f32⟩
  | .local _ .vmem, ⟨5, _⟩ => ⟨S384x512, .f32⟩
  | .local _ .vmem, ⟨6, _⟩ => ⟨S384x512, .f32⟩
  | .local _ .vmem, ⟨7, _⟩ => ⟨S384x512, .f32⟩
  | .local _ .vmem, ⟨8, _⟩ => ⟨S384x512, .f32⟩
  | .local _ .vmem, ⟨9, _⟩ => ⟨S384x512, .f32⟩
  | .local _ .vmem, ⟨10, _⟩ => ⟨S384x512, .f32⟩
  | .local _ .vmem, ⟨11, _⟩ => ⟨S384x512, .f32⟩
  | .local _ .vmem, ⟨12, _⟩ => ⟨S384x512, .f32⟩
  | .local _ .vmem, ⟨13, _⟩ => ⟨S384x512, .f32⟩
  | .local _ .vmem, ⟨14, _⟩ => ⟨S384x512, .f32⟩
  | .local _ .vmem, ⟨15, _⟩ => ⟨S384x512, .f32⟩
  | .local _ .vmem, ⟨16, _⟩ => ⟨S384x512, .f32⟩
  | .local _ .vmem, ⟨17, _⟩ => ⟨S384x512, .f32⟩
  | .local _ .vmem, ⟨18, _⟩ => ⟨S384x512, .f32⟩
  | .local _ .vmem, ⟨19, _⟩ => ⟨S384x512, .f32⟩
  | .local _ .vmem, ⟨20, _⟩ => ⟨S384x512, .f32⟩
  | .local _ .vmem, ⟨21, _⟩ => ⟨S384x512, .f32⟩
  | .local _ .vmem, ⟨22, _⟩ => ⟨S384x512, .f32⟩
  | .local _ .vmem, ⟨23, _⟩ => ⟨S384x512, .f32⟩
  | .local _ .vmem, ⟨24, _⟩ => ⟨S384x512, .f32⟩
  | .local _ .vmem, ⟨25, _⟩ => ⟨S384x512, .f32⟩
  | .local _ .vmem, ⟨26, _⟩ => ⟨S384x512, .f32⟩
  | .local _ .vmem, ⟨27, _⟩ => ⟨S384x512, .f32⟩
  | .local _ .vmem, ⟨28, _⟩ => ⟨S384x512, .f32⟩
  | .local _ .vmem, ⟨29, _⟩ => ⟨S384x512, .f32⟩
  | .local _ .vmem, ⟨30, _⟩ => ⟨S384x512, .f32⟩
  | .local _ .vmem, ⟨31, _⟩ => ⟨S384x512, .f32⟩
  | .local _ .vmem, ⟨32, _⟩ => ⟨S1024x2048, .bf16⟩
  | .local _ .vmem, ⟨33, _⟩ => ⟨S1024x2048, .bf16⟩
  | .local _ .vmem, ⟨34, _⟩ => ⟨S384x1024, .f32⟩
  | .local _ .vmem, ⟨35, _⟩ => ⟨S384x1024, .f32⟩
  | _, _ => ⟨S1024x7616, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_cst_1 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_cst_3 : Ref sig .tc := ⟨.hbm, 38, rfl⟩
abbrev main_v17 : Ref sig .tc := ⟨.hbm, 39, rfl⟩
abbrev main_v18 : Ref sig .tc := ⟨.hbm, 40, rfl⟩
abbrev main_cst_4 : Ref sig .tc := ⟨.hbm, 41, rfl⟩
abbrev main_v19 : Ref sig .tc := ⟨.hbm, 42, rfl⟩
abbrev main_cst_5 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [FloatOps F]

abbrev grid0 : Pipeline.Grid := ⟨2, ![22, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S384x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S384x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S384x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S384x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S384x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S384x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S384x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S384x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S384x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S384x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S384x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S384x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S384x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S384x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S384x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S384x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1024x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true]

abbrev stage0_17 : Fin 2 → Memref sig .tc .vmem S384x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== Reference7Ideal.lean ====
abbrev S1024x7616 : Shape := ⟨2, ![1024, 7616]⟩
abbrev S8448x256 : Shape := ⟨2, ![8448, 256]⟩
abbrev S8448x128 : Shape := ⟨2, ![8448, 128]⟩
abbrev S8448x32 : Shape := ⟨2, ![8448, 32]⟩
abbrev S8448x512 : Shape := ⟨2, ![8448, 512]⟩
abbrev S8448x16 : Shape := ⟨2, ![8448, 16]⟩
abbrev S8448x1024 : Shape := ⟨2, ![8448, 1024]⟩
abbrev S_ : Shape := ⟨0, ![]⟩
abbrev S1024x256 : Shape := ⟨2, ![1024, 256]⟩
abbrev S1024x128 : Shape := ⟨2, ![1024, 128]⟩
abbrev S1024x32 : Shape := ⟨2, ![1024, 32]⟩
abbrev S1024x512 : Shape := ⟨2, ![1024, 512]⟩
abbrev S1024x16 : Shape := ⟨2, ![1024, 16]⟩
abbrev S1024x1024 : Shape := ⟨2, ![1024, 1024]⟩

abbrev nBuf : Space → Nat
  | .hbm => 82
  | .vmem => 0
  | .smem => 0
  | _ => 0

abbrev bufTy : (tb : Table) → Fin (tcTables nBuf tb) → BufTy
  | .hbm, ⟨0, _⟩ => ⟨S1024x7616, .f32⟩
  | .hbm, ⟨1, _⟩ => ⟨S8448x256, .f32⟩
  | .hbm, ⟨2, _⟩ => ⟨S8448x128, .f32⟩
  | .hbm, ⟨3, _⟩ => ⟨S8448x32, .f32⟩
  | .hbm, ⟨4, _⟩ => ⟨S8448x512, .f32⟩
  | .hbm, ⟨5, _⟩ => ⟨S8448x512, .f32⟩
  | .hbm, ⟨6, _⟩ => ⟨S8448x512, .f32⟩
  | .hbm, ⟨7, _⟩ => ⟨S8448x512, .f32⟩
  | .hbm, ⟨8, _⟩ => ⟨S8448x16, .f32⟩
  | .hbm, ⟨9, _⟩ => ⟨S8448x16, .f32⟩
  | .hbm, ⟨10, _⟩ => ⟨S8448x512, .f32⟩
  | .hbm, ⟨11, _⟩ => ⟨S8448x512, .f32⟩
  | .hbm, ⟨12, _⟩ => ⟨S8448x512, .f32⟩
  | .hbm, ⟨13, _⟩ => ⟨S8448x512, .f32⟩
  | .hbm, ⟨14, _⟩ => ⟨S8448x1024, .f32⟩
  | .hbm, ⟨15, _⟩ => ⟨S8448x1024, .f32⟩
  | .hbm, ⟨16, _⟩ => ⟨S8448x1024, .f32⟩
  | .hbm, ⟨17, _⟩ => ⟨S_, .f32⟩
  | .hbm, ⟨18, _⟩ => ⟨S8448x1024, .f32⟩
  | .hbm, ⟨19, _⟩ => ⟨S1024x256, .f32⟩
  | .hbm, ⟨20, _⟩ => ⟨S8448x256, .f32⟩
  | .hbm, ⟨21, _⟩ => ⟨S1024x128, .f32⟩
  | .hbm, ⟨22, _⟩ => ⟨S8448x128, .f32⟩
  | .hbm, ⟨23, _⟩ => ⟨S1024x32, .f32⟩
  | .hbm, ⟨24, _⟩ => ⟨S8448x32, .f32⟩
  | .hbm, ⟨25, _⟩ => ⟨S1024x512, .f32⟩
  | .hbm, ⟨26, _⟩ => ⟨S8448x512, .f32⟩
  | .hbm, ⟨27, _⟩ => ⟨S1024x512, .f32⟩
  | .hbm, ⟨28, _⟩ => ⟨S8448x512, .f32⟩
  | .hbm, ⟨29, _⟩ => ⟨S1024x512, .f32⟩
  | .hbm, ⟨30, _⟩ => ⟨S8448x512, .f32⟩
  | .hbm, ⟨31, _⟩ => ⟨S1024x512, .f32⟩
  | .hbm, ⟨32, _⟩ => ⟨S8448x512, .f32⟩
  | .hbm, ⟨33, _⟩ => ⟨S1024x16, .f32⟩
  | .hbm, ⟨34, _⟩ => ⟨S8448x16, .f32⟩
  | .hbm, ⟨35, _⟩ => ⟨S1024x16, .f32⟩
  | .hbm, ⟨36, _⟩ => ⟨S8448x16, .f32⟩
  | .hbm, ⟨37, _⟩ => ⟨S1024x512, .f32⟩
  | .hbm, ⟨38, _⟩ => ⟨S8448x512, .f32⟩
  | .hbm, ⟨39, _⟩ => ⟨S1024x512, .f32⟩
  | .hbm, ⟨40, _⟩ => ⟨S8448x512, .f32⟩
  | .hbm, ⟨41, _⟩ => ⟨S1024x512, .f32⟩
  | .hbm, ⟨42, _⟩ => ⟨S8448x512, .f32⟩
  | .hbm, ⟨43, _⟩ => ⟨S1024x512, .f32⟩
  | .hbm, ⟨44, _⟩ => ⟨S8448x512, .f32⟩
  | .hbm, ⟨45, _⟩ => ⟨S1024x1024, .f32⟩
  | .hbm, ⟨46, _⟩ => ⟨S8448x1024, .f32⟩
  | .hbm, ⟨47, _⟩ => ⟨S1024x1024, .f32⟩
  | .hbm, ⟨48, _⟩ => ⟨S8448x1024, .f32⟩
  | .hbm, ⟨49, _⟩ => ⟨S1024x1024, .f32⟩
  | .hbm, ⟨50, _⟩ => ⟨S8448x1024, .f32⟩
  | .hbm, ⟨51, _⟩ => ⟨S8448x1024, .f32⟩
  | .hbm, ⟨52, _⟩ => ⟨S8448x1024, .f32⟩
  | .hbm, ⟨53, _⟩ => ⟨S8448x1024, .f32⟩
  | .hbm, ⟨54, _⟩ => ⟨S8448x1024, .f32⟩
  | .hbm, ⟨55, _⟩ => ⟨S8448x1024, .f32⟩
  | .hbm, ⟨56, _⟩ => ⟨S8448x1024, .f32⟩
  | .hbm, ⟨57, _⟩ => ⟨S8448x1024, .f32⟩
  | .hbm, ⟨58, _⟩ => ⟨S8448x1024, .f32⟩
  | .hbm, ⟨59, _⟩ => ⟨S8448x1024, .f32⟩
  | .hbm, ⟨60, _⟩ => ⟨S8448x1024, .f32⟩
  | .hbm, ⟨61, _⟩ => ⟨S8448x1024, .f32⟩
  | .hbm, ⟨62, _⟩ => ⟨S8448x1024, .f32⟩
  | .hbm, ⟨63, _⟩ => ⟨S8448x1024, .f32⟩
  | .hbm, ⟨64, _⟩ => ⟨S8448x1024, .f32⟩
  | .hbm, ⟨65, _⟩ => ⟨S8448x1024, .f32⟩
  | .hbm, ⟨66, _⟩ => ⟨S8448x1024, .f32⟩
  | .hbm, ⟨67, _⟩ => ⟨S8448x1024, .f32⟩
  | .hbm, ⟨68, _⟩ => ⟨S8448x1024, .f32⟩
  | .hbm, ⟨69, _⟩ => ⟨S8448x1024, .f32⟩
  | .hbm, ⟨70, _⟩ => ⟨S8448x1024, .f32⟩
  | .hbm, ⟨71, _⟩ => ⟨S8448x1024, .f32⟩
  | .hbm, ⟨72, _⟩ => ⟨S8448x1024, .f32⟩
  | .hbm, ⟨73, _⟩ => ⟨S8448x1024, .f32⟩
  | .hbm, ⟨74, _⟩ => ⟨S8448x1024, .f32⟩
  | .hbm, ⟨75, _⟩ => ⟨S8448x1024, .f32⟩
  | .hbm, ⟨76, _⟩ => ⟨S8448x1024, .f32⟩
  | .hbm, ⟨77, _⟩ => ⟨S8448x1024, .f32⟩
  | .hbm, ⟨78, _⟩ => ⟨S8448x1024, .f32⟩
  | .hbm, ⟨79, _⟩ => ⟨S8448x1024, .f32⟩
  | .hbm, ⟨80, _⟩ => ⟨S8448x1024, .f32⟩
  | .hbm, ⟨81, _⟩ => ⟨S8448x1024, .f32⟩
  | _, _ => ⟨S1024x7616, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩

abbrev nD : Nat := 1
abbrev τ : Topo := Topo.v7x

variable {F : FTy → Type} [FloatOps F]
-- ==== Kernel8.lean ====
abbrev S8448x1024 : Shape := ⟨2, ![8448, 1024]⟩
abbrev S8448x512 : Shape := ⟨2, ![8448, 512]⟩
abbrev S1024x2048 : Shape := ⟨2, ![1024, 2048]⟩
abbrev S768x1024 : Shape := ⟨2, ![768, 1024]⟩
abbrev S768x512 : Shape := ⟨2, ![768, 512]⟩
abbrev S768x2048 : Shape := ⟨2, ![768, 2048]⟩

abbrev nBuf : Space → Nat
  | .hbm => 6
  | .vmem => 11
  | .smem => 0
  | _ => 0

abbrev bufTy : (tb : Table) → Fin (tcTables nBuf tb) → BufTy
  | .hbm, ⟨0, _⟩ => ⟨S8448x1024, .f32⟩
  | .hbm, ⟨1, _⟩ => ⟨S8448x512, .f32⟩
  | .hbm, ⟨2, _⟩ => ⟨S8448x512, .f32⟩
  | .hbm, ⟨3, _⟩ => ⟨S8448x512, .f32⟩
  | .hbm, ⟨4, _⟩ => ⟨S8448x512, .f32⟩
  | .hbm, ⟨5, _⟩ => ⟨S1024x2048, .f32⟩
  | .local _ .vmem, ⟨0, _⟩ => ⟨S768x1024, .f32⟩
  | .local _ .vmem, ⟨1, _⟩ => ⟨S768x1024, .f32⟩
  | .local _ .vmem, ⟨2, _⟩ => ⟨S768x512, .f32⟩
  | .local _ .vmem, ⟨3, _⟩ => ⟨S768x512, .f32⟩
  | .local _ .vmem, ⟨4, _⟩ => ⟨S768x512, .f32⟩
  | .local _ .vmem, ⟨5, _⟩ => ⟨S768x512, .f32⟩
  | .local _ .vmem, ⟨6, _⟩ => ⟨S768x512, .f32⟩
  | .local _ .vmem, ⟨7, _⟩ => ⟨S768x512, .f32⟩
  | .local _ .vmem, ⟨8, _⟩ => ⟨S768x512, .f32⟩
  | .local _ .vmem, ⟨9, _⟩ => ⟨S768x512, .f32⟩
  | .local _ .vmem, ⟨10, _⟩ => ⟨S1024x2048, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32 : BitVec 32 := 0#32
  let v12 : BitVec 1 := Scalar.cmpi .eq arg0 c0_i32
  let v13 : BitVec 32 := Scalar.extui v12
  let c0_i32_9 : BitVec 32 := 0#32
  let v14 : BitVec 1 := Scalar.cmpi .ne v13 c0_i32_9
  v14

def k0_cond2 (i : grid0.Coords) : BitVec 1 :=
  let arg0 : BitVec 32 := BitVec.ofNat 32 (i 0).val
  let c0_i32_10 : BitVec 32 := 0#32
  let v15 : BitVec 1 := Scalar.cmpi .ne arg0 c0_i32_10
  let v16 : BitVec 32 := Scalar.extui v15
  let c0_i32_11 : BitVec 32 := 0#32
  let v17 : BitVec 1 := Scalar.cmpi .ne v16 c0_i32_11
  v17

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference8Ideal.lean ====
abbrev S8448x1024 : Shape := ⟨2, ![8448, 1024]⟩
abbrev S8448x512 : Shape := ⟨2, ![8448, 512]⟩
abbrev S_ : Shape := ⟨0, ![]⟩
abbrev S1024x512 : Shape := ⟨2, ![1024, 512]⟩
abbrev S512x1024 : Shape := ⟨2, ![512, 1024]⟩
abbrev S1024x2048 : Shape := ⟨2, ![1024, 2048]⟩

abbrev nBuf : Space → Nat
  | .hbm => 26
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x512, .f32⟩
  | .hbm, ⟨2, _⟩ => ⟨S8448x512, .f32⟩
  | .hbm, ⟨3, _⟩ => ⟨S8448x512, .f32⟩
  | .hbm, ⟨4, _⟩ => ⟨S8448x512, .f32⟩
  | .hbm, ⟨5, _⟩ => ⟨S_, .f32⟩
  | .hbm, ⟨6, _⟩ => ⟨S1024x512, .f32⟩
  | .hbm, ⟨7, _⟩ => ⟨S8448x512, .f32⟩
  | .hbm, ⟨8, _⟩ => ⟨S512x1024, .f32⟩
  | .hbm, ⟨9, _⟩ => ⟨S1024x512, .f32⟩
  | .hbm, ⟨10, _⟩ => ⟨S_, .f32⟩
  | .hbm, ⟨11, _⟩ => ⟨S1024x512, .f32⟩
  | .hbm, ⟨12, _⟩ => ⟨S8448x512, .f32⟩
  | .hbm, ⟨13, _⟩ => ⟨S512x1024, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S8448x512, .f32⟩
  | .hbm, ⟨18, _⟩ => ⟨S512x1024, .f32⟩
  | .hbm, ⟨19, _⟩ => ⟨S1024x512, .f32⟩
  | .hbm, ⟨20, _⟩ => ⟨S_, .f32⟩
  | .hbm, ⟨21, _⟩ => ⟨S1024x512, .f32⟩
  | .hbm, ⟨22, _⟩ => ⟨S8448x512, .f32⟩
  | .hbm, ⟨23, _⟩ => ⟨S512x1024, .f32⟩
  | .hbm, ⟨24, _⟩ => ⟨S1024x512, .f32⟩
  | .hbm, ⟨25, _⟩ => ⟨S1024x2048, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Kernel9.lean ====
abbrev S8448x1024 : Shape := ⟨2, ![8448, 1024]⟩
abbrev S1024x1024 : Shape := ⟨2, ![1024, 1024]⟩
abbrev S8448x512 : Shape := ⟨2, ![8448, 512]⟩
abbrev S512x1024 : Shape := ⟨2, ![512, 1024]⟩
abbrev S768x1024 : Shape := ⟨2, ![768, 1024]⟩
abbrev S768x512 : Shape := ⟨2, ![768, 512]⟩

abbrev nBuf : Space → Nat
  | .hbm => 12
  | .vmem => 20
  | .smem => 0
  | _ => 0

abbrev bufTy : (tb : Table) → Fin (tcTables nBuf tb) → BufTy
  | .hbm, ⟨0, _⟩ => ⟨S8448x1024, .f32⟩
  | .hbm, ⟨1, _⟩ => ⟨S1024x1024, .f32⟩
  | .hbm, ⟨2, _⟩ => ⟨S8448x1024, .f32⟩
  | .hbm, ⟨3, _⟩ => ⟨S8448x512, .f32⟩
  | .hbm, ⟨4, _⟩ => ⟨S512x1024, .f32⟩
  | .hbm, ⟨5, _⟩ => ⟨S8448x1024, .f32⟩
  | .hbm, ⟨6, _⟩ => ⟨S1024x1024, .bf16⟩
  | .hbm, ⟨7, _⟩ => ⟨S512x1024, .bf16⟩
  | .hbm, ⟨8, _⟩ => ⟨S8448x1024, .f32⟩
  | .hbm, ⟨9, _⟩ => ⟨S8448x1024, .f32⟩
  | .hbm, ⟨10, _⟩ => ⟨S8448x1024, .f32⟩
  | .hbm, ⟨11, _⟩ => ⟨S8448x512, .f32⟩
  | .local _ .vmem, ⟨0, _⟩ => ⟨S768x1024, .f32⟩
  | .local _ .vmem, ⟨1, _⟩ => ⟨S768x1024, .f32⟩
  | .local _ .vmem, ⟨2, _⟩ => ⟨S1024x1024, .bf16⟩
  | .local _ .vmem, ⟨3, _⟩ => ⟨S768x1024, .f32⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | .local _ .vmem, ⟨7, _⟩ => ⟨S1024x1024, .bf16⟩
  | .local _ .vmem, ⟨8, _⟩ => ⟨S768x1024, .f32⟩
  | .local _ .vmem, ⟨9, _⟩ => ⟨S768x1024, .f32⟩
  | .local _ .vmem, ⟨10, _⟩ => ⟨S768x512, .f32⟩
  | .local _ .vmem, ⟨11, _⟩ => ⟨S768x512, .f32⟩
  | .local _ .vmem, ⟨12, _⟩ => ⟨S512x1024, .bf16⟩
  | .local _ .vmem, ⟨13, _⟩ => ⟨S768x1024, .f32⟩
  | .local _ .vmem, ⟨14, _⟩ => ⟨S768x1024, .f32⟩
  | .local _ .vmem, ⟨15, _⟩ => ⟨S768x1024, .f32⟩
  | .local _ .vmem, ⟨16, _⟩ => ⟨S768x1024, .f32⟩
  | .local _ .vmem, ⟨17, _⟩ => ⟨S512x1024, .bf16⟩
  | .local _ .vmem, ⟨18, _⟩ => ⟨S768x512, .f32⟩
  | .local _ .vmem, ⟨19, _⟩ => ⟨S768x512, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![11, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S768x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S768x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![11, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S768x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S512x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S768x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![11, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S768x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S512x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S768x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== Reference9Ideal.lean ====
abbrev S8448x1024 : Shape := ⟨2, ![8448, 1024]⟩
abbrev S1024x1024 : Shape := ⟨2, ![1024, 1024]⟩
abbrev S8448x512 : Shape := ⟨2, ![8448, 512]⟩
abbrev S512x1024 : Shape := ⟨2, ![512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x1024, .f32⟩
  | .hbm, ⟨2, _⟩ => ⟨S8448x1024, .f32⟩
  | .hbm, ⟨3, _⟩ => ⟨S8448x512, .f32⟩
  | .hbm, ⟨4, _⟩ => ⟨S512x1024, .f32⟩
  | .hbm, ⟨5, _⟩ => ⟨S8448x1024, .f32⟩
  | .hbm, ⟨6, _⟩ => ⟨S8448x1024, .f32⟩
  | .hbm, ⟨7, _⟩ => ⟨S8448x1024, .f32⟩
  | .hbm, ⟨8, _⟩ => ⟨S8448x1024, .f32⟩
  | .hbm, ⟨9, _⟩ => ⟨S8448x512, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩

abbrev nD : Nat := 1
abbrev τ : Topo := Topo.v7x

variable {F : FTy → Type} [FloatOps F]
-- ==== Kernel10.lean ====
abbrev S8448x1024 : Shape := ⟨2, ![8448, 1024]⟩
abbrev S1024x1024 : Shape := ⟨2, ![1024, 1024]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S1024x1024, .f32⟩
  | .local _ .vmem, ⟨0, _⟩ => ⟨S1408x1024, .f32⟩
  | .local _ .vmem, ⟨1, _⟩ => ⟨S1408x1024, .f32⟩
  | .local _ .vmem, ⟨2, _⟩ => ⟨S1408x1024, .f32⟩
  | .local _ .vmem, ⟨3, _⟩ => ⟨S1408x1024, .f32⟩
  | .local _ .vmem, ⟨4, _⟩ => ⟨S1024x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .ne arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S8448x1024 : Shape := ⟨2, ![8448, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S_, .f32⟩
  | .hbm, ⟨3, _⟩ => ⟨S1024x1024, .f32⟩
  | .hbm, ⟨4, _⟩ => ⟨S8448x1024, .f32⟩
  | .hbm, ⟨5, _⟩ => ⟨S1024x1024, .f32⟩
  | .hbm, ⟨6, _⟩ => ⟨S1024x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S8448x512 : Shape := ⟨2, ![8448, 512]⟩
abbrev S8448x1024 : Shape := ⟨2, ![8448, 1024]⟩
abbrev S512x1024 : Shape := ⟨2, ![512, 1024]⟩
abbrev S1408x512 : Shape := ⟨2, ![1408, 512]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x512, .f32⟩
  | .hbm, ⟨1, _⟩ => ⟨S8448x1024, .f32⟩
  | .hbm, ⟨2, _⟩ => ⟨S512x1024, .f32⟩
  | .local _ .vmem, ⟨0, _⟩ => ⟨S1408x512, .f32⟩
  | .local _ .vmem, ⟨1, _⟩ => ⟨S1408x512, .f32⟩
  | .local _ .vmem, ⟨2, _⟩ => ⟨S1408x1024, .f32⟩
  | .local _ .vmem, ⟨3, _⟩ => ⟨S1408x1024, .f32⟩
  | .local _ .vmem, ⟨4, _⟩ => ⟨S512x1024, .f32⟩
  | _, _ => ⟨S8448x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .ne arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S8448x512 : Shape := ⟨2, ![8448, 512]⟩
abbrev S8448x1024 : Shape := ⟨2, ![8448, 1024]⟩
abbrev S_ : Shape := ⟨0, ![]⟩
abbrev S512x1024 : Shape := ⟨2, ![512, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S8448x512, .f32⟩
  | .hbm, ⟨1, _⟩ => ⟨S8448x1024, .f32⟩
  | .hbm, ⟨2, _⟩ => ⟨S_, .f32⟩
  | .hbm, ⟨3, _⟩ => ⟨S512x1024, .f32⟩
  | .hbm, ⟨4, _⟩ => ⟨S8448x1024, .f32⟩
  | .hbm, ⟨5, _⟩ => ⟨S1024x512, .f32⟩
  | .hbm, ⟨6, _⟩ => ⟨S512x1024, .f32⟩
  | _, _ => ⟨S8448x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S8448x512 : Shape := ⟨2, ![8448, 512]⟩
abbrev S512x1024 : Shape := ⟨2, ![512, 1024]⟩
abbrev S8448x1024 : Shape := ⟨2, ![8448, 1024]⟩
abbrev S8448x8x64 : Shape := ⟨3, ![8448, 8, 64]⟩
abbrev S_ : Shape := ⟨0, ![]⟩
abbrev S8448x8x128 : Shape := ⟨3, ![8448, 8, 128]⟩
abbrev S8x64x1024 : Shape := ⟨3, ![8, 64, 1024]⟩
abbrev S8x1024x64 : Shape := ⟨3, ![8, 1024, 64]⟩
abbrev S8x1024x128 : Shape := ⟨3, ![8, 1024, 128]⟩
abbrev S8x128x1024 : Shape := ⟨3, ![8, 128, 1024]⟩
abbrev S1024x1024 : Shape := ⟨2, ![1024, 1024]⟩
abbrev S768x1024 : Shape := ⟨2, ![768, 1024]⟩

abbrev nBuf : Space → Nat
  | .hbm => 21
  | .vmem => 10
  | .smem => 0
  | _ => 0

abbrev bufTy : (tb : Table) → Fin (tcTables nBuf tb) → BufTy
  | .hbm, ⟨0, _⟩ => ⟨S8448x512, .f32⟩
  | .hbm, ⟨1, _⟩ => ⟨S512x1024, .f32⟩
  | .hbm, ⟨2, _⟩ => ⟨S8448x1024, .f32⟩
  | .hbm, ⟨3, _⟩ => ⟨S8448x8x64, .f32⟩
  | .hbm, ⟨4, _⟩ => ⟨S_, .i32⟩
  | .hbm, ⟨5, _⟩ => ⟨S_, .f32⟩
  | .hbm, ⟨6, _⟩ => ⟨S8448x8x128, .f32⟩
  | .hbm, ⟨7, _⟩ => ⟨S8448x1024, .f32⟩
  | .hbm, ⟨8, _⟩ => ⟨S8x64x1024, .f32⟩
  | .hbm, ⟨9, _⟩ => ⟨S8x1024x64, .f32⟩
  | .hbm, ⟨10, _⟩ => ⟨S_, .i32⟩
  | .hbm, ⟨11, _⟩ => ⟨S_, .f32⟩
  | .hbm, ⟨12, _⟩ => ⟨S8x1024x128, .f32⟩
  | .hbm, ⟨13, _⟩ => ⟨S8x128x1024, .f32⟩
  | .hbm, ⟨14, _⟩ => ⟨S1024x1024, .f32⟩
  | .hbm, ⟨15, _⟩ => ⟨S1024x1024, .bf16⟩
  | .hbm, ⟨16, _⟩ => ⟨S8448x1024, .f32⟩
  | .hbm, ⟨17, _⟩ => ⟨S8448x1024, .f32⟩
  | .hbm, ⟨18, _⟩ => ⟨S8448x8x128, .f32⟩
  | .hbm, ⟨19, _⟩ => ⟨S8448x8x64, .f32⟩
  | .hbm, ⟨20, _⟩ => ⟨S8448x512, .f32⟩
  | .local _ .vmem, ⟨0, _⟩ => ⟨S768x1024, .f32⟩
  | .local _ .vmem, ⟨1, _⟩ => ⟨S768x1024, .f32⟩
  | .local _ .vmem, ⟨2, _⟩ => ⟨S1024x1024, .bf16⟩
  | .local _ .vmem, ⟨3, _⟩ => ⟨S768x1024, .f32⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | .local _ .vmem, ⟨7, _⟩ => ⟨S1024x1024, .bf16⟩
  | .local _ .vmem, ⟨8, _⟩ => ⟨S768x1024, .f32⟩
  | .local _ .vmem, ⟨9, _⟩ => ⟨S768x1024, .f32⟩
  | _, _ => ⟨S8448x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![11, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S768x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S768x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== Reference12Ideal.lean ====
abbrev S8448x512 : Shape := ⟨2, ![8448, 512]⟩
abbrev S512x1024 : Shape := ⟨2, ![512, 1024]⟩
abbrev S8448x1024 : Shape := ⟨2, ![8448, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8448x512, .f32⟩
  | .hbm, ⟨1, _⟩ => ⟨S512x1024, .f32⟩
  | .hbm, ⟨2, _⟩ => ⟨S8448x1024, .f32⟩
  | .hbm, ⟨3, _⟩ => ⟨S8448x1024, .f32⟩
  | .hbm, ⟨4, _⟩ => ⟨S8448x512, .f32⟩
  | _, _ => ⟨S8448x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel13.lean ====
abbrev S8448x512 : Shape := ⟨2, ![8448, 512]⟩
abbrev S8448x1024 : Shape := ⟨2, ![8448, 1024]⟩
abbrev S8448x8x64 : Shape := ⟨3, ![8448, 8, 64]⟩
abbrev S_ : Shape := ⟨0, ![]⟩
abbrev S8448x8x128 : Shape := ⟨3, ![8448, 8, 128]⟩
abbrev S1024x1024 : Shape := ⟨2, ![1024, 1024]⟩
abbrev S1408x1024 : Shape := ⟨2, ![1408, 1024]⟩
abbrev S8x128x1024 : Shape := ⟨3, ![8, 128, 1024]⟩
abbrev S8x64x1024 : Shape := ⟨3, ![8, 64, 1024]⟩
abbrev S512x1024 : Shape := ⟨2, ![512, 1024]⟩

abbrev nBuf : Space → Nat
  | .hbm => 11
  | .vmem => 5
  | .smem => 0
  | _ => 0

abbrev bufTy : (tb : Table) → Fin (tcTables nBuf tb) → BufTy
  | .hbm, ⟨0, _⟩ => ⟨S8448x512, .f32⟩
  | .hbm, ⟨1, _⟩ => ⟨S8448x1024, .f32⟩
  | .hbm, ⟨2, _⟩ => ⟨S8448x8x64, .f32⟩
  | .hbm, ⟨3, _⟩ => ⟨S_, .i32⟩
  | .hbm, ⟨4, _⟩ => ⟨S_, .f32⟩
  | .hbm, ⟨5, _⟩ => ⟨S8448x8x128, .f32⟩
  | .hbm, ⟨6, _⟩ => ⟨S8448x1024, .f32⟩
  | .hbm, ⟨7, _⟩ => ⟨S1024x1024, .f32⟩
  | .hbm, ⟨8, _⟩ => ⟨S8x128x1024, .f32⟩
  | .hbm, ⟨9, _⟩ => ⟨S8x64x1024, .f32⟩
  | .hbm, ⟨10, _⟩ => ⟨S512x1024, .f32⟩
  | .local _ .vmem, ⟨0, _⟩ => ⟨S1408x1024, .f32⟩
  | .local _ .vmem, ⟨1, _⟩ => ⟨S1408x1024, .f32⟩
  | .local _ .vmem, ⟨2, _⟩ => ⟨S1408x1024, .f32⟩
  | .local _ .vmem, ⟨3, _⟩ => ⟨S1408x1024, .f32⟩
  | .local _ .vmem, ⟨4, _⟩ => ⟨S1024x1024, .f32⟩
  | _, _ => ⟨S8448x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond1 (i : grid0.Coords) : BitVec 1 :=
  let arg2 : BitVec 32 := BitVec.ofNat 32 (i 2).val
  let c0_i32 : BitVec 32 := 0#32
  let v6 : BitVec 1 := Scalar.cmpi .eq arg2 c0_i32
  let v7 : BitVec 32 := Scalar.extui v6
  let c0_i32_3 : BitVec 32 := 0#32
  let v8 : BitVec 1 := Scalar.cmpi .ne v7 c0_i32_3
  v8

def k0_cond2 (i : grid0.Coords) : BitVec 1 :=
  let arg2 : BitVec 32 := BitVec.ofNat 32 (i 2).val
  let c0_i32_4 : BitVec 32 := 0#32
  let v9 : BitVec 1 := Scalar.cmpi .ne arg2 c0_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S8448x512 : Shape := ⟨2, ![8448, 512]⟩
abbrev S8448x1024 : Shape := ⟨2, ![8448, 1024]⟩
abbrev S_ : Shape := ⟨0, ![]⟩
abbrev S512x1024 : Shape := ⟨2, ![512, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S8448x512, .f32⟩
  | .hbm, ⟨1, _⟩ => ⟨S8448x1024, .f32⟩
  | .hbm, ⟨2, _⟩ => ⟨S_, .f32⟩
  | .hbm, ⟨3, _⟩ => ⟨S512x1024, .f32⟩
  | .hbm, ⟨4, _⟩ => ⟨S8448x1024, .f32⟩
  | .hbm, ⟨5, _⟩ => ⟨S1024x512, .f32⟩
  | .hbm, ⟨6, _⟩ => ⟨S512x1024, .f32⟩
  | _, _ => ⟨S8448x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S2x1024x768 : Shape := ⟨3, ![2, 1024, 768]⟩
abbrev S1536x1024 : Shape := ⟨2, ![1536, 1024]⟩
abbrev S1x1536x1024 : Shape := ⟨3, ![1, 1536, 1024]⟩
abbrev S1x128x1024 : Shape := ⟨3, ![1, 128, 1024]⟩
abbrev S128x1024 : Shape := ⟨2, ![128, 1024]⟩

abbrev nBuf : Space → Nat
  | .hbm => 17
  | .vmem => 16
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S1536x1024, .f32⟩
  | .hbm, ⟨5, _⟩ => ⟨S1x1536x1024, .f32⟩
  | .hbm, ⟨6, _⟩ => ⟨S1536x1024, .f32⟩
  | .hbm, ⟨7, _⟩ => ⟨S1536x1024, .f32⟩
  | .hbm, ⟨8, _⟩ => ⟨S1536x1024, .f32⟩
  | .hbm, ⟨9, _⟩ => ⟨S1536x1024, .f32⟩
  | .hbm, ⟨10, _⟩ => ⟨S1536x1024, .f32⟩
  | .hbm, ⟨11, _⟩ => ⟨S1536x1024, .f32⟩
  | .hbm, ⟨12, _⟩ => ⟨S1536x1024, .f32⟩
  | .hbm, ⟨13, _⟩ => ⟨S2x1024x768, .f32⟩
  | .hbm, ⟨14, _⟩ => ⟨S2x1024x768, .f32⟩
  | .hbm, ⟨15, _⟩ => ⟨S2x1024x768, .f32⟩
  | .hbm, ⟨16, _⟩ => ⟨S2x1024x768, .f32⟩
  | .local _ .vmem, ⟨0, _⟩ => ⟨S1x128x1024, .f32⟩
  | .local _ .vmem, ⟨1, _⟩ => ⟨S1x128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S2x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![12], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference14Ideal.lean ====
abbrev S2x1024x768 : Shape := ⟨3, ![2, 1024, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S_, .f32⟩
  | .hbm, ⟨5, _⟩ => ⟨S2x1024x768, .f32⟩
  | .hbm, ⟨6, _⟩ => ⟨S2x1024x768, .f32⟩
  | .hbm, ⟨7, _⟩ => ⟨S_, .f32⟩
  | .hbm, ⟨8, _⟩ => ⟨S2x1024x768, .f32⟩
  | .hbm, ⟨9, _⟩ => ⟨S2x1024x768, .f32⟩
  | .hbm, ⟨10, _⟩ => ⟨S2x1024x768, .f32⟩
  | .hbm, ⟨11, _⟩ => ⟨S_, .f32⟩
  | .hbm, ⟨12, _⟩ => ⟨S2x1024x768, .f32⟩
  | .hbm, ⟨13, _⟩ => ⟨S2x1024x768, .f32⟩
  | .hbm, ⟨14, _⟩ => ⟨S2x1024x768, .f32⟩
  | .hbm, ⟨15, _⟩ => ⟨S_, .f32⟩
  | .hbm, ⟨16, _⟩ => ⟨S2x1024x768, .f32⟩
  | .hbm, ⟨17, _⟩ => ⟨S2x1024x768, .f32⟩
  | .hbm, ⟨18, _⟩ => ⟨S2x1024x768, .f32⟩
  | .hbm, ⟨19, _⟩ => ⟨S_, .f32⟩
  | .hbm, ⟨20, _⟩ => ⟨S2x1024x768, .f32⟩
  | .hbm, ⟨21, _⟩ => ⟨S2x1024x768, .f32⟩
  | .hbm, ⟨22, _⟩ => ⟨S_, .f32⟩
  | .hbm, ⟨23, _⟩ => ⟨S2x1024x768, .f32⟩
  | .hbm, ⟨24, _⟩ => ⟨S2x1024x768, .f32⟩
  | .hbm, ⟨25, _⟩ => ⟨S2x1024x768, .f32⟩
  | .hbm, ⟨26, _⟩ => ⟨S_, .f32⟩
  | .hbm, ⟨27, _⟩ => ⟨S2x1024x768, .f32⟩
  | .hbm, ⟨28, _⟩ => ⟨S2x1024x768, .f32⟩
  | .hbm, ⟨29, _⟩ => ⟨S2x1024x768, .f32⟩
  | .hbm, ⟨30, _⟩ => ⟨S_, .f32⟩
  | .hbm, ⟨31, _⟩ => ⟨S2x1024x768, .f32⟩
  | .hbm, ⟨32, _⟩ => ⟨S2x1024x768, .f32⟩
  | .hbm, ⟨33, _⟩ => ⟨S2x1024x768, .f32⟩
  | .hbm, ⟨34, _⟩ => ⟨S_, .f32⟩
  | .hbm, ⟨35, _⟩ => ⟨S2x1024x768, .f32⟩
  | .hbm, ⟨36, _⟩ => ⟨S2x1024x768, .f32⟩
  | _, _ => ⟨S2x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S4x4736x1024 : Shape := ⟨3, ![4, 4736, 1024]⟩
abbrev S4736x1024 : Shape := ⟨2, ![4736, 1024]⟩
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x4736x1024, .bf16⟩
  | .hbm, ⟨1, _⟩ => ⟨S4736x1024, .f32⟩
  | .hbm, ⟨2, _⟩ => ⟨S4736x1024, .f32⟩
  | .hbm, ⟨3, _⟩ => ⟨S4736x1024, .f32⟩
  | .hbm, ⟨4, _⟩ => ⟨S4736x1024, .f32⟩
  | .hbm, ⟨5, _⟩ => ⟨S4736x1024, .f32⟩
  | .hbm, ⟨6, _⟩ => ⟨S4736x1024, .f32⟩
  | .hbm, ⟨7, _⟩ => ⟨S4736x1024, .f32⟩
  | .local _ .vmem, ⟨0, _⟩ => ⟨S4x128x1024, .bf16⟩
  | .local _ .vmem, ⟨1, _⟩ => ⟨S4x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S4x4736x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![37], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference15Ideal.lean ====
abbrev S4x4736x1024 : Shape := ⟨3, ![4, 4736, 1024]⟩
abbrev S4736x1024 : Shape := ⟨2, ![4736, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x4736x1024, .bf16⟩
  | .hbm, ⟨1, _⟩ => ⟨S4736x1024, .f32⟩
  | .hbm, ⟨2, _⟩ => ⟨S4736x1024, .f32⟩
  | .hbm, ⟨3, _⟩ => ⟨S4736x1024, .f32⟩
  | .hbm, ⟨4, _⟩ => ⟨S4x4736x1024, .f32⟩
  | .hbm, ⟨5, _⟩ => ⟨S_, .f32⟩
  | .hbm, ⟨6, _⟩ => ⟨S4736x1024, .f32⟩
  | .hbm, ⟨7, _⟩ => ⟨S_, .f32⟩
  | .hbm, ⟨8, _⟩ => ⟨S4736x1024, .f32⟩
  | .hbm, ⟨9, _⟩ => ⟨S4736x1024, .f32⟩
  | .hbm, ⟨10, _⟩ => ⟨S_, .f32⟩
  | .hbm, ⟨11, _⟩ => ⟨S4736x1024, .f32⟩
  | .hbm, ⟨12, _⟩ => ⟨S4736x1024, .f32⟩
  | .hbm, ⟨13, _⟩ => ⟨S4736x1024, .f32⟩
  | .hbm, ⟨14, _⟩ => ⟨S_, .f32⟩
  | .hbm, ⟨15, _⟩ => ⟨S4736x1024, .f32⟩
  | .hbm, ⟨16, _⟩ => ⟨S4736x1024, .f32⟩
  | .hbm, ⟨17, _⟩ => ⟨S4736x1024, .f32⟩
  | .hbm, ⟨18, _⟩ => ⟨S_, .f32⟩
  | .hbm, ⟨19, _⟩ => ⟨S4736x1024, .f32⟩
  | .hbm, ⟨20, _⟩ => ⟨S4736x1024, .f32⟩
  | .hbm, ⟨21, _⟩ => ⟨S4736x1024, .f32⟩
  | .hbm, ⟨22, _⟩ => ⟨S_, .f32⟩
  | .hbm, ⟨23, _⟩ => ⟨S4736x1024, .f32⟩
  | .hbm, ⟨24, _⟩ => ⟨S4736x1024, .f32⟩
  | .hbm, ⟨25, _⟩ => ⟨S_, .f32⟩
  | .hbm, ⟨26, _⟩ => ⟨S4736x1024, .f32⟩
  | .hbm, ⟨27, _⟩ => ⟨S4736x1024, .f32⟩
  | .hbm, ⟨28, _⟩ => ⟨S4736x1024, .f32⟩
  | .hbm, ⟨29, _⟩ => ⟨S_, .f32⟩
  | .hbm, ⟨30, _⟩ => ⟨S4736x1024, .f32⟩
  | .hbm, ⟨31, _⟩ => ⟨S4736x1024, .f32⟩
  | .hbm, ⟨32, _⟩ => ⟨S4736x1024, .f32⟩
  | .hbm, ⟨33, _⟩ => ⟨S_, .f32⟩
  | .hbm, ⟨34, _⟩ => ⟨S4736x1024, .f32⟩
  | .hbm, ⟨35, _⟩ => ⟨S4736x1024, .f32⟩
  | .hbm, ⟨36, _⟩ => ⟨S4736x1024, .f32⟩
  | .hbm, ⟨37, _⟩ => ⟨S_, .f32⟩
  | .hbm, ⟨38, _⟩ => ⟨S4736x1024, .f32⟩
  | .hbm, ⟨39, _⟩ => ⟨S4736x1024, .f32⟩
  | _, _ => ⟨S4x4736x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel16.lean ====
abbrev S8x256x1024 : Shape := ⟨3, ![8, 256, 1024]⟩
abbrev S256x1024 : Shape := ⟨2, ![256, 1024]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x256x1024, .f32⟩
  | .hbm, ⟨1, _⟩ => ⟨S256x1024, .f32⟩
  | .local _ .vmem, ⟨0, _⟩ => ⟨S8x128x1024, .f32⟩
  | .local _ .vmem, ⟨1, _⟩ => ⟨S8x128x1024, .f32⟩
  | .local _ .vmem, ⟨2, _⟩ => ⟨S128x1024, .f32⟩
  | .local _ .vmem, ⟨3, _⟩ => ⟨S128x1024, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference16Ideal.lean ====
abbrev S8x256x1024 : Shape := ⟨3, ![8, 256, 1024]⟩
abbrev S_ : Shape := ⟨0, ![]⟩
abbrev S256x1024 : Shape := ⟨2, ![256, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S_, .f32⟩
  | .hbm, ⟨2, _⟩ => ⟨S256x1024, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel17.lean ====
abbrev S4x4736x1024 : Shape := ⟨3, ![4, 4736, 1024]⟩
abbrev S1x128x1024 : Shape := ⟨3, ![1, 128, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x4736x1024, .bf16⟩
  | .hbm, ⟨1, _⟩ => ⟨S4x4736x1024, .bf16⟩
  | .hbm, ⟨2, _⟩ => ⟨S4x4736x1024, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x128x1024, .bf16⟩
  | .local _ .vmem, ⟨5, _⟩ => ⟨S1x128x1024, .bf16⟩
  | _, _ => ⟨S4x4736x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 37], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference17Ideal.lean ====
abbrev S4x4736x1024 : Shape := ⟨3, ![4, 4736, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4x4736x1024, .bf16⟩
  | .hbm, ⟨1, _⟩ => ⟨S4x4736x1024, .bf16⟩
  | .hbm, ⟨2, _⟩ => ⟨S4x4736x1024, .f32⟩
  | .hbm, ⟨3, _⟩ => ⟨S4x4736x1024, .f32⟩
  | .hbm, ⟨4, _⟩ => ⟨S4x4736x1024, .f32⟩
  | .hbm, ⟨5, _⟩ => ⟨S4x4736x1024, .bf16⟩
  | _, _ => ⟨S4x4736x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel18.lean ====
abbrev S128x1024 : Shape := ⟨2, ![128, 1024]⟩
abbrev S1x128x1024 : Shape := ⟨3, ![1, 128, 1024]⟩

abbrev nBuf : Space → Nat
  | .hbm => 9
  | .vmem => 8
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S1x128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S1x128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference18Ideal.lean ====
abbrev S128x1024 : Shape := ⟨2, ![128, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S16x1024 : Shape := ⟨2, ![16, 1024]⟩
abbrev S2x1024x768 : Shape := ⟨3, ![2, 1024, 768]⟩
abbrev S2x1x768 : Shape := ⟨3, ![2, 1, 768]⟩
abbrev S2x16x768 : Shape := ⟨3, ![2, 16, 768]⟩
abbrev S1x1024x768 : Shape := ⟨3, ![1, 1024, 768]⟩
abbrev S1024x768 : Shape := ⟨2, ![1024, 768]⟩
abbrev S16x768 : Shape := ⟨2, ![16, 768]⟩
abbrev S1x1x768 : Shape := ⟨3, ![1, 1, 768]⟩
abbrev S1x768 : Shape := ⟨2, ![1, 768]⟩
abbrev S1x16x768 : Shape := ⟨3, ![1, 16, 768]⟩

abbrev nBuf : Space → Nat
  | .hbm => 4
  | .vmem => 4
  | .smem => 0
  | _ => 0

abbrev bufTy : (tb : Table) → Fin (tcTables nBuf tb) → BufTy
  | .hbm, ⟨0, _⟩ => ⟨S16x1024, .f32⟩
  | .hbm, ⟨1, _⟩ => ⟨S2x1024x768, .f32⟩
  | .hbm, ⟨2, _⟩ => ⟨S2x1x768, .f32⟩
  | .hbm, ⟨3, _⟩ => ⟨S2x16x768, .f32⟩
  | .local _ .vmem, ⟨0, _⟩ => ⟨S16x1024, .f32⟩
  | .local _ .vmem, ⟨1, _⟩ => ⟨S2x1024x768, .f32⟩
  | .local _ .vmem, ⟨2, _⟩ => ⟨S2x1x768, .f32⟩
  | .local _ .vmem, ⟨3, _⟩ => ⟨S2x16x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x16x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference19Ideal.lean ====
abbrev S16x1024 : Shape := ⟨2, ![16, 1024]⟩
abbrev S2x1024x768 : Shape := ⟨3, ![2, 1024, 768]⟩
abbrev S2x1x768 : Shape := ⟨3, ![2, 1, 768]⟩
abbrev S_ : Shape := ⟨0, ![]⟩
abbrev S1x1024x768 : Shape := ⟨3, ![1, 1024, 768]⟩
abbrev S1024x768 : Shape := ⟨2, ![1024, 768]⟩
abbrev S16x768 : Shape := ⟨2, ![16, 768]⟩
abbrev S1x1x768 : Shape := ⟨3, ![1, 1, 768]⟩
abbrev S1x768 : Shape := ⟨2, ![1, 768]⟩
abbrev S1x16x768 : Shape := ⟨3, ![1, 16, 768]⟩
abbrev S2x16x768 : Shape := ⟨3, ![2, 16, 768]⟩

abbrev nBuf : Space → Nat
  | .hbm => 29
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x1024x768, .f32⟩
  | .hbm, ⟨2, _⟩ => ⟨S2x1x768, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S1x1024x768, .f32⟩
  | .hbm, ⟨13, _⟩ => ⟨S1024x768, .f32⟩
  | .hbm, ⟨14, _⟩ => ⟨S16x768, .f32⟩
  | .hbm, ⟨15, _⟩ => ⟨S1x1x768, .f32⟩
  | .hbm, ⟨16, _⟩ => ⟨S1x768, .f32⟩
  | .hbm, ⟨17, _⟩ => ⟨S16x768, .f32⟩
  | .hbm, ⟨18, _⟩ => ⟨S16x768, .f32⟩
  | .hbm, ⟨19, _⟩ => ⟨S1x1024x768, .f32⟩
  | .hbm, ⟨20, _⟩ => ⟨S1024x768, .f32⟩
  | .hbm, ⟨21, _⟩ => ⟨S16x768, .f32⟩
  | .hbm, ⟨22, _⟩ => ⟨S1x1x768, .f32⟩
  | .hbm, ⟨23, _⟩ => ⟨S1x768, .f32⟩
  | .hbm, ⟨24, _⟩ => ⟨S16x768, .f32⟩
  | .hbm, ⟨25, _⟩ => ⟨S16x768, .f32⟩
  | .hbm, ⟨26, _⟩ => ⟨S1x16x768, .f32⟩
  | .hbm, ⟨27, _⟩ => ⟨S1x16x768, .f32⟩
  | .hbm, ⟨28, _⟩ => ⟨S2x16x768, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]
-- ==== Proof.Real.lean ====
/- The arithmetic of one row of softmax attention in powers of two, over the real numbers: the running sum and the
   running weighted sum that a sweep over the keys keeps, each scaled by two to the minus a running reference `M`, and
   what they come to at the end of the sweep, whatever the references were. -/
module

public import Mathlib.Analysis.SpecialFunctions.Pow.Real
public import Mathlib.Algebra.BigOperators.Intervals
public import Mathlib.Tactic.FieldSimp
public import Mathlib.Tactic.Ring

@[expose] public section

noncomputable section

namespace Attn

open Finset

/-- Two to the power `x`. -/
def p2 (x : ℝ) : ℝ := Real.rpow 2 x

theorem p2_pos (x : ℝ) : 0 < p2 x := Real.rpow_pos_of_pos (by norm_num) x

theorem p2_add (x y : ℝ) : p2 (x + y) = p2 x * p2 y := Real.rpow_add (by norm_num) x y

theorem p2_sub (x y : ℝ) : p2 (x - y) = p2 x * p2 (-y) := by rw [sub_eq_add_neg, p2_add]

theorem p2_neg (x : ℝ) : p2 (-x) = (p2 x)⁻¹ := Real.rpow_neg (by norm_num) x

theorem p2_mul_neg (x : ℝ) : p2 x * p2 (-x) = 1 := by
  rw [p2_neg, mul_inv_cancel₀ (p2_pos x).ne']

theorem p2_eq_exp (x : ℝ) : p2 x = Real.exp (x * Real.log 2) := by
  unfold p2
  rw [Real.rpow_eq_pow, Real.rpow_def_of_pos (by norm_num : (0 : ℝ) < 2), mul_comm]

/-- The product of row `i` of `x` with row `j` of `y`, over 128 lanes. -/
def dot128 (x y : ℕ → ℕ → ℝ) (i j : ℕ) : ℝ := ∑ d ∈ range 128, x i d * y j d

/-- The sum of the first `n` weights of a row of scores `s`. -/
def wsum (s : ℕ → ℝ) (n : ℕ) : ℝ := ∑ j ∈ range n, p2 (s j)

/-- The sum of the first `n` values `v`, each times its weight. -/
def wval (s v : ℕ → ℝ) (n : ℕ) : ℝ := ∑ j ∈ range n, p2 (s j) * v j

theorem wsum_pos (s : ℕ → ℝ) {n : ℕ} (hn : 0 < n) : 0 < wsum s n :=
  sum_pos (fun _ _ => p2_pos _) ⟨0, mem_range.2 hn⟩

/-- One chunk of `c` keys moves the running sum from the reference `M` to the reference `M'`. -/
theorem wsum_step (s : ℕ → ℝ) (n c : ℕ) (M M' : ℝ) :
    p2 (M - M') * (wsum s n * p2 (-M)) + ∑ j ∈ range c, p2 (s (n + j) - M') = wsum s (n + c) * p2 (-M') := by
  unfold wsum
  rw [sum_range_add, add_mul, sum_mul (range c)]
  congr 1
  · rw [p2_sub, mul_comm (p2 M), mul_assoc, mul_left_comm (p2 M), p2_mul_neg, mul_one, mul_comm]
  · exact sum_congr rfl fun j _ => p2_sub _ _

/-- One chunk of `c` keys moves the running weighted sum from the reference `M` to the reference `M'`. -/
theorem wval_step (s v : ℕ → ℝ) (n c : ℕ) (M M' : ℝ) :
    p2 (M - M') * (wval s v n * p2 (-M)) + ∑ j ∈ range c, p2 (s (n + j) - M') * v (n + j)
      = wval s v (n + c) * p2 (-M') := by
  unfold wval
  rw [sum_range_add, add_mul, sum_mul (range c)]
  congr 1
  · rw [p2_sub, mul_comm (p2 M), mul_assoc, mul_left_comm (p2 M), p2_mul_neg, mul_one, mul_comm]
  · exact sum_congr rfl fun j _ => by rw [p2_sub]; ring

/-- The quotient at the end of the sweep does not depend on the reference. -/
theorem wval_div (s v : ℕ → ℝ) (n : ℕ) (M : ℝ) :
    wval s v n * p2 (-M) / (wsum s n * p2 (-M)) = wval s v n / wsum s n :=
  mul_div_mul_right _ _ (p2_pos _).ne'

/-- The stored logarithm of the sum does not depend on the reference. -/
theorem lse_eq (s : ℕ → ℝ) {n : ℕ} (hn : 0 < n) (M : ℝ) :
    M + Real.log (wsum s n * p2 (-M)) * (Real.log 2)⁻¹ = Real.log (wsum s n) * (Real.log 2)⁻¹ := by
  have h2 : Real.log 2 ≠ 0 := (Real.log_pos (by norm_num)).ne'
  rw [Real.log_mul (wsum_pos s hn).ne' (p2_pos _).ne', p2_eq_exp (-M), Real.log_exp]
  field_simp
  ring

/-- The weight recovered from the stored logarithm is the softmax weight. -/
theorem p2_lse (s : ℕ → ℝ) {n : ℕ} (hn : 0 < n) (x : ℝ) :
    p2 (x - Real.log (wsum s n) * (Real.log 2)⁻¹) = p2 x / wsum s n := by
  have h2 : Real.log 2 ≠ 0 := (Real.log_pos (by norm_num)).ne'
  rw [p2_sub, p2_eq_exp (-_), div_eq_mul_inv]
  congr 1
  rw [neg_mul, mul_assoc, inv_mul_cancel₀ h2, mul_one, Real.exp_neg, Real.exp_log (wsum_pos s hn)]

end Attn

end
-- ==== Proof.Tile.lean ====
/- Vectors of the kernel whose entries are real numbers: `Re2 x f` says that the matrix `x` holds the real number
   `f i j` at row `i` and column `j`, `Re1 x f` the same of a vector. One lemma for each operation that the attention
   kernels use says what the result holds. -/
module

public import proofs.«01_k».proof.Proof.Real
public import proofs.«01_k».proof.Proof.Gen.KernelIdeal.Skeleton
public import Idealize.ShloMosaic.Lib.Pointwise

@[expose] public section

set_option maxRecDepth 16384

noncomputable section

namespace Attn

open Idealize.ShloMosaic Finset
open Cert.KernelIdeal Cert.KernelIdeal.Facts₀ Cert.KernelIdeal.Facts

/-- The matrix `x` holds `f i j` at row `i` and column `j`. -/
def Re2 {a b : ℕ} {φ : FTy} (x : FVec Ideal ⟨2, ![a, b]⟩ φ) (f : ℕ → ℕ → ℝ) : Prop :=
  ∀ (i : Fin a) (j : Fin b), x (ix2 i j) = ((f i j : ℝ) : EReal)

/-- The vector `x` holds `f i` at `i`. -/
def Re1 {a : ℕ} {φ : FTy} (x : FVec Ideal ⟨1, ![a]⟩ φ) (f : ℕ → ℝ) : Prop :=
  ∀ i : Fin a, x (ix1 i) = ((f i : ℝ) : EReal)

section Elementwise

variable {a b : ℕ} {φ : FTy} {x y : FVec Ideal ⟨2, ![a, b]⟩ φ} {f g : ℕ → ℕ → ℝ}

theorem Re2.congr (h : Re2 x f) (e : ∀ i < a, ∀ j < b, f i j = g i j) : Re2 x g := fun i j => by
  rw [h i j, e i i.2 j j.2]

theorem Re2.add (hx : Re2 x f) (hy : Re2 y g) : Re2 (addf x y) fun i j => f i j + g i j := fun i j => by
  rw [addf_apply, hx i j, hy i j, Ideal.addf_def, ← EReal.coe_add]

theorem Re2.sub (hx : Re2 x f) (hy : Re2 y g) : Re2 (subf x y) fun i j => f i j - g i j := fun i j => by
  rw [subf_apply, hx i j, hy i j, Ideal.subf_def, ← EReal.coe_sub]

theorem Re2.mul (hx : Re2 x f) (hy : Re2 y g) : Re2 (mulf x y) fun i j => f i j * g i j := fun i j => by
  rw [mulf_apply, hx i j, hy i j, Ideal.mulf_def, ← EReal.coe_mul]

theorem Re2.max (hx : Re2 x f) (hy : Re2 y g) : Re2 (maximumf x y) fun i j => Max.max (f i j) (g i j) := fun i j => by
  rw [maximumf_apply, hx i j, hy i j, Ideal.maximumf_def]; exact (EReal.coe_strictMono.monotone.map_max).symm

theorem Re2.exp2 (hx : Re2 x f) : Re2 (exp2 x) fun i j => p2 (f i j) := fun i j => by
  rw [exp2_apply, hx i j]; rfl

theorem Re2.log (hx : Re2 x f) (h0 : ∀ i < a, ∀ j < b, 0 < f i j) : Re2 (log x) fun i j => Real.log (f i j) :=
  fun i j => by
    rw [log_apply, hx i j, Ideal.log_def, Ideal.log_coe, if_neg (not_le.2 (h0 i i.2 j j.2))]

theorem Re2.div (hx : Re2 x f) (hy : Re2 y g) (h0 : ∀ i < a, ∀ j < b, 0 < g i j) :
    Re2 (divf x y) fun i j => f i j / g i j := fun i j => by
  rw [divf_apply, hx i j, hy i j, Ideal.divf_def, Ideal.div_coe (h0 i i.2 j j.2).ne', ← EReal.coe_mul, mul_one_div]

theorem Re2.truncf {ψ : FTy} {h : ψ.bits < φ.bits} (hx : Re2 x f) : Re2 (truncf ψ x h) f := fun i j => by
  rw [truncf_apply, Ideal.truncf_def]; exact hx i j

end Elementwise

theorem ofBits_ninf : Ideal.ofBits .f32 0xFF800000#32 = ⊥ := by
  rw [Ideal.ofBits]; rfl

theorem coe_sum_range (n : ℕ) (f : ℕ → ℝ) : (∑ k : Fin n, ((f k : ℝ) : EReal)) = ((∑ k ∈ range n, f k : ℝ) : EReal) := by
  rw [Fin.sum_univ_eq_sum_range fun k => ((f k : ℝ) : EReal)]
  induction n with
  | zero => simp
  | succ n ih => rw [sum_range_succ, sum_range_succ, ih, EReal.coe_add]

/-- The largest of finitely many real numbers, and of minus infinity, is a real number or minus infinity. -/
theorem fold_max_real (n : ℕ) (f : Fin n → ℝ) (hn : 0 < n) :
    ∃ M : ℝ, (Finset.univ : Finset (Fin n)).fold max (⊥ : EReal) (fun k => ((f k : ℝ) : EReal)) = ((M : ℝ) : EReal) := by
  have h : ∀ s : Finset (Fin n), s = ∅ ∨ ∃ M : ℝ, s.fold max (⊥ : EReal) (fun k => ((f k : ℝ) : EReal)) = ((M : ℝ) : EReal) := by
    intro s
    induction s using Finset.induction_on with
    | empty => exact Or.inl rfl
    | insert k s hk ih =>
      right
      rw [Finset.fold_insert hk]
      rcases ih with rfl | ⟨M, hM⟩
      · exact ⟨f k, by rw [Finset.fold_empty, max_bot_right]⟩
      · exact ⟨max (f k) M, by rw [hM]; exact (EReal.coe_strictMono.monotone.map_max).symm⟩
  rcases h Finset.univ with e | e
  · exact absurd (Finset.mem_univ (⟨0, hn⟩ : Fin n)) (by rw [e]; exact Finset.notMem_empty _)
  · exact e

/-! ## The operations on tiles of 1024 rows and chunks of 768 keys -/

theorem re_cast_q1024 {φ : FTy} {x : FVec Ideal S1024x128 φ} {f : ℕ → ℕ → ℝ} (hx : Re2 x f) :
    Re2 (shapeCast S1024x128 x shapeCasts_S1024x128_S1024x128) f := fun i j => by
  pointwise; exact hx i j

theorem re_cast_m1024 {φ : FTy} {x : FVec Ideal S1024x1 φ} {f : ℕ → ℕ → ℝ} (hx : Re2 x f) :
    Re2 (shapeCast S1024x1 x shapeCasts_S1024x1_S1024x1) f := fun i j => by
  pointwise; obtain rfl : j = 0 := Subsingleton.elim _ _; exact hx i 0

theorem re_col1024 {x : FVec Ideal S1024 .f32} {f : ℕ → ℝ} (hx : Re1 x f) :
    Re2 (shapeCast S1024x1 x shapeCasts_S1024_S1024x1) fun i _ => f i := fun i j => by
  pointwise; exact hx i

theorem re_bcast1024x768 {x : FVec Ideal S1024x1 .f32} {f : ℕ → ℕ → ℝ} (hx : Re2 x f) :
    Re2 (broadcastTo S1024x768 x broadcasts_S1024x1_S1024x768) fun i _ => f i 0 := fun i j => by
  pointwise; exact hx i 0

theorem re_bcast1024x128 {x : FVec Ideal S1024x1 .f32} {f : ℕ → ℕ → ℝ} (hx : Re2 x f) :
    Re2 (broadcastTo S1024x128 x broadcasts_S1024x1_S1024x128) fun i _ => f i 0 := fun i j => by
  pointwise; exact hx i 0

theorem re_nt1024 {φ : FTy} {x : FVec Ideal S1024x128 φ} {y : FVec Ideal S768x128 φ} {f g : ℕ → ℕ → ℝ} (hx : Re2 x f)
    (hy : Re2 y g) :
    Re2 (matmul dot_S1024x128_S768x128_S1024x768_1_1_0_0_n_n none x y (constant S1024x768 .f32 0x00000000#32)) (dot128 f g) :=
  fun i j => by
    pointwise
    simp only [hx i _, hy j _, ← EReal.coe_mul]
    exact coe_sum_range 128 fun d => f i d * g j d

theorem re_nn1024 {φ : FTy} {x : FVec Ideal S1024x768 φ} {y : FVec Ideal S768x128 φ} {f g : ℕ → ℕ → ℝ} (hx : Re2 x f)
    (hy : Re2 y g) :
    Re2 (matmul dot_S1024x768_S768x128_S1024x128_1_0_0_1_n_n none x y (constant S1024x128 .f32 0x00000000#32))
      fun i d => ∑ j ∈ range 768, f i j * g j d :=
  fun i d => by
    pointwise
    simp only [hx i _, hy _ d, ← EReal.coe_mul]
    exact coe_sum_range 768 fun j => f i j * g j d

theorem re_tn1024 {φ : FTy} {x : FVec Ideal S1024x768 φ} {y : FVec Ideal S1024x128 φ} {f g : ℕ → ℕ → ℝ} (hx : Re2 x f)
    (hy : Re2 y g) :
    Re2 (matmul dot_S1024x768_S1024x128_S768x128_0_0_1_1_n_n none x y (constant S768x128 .f32 0x00000000#32))
      fun j d => ∑ i ∈ range 1024, f i j * g i d :=
  fun j d => by
    pointwise
    simp only [hx _ j, hy _ d, ← EReal.coe_mul]
    exact coe_sum_range 1024 fun i => f i j * g i d

theorem re_sum1024x768 {x : FVec Ideal S1024x768 .f32} {f : ℕ → ℕ → ℝ} (hx : Re2 x f) :
    Re1 (multiReduction .add [1] S1024 x 0x00000000#32 reduces_S1024x768_S1024 (.inl rfl) rfl) fun i => ∑ j ∈ range 768, f i j :=
  fun i => by
    pointwise
    simp only [hx i _]
    exact coe_sum_range 768 fun j => f i j

theorem re_sum1024x128 {x : FVec Ideal S1024x128 .f32} {f : ℕ → ℕ → ℝ} (hx : Re2 x f) :
    Re1 (multiReduction .add [1] S1024 x 0x00000000#32 reduces_S1024x128_S1024 (.inl rfl) rfl) fun i => ∑ j ∈ range 128, f i j :=
  fun i => by
    pointwise
    simp only [hx i _]
    exact coe_sum_range 128 fun j => f i j

theorem re_max1024x768 {x : FVec Ideal S1024x768 .f32} {f : ℕ → ℕ → ℝ} (hx : Re2 x f) :
    ∃ M : ℕ → ℝ, Re1 (multiReduction .maximumf [1] S1024 x 0xFF800000#32 reduces_S1024x768_S1024 (.inl rfl) rfl) M := by
  choose M hM using fun i : ℕ => fold_max_real 768 (fun k => f i k) (by norm_num)
  refine ⟨M, fun i => ?_⟩
  rw [← hM i]
  pointwise
  rw [ofBits_ninf]
  simp only [hx i _]

/-! ## The operations on tiles of 256 rows and chunks of 256 keys -/

theorem re_cast_q256 {φ : FTy} {x : FVec Ideal S256x128 φ} {f : ℕ → ℕ → ℝ} (hx : Re2 x f) :
    Re2 (shapeCast S256x128 x shapeCasts_S256x128_S256x128) f := fun i j => by
  pointwise; exact hx i j

theorem re_cast_m256 {φ : FTy} {x : FVec Ideal S256x1 φ} {f : ℕ → ℕ → ℝ} (hx : Re2 x f) :
    Re2 (shapeCast S256x1 x shapeCasts_S256x1_S256x1) f := fun i j => by
  pointwise; obtain rfl : j = 0 := Subsingleton.elim _ _; exact hx i 0

theorem re_col256 {x : FVec Ideal S256 .f32} {f : ℕ → ℝ} (hx : Re1 x f) :
    Re2 (shapeCast S256x1 x shapeCasts_S256_S256x1) fun i _ => f i := fun i j => by
  pointwise; exact hx i

theorem re_bcast256x256 {x : FVec Ideal S256x1 .f32} {f : ℕ → ℕ → ℝ} (hx : Re2 x f) :
    Re2 (broadcastTo S256x256 x broadcasts_S256x1_S256x256) fun i _ => f i 0 := fun i j => by
  pointwise; exact hx i 0

theorem re_bcast256x128 {x : FVec Ideal S256x1 .f32} {f : ℕ → ℕ → ℝ} (hx : Re2 x f) :
    Re2 (broadcastTo S256x128 x broadcasts_S256x1_S256x128) fun i _ => f i 0 := fun i j => by
  pointwise; exact hx i 0

theorem re_nt256 {φ : FTy} {x : FVec Ideal S256x128 φ} {y : FVec Ideal S256x128 φ} {f g : ℕ → ℕ → ℝ} (hx : Re2 x f)
    (hy : Re2 y g) :
    Re2 (matmul dot_S256x128_S256x128_S256x256_1_1_0_0_n_n none x y (constant S256x256 .f32 0x00000000#32)) (dot128 f g) :=
  fun i j => by
    pointwise
    simp only [hx i _, hy j _, ← EReal.coe_mul]
    exact coe_sum_range 128 fun d => f i d * g j d

theorem re_nn256 {φ : FTy} {x : FVec Ideal S256x256 φ} {y : FVec Ideal S256x128 φ} {f g : ℕ → ℕ → ℝ} (hx : Re2 x f)
    (hy : Re2 y g) :
    Re2 (matmul dot_S256x256_S256x128_S256x128_1_0_0_1_n_n none x y (constant S256x128 .f32 0x00000000#32))
      fun i d => ∑ j ∈ range 256, f i j * g j d :=
  fun i d => by
    pointwise
    simp only [hx i _, hy _ d, ← EReal.coe_mul]
    exact coe_sum_range 256 fun j => f i j * g j d

theorem re_tn256 {φ : FTy} {x : FVec Ideal S256x256 φ} {y : FVec Ideal S256x128 φ} {f g : ℕ → ℕ → ℝ} (hx : Re2 x f)
    (hy : Re2 y g) :
    Re2 (matmul dot_S256x256_S256x128_S256x128_0_0_1_1_n_n none x y (constant S256x128 .f32 0x00000000#32))
      fun j d => ∑ i ∈ range 256, f i j * g i d :=
  fun j d => by
    pointwise
    simp only [hx _ j, hy _ d, ← EReal.coe_mul]
    exact coe_sum_range 256 fun i => f i j * g i d

theorem re_sum256x256 {x : FVec Ideal S256x256 .f32} {f : ℕ → ℕ → ℝ} (hx : Re2 x f) :
    Re1 (multiReduction .add [1] S256 x 0x00000000#32 reduces_S256x256_S256 (.inl rfl) rfl) fun i => ∑ j ∈ range 256, f i j :=
  fun i => by
    pointwise
    simp only [hx i _]
    exact coe_sum_range 256 fun j => f i j

theorem re_sum256x128 {x : FVec Ideal S256x128 .f32} {f : ℕ → ℕ → ℝ} (hx : Re2 x f) :
    Re1 (multiReduction .add [1] S256 x 0x00000000#32 reduces_S256x128_S256 (.inl rfl) rfl) fun i => ∑ j ∈ range 128, f i j :=
  fun i => by
    pointwise
    simp only [hx i _]
    exact coe_sum_range 128 fun j => f i j

theorem re_max256x256 {x : FVec Ideal S256x256 .f32} {f : ℕ → ℕ → ℝ} (hx : Re2 x f) :
    ∃ M : ℕ → ℝ, Re1 (multiReduction .maximumf [1] S256 x 0xFF800000#32 reduces_S256x256_S256 (.inl rfl) rfl) M := by
  choose M hM using fun i : ℕ => fold_max_real 256 (fun k => f i k) (by norm_num)
  refine ⟨M, fun i => ?_⟩
  rw [← hM i]
  pointwise
  rw [ofBits_ninf]
  simp only [hx i _]

theorem re_cast_k {φ : FTy} {x : FVec Ideal S768x128 φ} {f : ℕ → ℕ → ℝ} (hx : Re2 x f) :
    Re2 (shapeCast S768x128 x shapeCasts_S768x128_S768x128) f := fun i j => by
  pointwise; exact hx i j

end Attn

end
-- ==== Proof.FwdStep.lean ====
/- One chunk of keys in the forward kernel over the latent rows: what it does to the running maximum, the running sum and
   the running weighted sum of a tile of 1024 query rows, and what they hold after any number of chunks. -/
module

public import proofs.«01_k».proof.Proof.Tile

@[expose] public section

set_option maxRecDepth 16384

noncomputable section

namespace Attn

open Idealize.ShloMosaic Finset
open Cert.KernelIdeal Cert.KernelIdeal.Facts₀ Cert.KernelIdeal.Facts

/-- The scores of a tile of query rows against a chunk of keys. -/
def scoreL (q : FVec Ideal S1024x128 .bf16) (k : FVec Ideal S768x128 .bf16) : FVec Ideal S1024x768 .f32 :=
  matmul dot_S1024x128_S768x128_S1024x768_1_1_0_0_n_n none q (shapeCast S768x128 k shapeCasts_S768x128_S768x128)
    (constant S1024x768 .f32 0x00000000#32)

/-- The running maximum after a chunk's scores `s`. -/
def maxL (m : FVec Ideal S1024x1 .f32) (s : FVec Ideal S1024x768 .f32) : FVec Ideal S1024x1 .f32 :=
  maximumf m (shapeCast S1024x1 (multiReduction .maximumf [1] S1024 s 0xFF800000#32 reduces_S1024x768_S1024 (.inl rfl) rfl)
    shapeCasts_S1024_S1024x1)

/-- The weights of a chunk's scores `s` against the running maximum `m`. -/
def wL (s : FVec Ideal S1024x768 .f32) (m : FVec Ideal S1024x1 .f32) : FVec Ideal S1024x768 .f32 :=
  exp2 (subf s (broadcastTo S1024x768 m broadcasts_S1024x1_S1024x768))

/-- The running sum after a chunk's weights `p`, the sum before it rescaled by `a`. -/
def sumL (a l : FVec Ideal S1024x1 .f32) (p : FVec Ideal S1024x768 .f32) : FVec Ideal S1024x1 .f32 :=
  addf (mulf a l) (shapeCast S1024x1 (multiReduction .add [1] S1024 p 0x00000000#32 reduces_S1024x768_S1024 (.inl rfl) rfl)
    shapeCasts_S1024_S1024x1)

/-- The running weighted sum after a chunk's weights `p` and values `v`, the one before it rescaled by `a`. -/
def accL (a : FVec Ideal S1024x1 .f32) (acc : FVec Ideal S1024x128 .f32) (p : FVec Ideal S1024x768 .f32)
    (v : FVec Ideal S768x128 .bf16) : FVec Ideal S1024x128 .f32 :=
  addf (mulf (broadcastTo S1024x128 a broadcasts_S1024x1_S1024x128) acc)
    (matmul dot_S1024x768_S768x128_S1024x128_1_0_0_1_n_n none (truncf .bf16 p bitsLt_bf16_f32)
      (shapeCast S768x128 v shapeCasts_S768x128_S768x128) (constant S1024x128 .f32 0x00000000#32))

section Chain

variable (q : FVec Ideal S1024x128 .bf16) (K V : ℕ → FVec Ideal S768x128 .bf16)

/-- The running maximum after `c` chunks. -/
def mL : ℕ → FVec Ideal S1024x1 .f32
  | 0 => broadcast S1024x1 (Scalar.ofBits .f32 0xFF800000#32)
  | c + 1 => maxL (mL c) (scoreL q (K c))

/-- What chunk `c` rescales the running sums by. -/
def aL (c : ℕ) : FVec Ideal S1024x1 .f32 := exp2 (subf (mL q K c) (mL q K (c + 1)))

/-- The weights of chunk `c`. -/
def pL (c : ℕ) : FVec Ideal S1024x768 .f32 := wL (scoreL q (K c)) (mL q K (c + 1))

/-- The running sum after `c` chunks. -/
def lL : ℕ → FVec Ideal S1024x1 .f32
  | 0 => broadcast S1024x1 (Scalar.ofBits .f32 0x00000000#32)
  | c + 1 => sumL (aL q K c) (lL c) (pL q K c)

/-- The running weighted sum after `c` chunks. -/
def oL : ℕ → FVec Ideal S1024x128 .f32
  | 0 => broadcast S1024x128 (Scalar.ofBits .f32 0x00000000#32)
  | c + 1 => accL (aL q K c) (oL c) (pL q K c) (V c)

end Chain

section Values

variable {q : FVec Ideal S1024x128 .bf16} {K V : ℕ → FVec Ideal S768x128 .bf16} {f k v : ℕ → ℕ → ℝ}

theorem scoreL_real {kc : FVec Ideal S768x128 .bf16} {g : ℕ → ℕ → ℝ} (hq : Re2 q f) (hk : Re2 kc g) :
    Re2 (scoreL q kc) (dot128 f g) := re_nt1024 hq (re_cast_k hk)

/-- The scores of chunk `c`: row `i` against key `768 * c + j`. -/
theorem score_chunk (hq : Re2 q f) (c : ℕ) (hk : Re2 (K c) fun j d => k (768 * c + j) d) :
    Re2 (scoreL q (K c)) fun i j => dot128 f k i (768 * c + j) := scoreL_real hq hk

/-- The state after `c` chunks, for `0 < c`: against some reference of each row. -/
def Inv (f k v : ℕ → ℕ → ℝ) (m l : FVec Ideal S1024x1 .f32) (o : FVec Ideal S1024x128 .f32) (n : ℕ) : Prop :=
  ∃ M : ℕ → ℝ, Re2 m (fun i _ => M i) ∧ Re2 l (fun i _ => wsum (dot128 f k i) n * p2 (-M i)) ∧
    Re2 o fun i d => wval (dot128 f k i) (fun j => v j d) n * p2 (-M i)

theorem inv_one (hq : Re2 q f) (hk : Re2 (K 0) fun j d => k (768 * 0 + j) d) (hv : Re2 (V 0) fun j d => v (768 * 0 + j) d) :
    Inv f k v (mL q K 1) (lL q K 1) (oL q K V 1) 768 := by
  have hs := score_chunk hq 0 hk
  obtain ⟨M, hM⟩ := re_max1024x768 hs
  have hm : Re2 (mL q K 1) fun i _ => M i := fun i j => by
    have h0 : mL q K 0 (ix2 i j) = (⊥ : EReal) := ofBits_ninf
    rw [mL, maxL, maximumf_apply, re_col1024 hM i j, h0, Ideal.maximumf_def, max_bot_left]
  have ha : ∀ i j, aL q K 0 (ix2 i j) = (0 : EReal) := fun i j => by
    have h0 : mL q K 0 (ix2 i j) = (⊥ : EReal) := ofBits_ninf
    rw [aL, exp2_apply, subf_apply, h0, Ideal.subf_def, EReal.bot_sub]
    exact Ideal.exp2_bot
  have hp : Re2 (pL q K 0) fun i j => p2 (dot128 f k i (768 * 0 + j) - M i) :=
    (hs.sub (re_bcast1024x768 hm)).exp2
  refine ⟨M, hm, ?_, ?_⟩
  · intro i j
    have h := re_col1024 (re_sum1024x768 hp) i j
    show aL q K 0 (ix2 i j) * _ + shapeCast S1024x1 _ _ (ix2 i j) = _
    rw [h, ha, zero_mul, zero_add]
    congr 1
    have := wsum_step (dot128 f k i) 0 768 0 (M i)
    simp only [wsum, range_zero, sum_empty, zero_mul, mul_zero, zero_add] at this
    simpa only [wsum, Nat.mul_zero, zero_add] using this
  · intro i d
    have h := re_nn1024 (hp.truncf (ψ := .bf16) (h := bitsLt_bf16_f32)) (re_cast_k hv) i d
    have hb : broadcastTo S1024x128 (aL q K 0) broadcasts_S1024x1_S1024x128 (ix2 i d) = 0 := by
      pointwise; exact ha i 0
    show broadcastTo S1024x128 (aL q K 0) broadcasts_S1024x1_S1024x128 (ix2 i d) * _ + matmul _ _ _ _ _ (ix2 i d) = _
    rw [h, hb, zero_mul, zero_add]
    congr 1
    have := wval_step (dot128 f k i) (fun j => v j d) 0 768 0 (M i)
    simp only [wval, range_zero, sum_empty, zero_mul, mul_zero, zero_add] at this
    simpa only [wval, Nat.mul_zero, zero_add] using this

theorem inv_step {c : ℕ} (hq : Re2 q f) (hk : Re2 (K c) fun j d => k (768 * c + j) d)
    (hv : Re2 (V c) fun j d => v (768 * c + j) d) (h : Inv f k v (mL q K c) (lL q K c) (oL q K V c) (768 * c)) :
    Inv f k v (mL q K (c + 1)) (lL q K (c + 1)) (oL q K V (c + 1)) (768 * (c + 1)) := by
  obtain ⟨M, hm, hl, ho⟩ := h
  have hs := score_chunk hq c hk
  obtain ⟨M', hM'⟩ := re_max1024x768 hs
  have hm' : Re2 (mL q K (c + 1)) fun i _ => max (M i) (M' i) := hm.max (re_col1024 hM')
  have ha : Re2 (aL q K c) fun i _ => p2 (M i - max (M i) (M' i)) := (hm.sub hm').exp2
  have hp : Re2 (pL q K c) fun i j => p2 (dot128 f k i (768 * c + j) - max (M i) (M' i)) :=
    (hs.sub (re_bcast1024x768 hm')).exp2
  refine ⟨_, hm', ?_, ?_⟩
  · refine ((ha.mul hl).add (re_col1024 (re_sum1024x768 hp))).congr fun i _ _ _ => ?_
    exact wsum_step (dot128 f k i) (768 * c) 768 (M i) _
  · refine (((re_bcast1024x128 ha).mul ho).add (re_nn1024 hp.truncf (re_cast_k hv))).congr fun i _ d _ => ?_
    exact wval_step (dot128 f k i) (fun j => v j d) (768 * c) 768 (M i) _

theorem inv_all (hq : Re2 q f) (hk : ∀ c < 11, Re2 (K c) fun j d => k (768 * c + j) d)
    (hv : ∀ c < 11, Re2 (V c) fun j d => v (768 * c + j) d) (c : ℕ) (h0 : 0 < c) (hc : c ≤ 11) :
    Inv f k v (mL q K c) (lL q K c) (oL q K V c) (768 * c) := by
  induction c with
  | zero => omega
  | succ c ih =>
    rcases Nat.eq_zero_or_pos c with rfl | hpos
    · exact inv_one hq (hk 0 (by omega)) (hv 0 (by omega))
    · exact inv_step hq (hk c (by omega)) (hv c (by omega)) (ih hpos (by omega))

/-- The output tile: each row's weighted sum over its sum. -/
def outL (l : FVec Ideal S1024x1 .f32) (o : FVec Ideal S1024x128 .f32) : FVec Ideal S1024x128 .f32 :=
  divf o (broadcastTo S1024x128 l broadcasts_S1024x1_S1024x128)

/-- The stored logarithm of each row's sum, to base two, in every lane. -/
def lseL (m l : FVec Ideal S1024x1 .f32) : FVec Ideal S1024x128 .f32 :=
  broadcastTo S1024x128 (shapeCast S1024x1 (addf m (mulf (log l) (broadcast S1024x1 (Named.named κ "log2e" 0x3FB8AA3B#32))))
    shapeCasts_S1024x1_S1024x1) broadcasts_S1024x1_S1024x128

theorem named_log2e : (Named.named κ "log2e" 0x3FB8AA3B#32 : Ideal .f32) = (((Real.log 2)⁻¹ : ℝ) : EReal) :=
  IdealRules.named_const.ideal_named_scalar _ _ _ _ rfl

theorem outL_real {m l : FVec Ideal S1024x1 .f32} {o : FVec Ideal S1024x128 .f32} {n : ℕ} (hn : 0 < n)
    (h : Inv f k v m l o n) :
    Re2 (outL l o) fun i d => wval (dot128 f k i) (fun j => v j d) n / wsum (dot128 f k i) n := by
  obtain ⟨M, -, hl, ho⟩ := h
  refine (ho.div (re_bcast1024x128 hl) fun i _ _ _ => mul_pos (wsum_pos _ hn) (p2_pos _)).congr fun i _ d _ => ?_
  exact wval_div _ _ _ _

theorem lseL_real {m l : FVec Ideal S1024x1 .f32} {o : FVec Ideal S1024x128 .f32} {n : ℕ} (hn : 0 < n)
    (h : Inv f k v m l o n) :
    Re2 (lseL m l) fun i _ => Real.log (wsum (dot128 f k i) n) * (Real.log 2)⁻¹ := by
  obtain ⟨M, hm, hl, -⟩ := h
  have hc : Re2 (broadcast S1024x1 (Named.named κ "log2e" 0x3FB8AA3B#32 : Ideal .f32)) fun _ _ => (Real.log 2)⁻¹ :=
    fun i j => named_log2e
  refine (re_bcast1024x128 (re_cast_m1024 (hm.add ((hl.log fun i _ _ _ => mul_pos (wsum_pos _ hn) (p2_pos _)).mul hc)))).congr
    fun i _ d _ => ?_
  exact lse_eq _ hn _

end Values

end Attn

end
-- ==== Proof.FwdLat.lean ====
/- What the forward kernel over the latent rows leaves for one tile: the softmax average of the values, and the logarithm
   of the softmax's sum to base two, of 1024 query rows against all 8448 keys. -/
module

public import proofs.«01_k».proof.Proof.FwdStep
public import proofs.«01_k».proof.Proof.Gen.KernelIdeal.Frame.Region1
public import Idealize.ShloMosaic.Lib.Pipeline.ValueKit

@[expose] public section

set_option maxRecDepth 16384

noncomputable section

namespace Attn

open Idealize.ShloMosaic Finset
open Cert.KernelIdeal Cert.KernelIdeal.Gen

theorem off2 : (![0, 0] : Fin 2 → ℕ) = fun _ => 0 := by decide

/-- The chunks of 768 rows of a head's keys or values. -/
def chunk (x : Vec Ideal S8448x128 .bf16) : ℕ → Vec Ideal S768x128 .bf16
  | 0 => View.ld x r1_1
  | 1 => View.ld x r1_2
  | 2 => View.ld x r1_3
  | 3 => View.ld x r1_4
  | 4 => View.ld x r1_5
  | 5 => View.ld x r1_6
  | 6 => View.ld x r1_7
  | 7 => View.ld x r1_8
  | 8 => View.ld x r1_9
  | 9 => View.ld x r1_10
  | _ => View.ld x r1_11

theorem chunk_real {x : Vec Ideal S8448x128 .bf16} {k : ℕ → ℕ → ℝ} (hx : Re2 (φ := .bf16) x k) (c : ℕ) (hc : c < 11) :
    Re2 (φ := .bf16) (chunk x c) fun j d => k (768 * c + j) d := fun j d => by
  interval_cases c <;>
    (unfold chunk; pointwise; exact hx _ _)

/-- The tile of query rows, as the kernel reads it. -/
def qTile (x0 : Vec Ideal S1024x128 .bf16) : FVec Ideal S1024x128 .bf16 := k1_pay1 (View.ld x0 r1_0)

theorem qTile_real {x : Vec Ideal S1024x128 .bf16} {f : ℕ → ℕ → ℝ} (hx : Re2 (φ := .bf16) x f) : Re2 (qTile x) f :=
  fun i d => by
    unfold qTile k1_pay1; pointwise; exact hx i d

/-! ## The payloads, two chunks at a time, are the chain of `FwdStep` -/

section Payloads

variable (q : FVec Ideal S1024x128 .bf16) (K V : ℕ → Vec Ideal S768x128 .bf16) (v0 : Vec Ideal S1024x128 .bf16) (c : ℕ)

/-- The rescaled running sum that chunk `c` adds its weights' sum to. -/
def lh : FVec Ideal S1024x1 .f32 := mulf (aL q K c) (lL q K c)

/-- The sum of chunk `c`'s weights. -/
def ps : FVec Ideal S1024 .f32 :=
  multiReduction .add [1] S1024 (pL q K c) 0x00000000#32 Facts₀.reduces_S1024x768_S1024 (.inl rfl) rfl

theorem pay7_chain : k1_pay7 v0 (K 0) (V 0) = oL (k1_pay1 v0) K V 1 := rfl
theorem pay9_chain : k1_pay9 v0 (K 0) (K 1) = mL (k1_pay1 v0) K 2 := rfl
theorem pay10_chain : k1_pay10 v0 (K 0) (K 1) = aL (k1_pay1 v0) K 1 := rfl
theorem pay11_chain : k1_pay11 v0 (K 0) (K 1) = pL (k1_pay1 v0) K 1 := rfl
theorem pay12_chain : k1_pay12 v0 (K 0) (K 1) = lh (k1_pay1 v0) K 1 := rfl
theorem pay13_chain : k1_pay13 v0 (K 0) (K 1) = ps (k1_pay1 v0) K 1 := rfl

theorem pay18_chain : k1_pay18 q (oL q K V c) (mL q K (c + 1)) (aL q K c) (pL q K c) (V c) (K (c + 1)) (V (c + 1))
    = oL q K V (c + 2) := rfl
theorem pay20_chain : k1_pay20 q (mL q K c) (K c) (K (c + 1)) = mL q K (c + 2) := rfl
theorem pay21_chain : k1_pay21 q (mL q K c) (K c) (K (c + 1)) = aL q K (c + 1) := rfl
theorem pay22_chain : k1_pay22 q (mL q K c) (K c) (K (c + 1)) = pL q K (c + 1) := rfl
theorem pay23_chain : k1_pay23 q (mL q K (c + 1)) (lh q K c) (ps q K c) (K (c + 1)) (K (c + 2)) = lh q K (c + 2) := rfl
theorem pay24_chain : k1_pay24 q (mL q K c) (K c) (K (c + 1)) = ps q K (c + 1) := rfl

theorem pay29_chain : k1_pay29 q (oL q K V c) (mL q K (c + 1)) (aL q K c) (pL q K c) (V c) (K (c + 1)) (V (c + 1))
    = oL q K V (c + 2) := rfl
theorem pay31_chain : k1_pay31 q (mL q K c) (K c) (K (c + 1)) = mL q K (c + 2) := rfl
theorem pay32_chain : k1_pay32 q (mL q K c) (K c) (K (c + 1)) = aL q K (c + 1) := rfl
theorem pay33_chain : k1_pay33 q (mL q K c) (K c) (K (c + 1)) = pL q K (c + 1) := rfl
theorem pay34_chain : k1_pay34 q (mL q K (c + 1)) (lh q K c) (ps q K c) (K (c + 1)) (K (c + 2)) = lh q K (c + 2) := rfl
theorem pay35_chain : k1_pay35 q (mL q K c) (K c) (K (c + 1)) = ps q K (c + 1) := rfl

theorem pay40_chain : k1_pay40 q (oL q K V c) (mL q K (c + 1)) (aL q K c) (pL q K c) (V c) (K (c + 1)) (V (c + 1))
    = oL q K V (c + 2) := rfl
theorem pay42_chain : k1_pay42 q (mL q K c) (K c) (K (c + 1)) = mL q K (c + 2) := rfl
theorem pay43_chain : k1_pay43 q (mL q K c) (K c) (K (c + 1)) = aL q K (c + 1) := rfl
theorem pay44_chain : k1_pay44 q (mL q K c) (K c) (K (c + 1)) = pL q K (c + 1) := rfl
theorem pay45_chain : k1_pay45 q (mL q K (c + 1)) (lh q K c) (ps q K c) (K (c + 1)) (K (c + 2)) = lh q K (c + 2) := rfl
theorem pay46_chain : k1_pay46 q (mL q K c) (K c) (K (c + 1)) = ps q K (c + 1) := rfl

theorem pay51_chain : k1_pay51 q (oL q K V c) (mL q K (c + 1)) (aL q K c) (pL q K c) (V c) (K (c + 1)) (V (c + 1))
    = oL q K V (c + 2) := rfl
theorem pay53_chain : k1_pay53 q (mL q K c) (K c) (K (c + 1)) = mL q K (c + 2) := rfl
theorem pay54_chain : k1_pay54 q (mL q K c) (K c) (K (c + 1)) = aL q K (c + 1) := rfl
theorem pay55_chain : k1_pay55 q (mL q K c) (K c) (K (c + 1)) = pL q K (c + 1) := rfl
theorem pay56_chain : k1_pay56 q (mL q K (c + 1)) (lh q K c) (ps q K c) (K (c + 1)) (K (c + 2)) = lh q K (c + 2) := rfl
theorem pay57_chain : k1_pay57 q (mL q K c) (K c) (K (c + 1)) = ps q K (c + 1) := rfl

theorem pay63_chain :
    k1_pay63 q (oL q K V c) (mL q K (c + 1)) (aL q K c) (pL q K c) (lh q K c) (ps q K c) (V c) (K (c + 1)) (V (c + 1))
    = outL (lL q K (c + 2)) (oL q K V (c + 2)) := rfl
theorem pay64_chain :
    k1_pay64 q (mL q K (c + 1)) (lh q K c) (ps q K c) (K (c + 1)) = lseL (mL q K (c + 2)) (lL q K (c + 2)) := rfl

end Payloads

variable (x0 : Vec Ideal S1024x128 .bf16) (x1 x2 : Vec Ideal S8448x128 .bf16)

theorem ld_chunk (x : Vec Ideal S8448x128 .bf16) :
    View.ld x r1_1 = chunk x 0 ∧ View.ld x r1_2 = chunk x 1 ∧ View.ld x r1_3 = chunk x 2 ∧ View.ld x r1_4 = chunk x 3 ∧
    View.ld x r1_5 = chunk x 4 ∧ View.ld x r1_6 = chunk x 5 ∧ View.ld x r1_7 = chunk x 6 ∧ View.ld x r1_8 = chunk x 7 ∧
    View.ld x r1_9 = chunk x 8 ∧ View.ld x r1_10 = chunk x 9 ∧ View.ld x r1_11 = chunk x 10 :=
  ⟨rfl, rfl, rfl, rfl, rfl, rfl, rfl, rfl, rfl, rfl, rfl⟩

theorem pay65_eq : k1_pay65 x0 x1 x2 = qTile x0 := rfl

theorem pay66_eq : k1_pay66 x0 x1 x2 = mL (qTile x0) (chunk x1) 2 := by
  unfold k1_pay66
  obtain ⟨h0, h1, -⟩ := ld_chunk x1
  rw [h0, h1]; exact pay9_chain (chunk x1) (View.ld x0 r1_0)

theorem pay67_eq : k1_pay67 x0 x1 x2 = mL (qTile x0) (chunk x1) 4 := by
  unfold k1_pay67
  obtain ⟨-, -, h1, h2, -⟩ := ld_chunk x1
  rw [h1, h2, pay65_eq, pay66_eq]; exact pay20_chain (qTile x0) (chunk x1) 2

theorem pay68_eq : k1_pay68 x0 x1 x2 = mL (qTile x0) (chunk x1) 6 := by
  unfold k1_pay68
  obtain ⟨-, -, -, -, h1, h2, -⟩ := ld_chunk x1
  rw [h1, h2, pay65_eq, pay67_eq]; exact pay31_chain (qTile x0) (chunk x1) 4

theorem pay69_eq : k1_pay69 x0 x1 x2 = mL (qTile x0) (chunk x1) 8 := by
  unfold k1_pay69
  obtain ⟨-, -, -, -, -, -, h1, h2, -⟩ := ld_chunk x1
  rw [h1, h2, pay65_eq, pay68_eq]; exact pay42_chain (qTile x0) (chunk x1) 6

theorem pay70_eq : k1_pay70 x0 x1 x2 = mL (qTile x0) (chunk x1) 10 := by
  unfold k1_pay70
  obtain ⟨-, -, -, -, -, -, -, -, h1, h2, -⟩ := ld_chunk x1
  rw [h1, h2, pay65_eq, pay69_eq]; exact pay53_chain (qTile x0) (chunk x1) 8

theorem pay72_eq : k1_pay72 x0 x1 x2 = ps (qTile x0) (chunk x1) 9 := by
  unfold k1_pay72
  obtain ⟨h0, h1, h2, h3, h4, h5, h6, h7, h8, h9, h10⟩ := ld_chunk x1
  rw [h8, h9, pay65_eq, pay69_eq]; exact pay57_chain (qTile x0) (chunk x1) 8

theorem pay71_eq : k1_pay71 x0 x1 x2 = lh (qTile x0) (chunk x1) 9 := by
  unfold k1_pay71
  obtain ⟨h0, h1, h2, h3, h4, h5, h6, h7, h8, h9, h10⟩ := ld_chunk x1
  have e12 : k1_pay12 (View.ld x0 r1_0) (chunk x1 0) (chunk x1 1) = lh (qTile x0) (chunk x1) 1 := pay12_chain (chunk x1) _
  have e13 : k1_pay13 (View.ld x0 r1_0) (chunk x1 0) (chunk x1 1) = ps (qTile x0) (chunk x1) 1 := pay13_chain (chunk x1) _
  have e23 : k1_pay23 (qTile x0) (mL (qTile x0) (chunk x1) 2) (lh (qTile x0) (chunk x1) 1) (ps (qTile x0) (chunk x1) 1) (chunk x1 2) (chunk x1 3)
      = lh (qTile x0) (chunk x1) 3 := pay23_chain (qTile x0) (chunk x1) 1
  have e24 : k1_pay24 (qTile x0) (mL (qTile x0) (chunk x1) 2) (chunk x1 2) (chunk x1 3) = ps (qTile x0) (chunk x1) 3 :=
    pay24_chain (qTile x0) (chunk x1) 2
  have e34 : k1_pay34 (qTile x0) (mL (qTile x0) (chunk x1) 4) (lh (qTile x0) (chunk x1) 3) (ps (qTile x0) (chunk x1) 3) (chunk x1 4) (chunk x1 5)
      = lh (qTile x0) (chunk x1) 5 := pay34_chain (qTile x0) (chunk x1) 3
  have e35 : k1_pay35 (qTile x0) (mL (qTile x0) (chunk x1) 4) (chunk x1 4) (chunk x1 5) = ps (qTile x0) (chunk x1) 5 :=
    pay35_chain (qTile x0) (chunk x1) 4
  have e45 : k1_pay45 (qTile x0) (mL (qTile x0) (chunk x1) 6) (lh (qTile x0) (chunk x1) 5) (ps (qTile x0) (chunk x1) 5) (chunk x1 6) (chunk x1 7)
      = lh (qTile x0) (chunk x1) 7 := pay45_chain (qTile x0) (chunk x1) 5
  have e46 : k1_pay46 (qTile x0) (mL (qTile x0) (chunk x1) 6) (chunk x1 6) (chunk x1 7) = ps (qTile x0) (chunk x1) 7 :=
    pay46_chain (qTile x0) (chunk x1) 6
  have e56 : k1_pay56 (qTile x0) (mL (qTile x0) (chunk x1) 8) (lh (qTile x0) (chunk x1) 7) (ps (qTile x0) (chunk x1) 7) (chunk x1 8) (chunk x1 9)
      = lh (qTile x0) (chunk x1) 9 := pay56_chain (qTile x0) (chunk x1) 7
  rw [h0, h1, h2, h3, h4, h5, h6, h7, h8, h9, pay65_eq, pay66_eq, pay67_eq, pay68_eq, pay69_eq, e12, e13, e23, e24, e34, e35, e45, e46, e56]

/-- The output tile the body leaves. -/
theorem out1_3_eq : out1_3 x0 x1 x2
    = View.canon [⟨r1_0, outL (lL (qTile x0) (chunk x1) 11) (oL (qTile x0) (chunk x1) (chunk x2) 11)⟩] := by
  unfold out1_3
  obtain ⟨h0, h1, h2, h3, h4, h5, h6, h7, h8, h9, h10⟩ := ld_chunk x1
  obtain ⟨g0, g1, g2, g3, g4, g5, g6, g7, g8, g9, g10⟩ := ld_chunk x2
  have e7 : k1_pay7 (View.ld x0 r1_0) (chunk x1 0) (chunk x2 0) = oL (qTile x0) (chunk x1) (chunk x2) 1 := pay7_chain (chunk x1) (chunk x2) _
  have e10 : k1_pay10 (View.ld x0 r1_0) (chunk x1 0) (chunk x1 1) = aL (qTile x0) (chunk x1) 1 := pay10_chain (chunk x1) _
  have e11 : k1_pay11 (View.ld x0 r1_0) (chunk x1 0) (chunk x1 1) = pL (qTile x0) (chunk x1) 1 := pay11_chain (chunk x1) _
  have e18 : k1_pay18 (qTile x0) (oL (qTile x0) (chunk x1) (chunk x2) 1) (mL (qTile x0) (chunk x1) 2) (aL (qTile x0) (chunk x1) 1) (pL (qTile x0) (chunk x1) 1) (chunk x2 1)
      (chunk x1 2) (chunk x2 2) = oL (qTile x0) (chunk x1) (chunk x2) 3 := pay18_chain (qTile x0) (chunk x1) (chunk x2) 1
  have e21 : k1_pay21 (qTile x0) (mL (qTile x0) (chunk x1) 2) (chunk x1 2) (chunk x1 3) = aL (qTile x0) (chunk x1) 3 :=
    pay21_chain (qTile x0) (chunk x1) 2
  have e22 : k1_pay22 (qTile x0) (mL (qTile x0) (chunk x1) 2) (chunk x1 2) (chunk x1 3) = pL (qTile x0) (chunk x1) 3 :=
    pay22_chain (qTile x0) (chunk x1) 2
  have e29 : k1_pay29 (qTile x0) (oL (qTile x0) (chunk x1) (chunk x2) 3) (mL (qTile x0) (chunk x1) 4) (aL (qTile x0) (chunk x1) 3) (pL (qTile x0) (chunk x1) 3) (chunk x2 3)
      (chunk x1 4) (chunk x2 4) = oL (qTile x0) (chunk x1) (chunk x2) 5 := pay29_chain (qTile x0) (chunk x1) (chunk x2) 3
  have e32 : k1_pay32 (qTile x0) (mL (qTile x0) (chunk x1) 4) (chunk x1 4) (chunk x1 5) = aL (qTile x0) (chunk x1) 5 :=
    pay32_chain (qTile x0) (chunk x1) 4
  have e33 : k1_pay33 (qTile x0) (mL (qTile x0) (chunk x1) 4) (chunk x1 4) (chunk x1 5) = pL (qTile x0) (chunk x1) 5 :=
    pay33_chain (qTile x0) (chunk x1) 4
  have e40 : k1_pay40 (qTile x0) (oL (qTile x0) (chunk x1) (chunk x2) 5) (mL (qTile x0) (chunk x1) 6) (aL (qTile x0) (chunk x1) 5) (pL (qTile x0) (chunk x1) 5) (chunk x2 5)
      (chunk x1 6) (chunk x2 6) = oL (qTile x0) (chunk x1) (chunk x2) 7 := pay40_chain (qTile x0) (chunk x1) (chunk x2) 5
  have e43 : k1_pay43 (qTile x0) (mL (qTile x0) (chunk x1) 6) (chunk x1 6) (chunk x1 7) = aL (qTile x0) (chunk x1) 7 :=
    pay43_chain (qTile x0) (chunk x1) 6
  have e44 : k1_pay44 (qTile x0) (mL (qTile x0) (chunk x1) 6) (chunk x1 6) (chunk x1 7) = pL (qTile x0) (chunk x1) 7 :=
    pay44_chain (qTile x0) (chunk x1) 6
  have e51 : k1_pay51 (qTile x0) (oL (qTile x0) (chunk x1) (chunk x2) 7) (mL (qTile x0) (chunk x1) 8) (aL (qTile x0) (chunk x1) 7) (pL (qTile x0) (chunk x1) 7) (chunk x2 7)
      (chunk x1 8) (chunk x2 8) = oL (qTile x0) (chunk x1) (chunk x2) 9 := pay51_chain (qTile x0) (chunk x1) (chunk x2) 7
  have e54 : k1_pay54 (qTile x0) (mL (qTile x0) (chunk x1) 8) (chunk x1 8) (chunk x1 9) = aL (qTile x0) (chunk x1) 9 :=
    pay54_chain (qTile x0) (chunk x1) 8
  have e55 : k1_pay55 (qTile x0) (mL (qTile x0) (chunk x1) 8) (chunk x1 8) (chunk x1 9) = pL (qTile x0) (chunk x1) 9 :=
    pay55_chain (qTile x0) (chunk x1) 8
  have e63 : k1_pay63 (qTile x0) (oL (qTile x0) (chunk x1) (chunk x2) 9) (mL (qTile x0) (chunk x1) 10) (aL (qTile x0) (chunk x1) 9) (pL (qTile x0) (chunk x1) 9) (lh (qTile x0) (chunk x1) 9) (ps (qTile x0) (chunk x1) 9)
      (chunk x2 9) (chunk x1 10) (chunk x2 10) = outL (lL (qTile x0) (chunk x1) 11) (oL (qTile x0) (chunk x1) (chunk x2) 11) := pay63_chain (qTile x0) (chunk x1) (chunk x2) 9
  rw [h0, h1, h2, h3, h4, h5, h6, h7, h8, h9, h10, g0, g1, g2, g3, g4, g5, g6, g7, g8, g9, g10, pay65_eq, pay66_eq, pay67_eq, pay68_eq, pay69_eq, pay70_eq, pay71_eq, pay72_eq,
    e7, e10, e11, e18, e21, e22, e29, e32, e33, e40, e43, e44, e51, e54, e55, e63]

/-- The logarithms the body leaves. -/
theorem out1_4_eq : out1_4 x0 x1 x2
    = View.canon [⟨r1_0, lseL (mL (qTile x0) (chunk x1) 11) (lL (qTile x0) (chunk x1) 11)⟩] := by
  unfold out1_4
  obtain ⟨h0, h1, h2, h3, h4, h5, h6, h7, h8, h9, h10⟩ := ld_chunk x1
  have e64 : k1_pay64 (qTile x0) (mL (qTile x0) (chunk x1) 10) (lh (qTile x0) (chunk x1) 9) (ps (qTile x0) (chunk x1) 9) (chunk x1 10)
      = lseL (mL (qTile x0) (chunk x1) 11) (lL (qTile x0) (chunk x1) 11) := pay64_chain (qTile x0) (chunk x1) 9
  rw [h10, pay65_eq, pay70_eq, pay71_eq, pay72_eq, e64]

section Values

variable {x0 x1 x2} {f k v : ℕ → ℕ → ℝ}

theorem inv_lat (h0 : Re2 (φ := .bf16) x0 f) (h1 : Re2 (φ := .bf16) x1 k) (h2 : Re2 (φ := .bf16) x2 v) :
    Inv f k v (mL (qTile x0) (chunk x1) 11) (lL (qTile x0) (chunk x1) 11) (oL (qTile x0) (chunk x1) (chunk x2) 11) 8448 :=
  inv_all (qTile_real h0) (fun c hc => chunk_real h1 c hc) (fun c hc => chunk_real h2 c hc) 11 (by norm_num) le_rfl

theorem out1_3_real (h0 : Re2 (φ := .bf16) x0 f) (h1 : Re2 (φ := .bf16) x1 k) (h2 : Re2 (φ := .bf16) x2 v) :
    Re2 (φ := .f32) (out1_3 x0 x1 x2) fun i d => wval (dot128 f k i) (fun j => v j d) 8448 / wsum (dot128 f k i) 8448 := by
  rw [out1_3_eq, View.canon_unit_zero off2]
  exact outL_real (by norm_num) (inv_lat h0 h1 h2)

theorem out1_4_real (h0 : Re2 (φ := .bf16) x0 f) (h1 : Re2 (φ := .bf16) x1 k) (h2 : Re2 (φ := .bf16) x2 v) :
    Re2 (φ := .f32) (out1_4 x0 x1 x2) fun i _ => Real.log (wsum (dot128 f k i) 8448) * (Real.log 2)⁻¹ := by
  rw [out1_4_eq, View.canon_unit_zero off2]
  exact lseL_real (by norm_num) (inv_lat h0 h1 h2)

end Values

end Attn

end
-- ==== Proof.FwdCtx.lean ====
/- The forward kernel over the context rows: one tile of 256 query rows against one chunk of 256 keys. -/
module

public import proofs.«01_k».proof.Proof.FwdStep
public import proofs.«01_k».proof.Proof.Gen.KernelIdeal.Frame.Region0
public import Idealize.ShloMosaic.Lib.Pipeline.ValueKit

@[expose] public section

set_option maxRecDepth 16384

noncomputable section

namespace Attn

open Idealize.ShloMosaic Finset
open Cert.KernelIdeal Cert.KernelIdeal.Gen

/-- The scores of a tile of query rows against a chunk of keys. -/
def scoreC (q : FVec Ideal S256x128 .bf16) (k : FVec Ideal S256x128 .bf16) : FVec Ideal S256x256 .f32 :=
  matmul dot_S256x128_S256x128_S256x256_1_1_0_0_n_n none q (shapeCast S256x128 k Facts₀.shapeCasts_S256x128_S256x128)
    (constant S256x256 .f32 0x00000000#32)

/-- The running maximum after a chunk's scores `s`. -/
def maxC (m : FVec Ideal S256x1 .f32) (s : FVec Ideal S256x256 .f32) : FVec Ideal S256x1 .f32 :=
  maximumf m (shapeCast S256x1 (multiReduction .maximumf [1] S256 s 0xFF800000#32 Facts₀.reduces_S256x256_S256 (.inl rfl) rfl)
    Facts₀.shapeCasts_S256_S256x1)

/-- The weights of a chunk's scores `s` against the running maximum `m`. -/
def wC (s : FVec Ideal S256x256 .f32) (m : FVec Ideal S256x1 .f32) : FVec Ideal S256x256 .f32 :=
  exp2 (subf s (broadcastTo S256x256 m Facts₀.broadcasts_S256x1_S256x256))

/-- The running sum after a chunk's weights `p`, the sum before it rescaled by `a`. -/
def sumC (a l : FVec Ideal S256x1 .f32) (p : FVec Ideal S256x256 .f32) : FVec Ideal S256x1 .f32 :=
  addf (mulf a l) (shapeCast S256x1 (multiReduction .add [1] S256 p 0x00000000#32 Facts₀.reduces_S256x256_S256 (.inl rfl) rfl)
    Facts₀.shapeCasts_S256_S256x1)

/-- The running weighted sum after a chunk's weights `p` and values `v`, the one before it rescaled by `a`. -/
def accC (a : FVec Ideal S256x1 .f32) (acc : FVec Ideal S256x128 .f32) (p : FVec Ideal S256x256 .f32)
    (v : FVec Ideal S256x128 .bf16) : FVec Ideal S256x128 .f32 :=
  addf (mulf (broadcastTo S256x128 a Facts₀.broadcasts_S256x1_S256x128) acc)
    (matmul dot_S256x256_S256x128_S256x128_1_0_0_1_n_n none (truncf .bf16 p Facts₀.bitsLt_bf16_f32)
      (shapeCast S256x128 v Facts₀.shapeCasts_S256x128_S256x128) (constant S256x128 .f32 0x00000000#32))

section Chain

variable (q : FVec Ideal S256x128 .bf16) (K V : ℕ → FVec Ideal S256x128 .bf16)

/-- The running maximum after `c` chunks. -/
def mC : ℕ → FVec Ideal S256x1 .f32
  | 0 => broadcast S256x1 (Scalar.ofBits .f32 0xFF800000#32)
  | c + 1 => maxC (mC c) (scoreC q (K c))

/-- What chunk `c` rescales the running sums by. -/
def aC (c : ℕ) : FVec Ideal S256x1 .f32 := exp2 (subf (mC q K c) (mC q K (c + 1)))

/-- The weights of chunk `c`. -/
def pC (c : ℕ) : FVec Ideal S256x256 .f32 := wC (scoreC q (K c)) (mC q K (c + 1))

/-- The running sum after `c` chunks. -/
def lC : ℕ → FVec Ideal S256x1 .f32
  | 0 => broadcast S256x1 (Scalar.ofBits .f32 0x00000000#32)
  | c + 1 => sumC (aC q K c) (lC c) (pC q K c)

/-- The running weighted sum after `c` chunks. -/
def oC : ℕ → FVec Ideal S256x128 .f32
  | 0 => broadcast S256x128 (Scalar.ofBits .f32 0x00000000#32)
  | c + 1 => accC (aC q K c) (oC c) (pC q K c) (V c)

end Chain

section Values

variable {q : FVec Ideal S256x128 .bf16} {K V : ℕ → FVec Ideal S256x128 .bf16} {f k v : ℕ → ℕ → ℝ}

theorem scoreC_real {kc : FVec Ideal S256x128 .bf16} {g : ℕ → ℕ → ℝ} (hq : Re2 q f) (hk : Re2 kc g) :
    Re2 (scoreC q kc) (dot128 f g) := re_nt256 hq (re_cast_q256 hk)

/-- The scores of chunk `c`: row `i` against key `256 * c + j`. -/
theorem score_chunkC (hq : Re2 q f) (c : ℕ) (hk : Re2 (K c) fun j d => k (256 * c + j) d) :
    Re2 (scoreC q (K c)) fun i j => dot128 f k i (256 * c + j) := scoreC_real hq hk

/-- The state after the only chunk: against some reference of each row. -/
def InvC (f k v : ℕ → ℕ → ℝ) (m l : FVec Ideal S256x1 .f32) (o : FVec Ideal S256x128 .f32) (n : ℕ) : Prop :=
  ∃ M : ℕ → ℝ, Re2 m (fun i _ => M i) ∧ Re2 l (fun i _ => wsum (dot128 f k i) n * p2 (-M i)) ∧
    Re2 o fun i d => wval (dot128 f k i) (fun j => v j d) n * p2 (-M i)

theorem inv_oneC (hq : Re2 q f) (hk : Re2 (K 0) fun j d => k (256 * 0 + j) d) (hv : Re2 (V 0) fun j d => v (256 * 0 + j) d) :
    InvC f k v (mC q K 1) (lC q K 1) (oC q K V 1) 256 := by
  have hs := score_chunkC hq 0 hk
  obtain ⟨M, hM⟩ := re_max256x256 hs
  have hm : Re2 (mC q K 1) fun i _ => M i := fun i j => by
    have h0 : mC q K 0 (ix2 i j) = (⊥ : EReal) := ofBits_ninf
    rw [mC, maxC, maximumf_apply, re_col256 hM i j, h0, Ideal.maximumf_def, max_bot_left]
  have ha : ∀ i j, aC q K 0 (ix2 i j) = (0 : EReal) := fun i j => by
    have h0 : mC q K 0 (ix2 i j) = (⊥ : EReal) := ofBits_ninf
    rw [aC, exp2_apply, subf_apply, h0, Ideal.subf_def, EReal.bot_sub]
    exact Ideal.exp2_bot
  have hp : Re2 (pC q K 0) fun i j => p2 (dot128 f k i (256 * 0 + j) - M i) :=
    (hs.sub (re_bcast256x256 hm)).exp2
  refine ⟨M, hm, ?_, ?_⟩
  · intro i j
    have h := re_col256 (re_sum256x256 hp) i j
    show aC q K 0 (ix2 i j) * _ + shapeCast S256x1 _ _ (ix2 i j) = _
    rw [h, ha, zero_mul, zero_add]
    congr 1
    have := wsum_step (dot128 f k i) 0 256 0 (M i)
    simp only [wsum, range_zero, sum_empty, zero_mul, mul_zero, zero_add] at this
    simpa only [wsum, Nat.mul_zero, zero_add] using this
  · intro i d
    have h := re_nn256 (hp.truncf (ψ := .bf16) (h := Facts₀.bitsLt_bf16_f32)) (re_cast_q256 hv) i d
    have hb : broadcastTo S256x128 (aC q K 0) Facts₀.broadcasts_S256x1_S256x128 (ix2 i d) = 0 := by
      pointwise; exact ha i 0
    show broadcastTo S256x128 (aC q K 0) Facts₀.broadcasts_S256x1_S256x128 (ix2 i d) * _ + matmul _ _ _ _ _ (ix2 i d) = _
    rw [h, hb, zero_mul, zero_add]
    congr 1
    have := wval_step (dot128 f k i) (fun j => v j d) 0 256 0 (M i)
    simp only [wval, range_zero, sum_empty, zero_mul, mul_zero, zero_add] at this
    simpa only [wval, Nat.mul_zero, zero_add] using this

/-- The output tile: each row's weighted sum over its sum. -/
def outC (l : FVec Ideal S256x1 .f32) (o : FVec Ideal S256x128 .f32) : FVec Ideal S256x128 .f32 :=
  divf o (broadcastTo S256x128 l Facts₀.broadcasts_S256x1_S256x128)

/-- The stored logarithm of each row's sum, to base two, in every lane. -/
def lseC (m l : FVec Ideal S256x1 .f32) : FVec Ideal S256x128 .f32 :=
  broadcastTo S256x128 (shapeCast S256x1 (addf m (mulf (log l) (broadcast S256x1 (Named.named κ "log2e" 0x3FB8AA3B#32))))
    Facts₀.shapeCasts_S256x1_S256x1) Facts₀.broadcasts_S256x1_S256x128

theorem outC_real {m l : FVec Ideal S256x1 .f32} {o : FVec Ideal S256x128 .f32} {n : ℕ} (hn : 0 < n)
    (h : InvC f k v m l o n) :
    Re2 (outC l o) fun i d => wval (dot128 f k i) (fun j => v j d) n / wsum (dot128 f k i) n := by
  obtain ⟨M, -, hl, ho⟩ := h
  refine (ho.div (re_bcast256x128 hl) fun i _ _ _ => mul_pos (wsum_pos _ hn) (p2_pos _)).congr fun i _ d _ => ?_
  exact wval_div _ _ _ _

theorem lseC_real {m l : FVec Ideal S256x1 .f32} {o : FVec Ideal S256x128 .f32} {n : ℕ} (hn : 0 < n)
    (h : InvC f k v m l o n) :
    Re2 (lseC m l) fun i _ => Real.log (wsum (dot128 f k i) n) * (Real.log 2)⁻¹ := by
  obtain ⟨M, hm, hl, -⟩ := h
  have hc : Re2 (broadcast S256x1 (Named.named κ "log2e" 0x3FB8AA3B#32 : Ideal .f32)) fun _ _ => (Real.log 2)⁻¹ :=
    fun i j => named_log2e
  refine (re_bcast256x128 (re_cast_m256 (hm.add ((hl.log fun i _ _ _ => mul_pos (wsum_pos _ hn) (p2_pos _)).mul hc)))).congr
    fun i _ d _ => ?_
  exact lse_eq _ hn _

theorem out0_off : (![0, 0] : Fin 2 → ℕ) = fun _ => 0 := by decide

theorem ctx_read {x : Vec Ideal S256x128 .bf16} {f : ℕ → ℕ → ℝ} (hx : Re2 (φ := .bf16) x f) :
    Re2 (φ := .bf16) (View.ld x r0_0) f := fun i d => by
  pointwise; exact hx i d

theorem inv_ctx {x0 x1 x2 : Vec Ideal S256x128 .bf16} (h0 : Re2 (φ := .bf16) x0 f) (h1 : Re2 (φ := .bf16) x1 k)
    (h2 : Re2 (φ := .bf16) x2 v) :
    InvC f k v (mC (shapeCast S256x128 (View.ld x0 r0_0) Facts₀.shapeCasts_S256x128_S256x128) (fun _ => View.ld x1 r0_0) 1)
      (lC (shapeCast S256x128 (View.ld x0 r0_0) Facts₀.shapeCasts_S256x128_S256x128) (fun _ => View.ld x1 r0_0) 1)
      (oC (shapeCast S256x128 (View.ld x0 r0_0) Facts₀.shapeCasts_S256x128_S256x128) (fun _ => View.ld x1 r0_0)
        (fun _ => View.ld x2 r0_0) 1) 256 :=
  inv_oneC (re_cast_q256 (ctx_read h0)) (by simpa only [Nat.mul_zero, Nat.zero_add] using ctx_read h1)
    (by simpa only [Nat.mul_zero, Nat.zero_add] using ctx_read h2)

theorem out0_3_real {x0 x1 x2 : Vec Ideal S256x128 .bf16} (h0 : Re2 (φ := .bf16) x0 f) (h1 : Re2 (φ := .bf16) x1 k)
    (h2 : Re2 (φ := .bf16) x2 v) :
    Re2 (φ := .f32) (out0_3 x0 x1 x2) fun i d => wval (dot128 f k i) (fun j => v j d) 256 / wsum (dot128 f k i) 256 := by
  unfold out0_3
  rw [View.canon_unit_zero out0_off]
  exact outC_real (by norm_num) (inv_ctx h0 h1 h2)

theorem out0_4_real {x0 x1 x2 : Vec Ideal S256x128 .bf16} (h0 : Re2 (φ := .bf16) x0 f) (h1 : Re2 (φ := .bf16) x1 k)
    (h2 : Re2 (φ := .bf16) x2 v) :
    Re2 (φ := .f32) (out0_4 x0 x1 x2) fun i _ => Real.log (wsum (dot128 f k i) 256) * (Real.log 2)⁻¹ := by
  unfold out0_4
  rw [View.canon_unit_zero out0_off]
  exact lseC_real (by norm_num) (inv_ctx h0 h1 h2)

end Values

end Attn

end
-- ==== Proof.ArrFwd.lean ====
/- What the two forward calls leave in their result arrays: at every row and column the softmax average of the values of
   that column's head, and the logarithm to base two of the softmax's sum. -/
module

public import proofs.«01_k».proof.Proof.FwdLat
public import proofs.«01_k».proof.Proof.FwdCtx
public import proofs.«01_k».proof.Proof.Gen.KernelIdeal.Frame.Region0
public import Idealize.ShloMosaic.Lib.Pointwise

@[expose] public section

set_option maxRecDepth 16384

noncomputable section

namespace Attn

open Idealize.ShloMosaic Finset
open Idealize.ShloMosaic.TcCoe
open Cert.KernelIdeal Cert.KernelIdeal.Gen

/-- Read a matrix of real numbers at any index. -/
theorem Re2.at {a b : ℕ} {φ : FTy} {x : FVec Ideal ⟨2, ![a, b]⟩ φ} {f : ℕ → ℕ → ℝ} (h : Re2 x f)
    (z : (⟨2, ![a, b]⟩ : Shape).Idx) : x z = ((f (z 0).val (z 1).val : ℝ) : EReal) :=
  (congrArg x (by funext a; fin_cases a <;> rfl)).trans (h (z 0) (z 1))

/-- One head's rows out of an array whose columns are the heads' 128 lanes, from row `r` on. -/
def hd (a : ℕ → ℕ → ℝ) (r h : ℕ) : ℕ → ℕ → ℝ := fun i d => a (r + i) (128 * h + d)

/-- The average of the values: query row `i` of head `h` against the first `n` keys. -/
def avg (f k v : ℕ → ℕ → ℝ) (n r h i d : ℕ) : ℝ :=
  wval (dot128 (hd f r h) (hd k 0 h) i) (fun j => hd v 0 h j d) n / wsum (dot128 (hd f r h) (hd k 0 h) i) n

/-- The logarithm to base two of the sum of query row `i` of head `h` over the first `n` keys. -/
def lg (f k : ℕ → ℕ → ℝ) (n r h i : ℕ) : ℝ :=
  Real.log (wsum (dot128 (hd f r h) (hd k 0 h) i) n) * (Real.log 2)⁻¹

theorem hd_shift (a : ℕ → ℕ → ℝ) (r s h i d : ℕ) : hd a (r + s) h i d = hd a r h (s + i) d := by
  unfold hd; rw [add_assoc]

theorem dot_shift (f k : ℕ → ℕ → ℝ) (r s h i : ℕ) : dot128 (hd f (r + s) h) k i = dot128 (hd f r h) k (s + i) := by
  funext j; unfold dot128; simp only [hd_shift]

theorem avg_shift (f k v : ℕ → ℕ → ℝ) (n r s h i d : ℕ) : avg f k v n (r + s) h i d = avg f k v n r h (s + i) d := by
  unfold avg; rw [dot_shift]

theorem lg_shift (f k : ℕ → ℕ → ℝ) (n r s h i : ℕ) : lg f k n (r + s) h i = lg f k n r h (s + i) := by
  unfold lg; rw [dot_shift]

theorem col_div {h d : ℕ} (hd : d < 128) : (h * 128 + d) / 128 = h := by omega
theorem col_mod {h d : ℕ} (hd : d < 128) : (h * 128 + d) % 128 = d := by omega

variable (V : (c : Dev nD) → (b : Ref sig .tc) → Buf (Elt Ideal) ((c.tc : Thread nD τ).loc b)) (c : Dev nD)
variable {f k v : ℕ → ℕ → ℝ}

/-! ## The latent rows -/

theorem idx1 : ∀ t : Fin cfg1.N, win1_0.index t = ![256 + 1024 * (t.val % 8), 128 * (t.val / 8)] ∧ win1_1.index t = ![0, t.val / 8]
    ∧ win1_2.index t = ![0, t.val / 8] ∧ win1_3.index t = ![t.val % 8, t.val / 8] ∧ win1_4.index t = ![t.val % 8, t.val / 8] :=
  (by decide +kernel : ∀ t : Fin grid1.N, _)

theorem blk1_0 (h : Re2 (φ := .bf16) (V c main_v9) f) (t : Fin cfg1.N) :
    Re2 (φ := .bf16) (a := 1024) (b := 128) (iblk1 V c 0 t) (hd f (256 + 1024 * (t.val % 8)) (t.val / 8)) := fun i j => by
  have e0 : (((win1_0.blk t).view.emb (ValueIdx.ix2 i j)) 0).val = win1_0.index t 0 + i.val :=
    ValueKit.view_emb_slice_whole_unit_val main_v9 (cc1_transform_0 (grid1.coords t)) S1024x128.size (Facts₀.hinbE1_0 _) (ValueIdx.ix2 i j) 0
  have e1 : (((win1_0.blk t).view.emb (ValueIdx.ix2 i j)) 1).val = win1_0.index t 1 + j.val :=
    ValueKit.view_emb_slice_whole_unit_val main_v9 (cc1_transform_0 (grid1.coords t)) S1024x128.size (Facts₀.hinbE1_0 _) (ValueIdx.ix2 i j) 1
  refine (h.at ((win1_0.blk t).view.emb (ValueIdx.ix2 i j))).trans ?_
  rw [e0, e1, (idx1 t).1]
  rfl

theorem blk1_1 (h : Re2 (φ := .bf16) (V c main_v13) k) (t : Fin cfg1.N) :
    Re2 (φ := .bf16) (a := 8448) (b := 128) (iblk1 V c 1 t) (hd k 0 (t.val / 8)) := fun i j => by
  blk_simp [iblk1]
  refine (h.at _).trans ?_
  blk_simp [idx1 t]
  unfold hd; congr 2 <;> ring

theorem blk1_2 (h : Re2 (φ := .bf16) (V c main_v17) v) (t : Fin cfg1.N) :
    Re2 (φ := .bf16) (a := 8448) (b := 128) (iblk1 V c 2 t) (hd v 0 (t.val / 8)) := fun i j => by
  blk_simp [iblk1]
  refine (h.at _).trans ?_
  blk_simp [idx1 t]
  unfold hd; congr 2 <;> ring

theorem arr1_3 (h0 : Re2 (φ := .bf16) (V c main_v9) f) (h1 : Re2 (φ := .bf16) (V c main_v13) k)
    (h2 : Re2 (φ := .bf16) (V c main_v17) v) :
    Re2 (φ := .f32) (a := 8192) (b := 1024) ((dat1 V c).arrAt 3 cfg1.N)
      fun r l => avg f k v 8448 256 (l / 128) r (l % 128) := fun i j => by
  refine (dat1 V c).arrAt_forall_of_covers 3
    (fun z w => w = ((avg f k v 8448 256 ((z 1).val / 128) (z 0).val ((z 1).val % 128) : ℝ) : EReal))
    (by decide +kernel) (fun t hf y => ?_) (ValueIdx.ix2 i j)
  blk_simp [idx1 t]
  rw [after1_3, col_div (y 1).isLt, col_mod (y 1).isLt]
  refine ((out1_3_real (blk1_0 V c h0 t) (blk1_1 V c h1 t) (blk1_2 V c h2 t)).at y).trans ?_
  rw [mul_comm _ 1024, ← avg_shift]
  rfl

theorem arr1_4 (h0 : Re2 (φ := .bf16) (V c main_v9) f) (h1 : Re2 (φ := .bf16) (V c main_v13) k)
    (h2 : Re2 (φ := .bf16) (V c main_v17) v) :
    Re2 (φ := .f32) (a := 8192) (b := 1024) ((dat1 V c).arrAt 4 cfg1.N)
      fun r l => lg f k 8448 256 (l / 128) r := fun i j => by
  refine (dat1 V c).arrAt_forall_of_covers 4
    (fun z w => w = ((lg f k 8448 256 ((z 1).val / 128) (z 0).val : ℝ) : EReal))
    (by decide +kernel) (fun t hf y => ?_) (ValueIdx.ix2 i j)
  blk_simp [idx1 t]
  rw [after1_4, col_div (y 1).isLt]
  refine ((out1_4_real (blk1_0 V c h0 t) (blk1_1 V c h1 t) (blk1_2 V c h2 t)).at y).trans ?_
  rw [mul_comm _ 1024, ← lg_shift]
  rfl

/-! ## The context rows -/

theorem idx0 : ∀ t : Fin cfg0.N, win0_0.index t = ![0, 128 * t.val] ∧ win0_1.index t = ![0, t.val]
    ∧ win0_2.index t = ![0, t.val] ∧ win0_3.index t = ![0, t.val] ∧ win0_4.index t = ![0, t.val] :=
  (by decide +kernel : ∀ t : Fin grid0.N, _)

theorem blk0_0 (h : Re2 (φ := .bf16) (V c main_v9) f) (t : Fin cfg0.N) :
    Re2 (φ := .bf16) (a := 256) (b := 128) (iblk0 V c 0 t) (hd f 0 t.val) := fun i j => by
  have e0 : (((win0_0.blk t).view.emb (ValueIdx.ix2 i j)) 0).val = win0_0.index t 0 + i.val :=
    ValueKit.view_emb_slice_whole_unit_val main_v9 (cc0_transform_0 (grid0.coords t)) S256x128.size (Facts₀.hinbE0_0 _) (ValueIdx.ix2 i j) 0
  have e1 : (((win0_0.blk t).view.emb (ValueIdx.ix2 i j)) 1).val = win0_0.index t 1 + j.val :=
    ValueKit.view_emb_slice_whole_unit_val main_v9 (cc0_transform_0 (grid0.coords t)) S256x128.size (Facts₀.hinbE0_0 _) (ValueIdx.ix2 i j) 1
  refine (h.at ((win0_0.blk t).view.emb (ValueIdx.ix2 i j))).trans ?_
  rw [e0, e1, (idx0 t).1]
  unfold hd; congr 2

theorem blk0_1 (h : Re2 (φ := .bf16) (V c main_v13) k) (t : Fin cfg0.N) :
    Re2 (φ := .bf16) (a := 256) (b := 128) (iblk0 V c 1 t) (hd k 0 t.val) := fun i j => by
  blk_simp [iblk0]
  refine (h.at _).trans ?_
  blk_simp [idx0 t]
  unfold hd; congr 2 <;> ring

theorem blk0_2 (h : Re2 (φ := .bf16) (V c main_v17) v) (t : Fin cfg0.N) :
    Re2 (φ := .bf16) (a := 256) (b := 128) (iblk0 V c 2 t) (hd v 0 t.val) := fun i j => by
  blk_simp [iblk0]
  refine (h.at _).trans ?_
  blk_simp [idx0 t]
  unfold hd; congr 2 <;> ring

theorem arr0_3 (h0 : Re2 (φ := .bf16) (V c main_v9) f) (h1 : Re2 (φ := .bf16) (V c main_v13) k)
    (h2 : Re2 (φ := .bf16) (V c main_v17) v) :
    Re2 (φ := .f32) (a := 256) (b := 1024) ((dat0 V c).arrAt 3 cfg0.N)
      fun r l => avg f k v 256 0 (l / 128) r (l % 128) := fun i j => by
  refine (dat0 V c).arrAt_forall_of_covers 3
    (fun z w => w = ((avg f k v 256 0 ((z 1).val / 128) (z 0).val ((z 1).val % 128) : ℝ) : EReal))
    (by decide +kernel) (fun t hf y => ?_) (ValueIdx.ix2 i j)
  blk_simp [idx0 t]
  rw [after0_3, col_div (y 1).isLt, col_mod (y 1).isLt]
  exact (out0_3_real (blk0_0 V c h0 t) (blk0_1 V c h1 t) (blk0_2 V c h2 t)).at y

theorem arr0_4 (h0 : Re2 (φ := .bf16) (V c main_v9) f) (h1 : Re2 (φ := .bf16) (V c main_v13) k)
    (h2 : Re2 (φ := .bf16) (V c main_v17) v) :
    Re2 (φ := .f32) (a := 256) (b := 1024) ((dat0 V c).arrAt 4 cfg0.N)
      fun r l => lg f k 256 0 (l / 128) r := fun i j => by
  refine (dat0 V c).arrAt_forall_of_covers 4
    (fun z w => w = ((lg f k 256 0 ((z 1).val / 128) (z 0).val : ℝ) : EReal))
    (by decide +kernel) (fun t hf y => ?_) (ValueIdx.ix2 i j)
  blk_simp [idx0 t]
  rw [after0_4, col_div (y 1).isLt]
  exact (out0_4_real (blk0_0 V c h0 t) (blk0_1 V c h1 t) (blk0_2 V c h2 t)).at y

end Attn
-- ==== Proof.HostMove.lean ====
/- The host's movements of the arrays around the calls: the heads' rows side by side with their lanes filled up to 128 by
   zeros, the way back, the two row ranges one under the other, and the scale of the queries. -/
module

public import proofs.«01_k».proof.Proof.ArrFwd
public import proofs.«01_k».proof.Proof.Gen.KernelIdeal.Frame
public import Idealize.ShloMosaic.Lib.Pointwise

@[expose] public section

set_option maxRecDepth 16384

noncomputable section

namespace Attn

open Idealize.ShloMosaic Finset
open Idealize.ShloMosaic.TcCoe
open Cert.KernelIdeal Cert.KernelIdeal.Gen

/-- The array `x` of three axes holds `f i j k`. -/
def Re3 {a b c : ℕ} {φ : FTy} (x : FVec Ideal ⟨3, ![a, b, c]⟩ φ) (f : ℕ → ℕ → ℕ → ℝ) : Prop :=
  ∀ (i : Fin a) (j : Fin b) (k : Fin c), x (ValueIdx.ix3 i j k) = ((f i j k : ℝ) : EReal)

/-- The heads' rows side by side, every head's `n` lanes followed by zeros up to 128. -/
def lanes (n : ℕ) (f : ℕ → ℕ → ℕ → ℝ) : ℕ → ℕ → ℝ := fun r l => if l % 128 < n then f (l / 128) r (l % 128) else 0

/-- `n` rows of zeros after the rows of `f` below `n`. -/
def below (n : ℕ) (f g : ℕ → ℕ → ℝ) : ℕ → ℕ → ℝ := fun r l => if r < n then f r l else g (r - n) l

def zeroS : FVec Ideal S_ .f32 := sitofp .f32 (constantI S_ 32 0#32)

def rows64 (a : FVec Ideal S8x8448x64 .f32) : FVec Ideal S8448x1024 .f32 :=
  shapeCast S8448x1024 (pad S8448x8x128 ![0, 0, 0] ![0, 0, 64] ![0, 0, 0]
    (transpose S8448x8x64 [1, 0, 2] a Facts₀.transposes_S8x8448x64_S8448x8x64_1_0_2) zeroS
    Facts₀.pads_S8448x8x64_S8448x8x128_000_000_0640 Facts₀.h_S_) Facts₀.shapeCasts_S8448x8x128_S8448x1024

def rows96 (a : FVec Ideal S8x8448x96 .f32) : FVec Ideal S8448x1024 .f32 :=
  shapeCast S8448x1024 (pad S8448x8x128 ![0, 0, 0] ![0, 0, 32] ![0, 0, 0]
    (transpose S8448x8x96 [1, 0, 2] a Facts₀.transposes_S8x8448x96_S8448x8x96_1_0_2) zeroS
    Facts₀.pads_S8448x8x96_S8448x8x128_000_000_0320 Facts₀.h_S_) Facts₀.shapeCasts_S8448x8x128_S8448x1024

def heads64 (x : FVec Ideal S8448x1024 .f32) : FVec Ideal S8x8448x64 .f32 :=
  transpose S8x8448x64 [1, 0, 2] (extractStridedSlice S8448x8x64 ![0, 0, 0]
    (shapeCast S8448x8x128 x Facts₀.shapeCasts_S8448x1024_S8448x8x128) Facts₀.slices_S8448x8x128_S8448x8x64_0_0_0)
    Facts₀.transposes_S8448x8x64_S8x8448x64_1_0_2

def heads96 (x : FVec Ideal S8448x1024 .f32) : FVec Ideal S8x8448x96 .f32 :=
  transpose S8x8448x96 [1, 0, 2] (extractStridedSlice S8448x8x96 ![0, 0, 0]
    (shapeCast S8448x8x128 x Facts₀.shapeCasts_S8448x1024_S8448x8x128) Facts₀.slices_S8448x8x128_S8448x8x96_0_0_0)
    Facts₀.transposes_S8448x8x96_S8x8448x96_1_0_2

/-- The context's rows above the latents'. -/
def stack (x : FVec Ideal S256x1024 .f32) (y : FVec Ideal S8192x1024 .f32) : FVec Ideal S8448x1024 .f32 :=
  concatenate S8448x1024 0 [⟨S256x1024, x⟩, ⟨S8192x1024, y⟩] Facts₀.concatenates_S256x1024_S8192x1024_S8448x1024_d0

/-- The context's rows with rows of zeros under them. -/
def fill (x : FVec Ideal S256x1024 .f32) : FVec Ideal S8448x1024 .f32 :=
  pad S8448x1024 ![0, 0] ![8192, 0] ![0, 0] x zeroS Facts₀.pads_S256x1024_S8448x1024_081920_000 Facts₀.h_S_

/-- The queries' scale. -/
def scaleS : FVec Ideal S_ .f32 :=
  Host.divf (constant S_ .f32 0x3F800000#32)
    (mulf (Host.sqrt (constant S_ .f32 0x42C00000#32)) (Host.log (constant S_ .f32 0x40000000#32)))

def scaleB : FVec Ideal S8448x1024 .f32 := broadcastInDim S8448x1024 ![] Facts₀.bcast_S_S8448x1024 scaleS

/-- The scale over the reals. -/
def sc : ℝ := (Real.sqrt 96 * Real.log 2)⁻¹

variable {f : ℕ → ℕ → ℕ → ℝ} {g g' : ℕ → ℕ → ℝ}

theorem zero_word : (FloatOps.sitofp .f32 0#32 : Ideal .f32) = ((0 : ℝ) : EReal) := by
  show ((((0#32 : BitVec 32).toInt : ℤ) : ℝ) : EReal) = _
  simp

theorem ofBits_96 : Ideal.ofBits .f32 0x42C00000#32 = ((96 : ℝ) : EReal) := by
  simp [Ideal.ofBits, Ideal.ieee, -EReal.coe_mul]; norm_num

theorem ofBits_2 : Ideal.ofBits .f32 0x40000000#32 = ((2 : ℝ) : EReal) := by
  simp [Ideal.ofBits, Ideal.ieee, -EReal.coe_mul]; norm_num

theorem rows64_real {a : FVec Ideal S8x8448x64 .f32} (h : Re3 a f) : Re2 (rows64 a) (lanes 64 f) := fun i j => by
  unfold rows64 zeroS lanes
  pointwise
  split_ifs with h1 h2 h2
  · exact h _ _ _
  · exact absurd h1.2 h2
  · exact absurd ⟨by omega, h2⟩ h1
  · exact zero_word

theorem rows96_real {a : FVec Ideal S8x8448x96 .f32} (h : Re3 a f) : Re2 (rows96 a) (lanes 96 f) := fun i j => by
  unfold rows96 zeroS lanes
  pointwise
  split_ifs with h1 h2 h2
  · exact h _ _ _
  · exact absurd h1.2 h2
  · exact absurd ⟨by omega, h2⟩ h1
  · exact zero_word

theorem heads64_real {x : FVec Ideal S8448x1024 .f32} (h : Re2 x g) : Re3 (heads64 x) fun hh i d => g i (128 * hh + d) :=
  fun i j k => by
  unfold heads64
  pointwise
  refine (h _ _).trans ?_
  rw [mul_comm 128]

theorem heads96_real {x : FVec Ideal S8448x1024 .f32} (h : Re2 x g) : Re3 (heads96 x) fun hh i d => g i (128 * hh + d) :=
  fun i j k => by
  unfold heads96
  pointwise
  refine (h _ _).trans ?_
  rw [mul_comm 128]

theorem stack_real {x : FVec Ideal S256x1024 .f32} {y : FVec Ideal S8192x1024 .f32} (h : Re2 x g) (h' : Re2 y g') :
    Re2 (stack x y) (below 256 g g') := fun i j => by
  unfold stack below
  pointwise
  by_cases h1 : i.val < 256
  · rw [dif_pos h1, if_pos h1]; exact h _ _
  · rw [dif_neg h1, if_neg h1]; exact h' _ _

theorem fill_real {x : FVec Ideal S256x1024 .f32} (h : Re2 x g)  :
    Re2 (fill x) (below 256 g fun _ _ => 0) := fun i j => by
  unfold fill below zeroS
  pointwise
  split_ifs with h1
  · exact h _ _
  · exact zero_word

theorem scaleB_real : Re2 scaleB fun _ _ => sc := fun i j => by
  unfold scaleB scaleS sc
  pointwise
  have h2 : (0 : ℝ) < Real.log 2 := Real.log_pos (by norm_num)
  have h96 : (0 : ℝ) < Real.sqrt 96 := Real.sqrt_pos.2 (by norm_num)
  rw [ofBits_96, ofBits_2, Ideal.sqrt_coe, Ideal.log_coe, if_neg (by norm_num), if_neg (by norm_num), ← EReal.coe_mul,
    Ideal.div_coe (by positivity), one_mul, one_div]

end Attn
-- ==== Proof.BwdReal.lean ====
/- The backward pass of attention over real numbers: the weights from the stored logarithm, and the gradient of the
   scores, of the query rows `f`, the keys `k`, the values `v`, the outputs `o` and the incoming gradient `u`. -/
module

public import proofs.«01_k».proof.Proof.Real

@[expose] public section

noncomputable section

namespace Attn

open Finset

/-- The weight of key `j` in row `i`, from the row's stored logarithm `L i`. -/
def pR (f k : ℕ → ℕ → ℝ) (L : ℕ → ℝ) (i j : ℕ) : ℝ := p2 (dot128 f k i j - L i)

/-- The product of row `i` of the incoming gradient with row `i` of the output. -/
def dR (u o : ℕ → ℕ → ℝ) (i : ℕ) : ℝ := ∑ d ∈ range 128, u i d * o i d

/-- The gradient of the score of row `i` and key `j`. -/
def gR (f k v u o : ℕ → ℕ → ℝ) (L : ℕ → ℝ) (i j : ℕ) : ℝ := pR f k L i j * (dot128 u v i j - dR u o i)

end Attn

end
-- ==== Proof.BwdDefs.lean ====
/- The backward calls' results as sums over the arrays' rows: the gradients of every head's queries, keys and values. -/
module

public import proofs.«01_k».proof.Proof.ArrFwd
public import proofs.«01_k».proof.Proof.BwdReal

@[expose] public section

set_option maxRecDepth 16384

noncomputable section

namespace Attn

open Idealize.ShloMosaic Finset
open Idealize.ShloMosaic.TcCoe
open Cert.KernelIdeal Cert.KernelIdeal.Gen

theorem Re2.of_eq {a b : ℕ} {φ : FTy} {x y : FVec Ideal ⟨2, ![a, b]⟩ φ} {f : ℕ → ℕ → ℝ} (e : x = y) (h : Re2 y f) : Re2 x f :=
  e ▸ h

/-- The probability of key `j` for the query in row `i` of head `h`. -/
def pG (f k : ℕ → ℕ → ℝ) (L : ℕ → ℕ → ℝ) (r h i j : ℕ) : ℝ := pR (hd f r h) (hd k 0 h) (L h) i j

/-- The gradient of the score of row `i` and key `j` of head `h`. -/
def gG (f k v u y : ℕ → ℕ → ℝ) (L : ℕ → ℕ → ℝ) (r h i j : ℕ) : ℝ :=
  gR (hd f r h) (hd k 0 h) (hd v 0 h) (hd u r h) (hd y 0 h) (L h) i j

theorem pG_shift (f k : ℕ → ℕ → ℝ) (L : ℕ → ℕ → ℝ) (r s h i j : ℕ) :
    pR (hd f (r + s) h) (hd k 0 h) (fun i => L h (s + i)) i j = pG f k L r h (s + i) j := by
  unfold pG pR; rw [dot_shift]

theorem gG_shift (f k v u y : ℕ → ℕ → ℝ) (L : ℕ → ℕ → ℝ) (r s h i j : ℕ) :
    gR (hd f (r + s) h) (hd k 0 h) (hd v 0 h) (hd u (r + s) h) (hd y (0 + s) h) (fun i => L h (s + i)) i j
      = gG f k v u y L r h (s + i) j := by
  unfold gG gR pR dR; simp only [dot_shift, hd_shift]

/-- The gradient of the queries (row `i`, lane `d` of head `h`) against the first `n` keys. -/
def dqG (f k v u y : ℕ → ℕ → ℝ) (L : ℕ → ℕ → ℝ) (n r h i d : ℕ) : ℝ :=
  (∑ j ∈ range n, gG f k v u y L r h i j * hd k 0 h j d) * Real.log 2

/-- The gradient of the keys over the first `n` query rows, before its scale. -/
def dkG (f k v u y : ℕ → ℕ → ℝ) (L : ℕ → ℕ → ℝ) (n r h j d : ℕ) : ℝ :=
  ∑ i ∈ range n, gG f k v u y L r h i j * hd f r h i d

/-- The gradient of the values over the first `n` query rows. -/
def dvG (f k u : ℕ → ℕ → ℝ) (L : ℕ → ℕ → ℝ) (n r h j d : ℕ) : ℝ :=
  ∑ i ∈ range n, pG f k L r h i j * hd u r h i d

/-- One tile more. -/
theorem dkG_step (f k v u y : ℕ → ℕ → ℝ) (L : ℕ → ℕ → ℝ) (r s h j d : ℕ) :
    dkG f k v u y L s r h j d + ∑ i ∈ range 1024, gR (hd f (r + s) h) (hd k 0 h) (hd v 0 h) (hd u (r + s) h)
      (hd y (0 + s) h) (fun i => L h (s + i)) i j * hd f (r + s) h i d = dkG f k v u y L (s + 1024) r h j d := by
  unfold dkG; rw [sum_range_add]; simp only [gG_shift, hd_shift]

theorem dvG_step (f k u : ℕ → ℕ → ℝ) (L : ℕ → ℕ → ℝ) (r s h j d : ℕ) :
    dvG f k u L s r h j d + ∑ i ∈ range 1024, pR (hd f (r + s) h) (hd k 0 h) (fun i => L h (s + i)) i j
      * hd u (r + s) h i d = dvG f k u L (s + 1024) r h j d := by
  unfold dvG; rw [sum_range_add]; simp only [pG_shift, hd_shift]

end Attn
-- ==== Proof.BwdStep.lean ====
/- One tile of query rows against one chunk of keys in the backward kernels: what it adds to the gradients of the query
   rows, the keys and the values. The names ending in `L` are of the kernel over the latent rows, those ending in `C` of the
   kernel over the context rows. -/
module

public import proofs.«01_k».proof.Proof.Tile
public import proofs.«01_k».proof.Proof.BwdReal

@[expose] public section

set_option maxRecDepth 16384

noncomputable section

namespace Attn.Bwd

open Idealize.ShloMosaic Finset
open Cert.KernelIdeal Cert.KernelIdeal.Facts₀ Cert.KernelIdeal.Facts

/-- The weights of a tile of query rows against a chunk of keys, from the rows' stored logarithms. -/
def pL (q : FVec Ideal S1024x128 .bf16) (k : FVec Ideal S768x128 .bf16) (l : FVec Ideal S1024x1 .f32) : FVec Ideal S1024x768 .f32 :=
  exp2 (subf (matmul dot_S1024x128_S768x128_S1024x768_1_1_0_0_n_n none (shapeCast S1024x128 q shapeCasts_S1024x128_S1024x128)
      (shapeCast S768x128 k shapeCasts_S768x128_S768x128) (constant S1024x768 .f32 0x00000000#32))
    (broadcastTo S1024x768 (shapeCast S1024x1 l shapeCasts_S1024x1_S1024x1) broadcasts_S1024x1_S1024x768))

/-- Each row's product of the incoming gradient with the output. -/
def dL (u o : FVec Ideal S1024x128 .f32) : FVec Ideal S1024x1 .f32 :=
  shapeCast S1024x1 (multiReduction .add [1] S1024 (mulf (shapeCast S1024x128 u shapeCasts_S1024x128_S1024x128)
      (shapeCast S1024x128 o shapeCasts_S1024x128_S1024x128)) 0x00000000#32 reduces_S1024x128_S1024 (.inl rfl) rfl)
    shapeCasts_S1024_S1024x1

/-- The incoming gradient, narrowed. -/
def uL (u : FVec Ideal S1024x128 .f32) : FVec Ideal S1024x128 .bf16 :=
  truncf .bf16 (shapeCast S1024x128 u shapeCasts_S1024x128_S1024x128) bitsLt_bf16_f32

/-- The gradient of the scores of a tile against a chunk. -/
def gL (q : FVec Ideal S1024x128 .bf16) (k v : FVec Ideal S768x128 .bf16) (l : FVec Ideal S1024x1 .f32)
    (u o : FVec Ideal S1024x128 .f32) : FVec Ideal S1024x768 .bf16 :=
  truncf .bf16 (mulf (pL q k l)
    (subf (matmul dot_S1024x128_S768x128_S1024x768_1_1_0_0_n_n none (uL u) (shapeCast S768x128 v shapeCasts_S768x128_S768x128)
        (constant S1024x768 .f32 0x00000000#32))
      (broadcastTo S1024x768 (dL u o) broadcasts_S1024x1_S1024x768))) bitsLt_bf16_f32

/-- What a tile adds to the chunk's gradient of the keys. -/
def dkL (prev : FVec Ideal S768x128 .f32) (q : FVec Ideal S1024x128 .bf16) (k v : FVec Ideal S768x128 .bf16)
    (l : FVec Ideal S1024x1 .f32) (u o : FVec Ideal S1024x128 .f32) : FVec Ideal S768x128 .f32 :=
  addf (shapeCast S768x128 prev shapeCasts_S768x128_S768x128)
    (matmul dot_S1024x768_S1024x128_S768x128_0_0_1_1_n_n none (gL q k v l u o)
      (shapeCast S1024x128 q shapeCasts_S1024x128_S1024x128) (constant S768x128 .f32 0x00000000#32))

/-- What a tile adds to the chunk's gradient of the values. -/
def dvL (prev : FVec Ideal S768x128 .f32) (q : FVec Ideal S1024x128 .bf16) (k : FVec Ideal S768x128 .bf16)
    (l : FVec Ideal S1024x1 .f32) (u : FVec Ideal S1024x128 .f32) : FVec Ideal S768x128 .f32 :=
  addf (shapeCast S768x128 prev shapeCasts_S768x128_S768x128)
    (matmul dot_S1024x768_S1024x128_S768x128_0_0_1_1_n_n none (truncf .bf16 (pL q k l) bitsLt_bf16_f32)
      (uL u) (constant S768x128 .f32 0x00000000#32))

/-- What a chunk adds to the tile's gradient of the query rows. -/
def dqL (acc : FVec Ideal S1024x128 .f32) (q : FVec Ideal S1024x128 .bf16) (k v : FVec Ideal S768x128 .bf16)
    (l : FVec Ideal S1024x1 .f32) (u o : FVec Ideal S1024x128 .f32) : FVec Ideal S1024x128 .f32 :=
  addf acc (matmul dot_S1024x768_S768x128_S1024x128_1_0_0_1_n_n none (gL q k v l u o)
    (shapeCast S768x128 k shapeCasts_S768x128_S768x128) (constant S1024x128 .f32 0x00000000#32))

section ValuesL

variable {q : FVec Ideal S1024x128 .bf16} {k v : FVec Ideal S768x128 .bf16} {l : FVec Ideal S1024x1 .f32}
  {u o : FVec Ideal S1024x128 .f32} {f a b w y : ℕ → ℕ → ℝ} {L : ℕ → ℝ}

theorem pL_real (hq : Re2 q f) (hk : Re2 k a) (hl : Re2 l fun i _ => L i) : Re2 (pL q k l) (pR f a L) :=
  ((re_nt1024 (re_cast_q1024 hq) (re_cast_k hk)).sub (re_bcast1024x768 (re_cast_m1024 hl))).exp2

theorem dL_real (hu : Re2 u w) (ho : Re2 o y) : Re2 (dL u o) fun i _ => dR w y i :=
  re_col1024 (re_sum1024x128 ((re_cast_q1024 hu).mul (re_cast_q1024 ho)))

theorem uL_real (hu : Re2 u w) : Re2 (uL u) w := (re_cast_q1024 hu).truncf

theorem gL_real (hq : Re2 q f) (hk : Re2 k a) (hv : Re2 v b) (hl : Re2 l fun i _ => L i) (hu : Re2 u w) (ho : Re2 o y) :
    Re2 (gL q k v l u o) (gR f a b w y L) :=
  ((pL_real hq hk hl).mul ((re_nt1024 (uL_real hu) (re_cast_k hv)).sub (re_bcast1024x768 (dL_real hu ho)))).truncf

theorem dkL_real {prev : FVec Ideal S768x128 .f32} {z : ℕ → ℕ → ℝ} (hz : Re2 prev z) (hq : Re2 q f) (hk : Re2 k a)
    (hv : Re2 v b) (hl : Re2 l fun i _ => L i) (hu : Re2 u w) (ho : Re2 o y) :
    Re2 (dkL prev q k v l u o) fun j d => z j d + ∑ i ∈ range 1024, gR f a b w y L i j * f i d :=
  (re_cast_k hz).add (re_tn1024 (gL_real hq hk hv hl hu ho) (re_cast_q1024 hq))

theorem dvL_real {prev : FVec Ideal S768x128 .f32} {z : ℕ → ℕ → ℝ} (hz : Re2 prev z) (hq : Re2 q f) (hk : Re2 k a)
    (hl : Re2 l fun i _ => L i) (hu : Re2 u w) :
    Re2 (dvL prev q k l u) fun j d => z j d + ∑ i ∈ range 1024, pR f a L i j * w i d :=
  (re_cast_k hz).add (re_tn1024 (pL_real hq hk hl).truncf (uL_real hu))

theorem dqL_real {acc : FVec Ideal S1024x128 .f32} {z : ℕ → ℕ → ℝ} (hz : Re2 acc z) (hq : Re2 q f) (hk : Re2 k a)
    (hv : Re2 v b) (hl : Re2 l fun i _ => L i) (hu : Re2 u w) (ho : Re2 o y) :
    Re2 (dqL acc q k v l u o) fun i d => z i d + ∑ j ∈ range 768, gR f a b w y L i j * a j d :=
  hz.add (re_nn1024 (gL_real hq hk hv hl hu ho) (re_cast_k hk))

end ValuesL

/-- The weights of a tile of query rows against a chunk of keys, from the rows' stored logarithms. -/
def pC (q : FVec Ideal S256x128 .bf16) (k : FVec Ideal S256x128 .bf16) (l : FVec Ideal S256x1 .f32) : FVec Ideal S256x256 .f32 :=
  exp2 (subf (matmul dot_S256x128_S256x128_S256x256_1_1_0_0_n_n none (shapeCast S256x128 q shapeCasts_S256x128_S256x128)
      (shapeCast S256x128 k shapeCasts_S256x128_S256x128) (constant S256x256 .f32 0x00000000#32))
    (broadcastTo S256x256 (shapeCast S256x1 l shapeCasts_S256x1_S256x1) broadcasts_S256x1_S256x256))

/-- Each row's product of the incoming gradient with the output. -/
def dC (u o : FVec Ideal S256x128 .f32) : FVec Ideal S256x1 .f32 :=
  shapeCast S256x1 (multiReduction .add [1] S256 (mulf (shapeCast S256x128 u shapeCasts_S256x128_S256x128)
      (shapeCast S256x128 o shapeCasts_S256x128_S256x128)) 0x00000000#32 reduces_S256x128_S256 (.inl rfl) rfl)
    shapeCasts_S256_S256x1

/-- The incoming gradient, narrowed. -/
def uC (u : FVec Ideal S256x128 .f32) : FVec Ideal S256x128 .bf16 :=
  truncf .bf16 (shapeCast S256x128 u shapeCasts_S256x128_S256x128) bitsLt_bf16_f32

/-- The gradient of the scores of a tile against a chunk. -/
def gC (q : FVec Ideal S256x128 .bf16) (k v : FVec Ideal S256x128 .bf16) (l : FVec Ideal S256x1 .f32)
    (u o : FVec Ideal S256x128 .f32) : FVec Ideal S256x256 .bf16 :=
  truncf .bf16 (mulf (pC q k l)
    (subf (matmul dot_S256x128_S256x128_S256x256_1_1_0_0_n_n none (uC u) (shapeCast S256x128 v shapeCasts_S256x128_S256x128)
        (constant S256x256 .f32 0x00000000#32))
      (broadcastTo S256x256 (dC u o) broadcasts_S256x1_S256x256))) bitsLt_bf16_f32

/-- What a tile adds to the chunk's gradient of the keys. -/
def dkC (prev : FVec Ideal S256x128 .f32) (q : FVec Ideal S256x128 .bf16) (k v : FVec Ideal S256x128 .bf16)
    (l : FVec Ideal S256x1 .f32) (u o : FVec Ideal S256x128 .f32) : FVec Ideal S256x128 .f32 :=
  addf (shapeCast S256x128 prev shapeCasts_S256x128_S256x128)
    (matmul dot_S256x256_S256x128_S256x128_0_0_1_1_n_n none (gC q k v l u o)
      (shapeCast S256x128 q shapeCasts_S256x128_S256x128) (constant S256x128 .f32 0x00000000#32))

/-- What a tile adds to the chunk's gradient of the values. -/
def dvC (prev : FVec Ideal S256x128 .f32) (q : FVec Ideal S256x128 .bf16) (k : FVec Ideal S256x128 .bf16)
    (l : FVec Ideal S256x1 .f32) (u : FVec Ideal S256x128 .f32) : FVec Ideal S256x128 .f32 :=
  addf (shapeCast S256x128 prev shapeCasts_S256x128_S256x128)
    (matmul dot_S256x256_S256x128_S256x128_0_0_1_1_n_n none (truncf .bf16 (pC q k l) bitsLt_bf16_f32)
      (uC u) (constant S256x128 .f32 0x00000000#32))

/-- What a chunk adds to the tile's gradient of the query rows. -/
def dqC (acc : FVec Ideal S256x128 .f32) (q : FVec Ideal S256x128 .bf16) (k v : FVec Ideal S256x128 .bf16)
    (l : FVec Ideal S256x1 .f32) (u o : FVec Ideal S256x128 .f32) : FVec Ideal S256x128 .f32 :=
  addf acc (matmul dot_S256x256_S256x128_S256x128_1_0_0_1_n_n none (gC q k v l u o)
    (shapeCast S256x128 k shapeCasts_S256x128_S256x128) (constant S256x128 .f32 0x00000000#32))

section ValuesC

variable {q : FVec Ideal S256x128 .bf16} {k v : FVec Ideal S256x128 .bf16} {l : FVec Ideal S256x1 .f32}
  {u o : FVec Ideal S256x128 .f32} {f a b w y : ℕ → ℕ → ℝ} {L : ℕ → ℝ}

theorem pC_real (hq : Re2 q f) (hk : Re2 k a) (hl : Re2 l fun i _ => L i) : Re2 (pC q k l) (pR f a L) :=
  ((re_nt256 (re_cast_q256 hq) (re_cast_q256 hk)).sub (re_bcast256x256 (re_cast_m256 hl))).exp2

theorem dC_real (hu : Re2 u w) (ho : Re2 o y) : Re2 (dC u o) fun i _ => dR w y i :=
  re_col256 (re_sum256x128 ((re_cast_q256 hu).mul (re_cast_q256 ho)))

theorem uC_real (hu : Re2 u w) : Re2 (uC u) w := (re_cast_q256 hu).truncf

theorem gC_real (hq : Re2 q f) (hk : Re2 k a) (hv : Re2 v b) (hl : Re2 l fun i _ => L i) (hu : Re2 u w) (ho : Re2 o y) :
    Re2 (gC q k v l u o) (gR f a b w y L) :=
  ((pC_real hq hk hl).mul ((re_nt256 (uC_real hu) (re_cast_q256 hv)).sub (re_bcast256x256 (dC_real hu ho)))).truncf

theorem dkC_real {prev : FVec Ideal S256x128 .f32} {z : ℕ → ℕ → ℝ} (hz : Re2 prev z) (hq : Re2 q f) (hk : Re2 k a)
    (hv : Re2 v b) (hl : Re2 l fun i _ => L i) (hu : Re2 u w) (ho : Re2 o y) :
    Re2 (dkC prev q k v l u o) fun j d => z j d + ∑ i ∈ range 256, gR f a b w y L i j * f i d :=
  (re_cast_q256 hz).add (re_tn256 (gC_real hq hk hv hl hu ho) (re_cast_q256 hq))

theorem dvC_real {prev : FVec Ideal S256x128 .f32} {z : ℕ → ℕ → ℝ} (hz : Re2 prev z) (hq : Re2 q f) (hk : Re2 k a)
    (hl : Re2 l fun i _ => L i) (hu : Re2 u w) :
    Re2 (dvC prev q k l u) fun j d => z j d + ∑ i ∈ range 256, pR f a L i j * w i d :=
  (re_cast_q256 hz).add (re_tn256 (pC_real hq hk hl).truncf (uC_real hu))

theorem dqC_real {acc : FVec Ideal S256x128 .f32} {z : ℕ → ℕ → ℝ} (hz : Re2 acc z) (hq : Re2 q f) (hk : Re2 k a)
    (hv : Re2 v b) (hl : Re2 l fun i _ => L i) (hu : Re2 u w) (ho : Re2 o y) :
    Re2 (dqC acc q k v l u o) fun i d => z i d + ∑ j ∈ range 256, gR f a b w y L i j * a j d :=
  hz.add (re_nn256 (gC_real hq hk hv hl hu ho) (re_cast_q256 hk))

end ValuesC

theorem named_ln2 : (Named.named κ "ln2" 0x3F317218#32 : Ideal .f32) = ((Real.log 2 : ℝ) : EReal) :=
  IdealRules.named_const.ideal_named_scalar _ _ _ _ rfl

end Attn.Bwd

end
-- ==== Proof.BwdLat.lean ====
/- What the backward kernel over the latent rows leaves at one grid point: the gradient of its tile of query rows, and the
   gradients of the head's keys and values with this tile's part added. -/
module

public import proofs.«01_k».proof.Proof.FwdLat
public import proofs.«01_k».proof.Proof.BwdStep
public import proofs.«01_k».proof.Proof.Gen.KernelIdeal.Frame.Region3
public import Idealize.ShloMosaic.Lib.Pipeline.ReadBack

@[expose] public section

set_option maxRecDepth 16384

noncomputable section

namespace Attn.Bwd

open Idealize.ShloMosaic Idealize.ShloMosaic.TcCoe Finset
open Cert.KernelIdeal Cert.KernelIdeal.Gen

/-- The chunks of 768 rows of a head's gradient of the keys or values. -/
def chunkF (x : Vec Ideal S8448x128 .f32) : ℕ → Vec Ideal S768x128 .f32
  | 0 => View.ld x r1_1
  | 1 => View.ld x r1_2
  | 2 => View.ld x r1_3
  | 3 => View.ld x r1_4
  | 4 => View.ld x r1_5
  | 5 => View.ld x r1_6
  | 6 => View.ld x r1_7
  | 7 => View.ld x r1_8
  | 8 => View.ld x r1_9
  | 9 => View.ld x r1_10
  | _ => View.ld x r1_11

theorem chunkF_real {x : Vec Ideal S8448x128 .f32} {k : ℕ → ℕ → ℝ} (hx : Re2 (φ := .f32) x k) (c : ℕ) (hc : c < 11) :
    Re2 (φ := .f32) (chunkF x c) fun j d => k (768 * c + j) d := fun j d => by
  interval_cases c <;>
    (unfold chunkF; pointwise; exact hx _ _)

/-- The stores of eleven chunks, the last first. -/
def tiles (P : ℕ → FVec Ideal S768x128 .f32) : List (View.Piece (Elt Ideal) S8448x128 .f32) :=
  [⟨r1_11, P 10⟩, ⟨r1_10, P 9⟩, ⟨r1_9, P 8⟩, ⟨r1_8, P 7⟩, ⟨r1_7, P 6⟩, ⟨r1_6, P 5⟩, ⟨r1_5, P 4⟩, ⟨r1_4, P 3⟩, ⟨r1_3, P 2⟩, ⟨r1_2, P 1⟩, ⟨r1_1, P 0⟩]

/-- A column of the stored logarithms. -/
def lcol (x : Vec Ideal S1024x128 .f32) : Vec Ideal S1024x1 .f32 :=
  View.ld x (Rect.unit (s := S1024x128) ![0, 0] S1024x1.size Facts₀.inb_S1024x128_S1024x1_0_0)

/-- The chunks' gradients of the keys. -/
def dkP (x0 : Vec Ideal S1024x128 .bf16) (x1 x2 : Vec Ideal S8448x128 .bf16) (x3 x4 x5 : Vec Ideal S1024x128 .f32)
    (prev : ℕ → Vec Ideal S768x128 .f32) (c : ℕ) : FVec Ideal S768x128 .f32 :=
  dkL (prev c) x0 (chunk x1 c) (chunk x2 c) (lcol x4) x5 x3

/-- The chunks' gradients of the values. -/
def dvP (x0 : Vec Ideal S1024x128 .bf16) (x1 : Vec Ideal S8448x128 .bf16) (x4 x5 : Vec Ideal S1024x128 .f32)
    (prev : ℕ → Vec Ideal S768x128 .f32) (c : ℕ) : FVec Ideal S768x128 .f32 :=
  dvL (prev c) x0 (chunk x1 c) (lcol x4) x5

/-- The gradient of the tile after `c` chunks. -/
def dqP (x0 : Vec Ideal S1024x128 .bf16) (x1 x2 : Vec Ideal S8448x128 .bf16) (x3 x4 x5 : Vec Ideal S1024x128 .f32) :
    ℕ → FVec Ideal S1024x128 .f32
  | 0 => broadcast S1024x128 (Scalar.ofBits .f32 0x00000000#32)
  | c + 1 => dqL (dqP x0 x1 x2 x3 x4 x5 c) x0 (chunk x1 c) (chunk x2 c) (lcol x4) x5 x3

/-- The gradient of the tile, scaled by the logarithm of two. -/
def dqOut (x : FVec Ideal S1024x128 .f32) : FVec Ideal S1024x128 .f32 :=
  mulf x (broadcast S1024x128 (Named.named κ "ln2" 0x3F317218#32))

/-- Zeros, for the accumulators' start. -/
def zeroL : Vec Ideal S8448x128 .f32 := broadcast S8448x128 (Scalar.ofBits .f32 0x00000000#32 : Ideal .f32)

/-- The gradient of a head's keys, scaled by the logarithm of two. -/
def dkOut (x : FVec Ideal S8448x128 .f32) : FVec Ideal S8448x128 .f32 :=
  mulf (shapeCast S8448x128 x Facts₀.shapeCasts_S8448x128_S8448x128) (broadcast S8448x128 (Named.named κ "ln2" 0x3F317218#32))

set_option maxHeartbeats 4000000

section Cases

variable (c : Dev nD) (i : grid3.Coords) (a2 : Memref sig .tc .vmem S1024x128 .bf16) (h2 : a2.IsWhole) (a3 : Memref sig .tc .vmem S8448x128 .bf16) (h3 : a3.IsWhole) (a4 : Memref sig .tc .vmem S8448x128 .bf16) (h4 : a4.IsWhole) (a5 : Memref sig .tc .vmem S1024x128 .f32) (h5 : a5.IsWhole) (a6 : Memref sig .tc .vmem S1024x128 .f32) (h6 : a6.IsWhole) (a7 : Memref sig .tc .vmem S1024x128 .f32) (h7 : a7.IsWhole) (a8 : Memref sig .tc .vmem S1024x128 .f32) (h8 : a8.IsWhole) (a9 : Memref sig .tc .vmem S8448x128 .f32) (h9 : a9.IsWhole) (a10 : Memref sig .tc .vmem S8448x128 .f32) (h10 : a10.IsWhole)
  (x0 : Vec Ideal S1024x128 .bf16) (x1 x2 : Vec Ideal S8448x128 .bf16) (x3 x4 x5 : Vec Ideal S1024x128 .f32)
  (y7 y8 : Vec Ideal S8448x128 .f32)

theorem outA_6 (hc0 : cond3_0 i) (hc1 : ¬cond3_1 i) : out3_A_6 c i a2 h2 a3 h3 a4 h4 a5 h5 a6 h6 a7 h7 a8 h8 a9 h9 a10 h10 hc0 hc1 x0 x1 x2 x3 x4 x5
    = dqOut (dqP x0 x1 x2 x3 x4 x5 11) := by
  frame_out
  rfl

theorem outA_7 (hc0 : cond3_0 i) (hc1 : ¬cond3_1 i) : out3_A_7 c i a2 h2 a3 h3 a4 h4 a5 h5 a6 h6 a7 h7 a8 h8 a9 h9 a10 h10 hc0 hc1 x0 x1 x2 x3 x4 x5
    = View.canon (tiles (dkP x0 x1 x2 x3 x4 x5 (chunkF zeroL)) ++ [⟨Rect.unit (s := S8448x128) ![0, 0] S8448x128.size Facts₀.inb_S8448x128_S8448x128_0_0, zeroL⟩]) := by
  frame_out
  simp (disch := decide) only [↓ View.readCov_skip, ↓ View.readCov_cons_toLoadRect, ↓ View.readCov_fill]
  rfl

theorem outA_8 (hc0 : cond3_0 i) (hc1 : ¬cond3_1 i) : out3_A_8 c i a2 h2 a3 h3 a4 h4 a5 h5 a6 h6 a7 h7 a8 h8 a9 h9 a10 h10 hc0 hc1 x0 x1 x2 x3 x4 x5
    = View.canon (tiles (dvP x0 x1 x4 x5 (chunkF zeroL)) ++ [⟨Rect.unit (s := S8448x128) ![0, 0] S8448x128.size Facts₀.inb_S8448x128_S8448x128_0_0, zeroL⟩]) := by
  frame_out
  simp (disch := decide) only [↓ View.readCov_skip, ↓ View.readCov_cons_toLoadRect, ↓ View.readCov_fill]
  rfl

theorem outB_6 (hc0 : ¬cond3_0 i) (hc1 : ¬cond3_1 i) : out3_B_6 c i a2 h2 a3 h3 a4 h4 a5 h5 a6 h6 a7 h7 a8 h8 a9 h9 a10 h10 hc0 hc1 x0 x1 x2 x3 x4 x5 y7 y8
    = dqOut (dqP x0 x1 x2 x3 x4 x5 11) := by
  frame_out
  rfl

theorem outB_7 (hc0 : ¬cond3_0 i) (hc1 : ¬cond3_1 i) : out3_B_7 c i a2 h2 a3 h3 a4 h4 a5 h5 a6 h6 a7 h7 a8 h8 a9 h9 a10 h10 hc0 hc1 x0 x1 x2 x3 x4 x5 y7 y8
    = View.canon (tiles (dkP x0 x1 x2 x3 x4 x5 (chunkF y7))) := by
  frame_out
  rfl

theorem outB_8 (hc0 : ¬cond3_0 i) (hc1 : ¬cond3_1 i) : out3_B_8 c i a2 h2 a3 h3 a4 h4 a5 h5 a6 h6 a7 h7 a8 h8 a9 h9 a10 h10 hc0 hc1 x0 x1 x2 x3 x4 x5 y7 y8
    = View.canon (tiles (dvP x0 x1 x4 x5 (chunkF y8))) := by
  frame_out
  rfl

theorem outC_6 (hc0 : ¬cond3_0 i) (hc1 : cond3_1 i) : out3_C_6 c i a2 h2 a3 h3 a4 h4 a5 h5 a6 h6 a7 h7 a8 h8 a9 h9 a10 h10 hc0 hc1 x0 x1 x2 x3 x4 x5 y7 y8
    = dqOut (dqP x0 x1 x2 x3 x4 x5 11) := by
  frame_out
  rfl

theorem outC_7 (hc0 : ¬cond3_0 i) (hc1 : cond3_1 i) : out3_C_7 c i a2 h2 a3 h3 a4 h4 a5 h5 a6 h6 a7 h7 a8 h8 a9 h9 a10 h10 hc0 hc1 x0 x1 x2 x3 x4 x5 y7 y8
    = dkOut (fun j => View.canon (tiles (dkP x0 x1 x2 x3 x4 x5 (chunkF y7)))
        ((Rect.unit (s := S8448x128) ![0, 0] S8448x128.size Facts₀.inb_S8448x128_S8448x128_0_0).toLoadRect.idx j)) := by
  frame_out
  rw [View.readCov_eq_canon']
  rfl

theorem outC_8 (hc0 : ¬cond3_0 i) (hc1 : cond3_1 i) : out3_C_8 c i a2 h2 a3 h3 a4 h4 a5 h5 a6 h6 a7 h7 a8 h8 a9 h9 a10 h10 hc0 hc1 x0 x1 x2 x3 x4 x5 y7 y8
    = View.canon (tiles (dvP x0 x1 x4 x5 (chunkF y8))) := by
  frame_out
  rfl

end Cases

end Attn.Bwd

end
-- ==== Proof.BwdLatReal.lean ====
/- The values of what the backward kernel over the latent rows leaves at one grid point. -/
module

public import proofs.«01_k».proof.Proof.BwdLat

@[expose] public section

set_option maxRecDepth 16384

noncomputable section

namespace Attn.Bwd

open Idealize.ShloMosaic Idealize.ShloMosaic.TcCoe Finset
open Cert.KernelIdeal Cert.KernelIdeal.Gen

/-- The function that a matrix of reals is. -/
def toG (F : ℕ → ℕ → ℝ) : S8448x128.Idx → EReal := fun y => ((F (y 0).val (y 1).val : ℝ) : EReal)

theorem piece_real {x : FVec Ideal S768x128 .f32} {F : ℕ → ℕ → ℝ} (o : ℕ)
    (inb : ∀ a, (![o, 0] : Fin 2 → ℕ) a + S768x128.size a ≤ S8448x128.size a)
    (h : Re2 x fun j d => F (o + j) d) (z : (Rect.unit (s := S8448x128) ![o, 0] S768x128.size inb).shape.Idx) :
    x z = toG F ((Rect.unit (s := S8448x128) ![o, 0] S768x128.size inb).emb z) := by
  have e : x z = x (ix2 (z 0) (z 1)) := congrArg x (by funext a; fin_cases a <;> rfl)
  refine (e.trans (h (z 0) (z 1))).trans ?_
  unfold toG
  have e0 : (((Rect.unit (s := S8448x128) ![o, 0] S768x128.size inb).emb z) 0).val = o + (z 0).val := by
    rw [Rect.emb_apply]; show o + 1 * _ = _; rw [one_mul]
  have e1 : (((Rect.unit (s := S8448x128) ![o, 0] S768x128.size inb).emb z) 1).val = (z 1).val := by
    rw [Rect.emb_apply]; show 0 + 1 * _ = _; rw [one_mul, zero_add]
  rw [e0, e1]

/-- Eleven stored chunks, over anything stored before, hold what each chunk holds. -/
theorem re_tiles {P : ℕ → FVec Ideal S768x128 .f32} {F : ℕ → ℕ → ℝ} (T : List (View.Piece (Elt Ideal) S8448x128 .f32))
    (h : ∀ c < 11, Re2 (P c) fun j d => F (768 * c + j) d) : Re2 (φ := .f32) (View.canon (tiles P ++ T)) F := by
  have hp : View.PiecesOf (Val := Elt Ideal) (e := .f32) (toG F) (tiles P) := by
    unfold tiles
    exact ⟨piece_real 7680 Facts₀.inb_S8448x128_S768x128_7680_0 (h 10 (by norm_num)),
      piece_real 6912 Facts₀.inb_S8448x128_S768x128_6912_0 (h 9 (by norm_num)),
      piece_real 6144 Facts₀.inb_S8448x128_S768x128_6144_0 (h 8 (by norm_num)),
      piece_real 5376 Facts₀.inb_S8448x128_S768x128_5376_0 (h 7 (by norm_num)),
      piece_real 4608 Facts₀.inb_S8448x128_S768x128_4608_0 (h 6 (by norm_num)),
      piece_real 3840 Facts₀.inb_S8448x128_S768x128_3840_0 (h 5 (by norm_num)),
      piece_real 3072 Facts₀.inb_S8448x128_S768x128_3072_0 (h 4 (by norm_num)),
      piece_real 2304 Facts₀.inb_S8448x128_S768x128_2304_0 (h 3 (by norm_num)),
      piece_real 1536 Facts₀.inb_S8448x128_S768x128_1536_0 (h 2 (by norm_num)),
      piece_real 768 Facts₀.inb_S8448x128_S768x128_768_0 (h 1 (by norm_num)),
      piece_real 0 Facts₀.inb_S8448x128_S768x128_0_0 (h 0 (by norm_num)),
      trivial⟩
  intro i j
  exact View.canon_append_of_piecesOf (toG F) T (tiles P) hp (ix2 i j) (View.cover_of_tiled (tiles P) S768x128.size (by rfl) _)

theorem re_tiles' {P : ℕ → FVec Ideal S768x128 .f32} {F : ℕ → ℕ → ℝ}
    (h : ∀ c < 11, Re2 (P c) fun j d => F (768 * c + j) d) : Re2 (φ := .f32) (View.canon (tiles P)) F := by
  have := re_tiles [] h
  rwa [List.append_nil] at this

theorem zeroL_real : Re2 (φ := .f32) zeroL fun _ _ => 0 := fun i j => by
  unfold zeroL; pointwise; norm_num

section Values

variable {x0 : Vec Ideal S1024x128 .bf16} {x1 x2 : Vec Ideal S8448x128 .bf16} {x3 x4 x5 : Vec Ideal S1024x128 .f32}
  {f k v y w : ℕ → ℕ → ℝ} {L : ℕ → ℝ}

theorem lcol_real (h4 : Re2 (φ := .f32) x4 fun i _ => L i) : Re2 (φ := .f32) (lcol x4) fun i _ => L i := fun i j => by
  unfold lcol; pointwise; exact h4 _ _

theorem dkP_real {z : ℕ → ℕ → ℝ} {prev : Vec Ideal S8448x128 .f32} (hz : Re2 (φ := .f32) prev z)
    (h0 : Re2 (φ := .bf16) x0 f) (h1 : Re2 (φ := .bf16) x1 k) (h2 : Re2 (φ := .bf16) x2 v) (h3 : Re2 (φ := .f32) x3 y)
    (h4 : Re2 (φ := .f32) x4 fun i _ => L i) (h5 : Re2 (φ := .f32) x5 w) (c : ℕ) (hc : c < 11) :
    Re2 (dkP x0 x1 x2 x3 x4 x5 (chunkF prev) c)
      fun j d => (fun j d => z j d + ∑ i ∈ range 1024, gR f k v w y L i j * f i d) (768 * c + j) d :=
  dkL_real (chunkF_real hz c hc) h0 (chunk_real h1 c hc) (chunk_real h2 c hc) (lcol_real h4) h5 h3

theorem dvP_real {z : ℕ → ℕ → ℝ} {prev : Vec Ideal S8448x128 .f32} (hz : Re2 (φ := .f32) prev z)
    (h0 : Re2 (φ := .bf16) x0 f) (h1 : Re2 (φ := .bf16) x1 k)
    (h4 : Re2 (φ := .f32) x4 fun i _ => L i) (h5 : Re2 (φ := .f32) x5 w) (c : ℕ) (hc : c < 11) :
    Re2 (dvP x0 x1 x4 x5 (chunkF prev) c)
      fun j d => (fun j d => z j d + ∑ i ∈ range 1024, pR f k L i j * w i d) (768 * c + j) d :=
  dvL_real (chunkF_real hz c hc) h0 (chunk_real h1 c hc) (lcol_real h4) h5

theorem dqP_real (h0 : Re2 (φ := .bf16) x0 f) (h1 : Re2 (φ := .bf16) x1 k) (h2 : Re2 (φ := .bf16) x2 v)
    (h3 : Re2 (φ := .f32) x3 y) (h4 : Re2 (φ := .f32) x4 fun i _ => L i) (h5 : Re2 (φ := .f32) x5 w) (c : ℕ) (hc : c ≤ 11) :
    Re2 (dqP x0 x1 x2 x3 x4 x5 c) fun i d => ∑ j ∈ range (768 * c), gR f k v w y L i j * k j d := by
  induction c with
  | zero =>
    intro i d
    unfold dqP; pointwise; norm_num
  | succ c ih =>
    refine (dqL_real (ih (by omega)) h0 (chunk_real h1 c (by omega)) (chunk_real h2 c (by omega)) (lcol_real h4) h5 h3).congr
      fun i _ d _ => ?_
    rw [show 768 * (c + 1) = 768 * c + 768 by ring, sum_range_add]
    rfl

theorem dqOut_real (h0 : Re2 (φ := .bf16) x0 f) (h1 : Re2 (φ := .bf16) x1 k) (h2 : Re2 (φ := .bf16) x2 v)
    (h3 : Re2 (φ := .f32) x3 y) (h4 : Re2 (φ := .f32) x4 fun i _ => L i) (h5 : Re2 (φ := .f32) x5 w) :
    Re2 (dqOut (dqP x0 x1 x2 x3 x4 x5 11)) fun i d => (∑ j ∈ range 8448, gR f k v w y L i j * k j d) * Real.log 2 :=
  (dqP_real h0 h1 h2 h3 h4 h5 11 le_rfl).mul fun _ _ => named_ln2

theorem dkOut_real {x : FVec Ideal S8448x128 .f32} {F : ℕ → ℕ → ℝ} (hx : Re2 x F) :
    Re2 (dkOut (fun j => x ((Rect.unit (s := S8448x128) ![0, 0] S8448x128.size
      Facts₀.inb_S8448x128_S8448x128_0_0).toLoadRect.idx j))) fun j d => F j d * Real.log 2 := by
  refine Re2.mul (fun i j => ?_) fun _ _ => named_ln2
  pointwise
  exact hx i j

end Values

end Attn.Bwd

end
-- ==== Proof.ArrBwdLat.lean ====
/- What the backward call over the latent rows leaves in its result arrays, its keys' and values' gradients summed over the
   eight tiles of a head. -/
module

public import proofs.«01_k».proof.Proof.BwdDefs
public import proofs.«01_k».proof.Proof.BwdLatReal

@[expose] public section

set_option maxHeartbeats 1000000
set_option maxRecDepth 16384

noncomputable section

namespace Attn

open Idealize.ShloMosaic Finset
open Idealize.ShloMosaic.TcCoe
open Cert.KernelIdeal Cert.KernelIdeal.Gen
open Attn.Bwd

/-! ## The cases' values -/

section Cases

variable (c : Dev nD) (i : grid3.Coords) (a2 : Memref sig .tc .vmem S1024x128 .bf16) (m2 : a2.IsWhole) (a3 : Memref sig .tc .vmem S8448x128 .bf16) (m3 : a3.IsWhole) (a4 : Memref sig .tc .vmem S8448x128 .bf16) (m4 : a4.IsWhole) (a5 : Memref sig .tc .vmem S1024x128 .f32) (m5 : a5.IsWhole) (a6 : Memref sig .tc .vmem S1024x128 .f32) (m6 : a6.IsWhole) (a7 : Memref sig .tc .vmem S1024x128 .f32) (m7 : a7.IsWhole) (a8 : Memref sig .tc .vmem S1024x128 .f32) (m8 : a8.IsWhole) (a9 : Memref sig .tc .vmem S8448x128 .f32) (m9 : a9.IsWhole) (a10 : Memref sig .tc .vmem S8448x128 .f32) (m10 : a10.IsWhole)
  {x0 : Vec Ideal S1024x128 .bf16} {x1 x2 : Vec Ideal S8448x128 .bf16} {x3 x4 x5 : Vec Ideal S1024x128 .f32}
  {f k v y w : ℕ → ℕ → ℝ} {L : ℕ → ℝ}
  (h0 : Re2 (φ := .bf16) x0 f) (h1 : Re2 (φ := .bf16) x1 k) (h2 : Re2 (φ := .bf16) x2 v) (h3 : Re2 (φ := .f32) x3 y)
  (h4 : Re2 (φ := .f32) x4 fun i _ => L i) (h5 : Re2 (φ := .f32) x5 w)
  {y7 y8 : Vec Ideal S8448x128 .f32} {z : ℕ → ℕ → ℝ}
include h0 h1 h2 h3 h4 h5

theorem realA_6 (hc0 : cond3_0 i) (hc1 : ¬cond3_1 i) : Re2 (φ := .f32) (out3_A_6 c i a2 m2 a3 m3 a4 m4 a5 m5 a6 m6 a7 m7 a8 m8 a9 m9 a10 m10 hc0 hc1 x0 x1 x2 x3 x4 x5)
    fun i d => (∑ j ∈ range 8448, gR f k v w y L i j * k j d) * Real.log 2 := by
  rw [outA_6]; exact dqOut_real h0 h1 h2 h3 h4 h5

theorem realA_7 (hc0 : cond3_0 i) (hc1 : ¬cond3_1 i) : Re2 (φ := .f32) (out3_A_7 c i a2 m2 a3 m3 a4 m4 a5 m5 a6 m6 a7 m7 a8 m8 a9 m9 a10 m10 hc0 hc1 x0 x1 x2 x3 x4 x5)
    fun j d => 0 + ∑ i ∈ range 1024, gR f k v w y L i j * f i d := by
  rw [outA_7]; exact re_tiles _ (F := fun j d => 0 + ∑ i ∈ range 1024, gR f k v w y L i j * f i d) fun c hc => dkP_real zeroL_real h0 h1 h2 h3 h4 h5 c hc

theorem realA_8 (hc0 : cond3_0 i) (hc1 : ¬cond3_1 i) : Re2 (φ := .f32) (out3_A_8 c i a2 m2 a3 m3 a4 m4 a5 m5 a6 m6 a7 m7 a8 m8 a9 m9 a10 m10 hc0 hc1 x0 x1 x2 x3 x4 x5)
    fun j d => 0 + ∑ i ∈ range 1024, pR f k L i j * w i d := by
  rw [outA_8]; exact re_tiles _ (F := fun j d => 0 + ∑ i ∈ range 1024, pR f k L i j * w i d) fun c hc => dvP_real zeroL_real h0 h1 h4 h5 c hc

theorem realB_6 (hc0 : ¬cond3_0 i) (hc1 : ¬cond3_1 i) : Re2 (φ := .f32) (out3_B_6 c i a2 m2 a3 m3 a4 m4 a5 m5 a6 m6 a7 m7 a8 m8 a9 m9 a10 m10 hc0 hc1 x0 x1 x2 x3 x4 x5 y7 y8)
    fun i d => (∑ j ∈ range 8448, gR f k v w y L i j * k j d) * Real.log 2 := by
  rw [outB_6]; exact dqOut_real h0 h1 h2 h3 h4 h5

theorem realB_7 (hc0 : ¬cond3_0 i) (hc1 : ¬cond3_1 i) (hz : Re2 (φ := .f32) y7 z) : Re2 (φ := .f32) (out3_B_7 c i a2 m2 a3 m3 a4 m4 a5 m5 a6 m6 a7 m7 a8 m8 a9 m9 a10 m10 hc0 hc1 x0 x1 x2 x3 x4 x5 y7 y8)
    fun j d => z j d + ∑ i ∈ range 1024, gR f k v w y L i j * f i d := by
  rw [outB_7]; exact re_tiles' (F := fun j d => z j d + ∑ i ∈ range 1024, gR f k v w y L i j * f i d) fun c hc => dkP_real hz h0 h1 h2 h3 h4 h5 c hc

theorem realB_8 (hc0 : ¬cond3_0 i) (hc1 : ¬cond3_1 i) (hz : Re2 (φ := .f32) y8 z) : Re2 (φ := .f32) (out3_B_8 c i a2 m2 a3 m3 a4 m4 a5 m5 a6 m6 a7 m7 a8 m8 a9 m9 a10 m10 hc0 hc1 x0 x1 x2 x3 x4 x5 y7 y8)
    fun j d => z j d + ∑ i ∈ range 1024, pR f k L i j * w i d := by
  rw [outB_8]; exact re_tiles' (F := fun j d => z j d + ∑ i ∈ range 1024, pR f k L i j * w i d) fun c hc => dvP_real hz h0 h1 h4 h5 c hc

theorem realC_6 (hc0 : ¬cond3_0 i) (hc1 : cond3_1 i) : Re2 (φ := .f32) (out3_C_6 c i a2 m2 a3 m3 a4 m4 a5 m5 a6 m6 a7 m7 a8 m8 a9 m9 a10 m10 hc0 hc1 x0 x1 x2 x3 x4 x5 y7 y8)
    fun i d => (∑ j ∈ range 8448, gR f k v w y L i j * k j d) * Real.log 2 := by
  rw [outC_6]; exact dqOut_real h0 h1 h2 h3 h4 h5

theorem realC_7 (hc0 : ¬cond3_0 i) (hc1 : cond3_1 i) (hz : Re2 (φ := .f32) y7 z) : Re2 (φ := .f32) (out3_C_7 c i a2 m2 a3 m3 a4 m4 a5 m5 a6 m6 a7 m7 a8 m8 a9 m9 a10 m10 hc0 hc1 x0 x1 x2 x3 x4 x5 y7 y8)
    fun j d => (z j d + ∑ i ∈ range 1024, gR f k v w y L i j * f i d) * Real.log 2 := by
  rw [outC_7]; exact dkOut_real (re_tiles' (F := fun j d => z j d + ∑ i ∈ range 1024, gR f k v w y L i j * f i d) fun c hc => dkP_real hz h0 h1 h2 h3 h4 h5 c hc)

theorem realC_8 (hc0 : ¬cond3_0 i) (hc1 : cond3_1 i) (hz : Re2 (φ := .f32) y8 z) : Re2 (φ := .f32) (out3_C_8 c i a2 m2 a3 m3 a4 m4 a5 m5 a6 m6 a7 m7 a8 m8 a9 m9 a10 m10 hc0 hc1 x0 x1 x2 x3 x4 x5 y7 y8)
    fun j d => z j d + ∑ i ∈ range 1024, pR f k L i j * w i d := by
  rw [outC_8]; exact re_tiles' (F := fun j d => z j d + ∑ i ∈ range 1024, pR f k L i j * w i d) fun c hc => dvP_real hz h0 h1 h4 h5 c hc

end Cases

variable (V : (c : Dev nD) → (b : Ref sig .tc) → Buf (Elt Ideal) ((c.tc : Thread nD τ).loc b)) (c : Dev nD)
variable {f k v u y : ℕ → ℕ → ℝ} {L : ℕ → ℕ → ℝ}

/-! ## The latent rows -/

theorem idx3 : ∀ t : Fin cfg3.N, win3_0.index t = ![256 + 1024 * (t.val % 8), 128 * (t.val / 8)] ∧ win3_1.index t = ![0, t.val / 8]
    ∧ win3_2.index t = ![0, t.val / 8] ∧ win3_3.index t = ![t.val % 8, t.val / 8] ∧ win3_4.index t = ![t.val % 8, t.val / 8]
    ∧ win3_5.index t = ![256 + 1024 * (t.val % 8), 128 * (t.val / 8)] ∧ win3_6.index t = ![t.val % 8, t.val / 8] ∧ win3_7.index t = ![0, t.val / 8] ∧ win3_8.index t = ![0, t.val / 8] :=
  (by decide +kernel : ∀ t : Fin grid3.N, _)

theorem blk3_0 (h : Re2 (φ := .bf16) (V c main_v9) f) (t : Fin cfg3.N) :
    Re2 (φ := .bf16) (a := 1024) (b := 128) (iblk3 V c 0 t) (hd f (256 + 1024 * (t.val % 8)) (t.val / 8)) := fun i j => by
  blk_simp [iblk3]
  have e0 : (((win3_0.blk t).view.emb (ValueIdx.ix2 i j)) 0).val = win3_0.index t 0 + i.val :=
    ValueKit.view_emb_slice_whole_unit_val main_v9 (cc3_transform_0 (grid3.coords t)) S1024x128.size (Facts₀.hinbE3_0 _) (ValueIdx.ix2 i j) 0
  have e1 : (((win3_0.blk t).view.emb (ValueIdx.ix2 i j)) 1).val = win3_0.index t 1 + j.val :=
    ValueKit.view_emb_slice_whole_unit_val main_v9 (cc3_transform_0 (grid3.coords t)) S1024x128.size (Facts₀.hinbE3_0 _) (ValueIdx.ix2 i j) 1
  refine (h.at ((win3_0.blk t).view.emb (ValueIdx.ix2 i j))).trans ?_
  rw [e0, e1, (idx3 t).1]
  rfl

theorem blk3_1 (h : Re2 (φ := .bf16) (V c main_v13) k) (t : Fin cfg3.N) :
    Re2 (φ := .bf16) (a := 8448) (b := 128) (iblk3 V c 1 t) (hd k 0 (t.val / 8)) := fun i j => by
  blk_simp [iblk3]
  refine (h.at _).trans ?_
  blk_simp [idx3 t]
  unfold hd; congr 2 <;> ring

theorem blk3_2 (h : Re2 (φ := .bf16) (V c main_v17) v) (t : Fin cfg3.N) :
    Re2 (φ := .bf16) (a := 8448) (b := 128) (iblk3 V c 2 t) (hd v 0 (t.val / 8)) := fun i j => by
  blk_simp [iblk3]
  refine (h.at _).trans ?_
  blk_simp [idx3 t]
  unfold hd; congr 2 <;> ring

theorem blk3_3 (h : Re2 (φ := .f32) (V c main_v19_0) y) (t : Fin cfg3.N) :
    Re2 (φ := .f32) (a := 1024) (b := 128) (iblk3 V c 3 t) (hd y (0 + 1024 * (t.val % 8)) (t.val / 8)) := fun i j => by
  blk_simp [iblk3]
  refine (h.at _).trans ?_
  blk_simp [idx3 t]
  unfold hd; congr 2 <;> ring

theorem blk3_4 (h : Re2 (φ := .f32) (V c main_v19_1) fun r l => L (l / 128) r) (t : Fin cfg3.N) :
    Re2 (φ := .f32) (a := 1024) (b := 128) (iblk3 V c 4 t) (fun i _ => L (t.val / 8) (1024 * (t.val % 8) + i)) := fun i j => by
  blk_simp [iblk3]
  refine (h.at _).trans ?_
  blk_simp [idx3 t]
  rw [col_div j.isLt, mul_comm _ 1024]

theorem blk3_5 (h : Re2 (φ := .f32) (V c main_v23) u) (t : Fin cfg3.N) :
    Re2 (φ := .f32) (a := 1024) (b := 128) (iblk3 V c 5 t) (hd u (256 + 1024 * (t.val % 8)) (t.val / 8)) := fun i j => by
  blk_simp [iblk3]
  have e0 : (((win3_5.blk t).view.emb (ValueIdx.ix2 i j)) 0).val = win3_5.index t 0 + i.val :=
    ValueKit.view_emb_slice_whole_unit_val main_v23 (cc3_transform_5 (grid3.coords t)) S1024x128.size (Facts₀.hinbE3_5 _) (ValueIdx.ix2 i j) 0
  have e1 : (((win3_5.blk t).view.emb (ValueIdx.ix2 i j)) 1).val = win3_5.index t 1 + j.val :=
    ValueKit.view_emb_slice_whole_unit_val main_v23 (cc3_transform_5 (grid3.coords t)) S1024x128.size (Facts₀.hinbE3_5 _) (ValueIdx.ix2 i j) 1
  refine (h.at ((win3_5.blk t).view.emb (ValueIdx.ix2 i j))).trans ?_
  rw [e0, e1, (idx3 t).2.2.2.2.2.1]
  rfl

section Lat

variable (h0 : Re2 (φ := .bf16) (V c main_v9) f) (h1 : Re2 (φ := .bf16) (V c main_v13) k) (h2 : Re2 (φ := .bf16) (V c main_v17) v)
  (h3 : Re2 (φ := .f32) (V c main_v19_0) y) (h4 : Re2 (φ := .f32) (V c main_v19_1) fun r l => L (l / 128) r)
  (h5 : Re2 (φ := .f32) (V c main_v23) u)
include h0 h1 h2 h3 h4 h5

/-- Whatever the tile, the gradient of its queries. -/
theorem out3_6 (t : Fin cfg3.N) : Re2 (φ := .f32) (outsAt3 V c t.val t.isLt).1
    fun i d => dqG f k v u y L 8448 256 (t.val / 8) (1024 * (t.val % 8) + i) d := by
  have b0 := blk3_0 V c h0 t
  have b1 := blk3_1 V c h1 t
  have b2 := blk3_2 V c h2 t
  have b3 := blk3_3 V c h3 t
  have b4 := blk3_4 V c h4 t
  have b5 := blk3_5 V c h5 t
  by_cases t0 : t.val % 8 = 0
  · rw [outsAt3_A V c t t0 (by omega)]
    dsimp only
    refine Re2.congr (realA_6 _ _ _ _ _ _ _ _ _ _ _ _ _ _ _ _ _ _ _ _ b0 b1 b2 b3 b4 b5 _ _) fun i _ d _ => ?_
    unfold dqG; simp only [gG_shift]
  · by_cases t1 : t.val % 8 = 7
    · rw [outsAt3_C V c t t0 t1]
      dsimp only
      refine Re2.congr (realC_6 _ _ _ _ _ _ _ _ _ _ _ _ _ _ _ _ _ _ _ _ b0 b1 b2 b3 b4 b5 _ _) fun i _ d _ => ?_
      unfold dqG; simp only [gG_shift]
    · rw [outsAt3_B V c t t0 t1]
      dsimp only
      refine Re2.congr (realB_6 _ _ _ _ _ _ _ _ _ _ _ _ _ _ _ _ _ _ _ _ b0 b1 b2 b3 b4 b5 _ _) fun i _ d _ => ?_
      unfold dqG; simp only [gG_shift]

/-- The gradients of the keys and values accumulated up to a tile; the keys' is scaled at a head's last tile. -/
theorem out3_78 (n : ℕ) (hn : n < cfg3.N) :
    Re2 (φ := .f32) (outsAt3 V c n hn).2.1
        (fun j d => dkG f k v u y L (1024 * (n % 8) + 1024) 256 (n / 8) j d * if n % 8 = 7 then Real.log 2 else 1) ∧
      Re2 (φ := .f32) (outsAt3 V c n hn).2.2 (fun j d => dvG f k u L (1024 * (n % 8) + 1024) 256 (n / 8) j d) := by
  induction n using Nat.strongRecOn with
  | ind n ih =>
    obtain ⟨t, rfl⟩ : ∃ t : Fin cfg3.N, t.val = n := ⟨⟨n, hn⟩, rfl⟩
    have b0 := blk3_0 V c h0 t
    have b1 := blk3_1 V c h1 t
    have b2 := blk3_2 V c h2 t
    have b3 := blk3_3 V c h3 t
    have b4 := blk3_4 V c h4 t
    have b5 := blk3_5 V c h5 t
    by_cases t0 : t.val % 8 = 0
    · have n7 : ¬ t.val % 8 = 7 := by omega
      rw [outsAt3_A V c t t0 n7]
      dsimp only
      constructor
      · refine Re2.congr (realA_7 _ _ _ _ _ _ _ _ _ _ _ _ _ _ _ _ _ _ _ _ b0 b1 b2 b3 b4 b5 _ _) fun j _ d _ => ?_
        rw [if_neg n7, mul_one, ← dkG_step]
        have z : dkG f k v u y L (1024 * (t.val % 8)) 256 (t.val / 8) j d = 0 := by rw [t0]; rfl
        rw [z]
      · refine Re2.congr (realA_8 _ _ _ _ _ _ _ _ _ _ _ _ _ _ _ _ _ _ _ _ b0 b1 b2 b3 b4 b5 _ _) fun j _ d _ => ?_
        rw [← dvG_step]
        have z : dvG f k u L (1024 * (t.val % 8)) 256 (t.val / 8) j d = 0 := by rw [t0]; rfl
        rw [z]
    · obtain ⟨p7, p8⟩ := ih (t.val - 1) (by omega) (by omega)
      rw [show (t.val - 1) / 8 = t.val / 8 by omega, show 1024 * ((t.val - 1) % 8) + 1024 = 1024 * (t.val % 8) by omega] at p7 p8
      replace p7 := p7.congr (g := dkG f k v u y L (1024 * (t.val % 8)) 256 (t.val / 8)) fun j _ d _ => by
        rw [if_neg (by omega), mul_one]
      by_cases t1 : t.val % 8 = 7
      · rw [outsAt3_C V c t t0 t1]
        dsimp only
        constructor
        · refine Re2.congr (realC_7 _ _ _ _ _ _ _ _ _ _ _ _ _ _ _ _ _ _ _ _ b0 b1 b2 b3 b4 b5 _ _ p7) fun j _ d _ => ?_
          rw [if_pos t1, ← dkG_step]
        · refine Re2.congr (realC_8 _ _ _ _ _ _ _ _ _ _ _ _ _ _ _ _ _ _ _ _ b0 b1 b2 b3 b4 b5 _ _ p8) fun j _ d _ => ?_
          rw [← dvG_step]
      · rw [outsAt3_B V c t t0 t1]
        dsimp only
        constructor
        · refine Re2.congr (realB_7 _ _ _ _ _ _ _ _ _ _ _ _ _ _ _ _ _ _ _ _ b0 b1 b2 b3 b4 b5 _ _ p7) fun j _ d _ => ?_
          rw [if_neg t1, mul_one, ← dkG_step]
        · refine Re2.congr (realB_8 _ _ _ _ _ _ _ _ _ _ _ _ _ _ _ _ _ _ _ _ b0 b1 b2 b3 b4 b5 _ _ p8) fun j _ d _ => ?_
          rw [← dvG_step]

theorem arr3_6 : Re2 (φ := .f32) (a := 8192) (b := 1024) ((dat3 V c).arrAt 6 cfg3.N)
    fun r l => dqG f k v u y L 8448 256 (l / 128) r (l % 128) := fun i j => by
  refine (dat3 V c).arrAt_forall_of_covers 6
    (fun z w => w = ((dqG f k v u y L 8448 256 ((z 1).val / 128) (z 0).val ((z 1).val % 128) : ℝ) : EReal))
    (by decide +kernel) (fun t hf x => ?_) (ValueIdx.ix2 i j)
  blk_simp [idx3 t]
  rw [after3_6, col_div (x 1).isLt, col_mod (x 1).isLt]
  refine ((out3_6 V c h0 h1 h2 h3 h4 h5 t).at x).trans ?_
  rw [mul_comm _ 1024]

theorem arr3_7 : Re2 (φ := .f32) (a := 8448) (b := 1024) ((dat3 V c).arrAt 7 cfg3.N)
    fun r l => dkG f k v u y L 8192 256 (l / 128) r (l % 128) * Real.log 2 := fun i j => by
  refine (dat3 V c).arrAt_forall_of_covers 7
    (fun z w => w = ((dkG f k v u y L 8192 256 ((z 1).val / 128) (z 0).val ((z 1).val % 128) * Real.log 2 : ℝ) : EReal))
    (by decide +kernel) (fun t hf x => ?_) (ValueIdx.ix2 i j)
  have h7 := (flush3_7 t).mp hf
  blk_simp [idx3 t]
  rw [after3_7, col_div (x 1).isLt, col_mod (x 1).isLt]
  refine ((out3_78 V c h0 h1 h2 h3 h4 h5 t.val t.isLt).1.at x).trans ?_
  rw [if_pos h7, h7]

theorem arr3_8 : Re2 (φ := .f32) (a := 8448) (b := 1024) ((dat3 V c).arrAt 8 cfg3.N)
    fun r l => dvG f k u L 8192 256 (l / 128) r (l % 128) := fun i j => by
  refine (dat3 V c).arrAt_forall_of_covers 8
    (fun z w => w = ((dvG f k u L 8192 256 ((z 1).val / 128) (z 0).val ((z 1).val % 128) : ℝ) : EReal))
    (by decide +kernel) (fun t hf x => ?_) (ValueIdx.ix2 i j)
  have h7 := (flush3_8 t).mp hf
  blk_simp [idx3 t]
  rw [after3_8, col_div (x 1).isLt, col_mod (x 1).isLt]
  refine ((out3_78 V c h0 h1 h2 h3 h4 h5 t.val t.isLt).2.at x).trans ?_
  rw [h7]

end Lat

end Attn
-- ==== Proof.BwdCtx.lean ====
/- What the backward kernel over the context rows leaves for one head: the gradients of its 256 query rows, keys and
   values. -/
module

public import proofs.«01_k».proof.Proof.BwdStep
public import proofs.«01_k».proof.Proof.Gen.KernelIdeal.Frame.Region2
public import Idealize.ShloMosaic.Lib.Pipeline.ValueKit
public import Idealize.ShloMosaic.Lib.Pipeline.ReadBack

@[expose] public section

set_option maxRecDepth 16384

noncomputable section

namespace Attn.Bwd

open Idealize.ShloMosaic Idealize.ShloMosaic.TcCoe Finset
open Cert.KernelIdeal Cert.KernelIdeal.Gen

/-- A column of the stored logarithms. -/
def lcolC (x : Vec Ideal S256x128 .f32) : Vec Ideal S256x1 .f32 :=
  View.ld x (Rect.unit (s := S256x128) ![0, 0] S256x1.size Facts₀.inb_S256x128_S256x1_0_0)

def zeroC : FVec Ideal S256x128 .f32 := broadcast S256x128 (Scalar.ofBits .f32 0x00000000#32)

/-- A gradient, scaled by the logarithm of two. -/
def outC (x : FVec Ideal S256x128 .f32) : FVec Ideal S256x128 .f32 :=
  mulf x (broadcast S256x128 (Named.named κ "ln2" 0x3F317218#32))

section Cases

variable (c : Dev nD) (i : grid2.Coords) (a2 : Memref sig .tc .vmem S256x128 .bf16) (h2 : a2.IsWhole) (a3 : Memref sig .tc .vmem S256x128 .bf16) (h3 : a3.IsWhole) (a4 : Memref sig .tc .vmem S256x128 .bf16) (h4 : a4.IsWhole) (a5 : Memref sig .tc .vmem S256x128 .f32) (h5 : a5.IsWhole) (a6 : Memref sig .tc .vmem S256x128 .f32) (h6 : a6.IsWhole) (a7 : Memref sig .tc .vmem S256x128 .f32) (h7 : a7.IsWhole) (a8 : Memref sig .tc .vmem S256x128 .f32) (h8 : a8.IsWhole) (a9 : Memref sig .tc .vmem S256x128 .f32) (h9 : a9.IsWhole) (a10 : Memref sig .tc .vmem S256x128 .f32) (h10 : a10.IsWhole)
  (hc0 : cond2_0 i) (hc1 : cond2_1 i)
  (x0 x1 x2 : Vec Ideal S256x128 .bf16) (x3 x4 x5 : Vec Ideal S256x128 .f32)

theorem outCtx_6 : out2_A_6 c i a2 h2 a3 h3 a4 h4 a5 h5 a6 h6 a7 h7 a8 h8 a9 h9 a10 h10 hc0 hc1 x0 x1 x2 x3 x4 x5
    = outC (dqC zeroC x0 x1 x2 (lcolC x4) x5 x3) := by
  frame_out
  rfl

theorem outCtx_7 : out2_A_7 c i a2 h2 a3 h3 a4 h4 a5 h5 a6 h6 a7 h7 a8 h8 a9 h9 a10 h10 hc0 hc1 x0 x1 x2 x3 x4 x5
    = outC (shapeCast S256x128 (dkC zeroC x0 x1 x2 (lcolC x4) x5 x3) Facts₀.shapeCasts_S256x128_S256x128) := by
  frame_out
  rfl

theorem outCtx_8 : out2_A_8 c i a2 h2 a3 h3 a4 h4 a5 h5 a6 h6 a7 h7 a8 h8 a9 h9 a10 h10 hc0 hc1 x0 x1 x2 x3 x4 x5
    = dvC zeroC x0 x1 (lcolC x4) x5 := by
  frame_out
  rfl

end Cases

section Values

variable {x0 x1 x2 : Vec Ideal S256x128 .bf16} {x3 x4 x5 : Vec Ideal S256x128 .f32}
  {f k v y w : ℕ → ℕ → ℝ} {L : ℕ → ℝ}

theorem zeroC_real : Re2 zeroC fun _ _ => 0 := fun i j => by
  unfold zeroC; pointwise; norm_num

theorem lcolC_real (h4 : Re2 (φ := .f32) x4 fun i _ => L i) : Re2 (φ := .f32) (lcolC x4) fun i _ => L i := fun i j => by
  unfold lcolC; pointwise; exact h4 _ _

theorem dqCtx_real (h0 : Re2 (φ := .bf16) x0 f) (h1 : Re2 (φ := .bf16) x1 k) (h2 : Re2 (φ := .bf16) x2 v)
    (h3 : Re2 (φ := .f32) x3 y) (h4 : Re2 (φ := .f32) x4 fun i _ => L i) (h5 : Re2 (φ := .f32) x5 w) :
    Re2 (outC (dqC zeroC x0 x1 x2 (lcolC x4) x5 x3)) fun i d => (∑ j ∈ range 256, gR f k v w y L i j * k j d) * Real.log 2 :=
  ((dqC_real zeroC_real h0 h1 h2 (lcolC_real h4) h5 h3).mul fun _ _ => named_ln2).congr fun _ _ _ _ => by rw [zero_add]

theorem dkCtx_real (h0 : Re2 (φ := .bf16) x0 f) (h1 : Re2 (φ := .bf16) x1 k) (h2 : Re2 (φ := .bf16) x2 v)
    (h3 : Re2 (φ := .f32) x3 y) (h4 : Re2 (φ := .f32) x4 fun i _ => L i) (h5 : Re2 (φ := .f32) x5 w) :
    Re2 (outC (shapeCast S256x128 (dkC zeroC x0 x1 x2 (lcolC x4) x5 x3) Facts₀.shapeCasts_S256x128_S256x128))
      fun j d => (∑ i ∈ range 256, gR f k v w y L i j * f i d) * Real.log 2 :=
  ((re_cast_q256 (dkC_real zeroC_real h0 h1 h2 (lcolC_real h4) h5 h3)).mul fun _ _ => named_ln2).congr
    fun _ _ _ _ => by rw [zero_add]

theorem dvCtx_real (h0 : Re2 (φ := .bf16) x0 f) (h1 : Re2 (φ := .bf16) x1 k)
    (h4 : Re2 (φ := .f32) x4 fun i _ => L i) (h5 : Re2 (φ := .f32) x5 w) :
    Re2 (dvC zeroC x0 x1 (lcolC x4) x5) fun j d => ∑ i ∈ range 256, pR f k L i j * w i d :=
  (dvC_real zeroC_real h0 h1 (lcolC_real h4) h5).congr fun _ _ _ _ => by rw [zero_add]

end Values

end Attn.Bwd

end
-- ==== Proof.ArrBwdCtx.lean ====
/- What the backward call over the context rows leaves in its result arrays. -/
module

public import proofs.«01_k».proof.Proof.BwdDefs
public import proofs.«01_k».proof.Proof.BwdCtx

@[expose] public section

set_option maxHeartbeats 1000000
set_option maxRecDepth 16384

noncomputable section

namespace Attn

open Idealize.ShloMosaic Finset
open Idealize.ShloMosaic.TcCoe
open Cert.KernelIdeal Cert.KernelIdeal.Gen
open Attn.Bwd

/-! ## The case's values -/

section Cases

variable (c : Dev nD) (i : grid2.Coords) (a2 : Memref sig .tc .vmem S256x128 .bf16) (m2 : a2.IsWhole) (a3 : Memref sig .tc .vmem S256x128 .bf16) (m3 : a3.IsWhole) (a4 : Memref sig .tc .vmem S256x128 .bf16) (m4 : a4.IsWhole) (a5 : Memref sig .tc .vmem S256x128 .f32) (m5 : a5.IsWhole) (a6 : Memref sig .tc .vmem S256x128 .f32) (m6 : a6.IsWhole) (a7 : Memref sig .tc .vmem S256x128 .f32) (m7 : a7.IsWhole) (a8 : Memref sig .tc .vmem S256x128 .f32) (m8 : a8.IsWhole) (a9 : Memref sig .tc .vmem S256x128 .f32) (m9 : a9.IsWhole) (a10 : Memref sig .tc .vmem S256x128 .f32) (m10 : a10.IsWhole)
  (hc0 : cond2_0 i) (hc1 : cond2_1 i)
  {x0 x1 x2 : Vec Ideal S256x128 .bf16} {x3 x4 x5 : Vec Ideal S256x128 .f32}
  {f k v y w : ℕ → ℕ → ℝ} {L : ℕ → ℝ}
  (h0 : Re2 (φ := .bf16) x0 f) (h1 : Re2 (φ := .bf16) x1 k) (h2 : Re2 (φ := .bf16) x2 v) (h3 : Re2 (φ := .f32) x3 y)
  (h4 : Re2 (φ := .f32) x4 fun i _ => L i) (h5 : Re2 (φ := .f32) x5 w)
include h0 h1 h2 h3 h4 h5

theorem realCtx_6 : Re2 (φ := .f32) (out2_A_6 c i a2 m2 a3 m3 a4 m4 a5 m5 a6 m6 a7 m7 a8 m8 a9 m9 a10 m10 hc0 hc1 x0 x1 x2 x3 x4 x5)
    fun i d => (∑ j ∈ range 256, gR f k v w y L i j * k j d) * Real.log 2 := by
  rw [outCtx_6]; exact dqCtx_real h0 h1 h2 h3 h4 h5

theorem realCtx_7 : Re2 (φ := .f32) (out2_A_7 c i a2 m2 a3 m3 a4 m4 a5 m5 a6 m6 a7 m7 a8 m8 a9 m9 a10 m10 hc0 hc1 x0 x1 x2 x3 x4 x5)
    fun j d => (∑ i ∈ range 256, gR f k v w y L i j * f i d) * Real.log 2 := by
  rw [outCtx_7]; exact dkCtx_real h0 h1 h2 h3 h4 h5

theorem realCtx_8 : Re2 (φ := .f32) (out2_A_8 c i a2 m2 a3 m3 a4 m4 a5 m5 a6 m6 a7 m7 a8 m8 a9 m9 a10 m10 hc0 hc1 x0 x1 x2 x3 x4 x5)
    fun j d => ∑ i ∈ range 256, pR f k L i j * w i d := by
  rw [outCtx_8]; exact dvCtx_real h0 h1 h4 h5

end Cases

variable (V : (c : Dev nD) → (b : Ref sig .tc) → Buf (Elt Ideal) ((c.tc : Thread nD τ).loc b)) (c : Dev nD)
variable {f k v u y : ℕ → ℕ → ℝ} {L : ℕ → ℕ → ℝ}

/-! ## The context rows -/

theorem idx2 : ∀ t : Fin cfg2.N, win2_0.index t = ![0, 128 * t.val] ∧ win2_1.index t = ![0, t.val]
    ∧ win2_2.index t = ![0, t.val] ∧ win2_3.index t = ![0, t.val] ∧ win2_4.index t = ![0, t.val]
    ∧ win2_5.index t = ![0, 128 * t.val] ∧ win2_6.index t = ![0, t.val] ∧ win2_7.index t = ![0, t.val] ∧ win2_8.index t = ![0, t.val] :=
  (by decide +kernel : ∀ t : Fin grid2.N, _)

theorem blk2_0 (h : Re2 (φ := .bf16) (V c main_v9) f) (t : Fin cfg2.N) :
    Re2 (φ := .bf16) (a := 256) (b := 128) (iblk2 V c 0 t) (hd f 0 t.val) := fun i j => by
  blk_simp [iblk2]
  have e0 : (((win2_0.blk t).view.emb (ValueIdx.ix2 i j)) 0).val = win2_0.index t 0 + i.val :=
    ValueKit.view_emb_slice_whole_unit_val main_v9 (cc2_transform_0 (grid2.coords t)) S256x128.size (Facts₀.hinbE2_0 _) (ValueIdx.ix2 i j) 0
  have e1 : (((win2_0.blk t).view.emb (ValueIdx.ix2 i j)) 1).val = win2_0.index t 1 + j.val :=
    ValueKit.view_emb_slice_whole_unit_val main_v9 (cc2_transform_0 (grid2.coords t)) S256x128.size (Facts₀.hinbE2_0 _) (ValueIdx.ix2 i j) 1
  refine (h.at ((win2_0.blk t).view.emb (ValueIdx.ix2 i j))).trans ?_
  rw [e0, e1, (idx2 t).1]
  unfold hd; congr 2

theorem blk2_1 (h : Re2 (φ := .bf16) (V c main_v13) k) (t : Fin cfg2.N) :
    Re2 (φ := .bf16) (a := 256) (b := 128) (iblk2 V c 1 t) (hd k 0 t.val) := fun i j => by
  blk_simp [iblk2]
  refine (h.at _).trans ?_
  blk_simp [idx2 t]
  unfold hd; congr 2 <;> ring

theorem blk2_2 (h : Re2 (φ := .bf16) (V c main_v17) v) (t : Fin cfg2.N) :
    Re2 (φ := .bf16) (a := 256) (b := 128) (iblk2 V c 2 t) (hd v 0 t.val) := fun i j => by
  blk_simp [iblk2]
  refine (h.at _).trans ?_
  blk_simp [idx2 t]
  unfold hd; congr 2 <;> ring

theorem blk2_3 (h : Re2 (φ := .f32) (V c main_v18_0) y) (t : Fin cfg2.N) :
    Re2 (φ := .f32) (a := 256) (b := 128) (iblk2 V c 3 t) (hd y 0 t.val) := fun i j => by
  blk_simp [iblk2]
  refine (h.at _).trans ?_
  blk_simp [idx2 t]
  unfold hd; congr 2 <;> ring

theorem blk2_4 (h : Re2 (φ := .f32) (V c main_v18_1) fun r l => L (l / 128) r) (t : Fin cfg2.N) :
    Re2 (φ := .f32) (a := 256) (b := 128) (iblk2 V c 4 t) (fun i _ => L t.val i) := fun i j => by
  blk_simp [iblk2]
  refine (h.at _).trans ?_
  blk_simp [idx2 t]
  rw [col_div j.isLt]

theorem blk2_5 (h : Re2 (φ := .f32) (V c main_v23) u) (t : Fin cfg2.N) :
    Re2 (φ := .f32) (a := 256) (b := 128) (iblk2 V c 5 t) (hd u 0 t.val) := fun i j => by
  blk_simp [iblk2]
  have e0 : (((win2_5.blk t).view.emb (ValueIdx.ix2 i j)) 0).val = win2_5.index t 0 + i.val :=
    ValueKit.view_emb_slice_whole_unit_val main_v23 (cc2_transform_5 (grid2.coords t)) S256x128.size (Facts₀.hinbE2_5 _) (ValueIdx.ix2 i j) 0
  have e1 : (((win2_5.blk t).view.emb (ValueIdx.ix2 i j)) 1).val = win2_5.index t 1 + j.val :=
    ValueKit.view_emb_slice_whole_unit_val main_v23 (cc2_transform_5 (grid2.coords t)) S256x128.size (Facts₀.hinbE2_5 _) (ValueIdx.ix2 i j) 1
  refine (h.at ((win2_5.blk t).view.emb (ValueIdx.ix2 i j))).trans ?_
  rw [e0, e1, (idx2 t).2.2.2.2.2.1]
  unfold hd; congr 2

section Ctx

variable (h0 : Re2 (φ := .bf16) (V c main_v9) f) (h1 : Re2 (φ := .bf16) (V c main_v13) k) (h2 : Re2 (φ := .bf16) (V c main_v17) v)
  (h3 : Re2 (φ := .f32) (V c main_v18_0) y) (h4 : Re2 (φ := .f32) (V c main_v18_1) fun r l => L (l / 128) r)
  (h5 : Re2 (φ := .f32) (V c main_v23) u)
include h0 h1 h2 h3 h4 h5

theorem arr2_6 : Re2 (φ := .f32) (a := 256) (b := 1024) ((dat2 V c).arrAt 6 cfg2.N)
    fun r l => dqG f k v u y L 256 0 (l / 128) r (l % 128) := fun i j => by
  refine (dat2 V c).arrAt_forall_of_covers 6
    (fun z w => w = ((dqG f k v u y L 256 0 ((z 1).val / 128) (z 0).val ((z 1).val % 128) : ℝ) : EReal))
    (by decide +kernel) (fun t hf x => ?_) (ValueIdx.ix2 i j)
  blk_simp [idx2 t]
  rw [after2_6, col_div (x 1).isLt, col_mod (x 1).isLt]
  have r : Re2 (φ := .f32) (outsAt2 V c t).1
      fun i d => dqG f k v u y L 256 0 t.val i d := by
    unfold outsAt2
    dsimp only
    exact realCtx_6 _ _ _ _ _ _ _ _ _ _ _ _ _ _ _ _ _ _ _ _ _ _ (blk2_0 V c h0 t) (blk2_1 V c h1 t) (blk2_2 V c h2 t) (blk2_3 V c h3 t) (blk2_4 V c h4 t)
      (blk2_5 V c h5 t)
  exact r.at x

theorem arr2_7 : Re2 (φ := .f32) (a := 256) (b := 1024) ((dat2 V c).arrAt 7 cfg2.N)
    fun r l => dkG f k v u y L 256 0 (l / 128) r (l % 128) * Real.log 2 := fun i j => by
  refine (dat2 V c).arrAt_forall_of_covers 7
    (fun z w => w = ((dkG f k v u y L 256 0 ((z 1).val / 128) (z 0).val ((z 1).val % 128) * Real.log 2 : ℝ) : EReal))
    (by decide +kernel) (fun t hf x => ?_) (ValueIdx.ix2 i j)
  blk_simp [idx2 t]
  rw [after2_7, col_div (x 1).isLt, col_mod (x 1).isLt]
  have r : Re2 (φ := .f32) (outsAt2 V c t).2.1
      fun j d => dkG f k v u y L 256 0 t.val j d * Real.log 2 := by
    unfold outsAt2
    dsimp only
    exact realCtx_7 _ _ _ _ _ _ _ _ _ _ _ _ _ _ _ _ _ _ _ _ _ _ (blk2_0 V c h0 t) (blk2_1 V c h1 t) (blk2_2 V c h2 t) (blk2_3 V c h3 t) (blk2_4 V c h4 t)
      (blk2_5 V c h5 t)
  exact r.at x

theorem arr2_8 : Re2 (φ := .f32) (a := 256) (b := 1024) ((dat2 V c).arrAt 8 cfg2.N)
    fun r l => dvG f k u L 256 0 (l / 128) r (l % 128) := fun i j => by
  refine (dat2 V c).arrAt_forall_of_covers 8
    (fun z w => w = ((dvG f k u L 256 0 ((z 1).val / 128) (z 0).val ((z 1).val % 128) : ℝ) : EReal))
    (by decide +kernel) (fun t hf x => ?_) (ValueIdx.ix2 i j)
  blk_simp [idx2 t]
  rw [after2_8, col_div (x 1).isLt, col_mod (x 1).isLt]
  have r : Re2 (φ := .f32) (outsAt2 V c t).2.2
      fun j d => dvG f k u L 256 0 t.val j d := by
    unfold outsAt2
    dsimp only
    exact realCtx_8 _ _ _ _ _ _ _ _ _ _ _ _ _ _ _ _ _ _ _ _ _ _ (blk2_0 V c h0 t) (blk2_1 V c h1 t) (blk2_2 V c h2 t) (blk2_3 V c h3 t) (blk2_4 V c h4 t)
      (blk2_5 V c h5 t)
  exact r.at x

end Ctx

end Attn
-- ==== Proof.KernelIn.lean ====
/- The arrays the calls read, over the kernel's arguments, and what each call leaves, as real numbers. -/
module

public import proofs.«01_k».proof.Proof.HostMove
public import proofs.«01_k».proof.Proof.ArrBwdLat
public import proofs.«01_k».proof.Proof.ArrBwdCtx

@[expose] public section

set_option maxRecDepth 16384

noncomputable section

namespace Attn

open Idealize.ShloMosaic Finset
open Idealize.ShloMosaic.TcCoe
open Cert.KernelIdeal Cert.KernelIdeal.Gen

variable (m : (ℓ : Loc nD τ sig) → Buf (Elt Ideal) ℓ) (ρ : Dev nD → PrngReg) (c : Dev nD)

/-! ## The host's arrays -/

theorem w7_v9 : W7 m ρ c (Proc.devRef .tc main_v9)
    = truncf .bf16 (mulf (rows96 (m ((c : Thread nD τ).loc main_arg0))) scaleB) Facts₀.bitsLt_bf16_f32 := by
  unfold_abbrev_sides
  after_results_simp
  rfl

theorem w7_v13 : W7 m ρ c (Proc.devRef .tc main_v13)
    = truncf .bf16 (rows96 (m ((c : Thread nD τ).loc main_arg1))) Facts₀.bitsLt_bf16_f32 := by
  unfold_abbrev_sides
  after_results_simp
  rfl

theorem w7_v17 : W7 m ρ c (Proc.devRef .tc main_v17)
    = truncf .bf16 (rows64 (m ((c : Thread nD τ).loc main_arg2))) Facts₀.bitsLt_bf16_f32 := by
  unfold_abbrev_sides
  after_results_simp
  rfl

theorem w7_v3 : W7 m ρ c (Proc.devRef .tc main_v3) = scaleS := by
  unfold_abbrev_sides
  after_results_simp
  rfl

theorem w12_v23 : W12 m ρ c (Proc.devRef .tc main_v23) = rows64 (W9 m ρ c (Proc.devRef .tc main_arg3)) := by
  unfold_abbrev_sides
  after_results_simp
  rfl

theorem w12_v20 : W12 m ρ c (Proc.devRef .tc main_v20)
    = stack (W9 m ρ c (Proc.devRef .tc main_v18_0)) (W9 m ρ c (Proc.devRef .tc main_v19_0)) := by
  unfold_abbrev_sides
  after_results_simp
  rfl

theorem w19_v33 : W19 m ρ c (Proc.devRef .tc main_v33) = heads64 (W14 m ρ c (Proc.devRef .tc main_v20)) := by
  unfold_abbrev_sides
  after_results_simp
  rfl

theorem w19_v38 : W19 m ρ c (Proc.devRef .tc main_v38)
    = heads96 (mulf (stack (W14 m ρ c (Proc.devRef .tc main_v24_0)) (W14 m ρ c (Proc.devRef .tc main_v25_0)))
      (broadcastInDim S8448x1024 ![] Facts₀.bcast_S_S8448x1024 (W14 m ρ c (Proc.devRef .tc main_v3)))) := by
  unfold_abbrev_sides
  after_results_simp
  rfl

theorem w19_v41 : W19 m ρ c (Proc.devRef .tc main_v41)
    = heads96 (addf (W14 m ρ c (Proc.devRef .tc main_v25_1)) (fill (W14 m ρ c (Proc.devRef .tc main_v24_1)))) := by
  unfold_abbrev_sides
  after_results_simp
  rfl

theorem w19_v44 : W19 m ρ c (Proc.devRef .tc main_v44)
    = heads64 (addf (W14 m ρ c (Proc.devRef .tc main_v25_2)) (fill (W14 m ρ c (Proc.devRef .tc main_v24_2)))) := by
  unfold_abbrev_sides
  after_results_simp
  rfl

/-! ## What passes through the calls unchanged -/

theorem w8_keep (r : Ref sig .tc) (h : ∀ w : Fin cfg0.W, Pipeline.arrRef spec0 w = r → (cfg0.win w).isOut = false) :
    W8 m ρ c (Proc.devRef .tc r) = W7 m ρ c (Proc.devRef .tc r) := W8_of m ρ c r h

/-- The arrays of the forward calls' inputs reach the backward calls as they were. -/
theorem w12_keep (r : Ref sig .tc) (h9 : ∀ w : Fin cfg1.W, Pipeline.arrRef spec1 w = r → (cfg1.win w).isOut = false)
    (h10 : r ∉ hostOps2_W) (h11 : r ∉ hostOps2_1_W) (h12 : r ∉ hostOps2_2_W) :
    W12 m ρ c (Proc.devRef .tc r) = W8 m ρ c (Proc.devRef .tc r) := by
  rw [W12_of m ρ c r h12, W11_of m ρ c r h11, W10_of m ρ c r h10, W9_of m ρ c r h9]

end Attn
-- ==== Proof.KernelOut.lean ====
/- The kernel's four results over real arguments: the calls' sums at every head, row and lane. -/
module

public import proofs.«01_k».proof.Proof.KernelIn

@[expose] public section

set_option maxRecDepth 16384

noncomputable section

namespace Attn

open Idealize.ShloMosaic Finset
open Idealize.ShloMosaic.TcCoe
open Cert.KernelIdeal Cert.KernelIdeal.Gen

/-- The scaled queries. -/
def fQ (q : ℕ → ℕ → ℕ → ℝ) : ℕ → ℕ → ℝ := fun r l => lanes 96 q r l * sc

variable (q k v u : ℕ → ℕ → ℕ → ℝ)

/-- The output at the context rows and at the latent rows. -/
def yC : ℕ → ℕ → ℝ := fun r l => avg (fQ q) (lanes 96 k) (lanes 64 v) 256 0 (l / 128) r (l % 128)
def yL : ℕ → ℕ → ℝ := fun r l => avg (fQ q) (lanes 96 k) (lanes 64 v) 8448 256 (l / 128) r (l % 128)

/-- The logarithm of the softmax's sum at the context rows and at the latent rows. -/
def logC : ℕ → ℕ → ℝ := lg (fQ q) (lanes 96 k) 256 0
def logL : ℕ → ℕ → ℝ := lg (fQ q) (lanes 96 k) 8448 256

def dqC : ℕ → ℕ → ℝ := fun r l =>
  dqG (fQ q) (lanes 96 k) (lanes 64 v) (lanes 64 u) (yC q k v) (logC q k) 256 0 (l / 128) r (l % 128)
def dqL : ℕ → ℕ → ℝ := fun r l =>
  dqG (fQ q) (lanes 96 k) (lanes 64 v) (lanes 64 u) (yL q k v) (logL q k) 8448 256 (l / 128) r (l % 128)
def dkC : ℕ → ℕ → ℝ := fun r l =>
  dkG (fQ q) (lanes 96 k) (lanes 64 v) (lanes 64 u) (yC q k v) (logC q k) 256 0 (l / 128) r (l % 128) * Real.log 2
def dkL : ℕ → ℕ → ℝ := fun r l =>
  dkG (fQ q) (lanes 96 k) (lanes 64 v) (lanes 64 u) (yL q k v) (logL q k) 8192 256 (l / 128) r (l % 128) * Real.log 2
def dvC : ℕ → ℕ → ℝ := fun r l => dvG (fQ q) (lanes 96 k) (lanes 64 u) (logC q k) 256 0 (l / 128) r (l % 128)
def dvL : ℕ → ℕ → ℝ := fun r l => dvG (fQ q) (lanes 96 k) (lanes 64 u) (logL q k) 8192 256 (l / 128) r (l % 128)

variable (m : (ℓ : Loc nD τ sig) → Buf (Elt Ideal) ℓ) (ρ : Dev nD → PrngReg) (c : Dev nD)

section Run

variable {q k v u}
variable (hq : Re3 (φ := .f32) (m ((c : Thread nD τ).loc main_arg0)) q) (hk : Re3 (φ := .f32) (m ((c : Thread nD τ).loc main_arg1)) k)
  (hv : Re3 (φ := .f32) (m ((c : Thread nD τ).loc main_arg2)) v) (hu : Re3 (φ := .f32) (m ((c : Thread nD τ).loc main_arg3)) u)

section Inputs

include hq in
theorem r7_v9 : Re2 (φ := .bf16) (V7 m ρ c main_v9) (fQ q) :=
  Re2.of_eq (w7_v9 m ρ c) (((rows96_real hq).mul scaleB_real).truncf)

include hk in
theorem r7_v13 : Re2 (φ := .bf16) (V7 m ρ c main_v13) (lanes 96 k) :=
  Re2.of_eq (w7_v13 m ρ c) (rows96_real hk).truncf

include hv in
theorem r7_v17 : Re2 (φ := .bf16) (V7 m ρ c main_v17) (lanes 64 v) :=
  Re2.of_eq (w7_v17 m ρ c) (rows64_real hv).truncf

include hq in
theorem r8_v9 : Re2 (φ := .bf16) (V8 m ρ c main_v9) (fQ q) :=
  Re2.of_eq (w8_keep m ρ c main_v9 (by decide)) (r7_v9 m ρ c hq)

include hk in
theorem r8_v13 : Re2 (φ := .bf16) (V8 m ρ c main_v13) (lanes 96 k) :=
  Re2.of_eq (w8_keep m ρ c main_v13 (by decide)) (r7_v13 m ρ c hk)

include hv in
theorem r8_v17 : Re2 (φ := .bf16) (V8 m ρ c main_v17) (lanes 64 v) :=
  Re2.of_eq (w8_keep m ρ c main_v17 (by decide)) (r7_v17 m ρ c hv)

include hq in
theorem r12_v9 : Re2 (φ := .bf16) (V12 m ρ c main_v9) (fQ q) :=
  Re2.of_eq (w12_keep m ρ c main_v9 (by decide) (by decide) (by decide) (by decide)) (r8_v9 m ρ c hq)

include hk in
theorem r12_v13 : Re2 (φ := .bf16) (V12 m ρ c main_v13) (lanes 96 k) :=
  Re2.of_eq (w12_keep m ρ c main_v13 (by decide) (by decide) (by decide) (by decide)) (r8_v13 m ρ c hk)

include hv in
theorem r12_v17 : Re2 (φ := .bf16) (V12 m ρ c main_v17) (lanes 64 v) :=
  Re2.of_eq (w12_keep m ρ c main_v17 (by decide) (by decide) (by decide) (by decide)) (r8_v17 m ρ c hv)

include hq in
theorem r13_v9 : Re2 (φ := .bf16) (V13 m ρ c main_v9) (fQ q) :=
  Re2.of_eq (W13_of m ρ c main_v9 (by decide)) (r12_v9 m ρ c hq)

include hk in
theorem r13_v13 : Re2 (φ := .bf16) (V13 m ρ c main_v13) (lanes 96 k) :=
  Re2.of_eq (W13_of m ρ c main_v13 (by decide)) (r12_v13 m ρ c hk)

include hv in
theorem r13_v17 : Re2 (φ := .bf16) (V13 m ρ c main_v17) (lanes 64 v) :=
  Re2.of_eq (W13_of m ρ c main_v17 (by decide)) (r12_v17 m ρ c hv)

include hu in
theorem r12_v23 : Re2 (φ := .f32) (V12 m ρ c main_v23) (lanes 64 u) := by
  refine Re2.of_eq (w12_v23 m ρ c) ?_
  rw [W9_args m ρ c main_arg3 (by decide)]
  exact rows64_real hu

include hu in
theorem r13_v23 : Re2 (φ := .f32) (V13 m ρ c main_v23) (lanes 64 u) :=
  Re2.of_eq (W13_of m ρ c main_v23 (by decide)) (r12_v23 m ρ c hu)

end Inputs

section Forward

include hq hk hv

theorem r8_y : Re2 (φ := .f32) (W8 m ρ c (Proc.devRef .tc main_v18_0)) (yC q k v) :=
  Re2.of_eq (W8_arr m ρ c 3) (arr0_3 _ c (r7_v9 m ρ c hq) (r7_v13 m ρ c hk) (r7_v17 m ρ c hv))

theorem r8_l : Re2 (φ := .f32) (W8 m ρ c (Proc.devRef .tc main_v18_1)) fun r l => logC q k (l / 128) r :=
  Re2.of_eq (W8_arr m ρ c 4) (arr0_4 _ c (r7_v9 m ρ c hq) (r7_v13 m ρ c hk) (r7_v17 m ρ c hv))

theorem r9_y : Re2 (φ := .f32) (W9 m ρ c (Proc.devRef .tc main_v19_0)) (yL q k v) :=
  Re2.of_eq (W9_arr m ρ c 3) (arr1_3 _ c (r8_v9 m ρ c hq) (r8_v13 m ρ c hk) (r8_v17 m ρ c hv))

theorem r9_l : Re2 (φ := .f32) (W9 m ρ c (Proc.devRef .tc main_v19_1)) fun r l => logL q k (l / 128) r :=
  Re2.of_eq (W9_arr m ρ c 4) (arr1_4 _ c (r8_v9 m ρ c hq) (r8_v13 m ρ c hk) (r8_v17 m ρ c hv))

theorem r12_y : Re2 (φ := .f32) (V12 m ρ c main_v18_0) (yC q k v) :=
  Re2.of_eq (w12_keep m ρ c main_v18_0 (by decide) (by decide) (by decide) (by decide)) (r8_y m ρ c hq hk hv)

theorem r12_l : Re2 (φ := .f32) (V12 m ρ c main_v18_1) fun r l => logC q k (l / 128) r :=
  Re2.of_eq (w12_keep m ρ c main_v18_1 (by decide) (by decide) (by decide) (by decide)) (r8_l m ρ c hq hk hv)

theorem w13_keep (r : Ref sig .tc) (h13 : ∀ w : Fin cfg2.W, Pipeline.arrRef spec2 w = r → (cfg2.win w).isOut = false)
    (h10 : r ∉ hostOps2_W) (h11 : r ∉ hostOps2_1_W) (h12 : r ∉ hostOps2_2_W) :
    W13 m ρ c (Proc.devRef .tc r) = W9 m ρ c (Proc.devRef .tc r) := by
  rw [W13_of m ρ c r h13, W12_of m ρ c r h12, W11_of m ρ c r h11, W10_of m ρ c r h10]

theorem r13_y : Re2 (φ := .f32) (V13 m ρ c main_v19_0) (yL q k v) :=
  Re2.of_eq (w13_keep m ρ c hq hk hv main_v19_0 (by decide) (by decide) (by decide) (by decide)) (r9_y m ρ c hq hk hv)

theorem r13_l : Re2 (φ := .f32) (V13 m ρ c main_v19_1) fun r l => logL q k (l / 128) r :=
  Re2.of_eq (w13_keep m ρ c hq hk hv main_v19_1 (by decide) (by decide) (by decide) (by decide)) (r9_l m ρ c hq hk hv)

/-- The output. -/
theorem out_y : Re3 (φ := .f32) (W19 m ρ c (Proc.devRef .tc main_v33))
    fun h i d => below 256 (yC q k v) (yL q k v) i (128 * h + d) := by
  have e : W14 m ρ c (Proc.devRef .tc main_v20)
      = stack (W8 m ρ c (Proc.devRef .tc main_v18_0)) (W9 m ρ c (Proc.devRef .tc main_v19_0)) := by
    rw [W14_of m ρ c main_v20 (by decide), W13_of m ρ c main_v20 (by decide), w12_v20, W9_of m ρ c main_v18_0 (by decide)]
  rw [w19_v33, e]
  exact heads64_real (stack_real (r8_y m ρ c hq hk hv) (r9_y m ρ c hq hk hv))

end Forward

section Backward

include hq hk hv hu

theorem r14_dqC : Re2 (φ := .f32) (W14 m ρ c (Proc.devRef .tc main_v24_0)) (dqC q k v u) := by
  rw [W14_of m ρ c main_v24_0 (by decide)]
  exact Re2.of_eq (W13_arr m ρ c 6) (arr2_6 _ c (r12_v9 m ρ c hq) (r12_v13 m ρ c hk) (r12_v17 m ρ c hv)
    (r12_y m ρ c hq hk hv) (r12_l m ρ c hq hk hv) (r12_v23 m ρ c hu))

theorem r14_dkC : Re2 (φ := .f32) (W14 m ρ c (Proc.devRef .tc main_v24_1)) (dkC q k v u) := by
  rw [W14_of m ρ c main_v24_1 (by decide)]
  exact Re2.of_eq (W13_arr m ρ c 7) (arr2_7 _ c (r12_v9 m ρ c hq) (r12_v13 m ρ c hk) (r12_v17 m ρ c hv)
    (r12_y m ρ c hq hk hv) (r12_l m ρ c hq hk hv) (r12_v23 m ρ c hu))

theorem r14_dvC : Re2 (φ := .f32) (W14 m ρ c (Proc.devRef .tc main_v24_2)) (dvC q k u) := by
  rw [W14_of m ρ c main_v24_2 (by decide)]
  exact Re2.of_eq (W13_arr m ρ c 8) (arr2_8 _ c (r12_v9 m ρ c hq) (r12_v13 m ρ c hk) (r12_v17 m ρ c hv)
    (r12_y m ρ c hq hk hv) (r12_l m ρ c hq hk hv) (r12_v23 m ρ c hu))

theorem r14_dqL : Re2 (φ := .f32) (W14 m ρ c (Proc.devRef .tc main_v25_0)) (dqL q k v u) :=
  Re2.of_eq (W14_arr m ρ c 6) (arr3_6 _ c (r13_v9 m ρ c hq) (r13_v13 m ρ c hk) (r13_v17 m ρ c hv)
    (r13_y m ρ c hq hk hv) (r13_l m ρ c hq hk hv) (r13_v23 m ρ c hu))

theorem r14_dkL : Re2 (φ := .f32) (W14 m ρ c (Proc.devRef .tc main_v25_1)) (dkL q k v u) :=
  Re2.of_eq (W14_arr m ρ c 7) (arr3_7 _ c (r13_v9 m ρ c hq) (r13_v13 m ρ c hk) (r13_v17 m ρ c hv)
    (r13_y m ρ c hq hk hv) (r13_l m ρ c hq hk hv) (r13_v23 m ρ c hu))

theorem r14_dvL : Re2 (φ := .f32) (W14 m ρ c (Proc.devRef .tc main_v25_2)) (dvL q k u) :=
  Re2.of_eq (W14_arr m ρ c 8) (arr3_8 _ c (r13_v9 m ρ c hq) (r13_v13 m ρ c hk) (r13_v17 m ρ c hv)
    (r13_y m ρ c hq hk hv) (r13_l m ρ c hq hk hv) (r13_v23 m ρ c hu))

/-- The gradient of the queries. -/
theorem out_dq : Re3 (φ := .f32) (W19 m ρ c (Proc.devRef .tc main_v38))
    fun h i d => below 256 (dqC q k v u) (dqL q k v u) i (128 * h + d) * sc := by
  have e : W14 m ρ c (Proc.devRef .tc main_v3) = scaleS := by
    rw [W14_of m ρ c main_v3 (by decide), W13_of m ρ c main_v3 (by decide),
      w12_keep m ρ c main_v3 (by decide) (by decide) (by decide) (by decide), w8_keep m ρ c main_v3 (by decide), w7_v3]
  rw [w19_v38, e]
  exact heads96_real ((stack_real (r14_dqC m ρ c hq hk hv hu) (r14_dqL m ρ c hq hk hv hu)).mul scaleB_real)

/-- The gradient of the keys. -/
theorem out_dk : Re3 (φ := .f32) (W19 m ρ c (Proc.devRef .tc main_v41))
    fun h j d => dkL q k v u j (128 * h + d) + below 256 (dkC q k v u) (fun _ _ => 0) j (128 * h + d) := by
  rw [w19_v41]
  exact heads96_real ((r14_dkL m ρ c hq hk hv hu).add (fill_real (r14_dkC m ρ c hq hk hv hu)))

/-- The gradient of the values. -/
theorem out_dv : Re3 (φ := .f32) (W19 m ρ c (Proc.devRef .tc main_v44))
    fun h j d => dvL q k u j (128 * h + d) + below 256 (dvC q k u) (fun _ _ => 0) j (128 * h + d) := by
  rw [w19_v44]
  exact heads64_real ((r14_dvL m ρ c hq hk hv hu).add (fill_real (r14_dvC m ρ c hq hk hv hu)))

end Backward

end Run

end Attn
-- ==== Proof.Plain.lean ====
/- The attention's mathematics over the reals, for heads `h`, rows `i` and keys `j`: what the reference computes. -/
module

public import proofs.«01_k».proof.Proof.HostMove
public import Idealize.ShloMosaic.PureOps.Reduce
public import Idealize.ShloMosaic.PureOps.Ideal.Laws

@[expose] public section

noncomputable section

namespace Attn.Plain

open Idealize.ShloMosaic Finset

/-- The scores, the softmax over `n` keys, the gradient of the softmax's values and of the scores. -/
def score (q k : ℕ → ℕ → ℕ → ℝ) (h i j : ℕ) : ℝ := (∑ d ∈ range 96, q h i d * k h j d) / Real.sqrt 96
def prob (n : ℕ) (q k : ℕ → ℕ → ℕ → ℝ) (h i j : ℕ) : ℝ :=
  Real.exp (score q k h i j) / ∑ t ∈ range n, Real.exp (score q k h i t)
def dprob (u v : ℕ → ℕ → ℕ → ℝ) (h i j : ℕ) : ℝ := ∑ d ∈ range 64, u h i d * v h j d
def dscore (n : ℕ) (q k v u : ℕ → ℕ → ℕ → ℝ) (h i j : ℕ) : ℝ :=
  prob n q k h i j * (dprob u v h i j - ∑ t ∈ range n, prob n q k h i t * dprob u v h i t)

/-- The gradient of the products of queries and keys. -/
def dprod (n : ℕ) (q k v u : ℕ → ℕ → ℕ → ℝ) (h i j : ℕ) : ℝ := dscore n q k v u h i j / Real.sqrt 96

/-- The attention of row `i` over `n` keys. -/
def outF (n : ℕ) (q k v : ℕ → ℕ → ℕ → ℝ) (h i d : ℕ) : ℝ := ∑ j ∈ range n, prob n q k h i j * v h j d
/-- The gradient of row `i` of the queries. -/
def dqF (n : ℕ) (q k v u : ℕ → ℕ → ℕ → ℝ) (h i d : ℕ) : ℝ :=
  (∑ j ∈ range n, dscore n q k v u h i j * k h j d) / Real.sqrt 96
/-- What the `n'` rows from row `r` on add to the gradients of key `j` and of value `j`. -/
def dkF (n r n' : ℕ) (q k v u : ℕ → ℕ → ℕ → ℝ) (h j d : ℕ) : ℝ :=
  (∑ i ∈ range n', dscore n q k v u h (r + i) j * q h (r + i) d) / Real.sqrt 96
def dvF (n r n' : ℕ) (q k u : ℕ → ℕ → ℕ → ℝ) (h j d : ℕ) : ℝ :=
  ∑ i ∈ range n', prob n q k h (r + i) j * u h (r + i) d

theorem sqrt96 : Real.sqrt 96 ≠ 0 := (Real.sqrt_pos.2 (by norm_num)).ne'

/-- The softmax is that of the shifted scores. -/
theorem prob_shift (n : ℕ) (s : ℕ → ℝ) (μ : ℝ) (j : ℕ) :
    Real.exp (s j - μ) / ∑ t ∈ range n, Real.exp (s t - μ) = Real.exp (s j) / ∑ t ∈ range n, Real.exp (s t) := by
  have e : ∀ t, Real.exp (s t - μ) = Real.exp (s t) * Real.exp (-μ) := fun t => by rw [← Real.exp_add, sub_eq_add_neg]
  simp only [e, ← sum_mul]
  exact mul_div_mul_right _ _ (Real.exp_pos _).ne'

/-- The gradient of the scores, as the derivative of the quotient of `e` by its sum `z` states it. -/
theorem dscore_eq (n : ℕ) (e a : ℕ → ℝ) (z : ℝ) (hz : z ≠ 0) (j : ℕ) :
    (a j / z + -(∑ t ∈ range n, a t * (1 / (z * z)) * e t)) * e j
      = e j / z * (a j - ∑ t ∈ range n, e t / z * a t) := by
  have h : ∑ t ∈ range n, a t * (1 / (z * z)) * e t = (∑ t ∈ range n, e t / z * a t) / z := by
    rw [sum_div]; exact sum_congr rfl fun t _ => by field_simp
  rw [h]; field_simp; ring

section Ops

/-- The array `x` holds `f` at every index. -/
def At3 {a b c : ℕ} (x : FVec Ideal ⟨3, ![a, b, c]⟩ .f32) (f : ℕ → ℕ → ℕ → ℝ) : Prop :=
  ∀ i, x i = ((f (i 0).val (i 1).val (i 2).val : ℝ) : EReal)
def At2 {a b : ℕ} (x : FVec Ideal ⟨2, ![a, b]⟩ .f32) (f : ℕ → ℕ → ℝ) : Prop :=
  ∀ i, x i = ((f (i 0).val (i 1).val : ℝ) : EReal)

theorem At3.of {a b c : ℕ} {x : FVec Ideal ⟨3, ![a, b, c]⟩ .f32} {f : ℕ → ℕ → ℕ → ℝ} (h : Re3 x f) : At3 x f := fun i => by
  have e : i = ValueIdx.ix3 (i 0) (i 1) (i 2) := funext fun t => by
    match t with
    | ⟨0, _⟩ => rfl
    | ⟨1, _⟩ => rfl
    | ⟨2, _⟩ => rfl
  exact (congrArg x e).trans (h _ _ _)

theorem At3.re {a b c : ℕ} {x : FVec Ideal ⟨3, ![a, b, c]⟩ .f32} {f : ℕ → ℕ → ℕ → ℝ} (h : At3 x f) : Re3 x f :=
  fun i j k => h (ValueIdx.ix3 i j k)

/-- The entry at an index, said by any expression equal to the entry's. -/
theorem At3.get {a b c : ℕ} {x : FVec Ideal ⟨3, ![a, b, c]⟩ .f32} {f : ℕ → ℕ → ℕ → ℝ} (h : At3 x f)
    (i : (⟨3, ![a, b, c]⟩ : Shape).Idx) {r : ℝ} (e : f (i 0).val (i 1).val (i 2).val = r) : x i = ((r : ℝ) : EReal) :=
  (h i).trans (congrArg _ e)

variable {x y : ℝ}

theorem hdiv (h : y ≠ 0) : (FloatOps.hostDivf (x : EReal) (y : EReal) : Ideal .f32) = ((x / y : ℝ) : EReal) := by
  rw [Ideal.hostDivf_def, Ideal.div_coe h, ← EReal.coe_mul, mul_one_div]
theorem hmul : (FloatOps.mulf (x : EReal) (y : EReal) : Ideal .f32) = ((x * y : ℝ) : EReal) := by
  rw [Ideal.mulf_def, ← EReal.coe_mul]
theorem hadd : (FloatOps.addf (x : EReal) (y : EReal) : Ideal .f32) = ((x + y : ℝ) : EReal) := by
  rw [Ideal.addf_def, ← EReal.coe_add]
theorem hsub : (FloatOps.subf (x : EReal) (y : EReal) : Ideal .f32) = ((x - y : ℝ) : EReal) := by
  rw [Ideal.subf_def, ← EReal.coe_sub]
theorem hneg : (FloatOps.hostNegf (x : EReal) : Ideal .f32) = ((-x : ℝ) : EReal) := by
  rw [Ideal.hostNegf_def, Ideal.negf_def, ← EReal.coe_neg]
theorem hexp : (FloatOps.hostUnary .exp (x : EReal) : Ideal .f32) = ((Real.exp x : ℝ) : EReal) := by
  rw [Ideal.hostUnary_exp_def, Ideal.exp_coe]
theorem word_bot : (FloatOps.ofBits .f32 0xFF800000#32 : Ideal .f32) = (⊥ : EReal) := by
  show Ideal.ofBits .f32 0xFF800000#32 = _
  simp [Ideal.ofBits, Ideal.ieee]
theorem word_zero : (FloatOps.ofBits .f32 0x00000000#32 : Ideal .f32) = ((0 : ℝ) : EReal) := by
  show Ideal.ofBits .f32 0x00000000#32 = _
  simp [Ideal.ofBits, Ideal.ieee]
theorem word_one : (FloatOps.ofBits .f32 0x3F800000#32 : Ideal .f32) = ((1 : ℝ) : EReal) := by
  show Ideal.ofBits .f32 0x3F800000#32 = _
  simp [Ideal.ofBits, Ideal.ieee, -EReal.coe_mul]; norm_num
theorem word_sqrt : (FloatOps.hostUnary .sqrt (FloatOps.ofBits .f32 0x42C00000#32) : Ideal .f32)
    = ((Real.sqrt 96 : ℝ) : EReal) := by
  rw [Ideal.hostUnary_sqrt_def, show (FloatOps.ofBits .f32 0x42C00000#32 : Ideal .f32) = ((96 : ℝ) : EReal) from ofBits_96,
    Ideal.sqrt_coe, if_neg (by norm_num)]
theorem max_bot : (FloatOps.maximumf (⊥ : EReal) (x : EReal) : Ideal .f32) = ((x : ℝ) : EReal) := by
  rw [Ideal.maximumf_def]; exact max_eq_right bot_le

theorem sum_co {n : ℕ} {F : Fin n → EReal} {f : ℕ → ℝ} (h : ∀ t, F t = ((f t : ℝ) : EReal)) :
    ∑ t, F t = ((∑ t ∈ range n, f t : ℝ) : EReal) := by
  rw [← coe_sum_range]
  exact sum_congr rfl fun t _ => h t

theorem dot_co {n : ℕ} {F G : Fin n → EReal} {f g : ℕ → ℝ} (h : ∀ t, F t = ((f t : ℝ) : EReal))
    (h' : ∀ t, G t = ((g t : ℝ) : EReal)) : ∑ t, F t * G t = ((∑ t ∈ range n, f t * g t : ℝ) : EReal) :=
  sum_co fun t => by rw [h, h', ← EReal.coe_mul]

/-- The greatest of finitely many reals, at least one, is a real. -/
theorem fold_real {ι : Type} [DecidableEq ι] (s : Finset ι) (x : ι → Ideal .f32) (h : ∀ i, ∃ r : ℝ, x i = (r : EReal)) :
    (s = ∅ ∧ s.fold (FloatOps.maximumf (F := Ideal) (φ := .f32)) (⊥ : EReal) x = (⊥ : EReal))
      ∨ ∃ r : ℝ, s.fold (FloatOps.maximumf (F := Ideal) (φ := .f32)) (⊥ : EReal) x = (r : EReal) := by
  induction s using Finset.induction_on with
  | empty => exact Or.inl ⟨rfl, rfl⟩
  | insert a s ha ih =>
    obtain ⟨r, hr⟩ := h a
    right
    rw [Finset.fold_insert ha, hr, Ideal.maximumf_def]
    rcases ih with ⟨_, e⟩ | ⟨t, e⟩
    · exact ⟨r, by rw [e]; exact max_eq_left bot_le⟩
    · exact ⟨Max.max r t, by rw [e]; exact (EReal.coe_strictMono.monotone.map_max).symm⟩

theorem reduce_real {a b c : ℕ} (hc : 0 < c) {x : FVec Ideal ⟨3, ![a, b, c]⟩ .f32} {f : ℕ → ℕ → ℕ → ℝ} (hx : At3 x f)
    (init : FVec Ideal ⟨0, ![]⟩ .f32) (hi : ∀ i, init i = (⊥ : EReal))
    (h' : (⟨3, ![a, b, c]⟩ : Shape).ReducesTo [2] ⟨2, ![a, b]⟩) (h : (⟨3, ![a, b, c]⟩ : Shape).Reduces [2] ⟨2, ![a, b]⟩)
    (hu : 0 < (⟨0, ![]⟩ : Shape).numel) :
    ∃ μ : ℕ → ℕ → ℝ, At2 (Host.reduce (FloatOps.maximumf (F := Ideal) (φ := .f32)) x init h' hu) μ := by
  have hr : ∀ j, ∃ r : ℝ, Host.reduce (FloatOps.maximumf (F := Ideal) (φ := .f32)) x init h' hu j = (r : EReal) := fun j => by
    rw [Host.reduce_eq_fold_single _ x init h' h hu j, hi]
    rcases fold_real univ (x ∘ h.lift j) (fun i => ⟨_, hx _⟩) with ⟨e, _⟩ | e
    · exact absurd (Finset.mem_univ (⟨0, hc⟩ : Fin c)) (by
        have : (Finset.univ : Finset (Fin c)) = ∅ := e
        rw [this]; simp)
    · exact e
  choose R hR using hr
  refine ⟨fun i j => if hj : i < a ∧ j < b then R (ValueIdx.ix2 ⟨i, hj.1⟩ ⟨j, hj.2⟩) else 0, fun j => ?_⟩
  have e : j = ValueIdx.ix2 (j 0) (j 1) := funext fun t => by
    match t with
    | ⟨0, _⟩ => rfl
    | ⟨1, _⟩ => rfl
  beta_reduce
  rw [dif_pos ⟨(j 0).isLt, (j 1).isLt⟩, hR j]
  exact congrArg (fun t => ((R t : ℝ) : EReal)) e

end Ops

end Attn.Plain
-- ==== Proof.RefCtx.lean ====
/- The reference's attention of the context rows: every value of the program at an index, over real arguments. -/
module

public import proofs.«01_k».proof.Proof.Plain
public import proofs.«01_k».proof.Proof.Gen.ReferenceIdeal.Read

@[expose] public section

set_option maxRecDepth 16384

noncomputable section

namespace Attn.RefCtx

open Idealize.ShloMosaic Finset
open Idealize.ShloMosaic.TcCoe
open Cert.ReferenceIdeal Cert.ReferenceIdeal.Gen Cert.ReferenceIdeal.Read
open Attn.Plain

variable {x0 x1 : FVec Ideal S8x8448x96 .f32} {x2 x3 : FVec Ideal S8x8448x64 .f32}
variable {q k v u : ℕ → ℕ → ℕ → ℝ}
variable (h0 : At3 x0 q) (h1 : At3 x1 k) (h2 : At3 x2 v) (h3 : At3 x3 u)

section Forward

include h0 in
theorem q_at : At3 (a := 8) (b := 256) (c := 96) (val_main_v0 (F := Ideal) x0) fun h i d => q h (0 + i) d := fun i => by
  rw [val_main_v0_apply]
  simp only [Nat.zero_add]
  exact h0 _

include h1 in
theorem k_at : At3 (a := 8) (b := 256) (c := 96) (val_main_v1 (F := Ideal) x1) k := fun i => by
  rw [val_main_v1_apply]
  exact h1 _

include h2 in
theorem v_at : At3 (a := 8) (b := 256) (c := 64) (val_main_v2 (F := Ideal) x2) v := fun i => by
  rw [val_main_v2_apply]
  exact h2 _

include h3 in
theorem u_at : At3 (a := 8) (b := 256) (c := 64) (val_main_v71 (F := Ideal) x3) fun h i d => u h (0 + i) d := fun i => by
  rw [val_main_v71_apply]
  simp only [Nat.zero_add]
  exact h3 _

include h0 h1

theorem score_at : At3 (a := 8) (b := 256) (c := 256) (val_main_v6 (F := Ideal) x0 x1)
    fun h i j => score q k h (0 + i) j := fun i => by
  rw [val_main_v6_apply, val_main_v5_apply, val_main_v4_apply, val_main_cst_apply, word_sqrt, val_main_v3_apply,
    dot_co (f := fun t => q (i 0).val (0 + (i 1).val) t) (g := fun t => k (i 0).val (i 2).val t)
      (fun t => At3.get (q_at h0) (lidx_main_v3 i t) rfl) (fun t => At3.get (k_at h1) (ridx_main_v3 i t) rfl)]
  exact hdiv sqrt96

theorem exp_at : ∃ μ : ℕ → ℕ → ℝ, At3 (a := 8) (b := 256) (c := 256) (val_main_v27 (F := Ideal) x0 x1)
    fun h i j => Real.exp (score q k h (0 + i) j - μ h i) := by
  obtain ⟨μ, hμ⟩ := reduce_real (a := 8) (b := 256) (c := 256) (by norm_num) (score_at h0 h1) (val_main_cst_0 (F := Ideal))
    (fun i => by rw [val_main_cst_0_apply]; exact word_bot) reducesTo_S8x256x256_S8x256_d2 (by decide) h_S_
  refine ⟨μ, fun i => ?_⟩
  rw [val_main_v27_apply, val_main_v26_apply, score_at h0 h1 i, val_main_v25_apply, val_main_v24_apply,
    val_main_v14_apply, val_main_v13_apply, val_main_cst_2_apply, word_bot]
  unfold val_main_v7
  rw [hμ _, max_bot, hsub]
  exact hexp

variable {μ : ℕ → ℕ → ℝ}
variable (he : At3 (a := 8) (b := 256) (c := 256) (val_main_v27 (F := Ideal) x0 x1)
    fun h i j => Real.exp (score q k h (0 + i) j - μ h i))

omit h0 h1
include he

theorem sum_at : At3 (a := 8) (b := 256) (c := 1) (val_main_v29 (F := Ideal) x0 x1)
    fun h i _ => ∑ t ∈ range 256, Real.exp (score q k h (0 + i) t - μ h i) := fun i => by
  rw [val_main_v29_apply, val_main_v28_apply, sum_co (f := fun t => Real.exp (score q k (i 0).val (0 + (i 1).val) t - μ (i 0).val (i 1).val)) (fun t => At3.get (he) (idx_main_v28 (idx_main_v29 i) t) rfl),
    val_main_cst_8_apply, word_zero, ← EReal.coe_add, zero_add]

omit he in
theorem sum_ne (h i : ℕ) : ∑ t ∈ range 256, Real.exp (score q k h (0 + i) t - μ h i) ≠ 0 :=
  (sum_pos (fun _ _ => Real.exp_pos _) ⟨0, mem_range.2 (by norm_num)⟩).ne'

theorem prob_at' : At3 (a := 8) (b := 256) (c := 256) (val_main_v31 (F := Ideal) x0 x1)
    fun h i j => prob 256 q k h (0 + i) j := fun i => by
  rw [val_main_v31_apply, he i, val_main_v30_apply, sum_at he _, hdiv (sum_ne _ _)]
  exact congrArg _ (prob_shift 256 _ _ _)

theorem inv_at : At3 (a := 8) (b := 256) (c := 1) (val_main_v34 (F := Ideal) x0 x1)
    fun h i _ => 1 / ((∑ t ∈ range 256, Real.exp (score q k h (0 + i) t - μ h i))
      * ∑ t ∈ range 256, Real.exp (score q k h (0 + i) t - μ h i)) := fun i => by
  rw [val_main_v34_apply, val_main_v32_apply, sum_at he i, hmul, val_main_v33_apply, val_main_cst_9_apply, word_one,
    hdiv (mul_ne_zero (sum_ne _ _) (sum_ne _ _))]

omit he
include h0 h1

theorem prob_at : At3 (a := 8) (b := 256) (c := 256) (val_main_v31 (F := Ideal) x0 x1)
    fun h i j => prob 256 q k h (0 + i) j := by
  obtain ⟨μ, he⟩ := exp_at h0 h1
  exact prob_at' he

include h2

theorem out_at : At3 (a := 8) (b := 256) (c := 64) (val_main_v35 (F := Ideal) x0 x1 x2)
    fun h i d => outF 256 q k v h (0 + i) d := fun i => by
  rw [val_main_v35_apply, dot_co (f := fun t => prob 256 q k (i 0).val (0 + (i 1).val) t) (g := fun t => v (i 0).val t (i 2).val)
      (fun t => At3.get (prob_at h0 h1) (lidx_main_v35 i t) rfl) (fun t => At3.get (v_at h2) (ridx_main_v35 i t) rfl)]
  rfl

end Forward

section Backward

include h2 h3 in
theorem dprob_at : At3 (a := 8) (b := 256) (c := 256) (val_main_v95 (F := Ideal) x2 x3)
    fun h i j => dprob u v h (0 + i) j := fun i => by
  rw [val_main_v95_apply, dot_co (f := fun t => u (i 0).val (0 + (i 1).val) t) (g := fun t => v (i 0).val (i 2).val t)
      (fun t => At3.get (u_at h3) (lidx_main_v95 i t) rfl) (fun t => At3.get (v_at h2) (ridx_main_v95 i t) rfl)]
  rfl

include h0 h1 h3 in
theorem dv_at : At3 (a := 8) (b := 256) (c := 64) (val_main_v94 (F := Ideal) x0 x1 x3)
    fun h j d => dvF 256 0 256 q k u h j d := fun i => by
  rw [val_main_v94_apply, val_main_v93_apply, dot_co (f := fun t => u (i 0).val (0 + t) (i 2).val) (g := fun t => prob 256 q k (i 0).val (0 + t) (i 1).val)
      (fun t => At3.get (u_at h3) (lidx_main_v93 (idx_main_v94 i) t) rfl) (fun t => At3.get (prob_at h0 h1) (ridx_main_v93 (idx_main_v94 i) t) rfl)]
  unfold dvF
  simp only [mul_comm (prob _ _ _ _ _ _)]

include h0 h1 h2 h3

theorem tsum_at {μ : ℕ → ℕ → ℝ} (he : At3 (a := 8) (b := 256) (c := 256) (val_main_v27 (F := Ideal) x0 x1)
      fun h i j => Real.exp (score q k h (0 + i) j - μ h i)) :
    At2 (a := 8) (b := 256) (val_main_v104 (F := Ideal) x0 x1 x2 x3) fun h i =>
      -∑ t ∈ range 256, dprob u v h (0 + i) t
        * (1 / ((∑ t ∈ range 256, Real.exp (score q k h (0 + i) t - μ h i))
          * ∑ t ∈ range 256, Real.exp (score q k h (0 + i) t - μ h i)))
        * Real.exp (score q k h (0 + i) t - μ h i) := fun i => by
  have hs : At2 (a := 8) (b := 256) (val_main_v99 (F := Ideal) x0 x1 x2 x3) fun h i =>
      ∑ t ∈ range 256, dprob u v h (0 + i) t
        * (1 / ((∑ t ∈ range 256, Real.exp (score q k h (0 + i) t - μ h i))
          * ∑ t ∈ range 256, Real.exp (score q k h (0 + i) t - μ h i)))
        * Real.exp (score q k h (0 + i) t - μ h i) := fun j => by
    rw [val_main_v99_apply, sum_co (f := fun t => dprob u v (j 0).val (0 + (j 1).val) t
        * (1 / ((∑ t ∈ range 256, Real.exp (score q k (j 0).val (0 + (j 1).val) t - μ (j 0).val (j 1).val))
          * ∑ t ∈ range 256, Real.exp (score q k (j 0).val (0 + (j 1).val) t - μ (j 0).val (j 1).val)))
        * Real.exp (score q k (j 0).val (0 + (j 1).val) t - μ (j 0).val (j 1).val)) (fun t => by
      rw [val_main_v98_apply, val_main_v97_apply, dprob_at h2 h3 _, val_main_v96_apply, inv_at he _, hmul, he _]
      exact hmul), val_main_cst_24_apply, word_zero, ← EReal.coe_add, zero_add]
  have h1 : (i 1).val < 256 := (i 1).isLt
  have e1 : ∀ t : Fin 1, (((i 0).val * 256 + (i 1).val) * 1 + t.val) / 256 = (i 0).val := fun t => by omega
  have e2 : ∀ t : Fin 1, (((i 0).val * 256 + (i 1).val) * 1 + t.val) % 256 = (i 1).val := fun t => by omega
  rw [val_main_v104_apply, val_main_cst_25_apply, word_zero, Fin.sum_univ_one, val_main_v101_apply, val_main_v100_apply, hs _,
    hneg, ← EReal.coe_add, zero_add]
  dsimp only [idx_main_v100, idx_main_v104]
  simp only [Fin.isValue, e1, e2]

theorem dscore_at : At3 (a := 8) (b := 256) (c := 256) (val_main_v107 (F := Ideal) x0 x1 x2 x3)
    fun h i j => dscore 256 q k v u h (0 + i) j := fun i => by
  obtain ⟨μ, he⟩ := exp_at h0 h1
  rw [val_main_v107_apply, val_main_v106_apply, he i, val_main_v103_apply, dprob_at h2 h3 i, val_main_v102_apply,
    sum_at he _, hdiv (sum_ne _ _), val_main_v105_apply, tsum_at h0 h1 h2 h3 he _, hadd, hmul]
  refine congrArg _ ((dscore_eq 256 (fun t => Real.exp (score q k (i 0).val (0 + (i 1).val) t - μ (i 0).val (i 1).val))
    (dprob u v (i 0).val (0 + (i 1).val)) _ (sum_ne _ _) (i 2).val).trans ?_)
  simp only [prob_shift]
  rfl

theorem scaled_at : At3 (a := 8) (b := 256) (c := 256) (val_main_v109 (F := Ideal) x0 x1 x2 x3)
    fun h i j => dprod 256 q k v u h (0 + i) j := fun i => by
  rw [val_main_v109_apply, dscore_at h0 h1 h2 h3 i, val_main_v108_apply, val_main_v4_apply, val_main_cst_apply, word_sqrt]
  exact hdiv sqrt96

theorem dk_at : At3 (a := 8) (b := 256) (c := 96) (val_main_v110 (F := Ideal) x0 x1 x2 x3)
    fun h j d => dkF 256 0 256 q k v u h j d := fun i => by
  rw [val_main_v110_apply, dot_co (f := fun t => dprod 256 q k v u (i 0).val (0 + t) (i 1).val) (g := fun t => q (i 0).val (0 + t) (i 2).val)
      (fun t => At3.get (scaled_at h0 h1 h2 h3) (lidx_main_v110 i t) rfl) (fun t => At3.get (q_at h0) (ridx_main_v110 i t) rfl)]
  simp only [dkF, sum_div, dprod, div_mul_eq_mul_div]

theorem dq_at : At3 (a := 8) (b := 256) (c := 96) (val_main_v111 (F := Ideal) x0 x1 x2 x3)
    fun h i d => dqF 256 q k v u h (0 + i) d := fun i => by
  rw [val_main_v111_apply, dot_co (f := fun t => dprod 256 q k v u (i 0).val (0 + (i 1).val) t) (g := fun t => k (i 0).val t (i 2).val)
      (fun t => At3.get (scaled_at h0 h1 h2 h3) (lidx_main_v111 i t) rfl) (fun t => At3.get (k_at h1) (ridx_main_v111 i t) rfl)]
  simp only [dqF, sum_div, dprod, div_mul_eq_mul_div]

end Backward

end Attn.RefCtx
-- ==== Proof.RefLat.lean ====
/- The reference's attention of the latent rows: every value of the program at an index, over real arguments. -/
module

public import proofs.«01_k».proof.Proof.Plain
public import proofs.«01_k».proof.Proof.Gen.ReferenceIdeal.Read

@[expose] public section

set_option maxRecDepth 16384

noncomputable section

namespace Attn.RefLat

open Idealize.ShloMosaic Finset
open Idealize.ShloMosaic.TcCoe
open Cert.ReferenceIdeal Cert.ReferenceIdeal.Gen Cert.ReferenceIdeal.Read
open Attn.Plain

variable {x0 x1 : FVec Ideal S8x8448x96 .f32} {x2 x3 : FVec Ideal S8x8448x64 .f32}
variable {q k v u : ℕ → ℕ → ℕ → ℝ}
variable (h0 : At3 x0 q) (h1 : At3 x1 k) (h2 : At3 x2 v) (h3 : At3 x3 u)

section Forward

include h0 in
theorem q_at : At3 (a := 8) (b := 8192) (c := 96) (val_main_v36 (F := Ideal) x0) fun h i d => q h (256 + i) d := fun i => by
  rw [val_main_v36_apply]
  exact h0 _

include h3 in
theorem u_at : At3 (a := 8) (b := 8192) (c := 64) (val_main_v72 (F := Ideal) x3) fun h i d => u h (256 + i) d := fun i => by
  rw [val_main_v72_apply]
  exact h3 _

include h0 h1

theorem score_at : At3 (a := 8) (b := 8192) (c := 8448) (val_main_v40 (F := Ideal) x0 x1)
    fun h i j => score q k h (256 + i) j := fun i => by
  rw [val_main_v40_apply, val_main_v39_apply, val_main_v38_apply, val_main_cst_10_apply, word_sqrt, val_main_v37_apply,
    dot_co (f := fun t => q (i 0).val (256 + (i 1).val) t) (g := fun t => k (i 0).val (i 2).val t)
      (fun t => At3.get (q_at h0) (lidx_main_v37 i t) rfl) (fun t => At3.get (h1) (ridx_main_v37 i t) rfl)]
  exact hdiv sqrt96

theorem exp_at : ∃ μ : ℕ → ℕ → ℝ, At3 (a := 8) (b := 8192) (c := 8448) (val_main_v61 (F := Ideal) x0 x1)
    fun h i j => Real.exp (score q k h (256 + i) j - μ h i) := by
  obtain ⟨μ, hμ⟩ := reduce_real (a := 8) (b := 8192) (c := 8448) (by norm_num) (score_at h0 h1) (val_main_cst_11 (F := Ideal))
    (fun i => by rw [val_main_cst_11_apply]; exact word_bot) reducesTo_S8x8192x8448_S8x8192_d2 (by decide) h_S_
  refine ⟨μ, fun i => ?_⟩
  rw [val_main_v61_apply, val_main_v60_apply, score_at h0 h1 i, val_main_v59_apply, val_main_v58_apply,
    val_main_v48_apply, val_main_v47_apply, val_main_cst_13_apply, word_bot]
  unfold val_main_v41
  rw [hμ _, max_bot, hsub]
  exact hexp

variable {μ : ℕ → ℕ → ℝ}
variable (he : At3 (a := 8) (b := 8192) (c := 8448) (val_main_v61 (F := Ideal) x0 x1)
    fun h i j => Real.exp (score q k h (256 + i) j - μ h i))

omit h0 h1
include he

theorem sum_at : At3 (a := 8) (b := 8192) (c := 1) (val_main_v63 (F := Ideal) x0 x1)
    fun h i _ => ∑ t ∈ range 8448, Real.exp (score q k h (256 + i) t - μ h i) := fun i => by
  rw [val_main_v63_apply, val_main_v62_apply, sum_co (f := fun t => Real.exp (score q k (i 0).val (256 + (i 1).val) t - μ (i 0).val (i 1).val)) (fun t => At3.get (he) (idx_main_v62 (idx_main_v63 i) t) rfl),
    val_main_cst_19_apply, word_zero, ← EReal.coe_add, zero_add]

omit he in
theorem sum_ne (h i : ℕ) : ∑ t ∈ range 8448, Real.exp (score q k h (256 + i) t - μ h i) ≠ 0 :=
  (sum_pos (fun _ _ => Real.exp_pos _) ⟨0, mem_range.2 (by norm_num)⟩).ne'

theorem prob_at' : At3 (a := 8) (b := 8192) (c := 8448) (val_main_v65 (F := Ideal) x0 x1)
    fun h i j => prob 8448 q k h (256 + i) j := fun i => by
  rw [val_main_v65_apply, he i, val_main_v64_apply, sum_at he _, hdiv (sum_ne _ _)]
  exact congrArg _ (prob_shift 8448 _ _ _)

theorem inv_at : At3 (a := 8) (b := 8192) (c := 1) (val_main_v68 (F := Ideal) x0 x1)
    fun h i _ => 1 / ((∑ t ∈ range 8448, Real.exp (score q k h (256 + i) t - μ h i))
      * ∑ t ∈ range 8448, Real.exp (score q k h (256 + i) t - μ h i)) := fun i => by
  rw [val_main_v68_apply, val_main_v66_apply, sum_at he i, hmul, val_main_v67_apply, val_main_cst_20_apply, word_one,
    hdiv (mul_ne_zero (sum_ne _ _) (sum_ne _ _))]

omit he
include h0 h1

theorem prob_at : At3 (a := 8) (b := 8192) (c := 8448) (val_main_v65 (F := Ideal) x0 x1)
    fun h i j => prob 8448 q k h (256 + i) j := by
  obtain ⟨μ, he⟩ := exp_at h0 h1
  exact prob_at' he

include h2

theorem out_at : At3 (a := 8) (b := 8192) (c := 64) (val_main_v69 (F := Ideal) x0 x1 x2)
    fun h i d => outF 8448 q k v h (256 + i) d := fun i => by
  rw [val_main_v69_apply, dot_co (f := fun t => prob 8448 q k (i 0).val (256 + (i 1).val) t) (g := fun t => v (i 0).val t (i 2).val)
      (fun t => At3.get (prob_at h0 h1) (lidx_main_v69 i t) rfl) (fun t => At3.get (h2) (ridx_main_v69 i t) rfl)]
  rfl

end Forward

section Backward

include h2 h3 in
theorem dprob_at : At3 (a := 8) (b := 8192) (c := 8448) (val_main_v75 (F := Ideal) x2 x3)
    fun h i j => dprob u v h (256 + i) j := fun i => by
  rw [val_main_v75_apply, dot_co (f := fun t => u (i 0).val (256 + (i 1).val) t) (g := fun t => v (i 0).val (i 2).val t)
      (fun t => At3.get (u_at h3) (lidx_main_v75 i t) rfl) (fun t => At3.get (h2) (ridx_main_v75 i t) rfl)]
  rfl

include h0 h1 h3 in
theorem dv_at : At3 (a := 8) (b := 8448) (c := 64) (val_main_v74 (F := Ideal) x0 x1 x3)
    fun h j d => dvF 8448 256 8192 q k u h j d := fun i => by
  rw [val_main_v74_apply, val_main_v73_apply, dot_co (f := fun t => u (i 0).val (256 + t) (i 2).val) (g := fun t => prob 8448 q k (i 0).val (256 + t) (i 1).val)
      (fun t => At3.get (u_at h3) (lidx_main_v73 (idx_main_v74 i) t) rfl) (fun t => At3.get (prob_at h0 h1) (ridx_main_v73 (idx_main_v74 i) t) rfl)]
  unfold dvF
  simp only [mul_comm (prob _ _ _ _ _ _)]

include h0 h1 h2 h3

theorem tsum_at {μ : ℕ → ℕ → ℝ} (he : At3 (a := 8) (b := 8192) (c := 8448) (val_main_v61 (F := Ideal) x0 x1)
      fun h i j => Real.exp (score q k h (256 + i) j - μ h i)) :
    At2 (a := 8) (b := 8192) (val_main_v84 (F := Ideal) x0 x1 x2 x3) fun h i =>
      -∑ t ∈ range 8448, dprob u v h (256 + i) t
        * (1 / ((∑ t ∈ range 8448, Real.exp (score q k h (256 + i) t - μ h i))
          * ∑ t ∈ range 8448, Real.exp (score q k h (256 + i) t - μ h i)))
        * Real.exp (score q k h (256 + i) t - μ h i) := fun i => by
  have hs : At2 (a := 8) (b := 8192) (val_main_v79 (F := Ideal) x0 x1 x2 x3) fun h i =>
      ∑ t ∈ range 8448, dprob u v h (256 + i) t
        * (1 / ((∑ t ∈ range 8448, Real.exp (score q k h (256 + i) t - μ h i))
          * ∑ t ∈ range 8448, Real.exp (score q k h (256 + i) t - μ h i)))
        * Real.exp (score q k h (256 + i) t - μ h i) := fun j => by
    rw [val_main_v79_apply, sum_co (f := fun t => dprob u v (j 0).val (256 + (j 1).val) t
        * (1 / ((∑ t ∈ range 8448, Real.exp (score q k (j 0).val (256 + (j 1).val) t - μ (j 0).val (j 1).val))
          * ∑ t ∈ range 8448, Real.exp (score q k (j 0).val (256 + (j 1).val) t - μ (j 0).val (j 1).val)))
        * Real.exp (score q k (j 0).val (256 + (j 1).val) t - μ (j 0).val (j 1).val)) (fun t => by
      rw [val_main_v78_apply, val_main_v77_apply, dprob_at h2 h3 _, val_main_v76_apply, inv_at he _, hmul, he _]
      exact hmul), val_main_cst_21_apply, word_zero, ← EReal.coe_add, zero_add]
  have h1 : (i 1).val < 8192 := (i 1).isLt
  have e1 : ∀ t : Fin 1, (((i 0).val * 8192 + (i 1).val) * 1 + t.val) / 8192 = (i 0).val := fun t => by omega
  have e2 : ∀ t : Fin 1, (((i 0).val * 8192 + (i 1).val) * 1 + t.val) % 8192 = (i 1).val := fun t => by omega
  rw [val_main_v84_apply, val_main_cst_22_apply, word_zero, Fin.sum_univ_one, val_main_v81_apply, val_main_v80_apply, hs _,
    hneg, ← EReal.coe_add, zero_add]
  dsimp only [idx_main_v80, idx_main_v84]
  simp only [Fin.isValue, e1, e2]

theorem dscore_at : At3 (a := 8) (b := 8192) (c := 8448) (val_main_v87 (F := Ideal) x0 x1 x2 x3)
    fun h i j => dscore 8448 q k v u h (256 + i) j := fun i => by
  obtain ⟨μ, he⟩ := exp_at h0 h1
  rw [val_main_v87_apply, val_main_v86_apply, he i, val_main_v83_apply, dprob_at h2 h3 i, val_main_v82_apply,
    sum_at he _, hdiv (sum_ne _ _), val_main_v85_apply, tsum_at h0 h1 h2 h3 he _, hadd, hmul]
  refine congrArg _ ((dscore_eq 8448 (fun t => Real.exp (score q k (i 0).val (256 + (i 1).val) t - μ (i 0).val (i 1).val))
    (dprob u v (i 0).val (256 + (i 1).val)) _ (sum_ne _ _) (i 2).val).trans ?_)
  simp only [prob_shift]
  rfl

theorem scaled_at : At3 (a := 8) (b := 8192) (c := 8448) (val_main_v89 (F := Ideal) x0 x1 x2 x3)
    fun h i j => dprod 8448 q k v u h (256 + i) j := fun i => by
  rw [val_main_v89_apply, dscore_at h0 h1 h2 h3 i, val_main_v88_apply, val_main_v38_apply, val_main_cst_10_apply, word_sqrt]
  exact hdiv sqrt96

theorem dk_at : At3 (a := 8) (b := 8448) (c := 96) (val_main_v90 (F := Ideal) x0 x1 x2 x3)
    fun h j d => dkF 8448 256 8192 q k v u h j d := fun i => by
  rw [val_main_v90_apply, dot_co (f := fun t => dprod 8448 q k v u (i 0).val (256 + t) (i 1).val) (g := fun t => q (i 0).val (256 + t) (i 2).val)
      (fun t => At3.get (scaled_at h0 h1 h2 h3) (lidx_main_v90 i t) rfl) (fun t => At3.get (q_at h0) (ridx_main_v90 i t) rfl)]
  simp only [dkF, sum_div, dprod, div_mul_eq_mul_div]

theorem dq_at : At3 (a := 8) (b := 8192) (c := 96) (val_main_v91 (F := Ideal) x0 x1 x2 x3)
    fun h i d => dqF 8448 q k v u h (256 + i) d := fun i => by
  rw [val_main_v91_apply, dot_co (f := fun t => dprod 8448 q k v u (i 0).val (256 + (i 1).val) t) (g := fun t => k (i 0).val t (i 2).val)
      (fun t => At3.get (scaled_at h0 h1 h2 h3) (lidx_main_v91 i t) rfl) (fun t => At3.get (h1) (ridx_main_v91 i t) rfl)]
  simp only [dqF, sum_div, dprod, div_mul_eq_mul_div]

end Backward

end Attn.RefLat
-- ==== Proof.RefOut.lean ====
/- The reference's four results over real arguments. -/
module

public import proofs.«01_k».proof.Proof.RefCtx
public import proofs.«01_k».proof.Proof.RefLat

@[expose] public section

set_option maxRecDepth 16384

noncomputable section

namespace Attn.RefOut

open Idealize.ShloMosaic Finset
open Idealize.ShloMosaic.TcCoe
open Cert.ReferenceIdeal Cert.ReferenceIdeal.Gen Cert.ReferenceIdeal.Read
open Attn.Plain

/-- The output: the context rows see the context's keys, the others every key. -/
def outY (q k v : ℕ → ℕ → ℕ → ℝ) (h i d : ℕ) : ℝ := if i < 256 then outF 256 q k v h i d else outF 8448 q k v h i d
def outQ (q k v u : ℕ → ℕ → ℕ → ℝ) (h i d : ℕ) : ℝ := if i < 256 then dqF 256 q k v u h i d else dqF 8448 q k v u h i d
def outK (q k v u : ℕ → ℕ → ℕ → ℝ) (h j d : ℕ) : ℝ :=
  dkF 8448 256 8192 q k v u h j d + if j < 256 then dkF 256 0 256 q k v u h j d else 0
def outV (q k u : ℕ → ℕ → ℕ → ℝ) (h j d : ℕ) : ℝ :=
  dvF 8448 256 8192 q k u h j d + if j < 256 then dvF 256 0 256 q k u h j d else 0

variable {x0 x1 : FVec Ideal S8x8448x96 .f32} {x2 x3 : FVec Ideal S8x8448x64 .f32}
variable {q k v u : ℕ → ℕ → ℕ → ℝ}
variable (h0 : Re3 x0 q) (h1 : Re3 x1 k) (h2 : Re3 x2 v) (h3 : Re3 x3 u)

include h0 h1 h2

theorem y_re : Re3 (φ := .f32) (a := 8) (b := 8448) (c := 64) (val_main_v70 (F := Ideal) x0 x1 x2) (outY q k v) := fun i j d => by
  have hc := RefCtx.out_at (.of h0) (.of h1) (.of h2)
  have hl := RefLat.out_at (.of h0) (.of h1) (.of h2)
  unfold val_main_v70 outY
  generalize val_main_v35 (F := Ideal) x0 x1 x2 = y at *
  generalize val_main_v69 (F := Ideal) x0 x1 x2 = z at *
  pointwise
  by_cases hj : j.val < 256
  · rw [if_pos hj]
    exact (dif_pos hj).trans (hc.get _ (congrArg (fun r => outF 256 q k v i.val r d.val) (Nat.zero_add _)))
  · rw [if_neg hj]
    refine (dif_neg hj).trans ?_
    exact hl.get _ (congrArg (fun r => outF 8448 q k v i.val r d.val) (by show 256 + (j.val - 256) = j.val; omega))

include h3

theorem dv_re : Re3 (φ := .f32) (a := 8) (b := 8448) (c := 64) (val_main_v113 (F := Ideal) x0 x1 x3) (outV q k u) := fun i j d => by
  have hc := RefCtx.dv_at (.of h0) (.of h1) (.of h3)
  have hl := (RefLat.dv_at (.of h0) (.of h1) (.of h3)).re
  rw [val_main_v113_apply, hl i j d]
  unfold val_main_v112 val_main_cst_26 outV
  generalize val_main_v94 (F := Ideal) x0 x1 x3 = y at *
  pointwise
  by_cases hj : j.val < 256
  · rw [dif_pos hj, if_pos hj, hc.get _ rfl]
    exact hadd
  · rw [dif_neg hj, if_neg hj, add_zero, add_zero]

theorem dk_re : Re3 (φ := .f32) (a := 8) (b := 8448) (c := 96) (val_main_v115 (F := Ideal) x0 x1 x2 x3) (outK q k v u) := fun i j d => by
  have hc := RefCtx.dk_at (.of h0) (.of h1) (.of h2) (.of h3)
  have hl := (RefLat.dk_at (.of h0) (.of h1) (.of h2) (.of h3)).re
  rw [val_main_v115_apply, hl i j d]
  unfold val_main_v114 val_main_cst_27 outK
  generalize val_main_v110 (F := Ideal) x0 x1 x2 x3 = y at *
  pointwise
  by_cases hj : j.val < 256
  · rw [dif_pos hj, if_pos hj, hc.get _ rfl]
    exact hadd
  · rw [dif_neg hj, if_neg hj, add_zero, add_zero]

theorem dq_re : Re3 (φ := .f32) (a := 8) (b := 8448) (c := 96) (val_main_v117 (F := Ideal) x0 x1 x2 x3) (outQ q k v u) := fun i j d => by
  have hc := RefCtx.dq_at (.of h0) (.of h1) (.of h2) (.of h3)
  have hl := RefLat.dq_at (.of h0) (.of h1) (.of h2) (.of h3)
  rw [val_main_v117_apply]
  unfold val_main_v92 val_main_v116 val_main_cst_23 val_main_cst_28 outQ
  generalize val_main_v111 (F := Ideal) x0 x1 x2 x3 = y at *
  generalize val_main_v91 (F := Ideal) x0 x1 x2 x3 = z at *
  pointwise
  by_cases hj : j.val < 256
  · rw [if_pos hj]
    refine (congrArg₂ (· + ·) (dif_neg fun h => absurd h.1 (not_le.2 hj)) (dif_pos hj)).trans ?_
    refine (zero_add _).trans (hc.get _ (congrArg (fun r => dqF 256 q k v u i.val r d.val) (Nat.zero_add _)))
  · have hj2 : 256 ≤ j.val ∧ j.val - 256 < 8192 := by omega
    rw [if_neg hj]
    refine (congrArg₂ (· + ·) (dif_pos hj2) (dif_neg hj)).trans ?_
    refine (add_zero _).trans (hl.get _ (congrArg (fun r => dqF 8448 q k v u i.val r d.val) ?_))
    show 256 + (j.val - 256) = j.val
    omega

end Attn.RefOut
-- ==== Proof.Meet.lean ====
/- The kernel's sums over 128 lanes in powers of two come to the attention's mathematics: the lanes past a head's width
   are zero, and the scale of the queries turns the powers of two into exponentials. -/
module

public import proofs.«01_k».proof.Proof.KernelOut
public import proofs.«01_k».proof.Proof.RefOut

@[expose] public section

noncomputable section

namespace Attn.Meet

open Finset Attn.Plain Attn.RefOut

variable (q k v u : ℕ → ℕ → ℕ → ℝ)

theorem lane_div (h : ℕ) {d : ℕ} (hd : d < 128) : (128 * h + d) / 128 = h := by omega
theorem lane_mod (h : ℕ) {d : ℕ} (hd : d < 128) : (128 * h + d) % 128 = d := by omega

theorem log2 : Real.log 2 ≠ 0 := (Real.log_pos (by norm_num)).ne'

theorem hd_lanes (n : ℕ) (f : ℕ → ℕ → ℕ → ℝ) (r h i : ℕ) {d : ℕ} (hd' : d < 128) :
    hd (lanes n f) r h i d = if d < n then f h (r + i) d else 0 := by
  unfold hd lanes; rw [lane_div h hd', lane_mod h hd']

theorem hd_fQ (r h i : ℕ) {d : ℕ} (hd' : d < 128) :
    hd (fQ q) r h i d = (if d < 96 then q h (r + i) d else 0) * sc := by
  unfold hd fQ lanes; rw [lane_div h hd', lane_mod h hd']

theorem sum_lanes (n : ℕ) (hn : n ≤ 128) (a : ℕ → ℝ) :
    ∑ d ∈ range 128, (if d < n then a d else 0) = ∑ d ∈ range n, a d := by
  rw [← sum_filter]
  refine sum_congr (ext fun d => ?_) fun _ _ => rfl
  simp only [mem_filter, mem_range]
  omega

theorem dot_qk (r h i j : ℕ) :
    dot128 (hd (fQ q) r h) (hd (lanes 96 k) 0 h) i j = score q k h (r + i) j * (Real.log 2)⁻¹ := by
  have e : dot128 (hd (fQ q) r h) (hd (lanes 96 k) 0 h) i j
      = ∑ d ∈ range 128, if d < 96 then q h (r + i) d * k h j d * sc else 0 := by
    refine sum_congr rfl fun d hd' => ?_
    rw [hd_fQ q r h i (mem_range.1 hd'), hd_lanes 96 k 0 h j (mem_range.1 hd'), zero_add]
    split_ifs <;> ring
  rw [e, sum_lanes 96 (by norm_num), ← sum_mul]
  unfold score sc
  rw [mul_inv, div_eq_mul_inv, mul_assoc]

theorem dot_uv (r h i j : ℕ) :
    dot128 (hd (lanes 64 u) r h) (hd (lanes 64 v) 0 h) i j = dprob u v h (r + i) j := by
  have e : dot128 (hd (lanes 64 u) r h) (hd (lanes 64 v) 0 h) i j
      = ∑ d ∈ range 128, if d < 64 then u h (r + i) d * v h j d else 0 := by
    refine sum_congr rfl fun d hd' => ?_
    rw [hd_lanes 64 u r h i (mem_range.1 hd'), hd_lanes 64 v 0 h j (mem_range.1 hd'), zero_add]
    split_ifs <;> ring
  rw [e, sum_lanes 64 (by norm_num)]
  rfl

theorem p2_qk (r h i j : ℕ) :
    p2 (dot128 (hd (fQ q) r h) (hd (lanes 96 k) 0 h) i j) = Real.exp (score q k h (r + i) j) := by
  rw [dot_qk, p2_eq_exp, mul_assoc, inv_mul_cancel₀ log2, mul_one]

theorem wsum_qk (n r h i : ℕ) :
    wsum (dot128 (hd (fQ q) r h) (hd (lanes 96 k) 0 h) i) n = ∑ t ∈ range n, Real.exp (score q k h (r + i) t) :=
  sum_congr rfl fun j _ => p2_qk q k r h i j

/-- The kernel's probabilities, from the saved logarithm. -/
theorem pG_eq {n : ℕ} (hn : 0 < n) (r h i j : ℕ) :
    pG (fQ q) (lanes 96 k) (lg (fQ q) (lanes 96 k) n r) r h i j = prob n q k h (r + i) j := by
  unfold pG pR lg
  rw [p2_lse _ hn, p2_qk, wsum_qk]
  rfl

/-- The kernel's average of the values. -/
theorem avg_eq (n r h i : ℕ) {d : ℕ} (hd' : d < 128) :
    avg (fQ q) (lanes 96 k) (lanes 64 v) n r h i d = if d < 64 then outF n q k v h (r + i) d else 0 := by
  unfold avg
  rw [wsum_qk]
  unfold wval
  rw [sum_div]
  have e : ∀ j, p2 (dot128 (hd (fQ q) r h) (hd (lanes 96 k) 0 h) i j) * hd (lanes 64 v) 0 h j d
      / ∑ t ∈ range n, Real.exp (score q k h (r + i) t) = if d < 64 then prob n q k h (r + i) j * v h j d else 0 := fun j => by
    rw [p2_qk, hd_lanes 64 v 0 h j hd', zero_add]
    unfold prob
    split_ifs <;> ring
  simp only [e]
  split_ifs
  · rfl
  · exact sum_const_zero

/-- The product of the incoming gradient with the output is the softmax's mean of its products with the values. -/
theorem dR_eq (n r h i : ℕ) (y : ℕ → ℕ → ℝ)
    (hy : y = fun r' l => avg (fQ q) (lanes 96 k) (lanes 64 v) n r (l / 128) r' (l % 128)) :
    dR (hd (lanes 64 u) r h) (hd y 0 h) i = ∑ t ∈ range n, prob n q k h (r + i) t * dprob u v h (r + i) t := by
  have e : dR (hd (lanes 64 u) r h) (hd y 0 h) i
      = ∑ d ∈ range 128, if d < 64 then u h (r + i) d * outF n q k v h (r + i) d else 0 := by
    refine sum_congr rfl fun d hd' => ?_
    have e2 : hd y 0 h i d = if d < 64 then outF n q k v h (r + i) d else 0 := by
      rw [hy]
      unfold hd
      beta_reduce
      rw [lane_div h (mem_range.1 hd'), lane_mod h (mem_range.1 hd'), zero_add, avg_eq q k v n r h i (mem_range.1 hd')]
    rw [hd_lanes 64 u r h i (mem_range.1 hd'), e2]
    split_ifs <;> ring
  rw [e, sum_lanes 64 (by norm_num)]
  unfold outF dprob
  simp only [mul_sum]
  rw [sum_comm]
  exact sum_congr rfl fun t _ => sum_congr rfl fun d _ => by ring

/-- The kernel's gradient of the scores. -/
theorem gG_eq {n : ℕ} (hn : 0 < n) (r h i j : ℕ) (y : ℕ → ℕ → ℝ)
    (hy : y = fun r' l => avg (fQ q) (lanes 96 k) (lanes 64 v) n r (l / 128) r' (l % 128)) :
    gG (fQ q) (lanes 96 k) (lanes 64 v) (lanes 64 u) y (lg (fQ q) (lanes 96 k) n r) r h i j
      = dscore n q k v u h (r + i) j := by
  unfold gG gR
  rw [dot_uv, dR_eq q k v u n r h i y hy]
  have := pG_eq q k hn r h i j
  unfold pG at this
  rw [this]
  rfl

theorem dq_eq {n : ℕ} (hn : 0 < n) (r h i : ℕ) {d : ℕ} (hd' : d < 96) (y : ℕ → ℕ → ℝ)
    (hy : y = fun r' l => avg (fQ q) (lanes 96 k) (lanes 64 v) n r (l / 128) r' (l % 128)) :
    dqG (fQ q) (lanes 96 k) (lanes 64 v) (lanes 64 u) y (lg (fQ q) (lanes 96 k) n r) n r h i d * sc
      = dqF n q k v u h (r + i) d := by
  unfold dqG dqF
  have e : ∀ j, hd (lanes 96 k) 0 h j d = k h j d := fun j => by
    rw [hd_lanes 96 k 0 h j (by omega), if_pos hd', zero_add]
  simp only [gG_eq q k v u hn r h _ _ y hy, e]
  unfold sc
  rw [mul_inv, div_eq_mul_inv, mul_assoc, mul_left_comm (Real.log 2), mul_inv_cancel₀ log2, mul_one]

theorem dk_eq {n : ℕ} (hn : 0 < n) (r n' h j : ℕ) {d : ℕ} (hd' : d < 96) (y : ℕ → ℕ → ℝ)
    (hy : y = fun r' l => avg (fQ q) (lanes 96 k) (lanes 64 v) n r (l / 128) r' (l % 128)) :
    dkG (fQ q) (lanes 96 k) (lanes 64 v) (lanes 64 u) y (lg (fQ q) (lanes 96 k) n r) n' r h j d * Real.log 2
      = dkF n r n' q k v u h j d := by
  unfold dkG dkF
  have e : ∀ i, hd (fQ q) r h i d = q h (r + i) d * sc := fun i => by rw [hd_fQ q r h i (by omega), if_pos hd']
  simp only [gG_eq q k v u hn r h _ _ y hy, e, ← mul_assoc]
  rw [← sum_mul]
  unfold sc
  rw [mul_inv, div_eq_mul_inv, mul_assoc, mul_assoc, inv_mul_cancel₀ log2, mul_one]

theorem dv_eq {n : ℕ} (hn : 0 < n) (r n' h j : ℕ) {d : ℕ} (hd' : d < 64) :
    dvG (fQ q) (lanes 96 k) (lanes 64 u) (lg (fQ q) (lanes 96 k) n r) n' r h j d = dvF n r n' q k u h j d := by
  unfold dvG dvF
  have e : ∀ i, hd (lanes 64 u) r h i d = u h (r + i) d := fun i => by
    rw [hd_lanes 64 u r h i (by omega), if_pos hd']
  simp only [pG_eq q k hn r h, e]

/-- The four results. -/
theorem y_eq (h i : ℕ) {d : ℕ} (hd' : d < 64) :
    below 256 (yC q k v) (yL q k v) i (128 * h + d) = outY q k v h i d := by
  unfold below outY yC yL
  rw [lane_div h (by omega), lane_mod h (by omega), avg_eq q k v _ _ _ _ (by omega), avg_eq q k v _ _ _ _ (by omega),
    if_pos hd', if_pos hd', zero_add]
  by_cases hi : i < 256
  · rw [if_pos hi, if_pos hi]
  · rw [if_neg hi, if_neg hi, Nat.add_sub_cancel' (not_lt.1 hi)]

theorem q_eq (h i : ℕ) {d : ℕ} (hd' : d < 96) :
    below 256 (dqC q k v u) (dqL q k v u) i (128 * h + d) * sc = outQ q k v u h i d := by
  unfold below outQ dqC dqL logC logL yC yL
  rw [lane_div h (by omega), lane_mod h (by omega)]
  by_cases hi : i < 256
  · rw [if_pos hi, if_pos hi, dq_eq q k v u (n := 256) (by norm_num) 0 h i hd' _ rfl, zero_add]
  · rw [if_neg hi, if_neg hi, dq_eq q k v u (n := 8448) (by norm_num) 256 h _ hd' _ rfl, Nat.add_sub_cancel' (not_lt.1 hi)]

theorem k_eq (h j : ℕ) {d : ℕ} (hd' : d < 96) :
    dkL q k v u j (128 * h + d) + below 256 (dkC q k v u) (fun _ _ => 0) j (128 * h + d) = outK q k v u h j d := by
  unfold below outK dkC dkL logC logL yC yL
  rw [lane_div h (by omega), lane_mod h (by omega), dk_eq q k v u (n := 8448) (by norm_num) 256 8192 h j hd' _ rfl,
    dk_eq q k v u (n := 256) (by norm_num) 0 256 h j hd' _ rfl]

theorem v_eq (h j : ℕ) {d : ℕ} (hd' : d < 64) :
    dvL q k u j (128 * h + d) + below 256 (dvC q k u) (fun _ _ => 0) j (128 * h + d) = outV q k u h j d := by
  unfold below outV dvC dvL logC logL
  rw [lane_div h (by omega), lane_mod h (by omega), dv_eq q k u (n := 8448) (by norm_num) 256 8192 h j hd',
    dv_eq q k u (n := 256) (by norm_num) 0 256 h j hd']

end Attn.Meet
-- ==== Proof.RunAll.lean ====
/- The kernel's run: it ends with every buffer at the last boundary's contents. -/
module

public import proofs.«01_k».proof.Proof.Gen.KernelIdeal.Frame

@[expose] public section

set_option maxRecDepth 16384

noncomputable section

namespace Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- From the launch memory `m` every device's buffers end at the folds of the 19 segments. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W19 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h _ => h)

end Attn

end
-- ==== Proof.Finite.lean ====
/- What the precondition says: every entry of the four arguments is a real number. -/
module

public import proofs.«01_k».proof.Defs
public import proofs.«01_k».proof.Proof.Gen.Pre_finite
public import proofs.«01_k».proof.Proof.HostMove
public import Idealize.ShloMosaic.Lib.ReduceAll

@[expose] public section

noncomputable section

namespace Attn.Finite

open Idealize.ShloMosaic
open Cert.Pre_finite

theorem word_inf : (FloatOps.ofBits .f32 0x7F800000#32 : Ideal .f32) = (⊤ : EReal) := by
  show Ideal.ofBits .f32 0x7F800000#32 = _
  simp [Ideal.ofBits, Ideal.ieee]

/-- An extended real whose absolute value is less than infinity is a real. -/
theorem real_of_lt (x : Ideal .f32) (h : FloatOps.cmpf .olt (FloatOps.hostAbsf x) (FloatOps.ofBits .f32 0x7F800000#32 : Ideal .f32) = 1#1) :
    x = ((EReal.toReal x : ℝ) : EReal) := by
  rw [word_inf] at h
  induction x using EReal.rec with
  | coe r => rfl
  | bot => exact absurd h (by
      rw [show (FloatOps.hostAbsf (⊥ : EReal) : Ideal .f32) = (⊤ : EReal) by simp [Ideal.hostAbsf_def]; rfl]
      show ¬ BitVec.ofBool (decide ((⊤ : EReal) < ⊤)) = 1#1
      simp)
  | top => exact absurd h (by
      rw [show (FloatOps.hostAbsf (⊤ : EReal) : Ideal .f32) = (⊤ : EReal) by simp [Ideal.hostAbsf_def]; rfl]
      show ¬ BitVec.ofBool (decide ((⊤ : EReal) < ⊤)) = 1#1
      simp)

/-- The reals that an array holds. -/
def reals {a b c : ℕ} (x : FVec Ideal ⟨3, ![a, b, c]⟩ .f32) (i j k : ℕ) : ℝ :=
  if h : i < a ∧ j < b ∧ k < c then EReal.toReal (x (ValueIdx.ix3 ⟨i, h.1⟩ ⟨j, h.2.1⟩ ⟨k, h.2.2⟩)) else 0

theorem reals_re {a b c : ℕ} {x : FVec Ideal ⟨3, ![a, b, c]⟩ .f32}
    (h : ∀ i, FloatOps.cmpf .olt (FloatOps.hostAbsf (x i)) (FloatOps.ofBits .f32 0x7F800000#32 : Ideal .f32) = 1#1) :
    Re3 x (reals x) := fun i j k => by
  unfold reals
  rw [dif_pos ⟨i.2, j.2, k.2⟩]
  exact real_of_lt _ (h _)

theorem and_left {x y : BitVec 1} (h : IntOp.andi x y = 1#1) : x = 1#1 ∧ y = 1#1 := by
  revert h; revert x y; decide

theorem finite_re (a0 a1 : FVec Ideal S8x8448x96 .f32) (a2 a3 : FVec Ideal S8x8448x64 .f32)
    (h : fn (F := Ideal) a0 a1 a2 a3 = fun _ => 1#1) :
    Re3 a0 (reals a0) ∧ Re3 a1 (reals a1) ∧ Re3 a2 (reals a2) ∧ Re3 a3 (reals a3) := by
  have h' := congrFun h (fun a => a.elim0)
  unfold fn fn_part1 at h'
  dsimp only at h'
  obtain ⟨h', e3⟩ := and_left h'
  obtain ⟨h', e2⟩ := and_left h'
  obtain ⟨e0, e1⟩ := and_left h'
  refine ⟨reals_re fun i => ?_, reals_re fun i => ?_, reals_re fun i => ?_, reals_re fun i => ?_⟩
  · exact Host.reduce_andi_all _ _ _ _ _ e0 i
  · exact Host.reduce_andi_all _ _ _ _ _ e1 i
  · exact Host.reduce_andi_all _ _ _ _ _ e2 i
  · exact Host.reduce_andi_all _ _ _ _ _ e3 i

end Attn.Finite
-- ==== Proof.Value.lean ====
/- The value claim: from finite arguments the kernel's four results are the reference's. -/
module

public import proofs.«01_k».proof.Proof.Meet
public import proofs.«01_k».proof.Proof.RunAll
public import proofs.«01_k».proof.Proof.Finite

@[expose] public section

set_option maxRecDepth 16384

noncomputable section

namespace Attn

open Idealize.ShloMosaic Idealize.ShloMosaic.TcCoe Idealize.SL.Sem
open Cert.KernelIdeal.Gen

/-- Two arrays that hold the same reals are the same. -/
theorem Re3.eq {a b c : ℕ} {x y : FVec Ideal ⟨3, ![a, b, c]⟩ .f32} {f g : ℕ → ℕ → ℕ → ℝ} (hx : Re3 x f) (hy : Re3 y g)
    (e : ∀ i j k, k < c → f i j k = g i j k) : x = y := funext fun t => by
  rw [Plain.At3.of hx t, Plain.At3.of hy t, e _ _ _ (t 2).isLt]

theorem algebraic : Cert.algebraic_KernelIdeal_ReferenceIdeal_pre_finite := by
  intro m g m' g' hpre harg
  refine ⟨fun c => W19 m g c (Proc.devRef .tc Cert.KernelIdeal.main_v33), fun c => W19 m g c (Proc.devRef .tc Cert.KernelIdeal.main_v38),
    fun c => W19 m g c (Proc.devRef .tc Cert.KernelIdeal.main_v41), fun c => W19 m g c (Proc.devRef .tc Cert.KernelIdeal.main_v44),
    (θ_run _ _ _).mono (fun r h c => ⟨h c _ (mem_uc _ (by decide)), h c _ (mem_uc _ (by decide)), h c _ (mem_uc _ (by decide)),
      h c _ (mem_uc _ (by decide)), (h c _ (mem_uc _ (by decide))).trans (W19_main_arg0 m g c),
      (h c _ (mem_uc _ (by decide))).trans (W19_main_arg1 m g c), (h c _ (mem_uc _ (by decide))).trans (W19_main_arg2 m g c),
      (h c _ (mem_uc _ (by decide))).trans (W19_main_arg3 m g c)⟩) (run_all m g),
    (θ_run _ _ _).mono (fun r h c => ?_) (Cert.ReferenceIdeal.Value.run (F := Ideal) m' g')⟩
  obtain ⟨r0, r1, r2, r3⟩ := Finite.finite_re _ _ _ _ (hpre c)
  obtain ⟨a0, a1, a2, a3⟩ := harg c
  refine ⟨(h c).1.trans ?_, (h c).2.1.trans ?_, (h c).2.2.1.trans ?_, (h c).2.2.2.1.trans ?_, (h c).2.2.2.2⟩
  · rw [Cert.ReferenceIdeal.Read.val_main_v70_eq, a0, a1, a2]
    exact Re3.eq (RefOut.y_re r0 r1 r2) (out_y m g c r0 r1 r2) fun i j k hk => (Meet.y_eq _ _ _ i j hk).symm
  · rw [Cert.ReferenceIdeal.Read.val_main_v117_eq, a0, a1, a2, a3]
    exact Re3.eq (RefOut.dq_re r0 r1 r2 r3) (out_dq m g c r0 r1 r2 r3) fun i j k hk => (Meet.q_eq _ _ _ _ i j hk).symm
  · rw [Cert.ReferenceIdeal.Read.val_main_v115_eq, a0, a1, a2, a3]
    exact Re3.eq (RefOut.dk_re r0 r1 r2 r3) (out_dk m g c r0 r1 r2 r3) fun i j k hk => (Meet.k_eq _ _ _ _ i j hk).symm
  · rw [Cert.ReferenceIdeal.Read.val_main_v113_eq, a0, a1, a3]
    exact Re3.eq (RefOut.dv_re r0 r1 r2 r3) (out_dv m g c r0 r1 r2 r3) fun i j k hk => (Meet.v_eq _ _ _ i j hk).symm

end Attn
-- ==== Proof.Ent.lean ====
/- Matrices of extended reals: `Ev2 x f` says that the matrix `x` holds `f i j` at row `i` and column `j`. -/
module

public import Idealize.ShloMosaic.Lib.Pointwise
public import Idealize.ShloMosaic.Lib.Pipeline.ValueKit
public import Idealize.ShloMosaic.Lib.Pipeline.ReadBack

@[expose] public section

noncomputable section

namespace Ffn

open Idealize.ShloMosaic Finset

/-- The matrix `x` holds `f i j` at row `i` and column `j`. -/
def Ev2 {a b : ℕ} {φ : FTy} (x : FVec Ideal ⟨2, ![a, b]⟩ φ) (f : ℕ → ℕ → EReal) : Prop :=
  ∀ (i : Fin a) (j : Fin b), x (ix2 i j) = f i j

/-- The entries of a matrix, zero outside of it. -/
def ent {a b : ℕ} {φ : FTy} (x : FVec Ideal ⟨2, ![a, b]⟩ φ) (i j : ℕ) : EReal :=
  if h : i < a ∧ j < b then x (ix2 ⟨i, h.1⟩ ⟨j, h.2⟩) else 0

section

variable {a b : ℕ} {φ : FTy} {x y : FVec Ideal ⟨2, ![a, b]⟩ φ} {f g : ℕ → ℕ → EReal}

theorem ev_ent (x : FVec Ideal ⟨2, ![a, b]⟩ φ) : Ev2 x (ent x) := fun i j => by
  unfold ent; rw [dif_pos ⟨i.2, j.2⟩]

theorem Ev2.congr (h : Ev2 x f) (e : ∀ i < a, ∀ j < b, f i j = g i j) : Ev2 x g := fun i j => by
  rw [h i j, e i i.2 j j.2]

/-- Read a matrix at any index. -/
theorem Ev2.at (h : Ev2 x f) (z : (⟨2, ![a, b]⟩ : Shape).Idx) : x z = f (z 0).val (z 1).val :=
  (congrArg x (by funext a; fin_cases a <;> rfl)).trans (h (z 0) (z 1))

/-- Read a matrix at an index whose coordinates are known. -/
theorem Ev2.get (h : Ev2 x f) (z : (⟨2, ![a, b]⟩ : Shape).Idx) {i j : ℕ} (hi : (z 0).val = i) (hj : (z 1).val = j) :
    x z = f i j := by rw [h.at z, hi, hj]

theorem Ev2.truncf {ψ : FTy} {h : ψ.bits < φ.bits} (hx : Ev2 x f) : Ev2 (truncf ψ x h) f := fun i j => by
  rw [truncf_apply, Ideal.truncf_def]; exact hx i j

theorem Ev2.add (hx : Ev2 x f) (hy : Ev2 y g) : Ev2 (addf x y) fun i j => f i j + g i j := fun i j => by
  rw [addf_apply, hx i j, hy i j, Ideal.addf_def]

theorem Ev2.cast {h : (⟨2, ![a, b]⟩ : Shape).ShapeCasts ⟨2, ![a, b]⟩} (hx : Ev2 x f) : Ev2 (shapeCast ⟨2, ![a, b]⟩ x h) f := fun i j => by
  rw [shapeCast_self]; exact hx i j

/-- Two matrices with the same entries are the same. -/
theorem Ev2.eq (hx : Ev2 x f) (hy : Ev2 y g) (e : ∀ i < a, ∀ j < b, f i j = g i j) : x = y := funext fun t => by
  rw [hx.at t, hy.at t, e _ (t 0).isLt _ (t 1).isLt]

end

/-- A sum over the first tiles and the sum over the next one is the sum over all of them. -/
theorem sum_tile (n s : ℕ) (f : ℕ → EReal) :
    ∑ k ∈ range (s * n), f k + ∑ k ∈ range s, f (s * n + k) = ∑ k ∈ range (s * n + s), f k :=
  (sum_range_add f (s * n) s).symm

/-- The product of the first `n` rows: entry `i j` sums the rows' products of columns `i` and `j`. -/
def tn (f g : ℕ → ℕ → EReal) (n i j : ℕ) : EReal := ∑ k ∈ range n, f k i * g k j

end Ffn
-- ==== Proof.FfnDefs.lean ====
/- The feed-forward over extended reals. -/
module

public import proofs.«01_k».proof.Proof.Ent

@[expose] public section

noncomputable section

namespace Ffn

open Idealize.ShloMosaic Finset

/-- The vector `x` holds `f i` at `i`. -/
def Ev1 {a : ℕ} {φ : FTy} (x : FVec Ideal ⟨1, ![a]⟩ φ) (f : ℕ → EReal) : Prop := ∀ i : Fin a, x (ix1 i) = f i

/-- The entries of a vector, zero outside of it. -/
def ent1 {a : ℕ} {φ : FTy} (x : FVec Ideal ⟨1, ![a]⟩ φ) (i : ℕ) : EReal := if h : i < a then x (ix1 ⟨i, h⟩) else 0

theorem ev_ent1 {a : ℕ} {φ : FTy} (x : FVec Ideal ⟨1, ![a]⟩ φ) : Ev1 x (ent1 x) := fun i => by
  unfold ent1; rw [dif_pos i.2]

/-- Read a vector at an index whose coordinate is known. -/
theorem Ev1.get {a : ℕ} {φ : FTy} {x : FVec Ideal ⟨1, ![a]⟩ φ} {f : ℕ → EReal} (h : Ev1 x f) (z : (⟨1, ![a]⟩ : Shape).Idx) {i : ℕ}
    (hi : (z 0).val = i) : x z = f i :=
  ((congrArg x (by funext a; fin_cases a; rfl)).trans (h (z 0))).trans (by rw [hi])

/-- The plain product, and the product with the second matrix transposed. -/
def nn (f g : ℕ → ℕ → EReal) (n i j : ℕ) : EReal := ∑ k ∈ range n, f i k * g k j
def nt (f g : ℕ → ℕ → EReal) (n i j : ℕ) : EReal := ∑ k ∈ range n, f i k * g j k

/-- The right half of the in-projection's columns. -/
def right (w : ℕ → ℕ → EReal) (i j : ℕ) : EReal := w i (2816 + j)

/-- The row before, and the row after, zero outside the range that starts at `lo` or ends at `hi`. -/
def bef (g : ℕ → ℕ → EReal) (lo i j : ℕ) : EReal := if i = lo then 0 else g (i - 1) j
def aft (g : ℕ → ℕ → EReal) (hi i j : ℕ) : EReal := if i + 1 = hi then 0 else g (i + 1) j

/-- The three-tap convolution down the rows. -/
def cv (lo hi : ℕ) (g wd : ℕ → ℕ → EReal) (b : ℕ → EReal) (i j : ℕ) : EReal :=
  wd 0 j * bef g lo i j + wd 1 j * g i j + wd 2 j * aft g hi i j + b j

/-- The tanh gelu, its constants the numbers their floats are. -/
def gl (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * x * x)))))

/-- The middle of the feed-forward. -/
def um (lo hi : ℕ) (g u wd : ℕ → ℕ → EReal) (b : ℕ → EReal) (i j : ℕ) : EReal := gl (cv lo hi g wd b i j) * u i j

/-- The middle on the context's rows and on the others, each a range of its own. -/
def mids (g u wd : ℕ → ℕ → EReal) (b : ℕ → EReal) (i j : ℕ) : EReal :=
  if i < 256 then um 0 256 g u wd b i j else um 256 8448 g u wd b i j

end Ffn
-- ==== Proof.FfnMul.lean ====
/- The feed-forward's six products, tiled over blocks of rows: each call leaves the whole product in its array. -/
module

public import proofs.«01_k».proof.Proof.FfnDefs
public import proofs.«01_k».proof.Proof.Gen.Kernel3Ideal.Frame

@[expose] public section

set_option maxRecDepth 16384

noncomputable section

namespace Ffn.Mid

open Idealize.ShloMosaic Finset
open Idealize.ShloMosaic.TcCoe
open Cert.Kernel3Ideal Cert.Kernel3Ideal.Gen

theorem nn_1024 {x : FVec Ideal S768x1024 .bf16} {y : FVec Ideal S1024x2816 .bf16} {f g : ℕ → ℕ → EReal} (hx : Ev2 x f) (hy : Ev2 y g) :
    Ev2 (matmul dot_S768x1024_S1024x2816_S768x2816_1_0_0_1_n_n none x y (constant S768x2816 .f32 0x00000000#32)) (nn f g 1024) :=
  fun i j => by
    pointwise
    simp only [hx i _, hy _ j]
    exact Fin.sum_univ_eq_sum_range (fun k => f i k * g k j) 1024

theorem nn_2816 {x : FVec Ideal S768x2816 .bf16} {y : FVec Ideal S2816x1024 .bf16} {f g : ℕ → ℕ → EReal} (hx : Ev2 x f) (hy : Ev2 y g) :
    Ev2 (matmul dot_S768x2816_S2816x1024_S768x1024_1_0_0_1_n_n none x y (constant S768x1024 .f32 0x00000000#32)) (nn f g 2816) :=
  fun i j => by
    pointwise
    simp only [hx i _, hy _ j]
    exact Fin.sum_univ_eq_sum_range (fun k => f i k * g k j) 2816

theorem nt_1024 {x : FVec Ideal S768x1024 .bf16} {y : FVec Ideal S2816x1024 .bf16} {f g : ℕ → ℕ → EReal} (hx : Ev2 x f) (hy : Ev2 y g) :
    Ev2 (matmul dot_S768x1024_S2816x1024_S768x2816_1_1_0_0_n_n none x y (constant S768x2816 .f32 0x00000000#32)) (nt f g 1024) :=
  fun i j => by
    pointwise
    simp only [hx i _, hy j _]
    exact Fin.sum_univ_eq_sum_range (fun k => f i k * g j k) 1024

theorem nt_2816 {x : FVec Ideal S768x2816 .bf16} {y : FVec Ideal S1024x2816 .bf16} {f g : ℕ → ℕ → EReal} (hx : Ev2 x f) (hy : Ev2 y g) :
    Ev2 (matmul dot_S768x2816_S1024x2816_S768x1024_1_1_0_0_n_n none x y (constant S768x1024 .f32 0x00000000#32)) (nt f g 2816) :=
  fun i j => by
    pointwise
    simp only [hx i _, hy j _]
    exact Fin.sum_univ_eq_sum_range (fun k => f i k * g j k) 2816

variable (V : (c : Dev nD) → (b : Ref sig .tc) → Buf (Elt Ideal) ((c : Thread nD τ).loc b)) (c : Dev nD) {f g : ℕ → ℕ → EReal}

/-! ## Call 0 -/

theorem out0_eq (x0 : Vec Ideal S768x1024 .f32) (x1 : Vec Ideal S1024x2816 .bf16) : out0_2 x0 x1 = k0_pay1 x0 x1 := by
  frame_out

theorem tile0 {x : Vec Ideal S768x1024 .f32} {y : Vec Ideal S1024x2816 .bf16} {f g : ℕ → ℕ → EReal} (hx : Ev2 (φ := .f32) x f)
    (hy : Ev2 (φ := .bf16) y g) : Ev2 (k0_pay1 (F := Ideal) x y) (nn f g 1024) :=
  nn_1024 (Ev2.truncf hx) (Ev2.cast hy)

theorem idx0 : ∀ t : Fin cfg0.N, win0_0.index t = ![t.val, 0] ∧ win0_1.index t = ![0, 0] ∧ win0_2.index t = ![t.val, 0] :=
  (by decide +kernel : ∀ t : Fin grid0.N, _)

theorem blk0_0 (h : Ev2 (φ := .f32) (V c (Pipeline.arrRef spec0 0)) f) (t : Fin cfg0.N) :
    Ev2 (φ := .f32) (a := 768) (b := 1024) (iblk0 V c 0 t) (fun i k => f (768 * t.val + i) k) := fun i j => by
  blk_simp [iblk0]
  refine (h.at _).trans ?_
  simp [idx0 t, mul_comm]

theorem blk0_1 (h : Ev2 (φ := .bf16) (V c (Pipeline.arrRef spec0 1)) g) (t : Fin cfg0.N) :
    Ev2 (φ := .bf16) (a := 1024) (b := 2816) (iblk0 V c 1 t) g := fun i j => by
  blk_simp [iblk0]
  refine (h.at _).trans ?_
  simp [idx0 t]

theorem row0 (h0 : Ev2 (φ := .f32) (V c (Pipeline.arrRef spec0 0)) f) (h1 : Ev2 (φ := .bf16) (V c (Pipeline.arrRef spec0 1)) g)
    (t : Fin cfg0.N) : Ev2 (φ := .f32) (a := 768) (b := 2816) ((dat0 V c).after 2 t) (fun i j => nn f g 1024 (768 * t.val + i) j) := by
  rw [after0_2, out0_eq]
  exact tile0 (blk0_0 V c h0 t) (blk0_1 V c h1 t)

theorem arr0 (h0 : Ev2 (φ := .f32) (V c (Pipeline.arrRef spec0 0)) f) (h1 : Ev2 (φ := .bf16) (V c (Pipeline.arrRef spec0 1)) g) :
    Ev2 (φ := .f32) (a := 8448) (b := 2816) ((dat0 V c).arrAt 2 cfg0.N) (nn f g 1024) := fun i j => by
  refine (dat0 V c).arrAt_forall_of_covers 2 (fun z w => w = nn f g 1024 (z 0).val (z 1).val)
    (by decide +kernel) (fun t hf x => ?_) (ValueIdx.ix2 i j)
  blk_simp [idx0 t]
  refine ((row0 V c h0 h1 t).at x).trans ?_
  simp [mul_comm]

/-! ## Call 1 -/

theorem out1_eq (x0 : Vec Ideal S768x1024 .f32) (x1 : Vec Ideal S1024x2816 .bf16) : out1_2 x0 x1 = k1_pay1 x0 x1 := by
  frame_out

theorem tile1 {x : Vec Ideal S768x1024 .f32} {y : Vec Ideal S1024x2816 .bf16} {f g : ℕ → ℕ → EReal} (hx : Ev2 (φ := .f32) x f)
    (hy : Ev2 (φ := .bf16) y g) : Ev2 (k1_pay1 (F := Ideal) x y) (nn f g 1024) :=
  nn_1024 (Ev2.truncf hx) (Ev2.cast hy)

theorem idx1 : ∀ t : Fin cfg1.N, win1_0.index t = ![t.val, 0] ∧ win1_1.index t = ![0, 0] ∧ win1_2.index t = ![t.val, 0] :=
  (by decide +kernel : ∀ t : Fin grid1.N, _)

theorem blk1_0 (h : Ev2 (φ := .f32) (V c (Pipeline.arrRef spec1 0)) f) (t : Fin cfg1.N) :
    Ev2 (φ := .f32) (a := 768) (b := 1024) (iblk1 V c 0 t) (fun i k => f (768 * t.val + i) k) := fun i j => by
  blk_simp [iblk1]
  refine (h.at _).trans ?_
  simp [idx1 t, mul_comm]

theorem blk1_1 (h : Ev2 (φ := .bf16) (V c (Pipeline.arrRef spec1 1)) g) (t : Fin cfg1.N) :
    Ev2 (φ := .bf16) (a := 1024) (b := 2816) (iblk1 V c 1 t) g := fun i j => by
  blk_simp [iblk1]
  refine (h.at _).trans ?_
  simp [idx1 t]

theorem row1 (h0 : Ev2 (φ := .f32) (V c (Pipeline.arrRef spec1 0)) f) (h1 : Ev2 (φ := .bf16) (V c (Pipeline.arrRef spec1 1)) g)
    (t : Fin cfg1.N) : Ev2 (φ := .f32) (a := 768) (b := 2816) ((dat1 V c).after 2 t) (fun i j => nn f g 1024 (768 * t.val + i) j) := by
  rw [after1_2, out1_eq]
  exact tile1 (blk1_0 V c h0 t) (blk1_1 V c h1 t)

theorem arr1 (h0 : Ev2 (φ := .f32) (V c (Pipeline.arrRef spec1 0)) f) (h1 : Ev2 (φ := .bf16) (V c (Pipeline.arrRef spec1 1)) g) :
    Ev2 (φ := .f32) (a := 8448) (b := 2816) ((dat1 V c).arrAt 2 cfg1.N) (nn f g 1024) := fun i j => by
  refine (dat1 V c).arrAt_forall_of_covers 2 (fun z w => w = nn f g 1024 (z 0).val (z 1).val)
    (by decide +kernel) (fun t hf x => ?_) (ValueIdx.ix2 i j)
  blk_simp [idx1 t]
  refine ((row1 V c h0 h1 t).at x).trans ?_
  simp [mul_comm]

/-! ## Call 3 -/

theorem out3_eq (x0 : Vec Ideal S768x2816 .bf16) (x1 : Vec Ideal S2816x1024 .bf16) : out3_2 x0 x1 = k3_pay1 x0 x1 := by
  frame_out

theorem tile3 {x : Vec Ideal S768x2816 .bf16} {y : Vec Ideal S2816x1024 .bf16} {f g : ℕ → ℕ → EReal} (hx : Ev2 (φ := .bf16) x f)
    (hy : Ev2 (φ := .bf16) y g) : Ev2 (k3_pay1 (F := Ideal) x y) (nn f g 2816) :=
  nn_2816 (Ev2.cast hx) (Ev2.cast hy)

theorem idx3 : ∀ t : Fin cfg3.N, win3_0.index t = ![t.val, 0] ∧ win3_1.index t = ![0, 0] ∧ win3_2.index t = ![t.val, 0] :=
  (by decide +kernel : ∀ t : Fin grid3.N, _)

theorem blk3_0 (h : Ev2 (φ := .bf16) (V c (Pipeline.arrRef spec3 0)) f) (t : Fin cfg3.N) :
    Ev2 (φ := .bf16) (a := 768) (b := 2816) (iblk3 V c 0 t) (fun i k => f (768 * t.val + i) k) := fun i j => by
  blk_simp [iblk3]
  refine (h.at _).trans ?_
  simp [idx3 t, mul_comm]

theorem blk3_1 (h : Ev2 (φ := .bf16) (V c (Pipeline.arrRef spec3 1)) g) (t : Fin cfg3.N) :
    Ev2 (φ := .bf16) (a := 2816) (b := 1024) (iblk3 V c 1 t) g := fun i j => by
  blk_simp [iblk3]
  refine (h.at _).trans ?_
  simp [idx3 t]

theorem row3 (h0 : Ev2 (φ := .bf16) (V c (Pipeline.arrRef spec3 0)) f) (h1 : Ev2 (φ := .bf16) (V c (Pipeline.arrRef spec3 1)) g)
    (t : Fin cfg3.N) : Ev2 (φ := .f32) (a := 768) (b := 1024) ((dat3 V c).after 2 t) (fun i j => nn f g 2816 (768 * t.val + i) j) := by
  rw [after3_2, out3_eq]
  exact tile3 (blk3_0 V c h0 t) (blk3_1 V c h1 t)

theorem arr3 (h0 : Ev2 (φ := .bf16) (V c (Pipeline.arrRef spec3 0)) f) (h1 : Ev2 (φ := .bf16) (V c (Pipeline.arrRef spec3 1)) g) :
    Ev2 (φ := .f32) (a := 8448) (b := 1024) ((dat3 V c).arrAt 2 cfg3.N) (nn f g 2816) := fun i j => by
  refine (dat3 V c).arrAt_forall_of_covers 2 (fun z w => w = nn f g 2816 (z 0).val (z 1).val)
    (by decide +kernel) (fun t hf x => ?_) (ValueIdx.ix2 i j)
  blk_simp [idx3 t]
  refine ((row3 V c h0 h1 t).at x).trans ?_
  simp [mul_comm]

/-! ## Call 4 -/

theorem out4_eq (x0 : Vec Ideal S768x1024 .f32) (x1 : Vec Ideal S2816x1024 .bf16) : out4_2 x0 x1 = k4_pay1 x0 x1 := by
  frame_out

theorem tile4 {x : Vec Ideal S768x1024 .f32} {y : Vec Ideal S2816x1024 .bf16} {f g : ℕ → ℕ → EReal} (hx : Ev2 (φ := .f32) x f)
    (hy : Ev2 (φ := .bf16) y g) : Ev2 (k4_pay1 (F := Ideal) x y) (nt f g 1024) :=
  nt_1024 (Ev2.truncf hx) (Ev2.cast hy)

theorem idx4 : ∀ t : Fin cfg4.N, win4_0.index t = ![t.val, 0] ∧ win4_1.index t = ![0, 0] ∧ win4_2.index t = ![t.val, 0] :=
  (by decide +kernel : ∀ t : Fin grid4.N, _)

theorem blk4_0 (h : Ev2 (φ := .f32) (V c (Pipeline.arrRef spec4 0)) f) (t : Fin cfg4.N) :
    Ev2 (φ := .f32) (a := 768) (b := 1024) (iblk4 V c 0 t) (fun i k => f (768 * t.val + i) k) := fun i j => by
  blk_simp [iblk4]
  refine (h.at _).trans ?_
  simp [idx4 t, mul_comm]

theorem blk4_1 (h : Ev2 (φ := .bf16) (V c (Pipeline.arrRef spec4 1)) g) (t : Fin cfg4.N) :
    Ev2 (φ := .bf16) (a := 2816) (b := 1024) (iblk4 V c 1 t) g := fun i j => by
  blk_simp [iblk4]
  refine (h.at _).trans ?_
  simp [idx4 t]

theorem row4 (h0 : Ev2 (φ := .f32) (V c (Pipeline.arrRef spec4 0)) f) (h1 : Ev2 (φ := .bf16) (V c (Pipeline.arrRef spec4 1)) g)
    (t : Fin cfg4.N) : Ev2 (φ := .f32) (a := 768) (b := 2816) ((dat4 V c).after 2 t) (fun i j => nt f g 1024 (768 * t.val + i) j) := by
  rw [after4_2, out4_eq]
  exact tile4 (blk4_0 V c h0 t) (blk4_1 V c h1 t)

theorem arr4 (h0 : Ev2 (φ := .f32) (V c (Pipeline.arrRef spec4 0)) f) (h1 : Ev2 (φ := .bf16) (V c (Pipeline.arrRef spec4 1)) g) :
    Ev2 (φ := .f32) (a := 8448) (b := 2816) ((dat4 V c).arrAt 2 cfg4.N) (nt f g 1024) := fun i j => by
  refine (dat4 V c).arrAt_forall_of_covers 2 (fun z w => w = nt f g 1024 (z 0).val (z 1).val)
    (by decide +kernel) (fun t hf x => ?_) (ValueIdx.ix2 i j)
  blk_simp [idx4 t]
  refine ((row4 V c h0 h1 t).at x).trans ?_
  simp [mul_comm]

/-! ## Call 5 -/

theorem out5_eq (x0 : Vec Ideal S768x2816 .f32) (x1 : Vec Ideal S1024x2816 .bf16) : out5_2 x0 x1 = k5_pay1 x0 x1 := by
  frame_out

theorem tile5 {x : Vec Ideal S768x2816 .f32} {y : Vec Ideal S1024x2816 .bf16} {f g : ℕ → ℕ → EReal} (hx : Ev2 (φ := .f32) x f)
    (hy : Ev2 (φ := .bf16) y g) : Ev2 (k5_pay1 (F := Ideal) x y) (nt f g 2816) :=
  nt_2816 (Ev2.truncf hx) (Ev2.cast hy)

theorem idx5 : ∀ t : Fin cfg5.N, win5_0.index t = ![t.val, 0] ∧ win5_1.index t = ![0, 0] ∧ win5_2.index t = ![t.val, 0] :=
  (by decide +kernel : ∀ t : Fin grid5.N, _)

theorem blk5_0 (h : Ev2 (φ := .f32) (V c (Pipeline.arrRef spec5 0)) f) (t : Fin cfg5.N) :
    Ev2 (φ := .f32) (a := 768) (b := 2816) (iblk5 V c 0 t) (fun i k => f (768 * t.val + i) k) := fun i j => by
  blk_simp [iblk5]
  refine (h.at _).trans ?_
  simp [idx5 t, mul_comm]

theorem blk5_1 (h : Ev2 (φ := .bf16) (V c (Pipeline.arrRef spec5 1)) g) (t : Fin cfg5.N) :
    Ev2 (φ := .bf16) (a := 1024) (b := 2816) (iblk5 V c 1 t) g := fun i j => by
  blk_simp [iblk5]
  refine (h.at _).trans ?_
  simp [idx5 t]

theorem row5 (h0 : Ev2 (φ := .f32) (V c (Pipeline.arrRef spec5 0)) f) (h1 : Ev2 (φ := .bf16) (V c (Pipeline.arrRef spec5 1)) g)
    (t : Fin cfg5.N) : Ev2 (φ := .f32) (a := 768) (b := 1024) ((dat5 V c).after 2 t) (fun i j => nt f g 2816 (768 * t.val + i) j) := by
  rw [after5_2, out5_eq]
  exact tile5 (blk5_0 V c h0 t) (blk5_1 V c h1 t)

theorem arr5 (h0 : Ev2 (φ := .f32) (V c (Pipeline.arrRef spec5 0)) f) (h1 : Ev2 (φ := .bf16) (V c (Pipeline.arrRef spec5 1)) g) :
    Ev2 (φ := .f32) (a := 8448) (b := 1024) ((dat5 V c).arrAt 2 cfg5.N) (nt f g 2816) := fun i j => by
  refine (dat5 V c).arrAt_forall_of_covers 2 (fun z w => w = nt f g 2816 (z 0).val (z 1).val)
    (by decide +kernel) (fun t hf x => ?_) (ValueIdx.ix2 i j)
  blk_simp [idx5 t]
  refine ((row5 V c h0 h1 t).at x).trans ?_
  simp [mul_comm]

/-! ## Call 6 -/

theorem out6_eq (x0 : Vec Ideal S768x2816 .f32) (x1 : Vec Ideal S1024x2816 .bf16) : out6_2 x0 x1 = k6_pay1 x0 x1 := by
  frame_out

theorem tile6 {x : Vec Ideal S768x2816 .f32} {y : Vec Ideal S1024x2816 .bf16} {f g : ℕ → ℕ → EReal} (hx : Ev2 (φ := .f32) x f)
    (hy : Ev2 (φ := .bf16) y g) : Ev2 (k6_pay1 (F := Ideal) x y) (nt f g 2816) :=
  nt_2816 (Ev2.truncf hx) (Ev2.cast hy)

theorem idx6 : ∀ t : Fin cfg6.N, win6_0.index t = ![t.val, 0] ∧ win6_1.index t = ![0, 0] ∧ win6_2.index t = ![t.val, 0] :=
  (by decide +kernel : ∀ t : Fin grid6.N, _)

theorem blk6_0 (h : Ev2 (φ := .f32) (V c (Pipeline.arrRef spec6 0)) f) (t : Fin cfg6.N) :
    Ev2 (φ := .f32) (a := 768) (b := 2816) (iblk6 V c 0 t) (fun i k => f (768 * t.val + i) k) := fun i j => by
  blk_simp [iblk6]
  refine (h.at _).trans ?_
  simp [idx6 t, mul_comm]

theorem blk6_1 (h : Ev2 (φ := .bf16) (V c (Pipeline.arrRef spec6 1)) g) (t : Fin cfg6.N) :
    Ev2 (φ := .bf16) (a := 1024) (b := 2816) (iblk6 V c 1 t) g := fun i j => by
  blk_simp [iblk6]
  refine (h.at _).trans ?_
  simp [idx6 t]

theorem row6 (h0 : Ev2 (φ := .f32) (V c (Pipeline.arrRef spec6 0)) f) (h1 : Ev2 (φ := .bf16) (V c (Pipeline.arrRef spec6 1)) g)
    (t : Fin cfg6.N) : Ev2 (φ := .f32) (a := 768) (b := 1024) ((dat6 V c).after 2 t) (fun i j => nt f g 2816 (768 * t.val + i) j) := by
  rw [after6_2, out6_eq]
  exact tile6 (blk6_0 V c h0 t) (blk6_1 V c h1 t)

theorem arr6 (h0 : Ev2 (φ := .f32) (V c (Pipeline.arrRef spec6 0)) f) (h1 : Ev2 (φ := .bf16) (V c (Pipeline.arrRef spec6 1)) g) :
    Ev2 (φ := .f32) (a := 8448) (b := 1024) ((dat6 V c).arrAt 2 cfg6.N) (nt f g 2816) := fun i j => by
  refine (dat6 V c).arrAt_forall_of_covers 2 (fun z w => w = nt f g 2816 (z 0).val (z 1).val)
    (by decide +kernel) (fun t hf x => ?_) (ValueIdx.ix2 i j)
  blk_simp [idx6 t]
  refine ((row6 V c h0 h1 t).at x).trans ?_
  simp [mul_comm]

end Ffn.Mid
-- ==== Proof.FfnConv.lean ====
/- The middle call: each block of rows reads the block's neighbours for the convolution, times the tanh gelu, times the
   other half. -/
module

public import proofs.«01_k».proof.Proof.FfnDefs
public import proofs.«01_k».proof.Proof.Gen.Kernel3Ideal.Frame
public import Idealize.ShloMosaic.Lib.KernelVsHost

@[expose] public section

set_option maxRecDepth 16384

noncomputable section

namespace Ffn.Mid

open Idealize.ShloMosaic Finset
open Idealize.ShloMosaic.TcCoe
open Cert.Kernel3Ideal Cert.Kernel3Ideal.Gen

/-! ## The two switches: is there a row before, and a row after, in the same range -/

theorem bits_eq (t : ℕ) (ht : t < 33) (k : ℕ) (hk : k < 33) :
    (Scalar.extui (Scalar.andi (Scalar.cmpi .ne (BitVec.ofNat 32 t) 0#32) (Scalar.cmpi .ne (BitVec.ofNat 32 t) (BitVec.ofNat 32 k))) :
      BitVec 32).toInt = if t ≠ 0 ∧ t ≠ k then 1 else 0 := by
  have h : ∀ t k : Fin 33, (Scalar.extui (Scalar.andi (Scalar.cmpi .ne (BitVec.ofNat 32 t.val) 0#32)
      (Scalar.cmpi .ne (BitVec.ofNat 32 t.val) (BitVec.ofNat 32 k.val))) : BitVec 32).toInt
      = if t.val ≠ 0 ∧ t.val ≠ k.val then 1 else 0 := by decide +kernel
  exact h ⟨t, ht⟩ ⟨k, hk⟩

theorem row_eq (r : ℕ) (hr : r < 256) (k : ℕ) (hk : k < 256) {α : Type} (A B : α) :
    Scalar.select (IntOp.cmpi .eq (BitVec.ofNat 32 r) (BitVec.ofNat 32 k)) A B = if r = k then A else B := by
  have e : (BitVec.ofNat 32 r = BitVec.ofNat 32 k) ↔ r = k := by
    rw [← BitVec.toNat_inj, BitVec.toNat_ofNat, BitVec.toNat_ofNat]; omega
  by_cases h : r = k
  · rw [if_pos h]; subst h; simp [IntOp.cmpi, Scalar.select]
  · rw [if_neg h]
    have : (BitVec.ofNat 32 r == BitVec.ofNat 32 k) = false := by rw [beq_eq_false_iff_ne]; exact fun q => h (e.mp q)
    simp [IntOp.cmpi, Scalar.select, this]

section

variable {x0 x3 : Vec Ideal S256x2816 .f32} {x1 x2 x4 : Vec Ideal S8x2816 .f32} {x5 : Vec Ideal S1x2816 .f32}
  {g u w : ℕ → ℕ → EReal} {n b : ℕ → EReal} (i : grid2.Coords)

/-- The rows moved up by one, with the next block's first row at the end. -/
theorem up_row (h0 : Ev2 (φ := .f32) x0 g) (h2 : ∀ j : Fin 2816, x2 (ix2 0 j) = n j) :
    Ev2 (φ := .f32) (a := 256) (b := 2816) (k2_pay3 (F := Ideal) i x0 x2) fun r j =>
      if r = 255 then (if (i 0).val ≠ 0 ∧ (i 0).val ≠ 32 then n j else 0) else g (r + 1) j := fun r j => by
  unfold k2_pay3 k2_pay2
  pointwise
  rw [bits_eq _ (i 0).isLt 32 (by decide), row_eq r.val r.isLt 255 (by decide), h2 j]
  split
  · split <;> simp
  · next h =>
    refine (h0.get _ rfl rfl).trans ?_
    congr 1
    change (r.val + 256 - 255) % 256 = r.val + 1
    have := r.isLt
    omega

/-- The rows moved down by one, with the previous block's last row at the start, times the first tap. -/
theorem down_row (h0 : Ev2 (φ := .f32) x0 g) (h1 : ∀ j : Fin 2816, x1 (ix2 7 j) = n j) (h4 : Ev2 (φ := .f32) x4 w) :
    Ev2 (φ := .f32) (a := 256) (b := 2816) (k2_pay4 (F := Ideal) i x0 x1 (View.ld x4 r2_2)) fun r j =>
      w 0 j * if r = 0 then (if (i 0).val ≠ 0 ∧ (i 0).val ≠ 1 then n j else 0) else g (r - 1) j := fun r j => by
  unfold k2_pay4 k2_pay2
  pointwise
  rw [bits_eq _ (i 0).isLt 1 (by decide), row_eq r.val r.isLt 0 (by decide), h1 j]
  refine congrArg₂ (· * ·) (h4.get _ rfl rfl) ?_
  split
  · split <;> simp
  · next h =>
    refine (h0.get _ rfl rfl).trans ?_
    congr 1
    change (r.val + 256 - 1) % 256 = r.val - 1
    have := r.isLt
    omega

theorem out2_eq : out2_6 (F := Ideal) i x0 x1 x2 x3 x4 x5 = k2_pay1 (k2_pay2 x0) (k2_pay3 i x0 x2) (k2_pay4 i x0 x1 (View.ld x4 r2_2))
    (k2_pay5 (View.ld x4 r2_3)) (View.ld x4 r2_4) x5 x3 := by
  frame_out

/-- The middle's value from the convolution's three rows. -/
theorem mid_row {d a : ℕ → ℕ → EReal} {v34 v38 : FVec Ideal S256x2816 .f32} (h0 : Ev2 (φ := .f32) x0 g) (hd : Ev2 v38 d) (ha : Ev2 v34 a)
    (h3 : Ev2 (φ := .f32) x3 u) (h4 : Ev2 (φ := .f32) x4 w) (h5 : ∀ j : Fin 2816, x5 (ix2 0 j) = b j) :
    Ev2 (φ := .bf16) (a := 256) (b := 2816) (k2_pay1 (F := Ideal) (k2_pay2 x0) v34 v38 (k2_pay5 (View.ld x4 r2_3)) (View.ld x4 r2_4) x5 x3)
      fun r j => gl (d r j + w 1 j * g r j + w 2 j * a r j + b j) * u r j := fun r j => by
  have e0 := h0 r j
  have e1 := hd r j
  have e2 := ha r j
  have e3 := h3 r j
  have e4 : x4 (ix2 1 j) = w 1 j := h4.get _ rfl rfl
  have e5 : x4 (ix2 2 j) = w 2 j := h4.get _ rfl rfl
  unfold k2_pay1 k2_pay2 k2_pay5
  pointwise
  rw [e0, e1, e2, e3, e4, e5, h5 j, ← Ideal.ofBits_one_f32]
  unfold gl
  generalize d r j + w 1 j * g r j + w 2 j * a r j + b j = x
  rw [mul_comm (Ideal.ofBits .f32 0x3F000000#32) x, mul_assoc x]

end

/-! ## The call -/

theorem idx2 : ∀ t : Fin cfg2.N, win2_0.index t = ![t.val, 0] ∧ win2_1.index t = ![32 * t.val - 1, 0] ∧ win2_2.index t = ![min (32 * t.val + 32) 1055, 0]
    ∧ win2_3.index t = ![t.val, 0] ∧ win2_4.index t = ![0, 0] ∧ win2_5.index t = ![0, 0] ∧ win2_6.index t = ![t.val, 0]
    ∧ (grid2.coords t 0).val = t.val :=
  (by decide +kernel : ∀ t : Fin grid2.N, _)

variable (V : (c : Dev nD) → (b : Ref sig .tc) → Buf (Elt Ideal) ((c : Thread nD τ).loc b)) (c : Dev nD)
  {g u w : ℕ → ℕ → EReal} {b : ℕ → EReal}

theorem blk2_0 (h : Ev2 (φ := .f32) (V c (Pipeline.arrRef spec2 0)) g) (t : Fin cfg2.N) :
    Ev2 (φ := .f32) (a := 256) (b := 2816) (iblk2 V c 0 t) (fun i k => g (256 * t.val + i) k) := fun i j => by
  blk_simp [iblk2]
  refine (h.at _).trans ?_
  simp [idx2 t, mul_comm]

theorem blk2_1 (h : Ev2 (φ := .f32) (V c (Pipeline.arrRef spec2 1)) g) (t : Fin cfg2.N) :
    Ev2 (φ := .f32) (a := 8) (b := 2816) (iblk2 V c 1 t) (fun i k => g (8 * (32 * t.val - 1) + i) k) := fun i j => by
  blk_simp [iblk2]
  refine (h.at _).trans ?_
  simp [idx2 t, mul_comm]

theorem blk2_2 (h : Ev2 (φ := .f32) (V c (Pipeline.arrRef spec2 2)) g) (t : Fin cfg2.N) :
    Ev2 (φ := .f32) (a := 8) (b := 2816) (iblk2 V c 2 t) (fun i k => g (8 * min (32 * t.val + 32) 1055 + i) k) := fun i j => by
  blk_simp [iblk2]
  refine (h.at _).trans ?_
  simp [idx2 t, mul_comm]

theorem blk2_3 (h : Ev2 (φ := .f32) (V c (Pipeline.arrRef spec2 3)) u) (t : Fin cfg2.N) :
    Ev2 (φ := .f32) (a := 256) (b := 2816) (iblk2 V c 3 t) (fun i k => u (256 * t.val + i) k) := fun i j => by
  blk_simp [iblk2]
  refine (h.at _).trans ?_
  simp [idx2 t, mul_comm]

theorem blk2_4 (h : Ev2 (φ := .f32) (V c (Pipeline.arrRef spec2 4)) w) (t : Fin cfg2.N) :
    Ev2 (φ := .f32) (a := 8) (b := 2816) (iblk2 V c 4 t) w := fun i j => by
  blk_simp [iblk2]
  refine (h.at _).trans ?_
  simp [idx2 t]

theorem blk2_5 (h : Ev2 (φ := .f32) (V c (Pipeline.arrRef spec2 5)) (fun _ => b)) (t : Fin cfg2.N) :
    Ev2 (φ := .f32) (a := 1) (b := 2816) (iblk2 V c 5 t) (fun _ => b) := fun i j => by
  blk_simp [iblk2]
  refine (h.at _).trans ?_
  simp [idx2 t]

variable (h0 : Ev2 (φ := .f32) (V c (Pipeline.arrRef spec2 0)) g) (h1 : Ev2 (φ := .f32) (V c (Pipeline.arrRef spec2 1)) g)
  (h2 : Ev2 (φ := .f32) (V c (Pipeline.arrRef spec2 2)) g) (h3 : Ev2 (φ := .f32) (V c (Pipeline.arrRef spec2 3)) u)
  (h4 : Ev2 (φ := .f32) (V c (Pipeline.arrRef spec2 4)) w) (h5 : Ev2 (φ := .f32) (V c (Pipeline.arrRef spec2 5)) (fun _ => b))

include h0 h1 h2 h3 h4 h5

theorem row2 (t : Fin cfg2.N) : Ev2 (φ := .bf16) (a := 256) (b := 2816) ((dat2 V c).after 6 t) (fun i j => mids g u w b (256 * t.val + i) j) := by
  rw [after2_6, out2_eq]
  have p0 := blk2_0 V c h0 t
  refine (mid_row p0 (down_row _ p0 (fun j => blk2_1 V c h1 t 7 j) (blk2_4 V c h4 t)) (up_row _ p0 (fun j => blk2_2 V c h2 t 0 j))
    (blk2_3 V c h3 t) (blk2_4 V c h4 t) (fun j => blk2_5 V c h5 t 0 j)).congr fun i hi j hj => ?_
  have ht : t.val < 33 := t.isLt
  have ec : (grid2.coords t 0).val = t.val := (idx2 t).2.2.2.2.2.2.2
  have eb : ∀ lo, (lo = if t.val = 0 then 0 else 256) → (if i = 0 then (if (grid2.coords t 0).val ≠ 0 ∧ (grid2.coords t 0).val ≠ 1
      then g (8 * (32 * t.val - 1) + 7) j else 0) else g (256 * t.val + (i - 1)) j) = bef g lo (256 * t.val + i) j := by
    rintro lo rfl
    unfold bef
    rw [ec]
    split_ifs <;> first | omega | rfl | (congr 1; omega)
  have ea : ∀ hi', (hi' = if t.val = 0 then 256 else 8448) → (if i = 255 then (if (grid2.coords t 0).val ≠ 0 ∧ (grid2.coords t 0).val ≠ 32
      then g (8 * min (32 * t.val + 32) 1055 + 0) j else 0) else g (256 * t.val + (i + 1)) j) = aft g hi' (256 * t.val + i) j := by
    rintro lo rfl
    unfold aft
    rw [ec]
    split_ifs <;> first | omega | rfl | (congr 1; omega)
  unfold mids um cv
  by_cases h : t.val = 0
  · rw [if_pos (show 256 * t.val + i < 256 by omega), ← eb 0 (by rw [if_pos h]), ← ea 256 (by rw [if_pos h])]
    rfl
  · rw [if_neg (show ¬256 * t.val + i < 256 by omega), ← eb 256 (by rw [if_neg h]), ← ea 8448 (by rw [if_neg h])]
    rfl

theorem arr2 : Ev2 (φ := .bf16) (a := 8448) (b := 2816) ((dat2 V c).arrAt 6 cfg2.N) (mids g u w b) := fun i j => by
  refine (dat2 V c).arrAt_forall_of_covers 6 (fun z w' => w' = mids g u w b (z 0).val (z 1).val)
    (by decide +kernel) (fun t hf x => ?_) (ValueIdx.ix2 i j)
  blk_simp [idx2 t]
  refine ((row2 V c h0 h1 h2 h3 h4 h5 t).at x).trans ?_
  simp [mul_comm]

end Ffn.Mid
-- ==== Proof.FfnIn.lean ====
/- The feed-forward's arrays from call to call, from the program's arguments to its three results. -/
module

public import proofs.«01_k».proof.Proof.FfnMul
public import proofs.«01_k».proof.Proof.FfnConv

@[expose] public section

set_option maxRecDepth 16384

noncomputable section

namespace Ffn.Mid

open Idealize.ShloMosaic Finset
open Idealize.ShloMosaic.TcCoe
open Cert.Kernel3Ideal Cert.Kernel3Ideal.Gen

variable (m : (ℓ : Loc nD τ sig) → Buf (Elt Ideal) ℓ) (ρ : Dev nD → PrngReg) (c : Dev nD)

/-! ## What the host computes -/

theorem w1_v1 : W1 m ρ c (Proc.devRef .tc main_v1) = (truncf .bf16 (extractStridedSlice S1024x2816 ![0, 0]
    (m ((c : Thread nD τ).loc main_arg1) : FVec Ideal S1024x5632 .f32) Facts₀.slices_S1024x5632_S1024x2816_0_0 : FVec Ideal S1024x2816 .f32)
    Facts₀.bitsLt_bf16_f32 : FVec Ideal S1024x2816 .bf16) := by
  unfold_abbrev_sides
  after_results_simp

theorem w1_v3 : W1 m ρ c (Proc.devRef .tc main_v3) = (truncf .bf16 (extractStridedSlice S1024x2816 ![0, 2816]
    (m ((c : Thread nD τ).loc main_arg1) : FVec Ideal S1024x5632 .f32) Facts₀.slices_S1024x5632_S1024x2816_0_2816 : FVec Ideal S1024x2816 .f32)
    Facts₀.bitsLt_bf16_f32 : FVec Ideal S1024x2816 .bf16) := by
  unfold_abbrev_sides
  after_results_simp

theorem w1_v4 : W1 m ρ c (Proc.devRef .tc main_v4) = (truncf .bf16 (m ((c : Thread nD τ).loc main_arg4) : FVec Ideal S2816x1024 .f32)
    Facts₀.bitsLt_bf16_f32 : FVec Ideal S2816x1024 .bf16) := by
  unfold_abbrev_sides
  after_results_simp

theorem w4_v8 : W4 m ρ c (Proc.devRef .tc main_v8) = concatenate S8x2816 0 [⟨S3x2816, (W3 m ρ c (Proc.devRef .tc main_arg2) : FVec Ideal S3x2816 .f32)⟩,
    ⟨S5x2816, broadcastInDim S5x2816 ![] Facts₀.bcast_S_S5x2816 (constant S_ .f32 0x00000000#32 : FVec Ideal S_ .f32)⟩]
    Facts₀.concatenates_S3x2816_S5x2816_S8x2816_d0 := by
  unfold_abbrev_sides
  after_results_simp
  rfl

theorem w4_v9 : W4 m ρ c (Proc.devRef .tc main_v9) = broadcastInDim S1x2816 ![1] Facts₀.bcast_S2816_S1x2816_1
    (W3 m ρ c (Proc.devRef .tc main_arg3) : FVec Ideal S2816 .f32) := by
  unfold_abbrev_sides
  after_results_simp

theorem w10_v15 : W10 m ρ c (Proc.devRef .tc main_v15) = (addf (W9 m ρ c (Proc.devRef .tc main_v13) : FVec Ideal S8448x1024 .f32)
    (W9 m ρ c (Proc.devRef .tc main_v14) : FVec Ideal S8448x1024 .f32) : FVec Ideal S8448x1024 .f32) := by
  unfold_abbrev_sides
  after_results_simp

/-! ## The arrays, one after the other -/

variable {a w wd wo df dg du : ℕ → ℕ → EReal} {b : ℕ → EReal}
variable (h0 : Ev2 (φ := .f32) (m ((c : Thread nD τ).loc main_arg0) : FVec Ideal S8448x1024 .f32) a)
  (h1 : Ev2 (φ := .f32) (m ((c : Thread nD τ).loc main_arg1) : FVec Ideal S1024x5632 .f32) w)
  (h2 : Ev2 (φ := .f32) (m ((c : Thread nD τ).loc main_arg2) : FVec Ideal S3x2816 .f32) wd)
  (h3 : Ev1 (φ := .f32) (m ((c : Thread nD τ).loc main_arg3) : FVec Ideal S2816 .f32) b)
  (h4 : Ev2 (φ := .f32) (m ((c : Thread nD τ).loc main_arg4) : FVec Ideal S2816x1024 .f32) wo)
  (h5 : Ev2 (φ := .f32) (m ((c : Thread nD τ).loc main_arg5) : FVec Ideal S8448x1024 .f32) df)
  (h6 : Ev2 (φ := .f32) (m ((c : Thread nD τ).loc main_arg6) : FVec Ideal S8448x2816 .f32) dg)
  (h7 : Ev2 (φ := .f32) (m ((c : Thread nD τ).loc main_arg7) : FVec Ideal S8448x2816 .f32) du)

include h1 in
theorem v1_ev : Ev2 (φ := .bf16) (W1 m ρ c (Proc.devRef .tc main_v1) : FVec Ideal S1024x2816 .bf16) w := fun i j => by
  rw [w1_v1]
  pointwise
  exact h1.get _ rfl rfl

include h1 in
theorem v3_ev : Ev2 (φ := .bf16) (W1 m ρ c (Proc.devRef .tc main_v3) : FVec Ideal S1024x2816 .bf16) (right w) := fun i j => by
  rw [w1_v3]
  pointwise
  exact h1.get _ rfl rfl

include h4 in
theorem v4_ev : Ev2 (φ := .bf16) (W1 m ρ c (Proc.devRef .tc main_v4) : FVec Ideal S2816x1024 .bf16) wo := by
  rw [w1_v4]
  exact h4.truncf

/-! Taps with the zero rows below, and the bias as a row. -/

include h2 in
theorem v8_ev : Ev2 (φ := .f32) (W4 m ρ c (Proc.devRef .tc main_v8) : FVec Ideal S8x2816 .f32) fun i j => if i < 3 then wd i j else 0 := fun i j => by
  rw [w4_v8, W3_args m ρ c main_arg2 (by decide)]
  pointwise
  by_cases hi : i.val < 3
  · exact (dif_pos hi).trans ((h2 ⟨i.val, hi⟩ j).trans (if_pos hi).symm)
  · exact (dif_neg hi).trans (Eq.trans (by simp) (if_neg hi).symm)

include h3 in
theorem v9_ev : Ev2 (φ := .f32) (W4 m ρ c (Proc.devRef .tc main_v9) : FVec Ideal S1x2816 .f32) fun _ => b := fun i j => by
  rw [w4_v9, W3_args m ρ c main_arg3 (by decide)]
  pointwise
  exact h3.get _ rfl

section

include h0 h1

theorem gate_ev : Ev2 (φ := .f32) (W2 m ρ c (Proc.devRef .tc main_v5) : FVec Ideal S8448x2816 .f32) (nn a w 1024) := by
  have e := W2_arr m ρ c 2
  have g0 : Ev2 (φ := .f32) (V1 m ρ c (Pipeline.arrRef spec0 0)) a := by
    have q := W1_args m ρ c main_arg0 (by decide)
    exact (show V1 m ρ c (Pipeline.arrRef spec0 0) = _ from q) ▸ h0
  exact e ▸ arr0 (V1 m ρ) c g0 (v1_ev m ρ c h1)

theorem up_ev : Ev2 (φ := .f32) (W3 m ρ c (Proc.devRef .tc main_v6) : FVec Ideal S8448x2816 .f32) (nn a (right w) 1024) := by
  have e := W3_arr m ρ c 2
  have g0 : Ev2 (φ := .f32) (V2 m ρ c (Pipeline.arrRef spec1 0)) a := by
    have q := W2_args m ρ c main_arg0 (by decide)
    exact (show V2 m ρ c (Pipeline.arrRef spec1 0) = _ from q) ▸ h0
  have g1 : Ev2 (φ := .bf16) (V2 m ρ c (Pipeline.arrRef spec1 1)) (right w) := by
    have q := W2_of m ρ c main_v3 (by decide +kernel)
    exact (show V2 m ρ c (Pipeline.arrRef spec1 1) = _ from q) ▸ v3_ev m ρ c h1
  exact e ▸ arr1 (V2 m ρ) c g0 g1

include h2 h3

theorem mid_ev : Ev2 (φ := .bf16) (W5 m ρ c (Proc.devRef .tc main_v10) : FVec Ideal S8448x2816 .bf16)
    (mids (nn a w 1024) (nn a (right w) 1024) wd b) := by
  have e := W5_arr m ρ c 6
  have g : Ev2 (φ := .f32) (W4 m ρ c (Proc.devRef .tc main_v5) : FVec Ideal S8448x2816 .f32) (nn a w 1024) := by
    have q := (W4_of m ρ c main_v5 (by decide +kernel)).trans (W3_of m ρ c main_v5 (by decide +kernel))
    exact q ▸ gate_ev m ρ c h0 h1
  have u : Ev2 (φ := .f32) (W4 m ρ c (Proc.devRef .tc main_v6) : FVec Ideal S8448x2816 .f32) (nn a (right w) 1024) := by
    have q := W4_of m ρ c main_v6 (by decide +kernel)
    exact q ▸ up_ev m ρ c h0 h1
  have h := arr2 (V4 m ρ) c g g g u (v8_ev m ρ c h2) (v9_ev m ρ c h3)
  refine (show Ev2 (φ := .bf16) (W5 m ρ c (Proc.devRef .tc main_v10) : FVec Ideal S8448x2816 .bf16) _ from e ▸ h).congr fun i _ j _ => ?_
  rfl

include h4

theorem f_ev : Ev2 (φ := .f32) (W10 m ρ c (Proc.devRef .tc main_v11) : FVec Ideal S8448x1024 .f32)
    (nn (mids (nn a w 1024) (nn a (right w) 1024) wd b) wo 2816) := by
  have q := (((W10_of m ρ c main_v11 (by decide +kernel)).trans (W9_of m ρ c main_v11 (by decide +kernel))).trans
    (W8_of m ρ c main_v11 (by decide +kernel))).trans (W7_of m ρ c main_v11 (by decide +kernel))
  have e := W6_arr m ρ c 2
  have g1 : Ev2 (φ := .bf16) (V5 m ρ c (Pipeline.arrRef spec3 1)) wo := by
    have q := (((W5_of m ρ c main_v4 (by decide +kernel)).trans (W4_of m ρ c main_v4 (by decide +kernel))).trans
      (W3_of m ρ c main_v4 (by decide +kernel))).trans (W2_of m ρ c main_v4 (by decide +kernel))
    exact (show V5 m ρ c (Pipeline.arrRef spec3 1) = _ from q) ▸ v4_ev m ρ c h4
  exact q ▸ (show Ev2 (φ := .f32) (W6 m ρ c (Proc.devRef .tc main_v11) : FVec Ideal S8448x1024 .f32) _ from
    e ▸ arr3 (V5 m ρ) c (mid_ev m ρ c h0 h1 h2 h3) g1)

end

include h4 h5 in
theorem du_ev : Ev2 (φ := .f32) (W10 m ρ c (Proc.devRef .tc main_v12) : FVec Ideal S8448x2816 .f32) (nt df wo 1024) := by
  have q := ((W10_of m ρ c main_v12 (by decide +kernel)).trans (W9_of m ρ c main_v12 (by decide +kernel))).trans
    (W8_of m ρ c main_v12 (by decide +kernel))
  have e := W7_arr m ρ c 2
  have g0 : Ev2 (φ := .f32) (V6 m ρ c (Pipeline.arrRef spec4 0)) df := by
    have q := W6_args m ρ c main_arg5 (by decide)
    exact (show V6 m ρ c (Pipeline.arrRef spec4 0) = _ from q) ▸ h5
  have g1 : Ev2 (φ := .bf16) (V6 m ρ c (Pipeline.arrRef spec4 1)) wo := by
    have q := ((((W6_of m ρ c main_v4 (by decide +kernel)).trans (W5_of m ρ c main_v4 (by decide +kernel))).trans
      (W4_of m ρ c main_v4 (by decide +kernel))).trans (W3_of m ρ c main_v4 (by decide +kernel))).trans (W2_of m ρ c main_v4 (by decide +kernel))
    exact (show V6 m ρ c (Pipeline.arrRef spec4 1) = _ from q) ▸ v4_ev m ρ c h4
  exact q ▸ (show Ev2 (φ := .f32) (W7 m ρ c (Proc.devRef .tc main_v12) : FVec Ideal S8448x2816 .f32) _ from e ▸ arr4 (V6 m ρ) c g0 g1)

/-- The host's casts of the weights reach the calls that read them. -/
theorem keep7 (r : Ref sig .tc) (k0 : ∀ w : Fin cfg0.W, Pipeline.arrRef spec0 w = r → (cfg0.win w).isOut = false)
    (k1 : ∀ w : Fin cfg1.W, Pipeline.arrRef spec1 w = r → (cfg1.win w).isOut = false) (kh : r ∉ hostOps2_W)
    (k2 : ∀ w : Fin cfg2.W, Pipeline.arrRef spec2 w = r → (cfg2.win w).isOut = false)
    (k3 : ∀ w : Fin cfg3.W, Pipeline.arrRef spec3 w = r → (cfg3.win w).isOut = false)
    (k4 : ∀ w : Fin cfg4.W, Pipeline.arrRef spec4 w = r → (cfg4.win w).isOut = false) :
    W7 m ρ c (Proc.devRef .tc r) = W1 m ρ c (Proc.devRef .tc r) := by
  rw [W7_of m ρ c r k4, W6_of m ρ c r k3, W5_of m ρ c r k2, W4_of m ρ c r kh, W3_of m ρ c r k1, W2_of m ρ c r k0]

include h1 h6 h7 in
theorem da_ev : Ev2 (φ := .f32) (W10 m ρ c (Proc.devRef .tc main_v15) : FVec Ideal S8448x1024 .f32)
    fun i j => nt dg w 2816 i j + nt du (right w) 2816 i j := by
  have eg := W8_arr m ρ c 2
  have eu := W9_arr m ρ c 2
  have g0 : Ev2 (φ := .f32) (V7 m ρ c (Pipeline.arrRef spec5 0)) dg := by
    have q := W7_args m ρ c main_arg6 (by decide)
    exact (show V7 m ρ c (Pipeline.arrRef spec5 0) = _ from q) ▸ h6
  have g1 : Ev2 (φ := .bf16) (V7 m ρ c (Pipeline.arrRef spec5 1)) w := by
    have q := keep7 m ρ c main_v1 (by decide +kernel) (by decide +kernel) (by decide +kernel) (by decide +kernel) (by decide +kernel) (by decide +kernel)
    exact (show V7 m ρ c (Pipeline.arrRef spec5 1) = _ from q) ▸ v1_ev m ρ c h1
  have u0 : Ev2 (φ := .f32) (V8 m ρ c (Pipeline.arrRef spec6 0)) du := by
    have q := W8_args m ρ c main_arg7 (by decide)
    exact (show V8 m ρ c (Pipeline.arrRef spec6 0) = _ from q) ▸ h7
  have u1 : Ev2 (φ := .bf16) (V8 m ρ c (Pipeline.arrRef spec6 1)) (right w) := by
    have q := (W8_of m ρ c main_v3 (by decide +kernel)).trans
      (keep7 m ρ c main_v3 (by decide +kernel) (by decide +kernel) (by decide +kernel) (by decide +kernel) (by decide +kernel) (by decide +kernel))
    exact (show V8 m ρ c (Pipeline.arrRef spec6 1) = _ from q) ▸ v3_ev m ρ c h1
  have r5 : Ev2 (φ := .f32) (W9 m ρ c (Proc.devRef .tc main_v13) : FVec Ideal S8448x1024 .f32) (nt dg w 2816) := by
    have q := W9_of m ρ c main_v13 (by decide +kernel)
    exact q ▸ (show Ev2 (φ := .f32) (W8 m ρ c (Proc.devRef .tc main_v13) : FVec Ideal S8448x1024 .f32) _ from eg ▸ arr5 (V7 m ρ) c g0 g1)
  have r6 : Ev2 (φ := .f32) (W9 m ρ c (Proc.devRef .tc main_v14) : FVec Ideal S8448x1024 .f32) (nt du (right w) 2816) :=
    eu ▸ arr6 (V8 m ρ) c u0 u1
  rw [w10_v15]
  exact r5.add r6

end Ffn.Mid
-- ==== Proof.RefFfn.lean ====
/- The reference's feed-forward over extended reals: the short convolution with its tanh gelu times the other half, and the
   products around it. -/
module

public import proofs.«01_k».proof.Proof.FfnDefs
public import proofs.«01_k».proof.Proof.Gen.Reference3Ideal.Read

@[expose] public section

set_option maxRecDepth 16384

noncomputable section

namespace Ffn.Ref

open Idealize.ShloMosaic Finset
open Idealize.ShloMosaic.TcCoe
open Cert.Reference3Ideal Cert.Reference3Ideal.Gen Cert.Reference3Ideal.Read

variable {x0 : FVec Ideal S8448x1024 .f32} {x1 : FVec Ideal S1024x5632 .f32} {x2 : FVec Ideal S3x2816 .f32} {x3 : FVec Ideal S2816 .f32}
  {x4 : FVec Ideal S2816x1024 .f32} {x5 : FVec Ideal S8448x1024 .f32} {x6 x7 : FVec Ideal S8448x2816 .f32}
variable {a w wd wo df dg du : ℕ → ℕ → EReal} {b : ℕ → EReal}
variable (h0 : Ev2 x0 a) (h1 : Ev2 x1 w) (h2 : Ev2 x2 wd) (h3 : Ev1 x3 b) (h4 : Ev2 x4 wo) (h5 : Ev2 x5 df) (h6 : Ev2 x6 dg)
  (h7 : Ev2 x7 du)

/-! ## Rows 0 … 256 -/

section ctx

theorem ctx_w0 (i : Fin 256) (j : Fin 2816) (h2 : Ev2 x2 wd) : val_main_v13 (F := Ideal) x2 (ix2 i j) = wd 0 j := by
  rw [val_main_v13_apply, val_main_v12_apply, val_main_v11_apply, val_main_v10_apply]
  exact h2.get _ rfl (Nat.mod_eq_of_lt j.2)

theorem ctx_w1 (i : Fin 256) (j : Fin 2816) (h2 : Ev2 x2 wd) : val_main_v18 (F := Ideal) x2 (ix2 i j) = wd 1 j := by
  rw [val_main_v18_apply, val_main_v17_apply, val_main_v16_apply, val_main_v15_apply]
  exact h2.get _ rfl (Nat.mod_eq_of_lt j.2)

theorem ctx_w2 (i : Fin 256) (j : Fin 2816) (h2 : Ev2 x2 wd) : val_main_v24 (F := Ideal) x2 (ix2 i j) = wd 2 j := by
  rw [val_main_v24_apply, val_main_v23_apply, val_main_v22_apply, val_main_v21_apply]
  exact h2.get _ rfl (Nat.mod_eq_of_lt j.2)

theorem ctx_b (i : Fin 256) (j : Fin 2816) (h3 : Ev1 x3 b) : val_main_v28 (F := Ideal) x3 (ix2 i j) = b j := by
  rw [val_main_v28_apply, val_main_v27_apply]
  exact h3.get _ rfl

include h0 h1

theorem ctx_gate : Ev2 (φ := .f32) (a := 256) (b := 2816) (val_main_v2 (F := Ideal) x0 x1) fun i j => nn a w 1024 (0 + i) j := fun i j => by
  rw [val_main_v2_apply]
  refine (sum_congr rfl fun k _ => ?_).trans (Fin.sum_univ_eq_sum_range (fun k => a (0 + i) k * w k j) 1024)
  rw [val_main_v0_apply, val_main_v1_apply]
  exact congrArg₂ (· * ·) (h0.get _ (Nat.zero_add _).symm rfl) (h1.get _ rfl rfl)

theorem ctx_up : Ev2 (φ := .f32) (a := 256) (b := 2816) (val_main_v4 (F := Ideal) x0 x1)
    fun i j => nn a (right w) 1024 (0 + i) j := fun i j => by
  rw [val_main_v4_apply]
  refine (sum_congr rfl fun k _ => ?_).trans (Fin.sum_univ_eq_sum_range (fun k => a (0 + i) k * right w k j) 1024)
  rw [val_main_v0_apply, val_main_v3_apply]
  exact congrArg₂ (· * ·) (h0.get _ (Nat.zero_add _).symm rfl) (h1.get _ rfl rfl)

theorem ctx_bef : Ev2 (φ := .f32) (a := 256) (b := 2816) (val_main_v7 (F := Ideal) x0 x1)
    fun i j => bef (nn a w 1024) 0 (0 + i) j := fun i j => by
  have hg : Ev2 (φ := .f32) (a := 255) (b := 2816) (val_main_v6 (F := Ideal) x0 x1) fun i j => nn a w 1024 (0 + i) j := fun i j => by
    rw [val_main_v6_apply]; exact (ctx_gate h0 h1).get _ rfl rfl
  have hz : ∀ z, val_main_v5 (F := Ideal) z = 0 := fun z => by
    rw [val_main_v5_apply, val_main_cst_apply]; exact Ideal.ofBits_zero_f32
  unfold val_main_v7
  generalize val_main_v6 (F := Ideal) x0 x1 = y at *
  generalize val_main_v5 (F := Ideal) = z at *
  pointwise
  by_cases hi : i.val < 1
  · exact (dif_pos hi).trans ((hz _).trans (if_pos (by omega)).symm)
  · refine (dif_neg hi).trans ((hg ⟨i.val - 1, by omega⟩ j).trans ?_)
    change nn a w 1024 (0 + (i.val - 1)) j = bef (nn a w 1024) 0 i.val j
    unfold bef
    rw [if_neg (by omega), Nat.zero_add]

theorem ctx_aft : Ev2 (φ := .f32) (a := 256) (b := 2816) (val_main_v9 (F := Ideal) x0 x1)
    fun i j => aft (nn a w 1024) 256 (0 + i) j := fun i j => by
  have hg : Ev2 (φ := .f32) (a := 255) (b := 2816) (val_main_v8 (F := Ideal) x0 x1) fun i j => nn a w 1024 (0 + (1 + i)) j := fun i j => by
    rw [val_main_v8_apply]; exact (ctx_gate h0 h1).get _ rfl rfl
  have hz : ∀ z, val_main_v5 (F := Ideal) z = 0 := fun z => by
    rw [val_main_v5_apply, val_main_cst_apply]; exact Ideal.ofBits_zero_f32
  unfold val_main_v9
  generalize val_main_v8 (F := Ideal) x0 x1 = y at *
  generalize val_main_v5 (F := Ideal) = z at *
  pointwise
  by_cases hi : i.val < 255
  · refine (dif_pos hi).trans ((hg ⟨i.val, hi⟩ j).trans ?_)
    change nn a w 1024 (0 + (1 + i.val)) j = aft (nn a w 1024) 256 i.val j
    unfold aft
    rw [if_neg (by omega), show i.val + 1 = 0 + (1 + i.val) by omega]
  · exact (dif_neg hi).trans ((hz _).trans (if_pos (by have := i.2; omega)).symm)

include h2 h3

theorem ctx_cv : Ev2 (φ := .f32) (a := 256) (b := 2816) (val_main_v29 (F := Ideal) x0 x1 x2 x3)
    fun i j => cv 0 256 (nn a w 1024) wd b (0 + i) j := fun i j => by
  have e1 := ctx_bef h0 h1 i j
  have e2 := ctx_gate h0 h1 i j
  have e3 := ctx_aft h0 h1 i j
  rw [val_main_v29_apply, val_main_v26_apply, val_main_v20_apply, val_main_v14_apply, val_main_v19_apply, val_main_v25_apply,
    ctx_w0 i j h2, ctx_w1 i j h2, ctx_w2 i j h2, ctx_b i j h3, e1, e2, e3]
  rfl

theorem ctx_mid : Ev2 (φ := .f32) (a := 256) (b := 2816) (val_main_v43 (F := Ideal) x0 x1 x2 x3)
    fun i j => um 0 256 (nn a w 1024) (nn a (right w) 1024) wd b (0 + i) j := fun i j => by
  have e1 := ctx_cv h0 h1 h2 h3 i j
  have e2 := ctx_up h0 h1 i j
  rw [val_main_v43_apply, val_main_v42_apply, val_main_v41_apply, val_main_v39_apply, val_main_v37_apply, val_main_v36_apply,
    val_main_v34_apply, val_main_v33_apply, val_main_v31_apply, val_main_v30_apply, e1, e2,
    val_main_v40_apply, val_main_v38_apply, val_main_v35_apply, val_main_v32_apply,
    val_main_cst_0_apply, val_main_cst_1_apply, val_main_cst_2_apply, val_main_cst_3_apply]
  rfl

include h4

theorem ctx_f : Ev2 (φ := .f32) (a := 256) (b := 1024) (val_main_v44 (F := Ideal) x0 x1 x2 x3 x4)
    fun i j => nn (um 0 256 (nn a w 1024) (nn a (right w) 1024) wd b) wo 2816 (0 + i) j := fun i j => by
  rw [val_main_v44_apply]
  refine (sum_congr rfl fun k _ => ?_).trans (Fin.sum_univ_eq_sum_range
    (fun k => um 0 256 (nn a w 1024) (nn a (right w) 1024) wd b (0 + i) k * wo k j) 2816)
  exact congrArg₂ (· * ·) ((ctx_mid h0 h1 h2 h3).get _ rfl rfl) (h4.get _ rfl rfl)

end ctx

/-! ## Rows 256 … 8448 -/

section lat

theorem lat_w0 (i : Fin 8192) (j : Fin 2816) (h2 : Ev2 x2 wd) : val_main_v58 (F := Ideal) x2 (ix2 i j) = wd 0 j := by
  rw [val_main_v58_apply, val_main_v57_apply, val_main_v56_apply, val_main_v55_apply]
  exact h2.get _ rfl (Nat.mod_eq_of_lt j.2)

theorem lat_w1 (i : Fin 8192) (j : Fin 2816) (h2 : Ev2 x2 wd) : val_main_v63 (F := Ideal) x2 (ix2 i j) = wd 1 j := by
  rw [val_main_v63_apply, val_main_v62_apply, val_main_v61_apply, val_main_v60_apply]
  exact h2.get _ rfl (Nat.mod_eq_of_lt j.2)

theorem lat_w2 (i : Fin 8192) (j : Fin 2816) (h2 : Ev2 x2 wd) : val_main_v69 (F := Ideal) x2 (ix2 i j) = wd 2 j := by
  rw [val_main_v69_apply, val_main_v68_apply, val_main_v67_apply, val_main_v66_apply]
  exact h2.get _ rfl (Nat.mod_eq_of_lt j.2)

theorem lat_b (i : Fin 8192) (j : Fin 2816) (h3 : Ev1 x3 b) : val_main_v73 (F := Ideal) x3 (ix2 i j) = b j := by
  rw [val_main_v73_apply, val_main_v72_apply]
  exact h3.get _ rfl

include h0 h1

theorem lat_gate : Ev2 (φ := .f32) (a := 8192) (b := 2816) (val_main_v47 (F := Ideal) x0 x1) fun i j => nn a w 1024 (256 + i) j := fun i j => by
  rw [val_main_v47_apply]
  refine (sum_congr rfl fun k _ => ?_).trans (Fin.sum_univ_eq_sum_range (fun k => a (256 + i) k * w k j) 1024)
  rw [val_main_v45_apply, val_main_v46_apply]
  exact congrArg₂ (· * ·) (h0.get _ rfl rfl) (h1.get _ rfl rfl)

theorem lat_up : Ev2 (φ := .f32) (a := 8192) (b := 2816) (val_main_v49 (F := Ideal) x0 x1)
    fun i j => nn a (right w) 1024 (256 + i) j := fun i j => by
  rw [val_main_v49_apply]
  refine (sum_congr rfl fun k _ => ?_).trans (Fin.sum_univ_eq_sum_range (fun k => a (256 + i) k * right w k j) 1024)
  rw [val_main_v45_apply, val_main_v48_apply]
  exact congrArg₂ (· * ·) (h0.get _ rfl rfl) (h1.get _ rfl rfl)

theorem lat_bef : Ev2 (φ := .f32) (a := 8192) (b := 2816) (val_main_v52 (F := Ideal) x0 x1)
    fun i j => bef (nn a w 1024) 256 (256 + i) j := fun i j => by
  have hg : Ev2 (φ := .f32) (a := 8191) (b := 2816) (val_main_v51 (F := Ideal) x0 x1) fun i j => nn a w 1024 (256 + i) j := fun i j => by
    rw [val_main_v51_apply]; exact (lat_gate h0 h1).get _ rfl rfl
  have hz : ∀ z, val_main_v50 (F := Ideal) z = 0 := fun z => by
    rw [val_main_v50_apply, val_main_cst_4_apply]; exact Ideal.ofBits_zero_f32
  unfold val_main_v52
  generalize val_main_v51 (F := Ideal) x0 x1 = y at *
  generalize val_main_v50 (F := Ideal) = z at *
  pointwise
  by_cases hi : i.val < 1
  · exact (dif_pos hi).trans ((hz _).trans (if_pos (by omega)).symm)
  · refine (dif_neg hi).trans ((hg ⟨i.val - 1, by omega⟩ j).trans ?_)
    change nn a w 1024 (256 + (i.val - 1)) j = bef (nn a w 1024) 256 (256 + i.val) j
    unfold bef
    rw [if_neg (by omega), show 256 + i.val - 1 = 256 + (i.val - 1) by omega]

theorem lat_aft : Ev2 (φ := .f32) (a := 8192) (b := 2816) (val_main_v54 (F := Ideal) x0 x1)
    fun i j => aft (nn a w 1024) 8448 (256 + i) j := fun i j => by
  have hg : Ev2 (φ := .f32) (a := 8191) (b := 2816) (val_main_v53 (F := Ideal) x0 x1) fun i j => nn a w 1024 (256 + (1 + i)) j := fun i j => by
    rw [val_main_v53_apply]; exact (lat_gate h0 h1).get _ rfl rfl
  have hz : ∀ z, val_main_v50 (F := Ideal) z = 0 := fun z => by
    rw [val_main_v50_apply, val_main_cst_4_apply]; exact Ideal.ofBits_zero_f32
  unfold val_main_v54
  generalize val_main_v53 (F := Ideal) x0 x1 = y at *
  generalize val_main_v50 (F := Ideal) = z at *
  pointwise
  by_cases hi : i.val < 8191
  · refine (dif_pos hi).trans ((hg ⟨i.val, hi⟩ j).trans ?_)
    change nn a w 1024 (256 + (1 + i.val)) j = aft (nn a w 1024) 8448 (256 + i.val) j
    unfold aft
    rw [if_neg (by omega), show 256 + i.val + 1 = 256 + (1 + i.val) by omega]
  · exact (dif_neg hi).trans ((hz _).trans (if_pos (by have := i.2; omega)).symm)

include h2 h3

theorem lat_cv : Ev2 (φ := .f32) (a := 8192) (b := 2816) (val_main_v74 (F := Ideal) x0 x1 x2 x3)
    fun i j => cv 256 8448 (nn a w 1024) wd b (256 + i) j := fun i j => by
  have e1 := lat_bef h0 h1 i j
  have e2 := lat_gate h0 h1 i j
  have e3 := lat_aft h0 h1 i j
  rw [val_main_v74_apply, val_main_v71_apply, val_main_v65_apply, val_main_v59_apply, val_main_v64_apply, val_main_v70_apply,
    lat_w0 i j h2, lat_w1 i j h2, lat_w2 i j h2, lat_b i j h3, e1, e2, e3]
  rfl

theorem lat_mid : Ev2 (φ := .f32) (a := 8192) (b := 2816) (val_main_v88 (F := Ideal) x0 x1 x2 x3)
    fun i j => um 256 8448 (nn a w 1024) (nn a (right w) 1024) wd b (256 + i) j := fun i j => by
  have e1 := lat_cv h0 h1 h2 h3 i j
  have e2 := lat_up h0 h1 i j
  rw [val_main_v88_apply, val_main_v87_apply, val_main_v86_apply, val_main_v84_apply, val_main_v82_apply, val_main_v81_apply,
    val_main_v79_apply, val_main_v78_apply, val_main_v76_apply, val_main_v75_apply, e1, e2,
    val_main_v85_apply, val_main_v83_apply, val_main_v80_apply, val_main_v77_apply,
    val_main_cst_5_apply, val_main_cst_6_apply, val_main_cst_7_apply, val_main_cst_8_apply]
  rfl

include h4

theorem lat_f : Ev2 (φ := .f32) (a := 8192) (b := 1024) (val_main_v89 (F := Ideal) x0 x1 x2 x3 x4)
    fun i j => nn (um 256 8448 (nn a w 1024) (nn a (right w) 1024) wd b) wo 2816 (256 + i) j := fun i j => by
  rw [val_main_v89_apply]
  refine (sum_congr rfl fun k _ => ?_).trans (Fin.sum_univ_eq_sum_range
    (fun k => um 256 8448 (nn a w 1024) (nn a (right w) 1024) wd b (256 + i) k * wo k j) 2816)
  exact congrArg₂ (· * ·) ((lat_mid h0 h1 h2 h3).get _ rfl rfl) (h4.get _ rfl rfl)

end lat

include h0 h1 h2 h3 h4

/-! ## The three results -/

theorem f_ev : Ev2 (φ := .f32) (a := 8448) (b := 1024) (val_main_v90 (F := Ideal) x0 x1 x2 x3 x4)
    (nn (mids (nn a w 1024) (nn a (right w) 1024) wd b) wo 2816) := fun i j => by
  have hc := ctx_f h0 h1 h2 h3 h4
  have hl := lat_f h0 h1 h2 h3 h4
  unfold val_main_v90
  generalize val_main_v44 (F := Ideal) x0 x1 x2 x3 x4 = y at *
  generalize val_main_v89 (F := Ideal) x0 x1 x2 x3 x4 = z at *
  pointwise
  by_cases hi : i.val < 256
  · refine (dif_pos hi).trans ((hc ⟨i.val, hi⟩ j).trans (sum_congr rfl fun k _ => ?_))
    change um 0 256 _ _ wd b (0 + i.val) k * wo k j = mids _ _ wd b i.val k * wo k j
    unfold mids
    rw [if_pos hi, Nat.zero_add]
  · refine (dif_neg hi).trans ((hl ⟨i.val - 256, by have := i.2; omega⟩ j).trans (sum_congr rfl fun k _ => ?_))
    change um 256 8448 _ _ wd b (256 + (i.val - 256)) k * wo k j = mids _ _ wd b i.val k * wo k j
    unfold mids
    rw [if_neg hi, show 256 + (i.val - 256) = i.val by omega]

omit h0 h1 h2 h3

include h5

theorem du_ev : Ev2 (φ := .f32) (a := 8448) (b := 2816) (val_main_v93 (F := Ideal) x4 x5) (nt df wo 1024) := fun i j => by
  rw [val_main_v93_apply]
  refine (sum_congr rfl fun k _ => ?_).trans (Fin.sum_univ_eq_sum_range (fun k => df i k * wo j k) 1024)
  exact congrArg₂ (· * ·) (h5.get _ rfl rfl) (h4.get _ rfl rfl)

omit h4 h5

include h1 h6 h7

theorem da_ev : Ev2 (φ := .f32) (a := 8448) (b := 1024) (val_main_v100 (F := Ideal) x1 x6 x7)
    fun i j => nt dg w 2816 i j + nt du (right w) 2816 i j := fun i j => by
  have eu : val_main_v98 (F := Ideal) x1 x7 (ix2 i j) = nt du (right w) 2816 i j := by
    rw [val_main_v98_apply]
    refine (sum_congr rfl fun k _ => ?_).trans (Fin.sum_univ_eq_sum_range (fun k => du i k * right w j k) 2816)
    rw [val_main_v96_apply]
    exact congrArg₂ (· * ·) (h7.get _ rfl rfl) (h1.get _ rfl rfl)
  have eg : val_main_v99 (F := Ideal) x1 x6 (ix2 i j) = nt dg w 2816 i j := by
    rw [val_main_v99_apply]
    refine (sum_congr rfl fun k _ => ?_).trans (Fin.sum_univ_eq_sum_range (fun k => dg i k * w j k) 2816)
    rw [val_main_v94_apply]
    exact congrArg₂ (· * ·) (h6.get _ rfl rfl) (h1.get _ rfl rfl)
  rw [val_main_v100_apply, eu, eg]
  exact add_comm _ _

end Ffn.Ref
-- ==== Proof.FfnValue.lean ====
/- The feed-forward's run, and its three results: they are the reference's. -/
module

public import proofs.«01_k».proof.Defs
public import proofs.«01_k».proof.Proof.FfnIn
public import proofs.«01_k».proof.Proof.RefFfn
public import proofs.«01_k».proof.Proof.Gen.Reference3Ideal.Run

@[expose] public section

set_option maxRecDepth 16384

noncomputable section

namespace Ffn.Mid

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- From the launch memory `m` every device's buffers end at the folds of the ten segments. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h _ => h)

end Ffn.Mid

namespace Ffn.Mid

open Cert.Kernel3Ideal.Gen

open Idealize.ShloMosaic Idealize.ShloMosaic.TcCoe Idealize.SL.Sem

theorem algebraic : Cert.algebraic_Kernel3Ideal_Reference3Ideal := by
  intro m g m' g' _ harg
  refine ⟨fun c => W10 m g c (Proc.devRef .tc Cert.Kernel3Ideal.main_v11), fun c => W10 m g c (Proc.devRef .tc Cert.Kernel3Ideal.main_v12),
    fun c => W10 m g c (Proc.devRef .tc Cert.Kernel3Ideal.main_v15),
    (θ_run _ _ _).mono (fun r h c => ⟨h c _ (mem_uc _ (by decide)), h c _ (mem_uc _ (by decide)), h c _ (mem_uc _ (by decide)),
      (h c _ (mem_uc _ (by decide))).trans (W10_main_arg0 m g c), (h c _ (mem_uc _ (by decide))).trans (W10_main_arg1 m g c),
      (h c _ (mem_uc _ (by decide))).trans (W10_main_arg2 m g c), (h c _ (mem_uc _ (by decide))).trans (W10_main_arg3 m g c),
      (h c _ (mem_uc _ (by decide))).trans (W10_main_arg4 m g c), (h c _ (mem_uc _ (by decide))).trans (W10_main_arg5 m g c),
      (h c _ (mem_uc _ (by decide))).trans (W10_main_arg6 m g c), (h c _ (mem_uc _ (by decide))).trans (W10_main_arg7 m g c)⟩) (run_all m g),
    (θ_run _ _ _).mono (fun r h c => ?_) (Cert.Reference3Ideal.Value.run (F := Ideal) m' g')⟩
  obtain ⟨a0, a1, a2, a3, a4, a5, a6, a7⟩ := harg c
  refine ⟨(h c).1.trans ?_, (h c).2.1.trans ?_, (h c).2.2.1.trans ?_, (h c).2.2.2⟩
  · rw [Cert.Reference3Ideal.Read.val_main_v90_eq, a0, a1, a2, a3, a4]
    exact (Ref.f_ev (ev_ent _) (ev_ent _) (ev_ent _) (ev_ent1 _) (ev_ent _)).eq
      (f_ev m g c (ev_ent _) (ev_ent _) (ev_ent _) (ev_ent1 _) (ev_ent _)) fun _ _ _ _ => rfl
  · rw [Cert.Reference3Ideal.Read.val_main_v93_eq, a4, a5]
    exact (Ref.du_ev (ev_ent _) (ev_ent _)).eq (du_ev m g c (ev_ent _) (ev_ent _)) fun _ _ _ _ => rfl
  · rw [Cert.Reference3Ideal.Read.val_main_v100_eq, a1, a6, a7]
    exact (Ref.da_ev (ev_ent _) (ev_ent _) (ev_ent _)).eq (da_ev m g c (ev_ent _) (ev_ent _) (ev_ent _)) fun _ _ _ _ => rfl

end Ffn.Mid
-- ==== Proof.DwIn.lean ====
/- The gradient of the feed-forward's in-projection weights: the tiled product of the fourth kernel is the plain one. -/
module

public import proofs.«01_k».proof.Proof.Ent
public import proofs.«01_k».proof.Defs
public import proofs.«01_k».proof.Proof.Gen.Kernel4Ideal.Frame
public import proofs.«01_k».proof.Proof.Gen.Reference4Ideal.Run
public import proofs.«01_k».proof.Proof.Gen.Reference4Ideal.Read

@[expose] public section

set_option maxRecDepth 16384

noncomputable section

namespace Ffn.DwIn

open Idealize.ShloMosaic Finset
open Idealize.ShloMosaic.TcCoe Idealize.SL.Sem
open Cert.Kernel4Ideal Cert.Kernel4Ideal.Gen

theorem prod {x : FVec Ideal S1408x1024 .bf16} {y : FVec Ideal S1408x1408 .bf16} {f g : ℕ → ℕ → EReal} (hx : Ev2 x f) (hy : Ev2 y g) :
    Ev2 (matmul dot_S1408x1024_S1408x1408_S1024x1408_0_0_1_1_n_n none x y (constant S1024x1408 .f32 0x00000000#32)) (tn f g 1408) :=
  fun i j => by
    pointwise
    simp only [hx _ i, hy _ j]
    exact Fin.sum_univ_eq_sum_range (fun k => f k i * g k j) 1408

theorem tile {x : Vec Ideal S1408x1024 .f32} {y : Vec Ideal S1408x1408 .f32} {f g : ℕ → ℕ → EReal}
    (hx : Ev2 (φ := .f32) x f) (hy : Ev2 (φ := .f32) y g) : Ev2 (k0_pay1 (F := Ideal) x y) (tn f g 1408) :=
  prod hx.truncf hy.truncf

theorem step {x : Vec Ideal S1408x1024 .f32} {y : Vec Ideal S1408x1408 .f32} {z : Vec Ideal S1024x1408 .f32}
    {f g h : ℕ → ℕ → EReal} (hx : Ev2 (φ := .f32) x f) (hy : Ev2 (φ := .f32) y g) (hz : Ev2 (φ := .f32) z h) :
    Ev2 (k0_pay2 (F := Ideal) x y z) fun i j => h i j + tn f g 1408 i j :=
  Ev2.add (x := shapeCast S1024x1408 z Facts₀.shapeCasts_S1024x1408_S1024x1408) hz.cast (tile hx hy)

section Cases

variable (c : Dev nD) (i : grid0.Coords) (a3 : Memref sig .tc .vmem S1408x1024 .f32) (h3 : a3.IsWhole)
  (a4 : Memref sig .tc .vmem S1408x1408 .f32) (h4 : a4.IsWhole) (a5 : Memref sig .tc .vmem S1024x1408 .f32) (h5 : a5.IsWhole)
  (x0 : Vec Ideal S1408x1024 .f32) (x1 : Vec Ideal S1408x1408 .f32) (x2 : Vec Ideal S1024x1408 .f32)

theorem outA (hc0 : cond0_0 i) (hc1 : ¬cond0_1 i) : out0_A_2 c i a3 h3 a4 h4 a5 h5 hc0 hc1 x0 x1 = k0_pay1 x0 x1 := by
  frame_out

theorem outB (hc0 : ¬cond0_0 i) (hc1 : cond0_1 i) : out0_B_2 c i a3 h3 a4 h4 a5 h5 hc0 hc1 x0 x1 x2 = k0_pay2 x0 x1 x2 := by
  frame_out

end Cases

theorem idx : ∀ t : Fin cfg0.N, win0_0.index t = ![t.val % 6, 0] ∧ win0_1.index t = ![t.val % 6, t.val / 6]
    ∧ win0_2.index t = ![0, t.val / 6] :=
  (by decide +kernel : ∀ t : Fin grid0.N, _)

variable (m : (ℓ : Loc nD τ sig) → Buf (Elt Ideal) ℓ) (c : Dev nD) {f g : ℕ → ℕ → EReal}

theorem blk0 (h : Ev2 (φ := .f32) (V m c main_arg0) f) (t : Fin cfg0.N) :
    Ev2 (φ := .f32) (a := 1408) (b := 1024) (iblk m c 0 t) (fun k i => f (1408 * (t.val % 6) + k) i) := fun i j => by
  blk_simp [iblk]
  refine (h.at _).trans ?_
  simp [idx t, mul_comm]

theorem blk1 (h : Ev2 (φ := .f32) (V m c main_arg1) g) (t : Fin cfg0.N) :
    Ev2 (φ := .f32) (a := 1408) (b := 1408) (iblk m c 1 t) (fun k j => g (1408 * (t.val % 6) + k) (1408 * (t.val / 6) + j)) :=
  fun i j => by
  blk_simp [iblk]
  refine (h.at _).trans ?_
  simp [idx t, mul_comm]

variable (h0 : Ev2 (φ := .f32) (V m c main_arg0) f) (h1 : Ev2 (φ := .f32) (V m c main_arg1) g)

include h0 h1

/-- After point `n` the output's block holds the sum over the row tiles so far. -/
theorem outs (n : ℕ) (hn : n < cfg0.N) : Ev2 (φ := .f32) (outsAt0 m c n hn)
    fun i j => tn f g (1408 * (n % 6) + 1408) i (1408 * (n / 6) + j) := by
  induction n using Nat.strongRecOn with
  | ind n ih =>
    obtain ⟨t, rfl⟩ : ∃ t : Fin cfg0.N, t.val = n := ⟨⟨n, hn⟩, rfl⟩
    have b0 := blk0 m c h0 t
    have b1 := blk1 m c h1 t
    by_cases t0 : t.val % 6 = 0
    · rw [outsAt0_A m c t t0 (by omega), outA]
      refine (tile b0 b1).congr fun i _ j _ => ?_
      rw [t0]
      simp only [tn, Nat.mul_zero, Nat.zero_add]
    · have p := ih (t.val - 1) (by omega) (by omega)
      rw [show (t.val - 1) / 6 = t.val / 6 by omega, show 1408 * ((t.val - 1) % 6) + 1408 = 1408 * (t.val % 6) by omega] at p
      rw [outsAt0_B m c t t0 (by omega), outB]
      refine (step b0 b1 p).congr fun i _ j _ => ?_
      exact sum_tile (t.val % 6) 1408 fun k => f k i * g k (1408 * (t.val / 6) + j)

/-- The result array holds the sums over all rows. -/
theorem arr : Ev2 (φ := .f32) (a := 1024) (b := 2816) ((dats m 0 c).arrAt 2 cfg0.N) (tn f g 8448) := fun i j => by
  refine (dats m 0 c).arrAt_forall_of_covers 2 (fun z w => w = tn f g 8448 (z 0).val (z 1).val)
    (by decide +kernel) (fun t hf x => ?_) (ValueIdx.ix2 i j)
  have h5 := (flush0_2 t).mp hf
  blk_simp [idx t]
  rw [after0_2]
  refine ((outs m c h0 h1 t.val t.isLt).at x).trans ?_
  simp [h5, mul_comm]

omit h0 h1 in
theorem ref {x : FVec Ideal S8448x1024 .f32} {y : FVec Ideal S8448x2816 .f32} (hx : Ev2 x f) (hy : Ev2 y g) :
    Ev2 (φ := .f32) (a := 1024) (b := 2816) (Cert.Reference4Ideal.Read.val_main_v3 (F := Ideal) x y) (tn f g 8448) := fun i j => by
  rw [Cert.Reference4Ideal.Read.val_main_v3_apply, Cert.Reference4Ideal.Read.val_main_v2_apply]
  refine (sum_congr rfl fun k _ => ?_).trans (Fin.sum_univ_eq_sum_range (fun k => f k i * g k j) 8448)
  rw [mul_comm]
  exact congrArg₂ (· * ·) (hx.get _ rfl rfl) (hy.get _ rfl rfl)

omit c h0 h1 in
theorem algebraic : Cert.algebraic_Kernel4Ideal_Reference4Ideal := by
  intro m ρ m' ρ' _ harg
  refine ⟨fun c => (dats m 0 c).arrAt 2 cfg0.N, (θ_run _ _ _).mono (fun r h c => ⟨(h.1 c).1 2, h.2 c⟩)
      (θ_run_and (run_main m ρ) (unchanged m ρ)),
    (θ_run _ _ _).mono (fun r h c => ⟨(h c).1.trans ?_, (h c).2⟩) (Cert.Reference4Ideal.Value.run (F := Ideal) m' ρ')⟩
  obtain ⟨a0, a1⟩ := harg c
  rw [Cert.Reference4Ideal.Read.val_main_v3_eq, a0, a1]
  exact (ref (ev_ent _) (ev_ent _)).eq (arr m c (ev_ent _) (ev_ent _)) fun i _ j _ => rfl

end Ffn.DwIn
-- ==== Proof.DwOut.lean ====
/- The gradient of the feed-forward's out-projection weights: the tiled product of the fifth kernel is the plain one. -/
module

public import proofs.«01_k».proof.Proof.Ent
public import proofs.«01_k».proof.Defs
public import proofs.«01_k».proof.Proof.Gen.Kernel5Ideal.Frame
public import proofs.«01_k».proof.Proof.Gen.Reference5Ideal.Run
public import proofs.«01_k».proof.Proof.Gen.Reference5Ideal.Read

@[expose] public section

set_option maxRecDepth 16384

noncomputable section

namespace Ffn.DwOut

open Idealize.ShloMosaic Finset
open Idealize.ShloMosaic.TcCoe Idealize.SL.Sem
open Cert.Kernel5Ideal Cert.Kernel5Ideal.Gen

theorem prod {x : FVec Ideal S1408x1408 .bf16} {y : FVec Ideal S1408x1024 .bf16} {f g : ℕ → ℕ → EReal} (hx : Ev2 x f) (hy : Ev2 y g) :
    Ev2 (matmul dot_S1408x1408_S1408x1024_S1408x1024_0_0_1_1_n_n none x y (constant S1408x1024 .f32 0x00000000#32)) (tn f g 1408) :=
  fun i j => by
    pointwise
    simp only [hx _ i, hy _ j]
    exact Fin.sum_univ_eq_sum_range (fun k => f k i * g k j) 1408

theorem tile {x : Vec Ideal S1408x1408 .bf16} {y : Vec Ideal S1408x1024 .f32} {f g : ℕ → ℕ → EReal}
    (hx : Ev2 (φ := .bf16) x f) (hy : Ev2 (φ := .f32) y g) : Ev2 (k0_pay1 (F := Ideal) x y) (tn f g 1408) :=
  prod (x := shapeCast S1408x1408 x Facts₀.shapeCasts_S1408x1408_S1408x1408) hx.cast hy.truncf

theorem step {x : Vec Ideal S1408x1408 .bf16} {y z : Vec Ideal S1408x1024 .f32}
    {f g h : ℕ → ℕ → EReal} (hx : Ev2 (φ := .bf16) x f) (hy : Ev2 (φ := .f32) y g) (hz : Ev2 (φ := .f32) z h) :
    Ev2 (k0_pay2 (F := Ideal) x y z) fun i j => h i j + tn f g 1408 i j :=
  Ev2.add (x := shapeCast S1408x1024 z Facts₀.shapeCasts_S1408x1024_S1408x1024) hz.cast (tile hx hy)

section Cases

variable (c : Dev nD) (i : grid0.Coords) (a3 : Memref sig .tc .vmem S1408x1408 .bf16) (h3 : a3.IsWhole)
  (a4 : Memref sig .tc .vmem S1408x1024 .f32) (h4 : a4.IsWhole) (a5 : Memref sig .tc .vmem S1408x1024 .f32) (h5 : a5.IsWhole)
  (x0 : Vec Ideal S1408x1408 .bf16) (x1 x2 : Vec Ideal S1408x1024 .f32)

theorem outA (hc0 : cond0_0 i) (hc1 : ¬cond0_1 i) : out0_A_2 c i a3 h3 a4 h4 a5 h5 hc0 hc1 x0 x1 = k0_pay1 x0 x1 := by
  frame_out

theorem outB (hc0 : ¬cond0_0 i) (hc1 : cond0_1 i) : out0_B_2 c i a3 h3 a4 h4 a5 h5 hc0 hc1 x0 x1 x2 = k0_pay2 x0 x1 x2 := by
  frame_out

end Cases

theorem idx : ∀ t : Fin cfg0.N, win0_0.index t = ![t.val % 6, t.val / 6] ∧ win0_1.index t = ![t.val % 6, 0]
    ∧ win0_2.index t = ![t.val / 6, 0] :=
  (by decide +kernel : ∀ t : Fin grid0.N, _)

variable (m : (ℓ : Loc nD τ sig) → Buf (Elt Ideal) ℓ) (c : Dev nD) {f g : ℕ → ℕ → EReal}

theorem blk0 (h : Ev2 (φ := .bf16) (V m c main_v0) f) (t : Fin cfg0.N) :
    Ev2 (φ := .bf16) (a := 1408) (b := 1408) (iblk m c 0 t) (fun k i => f (1408 * (t.val % 6) + k) (1408 * (t.val / 6) + i)) :=
  fun i j => by
  blk_simp [iblk]
  refine (h.at _).trans ?_
  simp [idx t, mul_comm]

theorem blk1 (h : Ev2 (φ := .f32) (V m c main_arg1) g) (t : Fin cfg0.N) :
    Ev2 (φ := .f32) (a := 1408) (b := 1024) (iblk m c 1 t) (fun k j => g (1408 * (t.val % 6) + k) j) :=
  fun i j => by
  blk_simp [iblk]
  refine (h.at _).trans ?_
  simp [idx t, mul_comm]

/-- The host's cast leaves the entries. -/
theorem host (h : Ev2 (φ := .f32) (m ((c.tc : Thread nD τ).loc main_arg0)) f) : Ev2 (φ := .bf16) (V m c main_v0) f := by
  have e : V m c main_v0 = (truncf .bf16 (m ((c.tc : Thread nD τ).loc main_arg0) : FVec Ideal S8448x2816 .f32) Facts₀.bitsLt_bf16_f32 : FVec Ideal S8448x2816 .bf16) := by
    unfold_abbrev_sides
    after_results_simp
  rw [e]
  exact Ev2.truncf h

variable (h0 : Ev2 (φ := .bf16) (V m c main_v0) f) (h1 : Ev2 (φ := .f32) (V m c main_arg1) g)

include h0 h1

/-- After point `n` the output's block holds the sum over the row tiles so far. -/
theorem outs (n : ℕ) (hn : n < cfg0.N) : Ev2 (φ := .f32) (outsAt0 m c n hn)
    fun i j => tn f g (1408 * (n % 6) + 1408) (1408 * (n / 6) + i) j := by
  induction n using Nat.strongRecOn with
  | ind n ih =>
    obtain ⟨t, rfl⟩ : ∃ t : Fin cfg0.N, t.val = n := ⟨⟨n, hn⟩, rfl⟩
    have b0 := blk0 m c h0 t
    have b1 := blk1 m c h1 t
    by_cases t0 : t.val % 6 = 0
    · rw [outsAt0_A m c t t0 (by omega), outA]
      refine (tile b0 b1).congr fun i _ j _ => ?_
      rw [t0]
      simp only [tn, Nat.mul_zero, Nat.zero_add]
    · have p := ih (t.val - 1) (by omega) (by omega)
      rw [show (t.val - 1) / 6 = t.val / 6 by omega, show 1408 * ((t.val - 1) % 6) + 1408 = 1408 * (t.val % 6) by omega] at p
      rw [outsAt0_B m c t t0 (by omega), outB]
      refine (step b0 b1 p).congr fun i _ j _ => ?_
      exact sum_tile (t.val % 6) 1408 fun k => f k (1408 * (t.val / 6) + i) * g k j

/-- The result array holds the sums over all rows. -/
theorem arr : Ev2 (φ := .f32) (a := 2816) (b := 1024) ((dats m 0 c).arrAt 2 cfg0.N) (tn f g 8448) := fun i j => by
  refine (dats m 0 c).arrAt_forall_of_covers 2 (fun z w => w = tn f g 8448 (z 0).val (z 1).val)
    (by decide +kernel) (fun t hf x => ?_) (ValueIdx.ix2 i j)
  have h5 := (flush0_2 t).mp hf
  blk_simp [idx t]
  rw [after0_2]
  refine ((outs m c h0 h1 t.val t.isLt).at x).trans ?_
  simp [h5, mul_comm]

omit h0 h1 in
theorem ref {x : FVec Ideal S8448x2816 .f32} {y : FVec Ideal S8448x1024 .f32} (hx : Ev2 x f) (hy : Ev2 y g) :
    Ev2 (φ := .f32) (a := 2816) (b := 1024) (Cert.Reference5Ideal.Read.val_main_v3 (F := Ideal) x y) (tn f g 8448) := fun i j => by
  rw [Cert.Reference5Ideal.Read.val_main_v3_apply, Cert.Reference5Ideal.Read.val_main_v2_apply]
  refine (sum_congr rfl fun k _ => ?_).trans (Fin.sum_univ_eq_sum_range (fun k => f k i * g k j) 8448)
  rw [mul_comm]
  exact congrArg₂ (· * ·) (hx.get _ rfl rfl) (hy.get _ rfl rfl)

omit c h0 h1 in
theorem algebraic : Cert.algebraic_Kernel5Ideal_Reference5Ideal := by
  intro m ρ m' ρ' _ harg
  refine ⟨fun c => (dats m 0 c).arrAt 2 cfg0.N, (θ_run _ _ _).mono (fun r h c => ⟨(h.1 c).1 2, h.2 c⟩)
      (θ_run_and (run_main m ρ) (unchanged m ρ)),
    (θ_run _ _ _).mono (fun r h c => ⟨(h c).1.trans ?_, (h c).2⟩) (Cert.Reference5Ideal.Value.run (F := Ideal) m' ρ')⟩
  obtain ⟨a0, a1⟩ := harg c
  rw [Cert.Reference5Ideal.Read.val_main_v3_eq, a0, a1]
  exact (ref (ev_ent _) (ev_ent _)).eq (arr m c (host m c (ev_ent _)) (ev_ent _)) fun i _ j _ => rfl

end Ffn.DwOut
-- ==== Proof.Cat.lean ====
/- Rows laid side by side: the entries of a concatenation, and its sum of products with a row. -/
module

public import proofs.«01_k».proof.Proof.FfnDefs

@[expose] public section

noncomputable section

namespace Ffn

open Idealize.ShloMosaic Finset

/-- Pieces laid side by side, each with its width; zero after the last. -/
def cat : List (ℕ × (ℕ → EReal)) → ℕ → EReal
  | [], _ => 0
  | (n, f) :: l, c => if c < n then f c else cat l (c - n)

/-- The width of all pieces. -/
def wid : List (ℕ × (ℕ → EReal)) → ℕ
  | [] => 0
  | (n, _) :: l => n + wid l

/-- The sum of products of the pieces with `h`, piece by piece. -/
def dotf : List (ℕ × (ℕ → EReal)) → (ℕ → EReal) → EReal
  | [], _ => 0
  | (n, f) :: l, h => ∑ k ∈ range n, f k * h k + dotf l fun c => h (n + c)

theorem cat_lt {n c : ℕ} {f : ℕ → EReal} {l : List (ℕ × (ℕ → EReal))} (h : c < n) : cat ((n, f) :: l) c = f c := if_pos h

theorem cat_ge {n c : ℕ} {f : ℕ → EReal} {l : List (ℕ × (ℕ → EReal))} (h : n ≤ c) : cat ((n, f) :: l) c = cat l (c - n) :=
  if_neg (by omega)

theorem cat_add (n c : ℕ) (f : ℕ → EReal) (l : List (ℕ × (ℕ → EReal))) : cat ((n, f) :: l) (n + c) = cat l c := by
  rw [cat_ge (by omega), Nat.add_sub_cancel_left]

/-- A piece cut in two. -/
theorem cat_cut (a b : ℕ) (f : ℕ → EReal) (l : List (ℕ × (ℕ → EReal))) :
    cat ((a + b, f) :: l) = cat ((a, f) :: (b, fun c => f (a + c)) :: l) := by
  funext c
  by_cases h : c < a
  · rw [cat_lt (by omega), cat_lt h]
  · rw [cat_ge (n := a) (by omega)]
    by_cases h' : c < a + b
    · rw [cat_lt h', cat_lt (by omega), Nat.add_sub_cancel' (by omega)]
    · rw [cat_ge (by omega), cat_ge (by omega), Nat.sub_sub]

/-- Equal pieces make equal concatenations. -/
theorem cat_tail {n : ℕ} {f g : ℕ → EReal} {l l' : List (ℕ × (ℕ → EReal))} (h : ∀ c < n, f c = g c) (e : cat l = cat l') :
    cat ((n, f) :: l) = cat ((n, g) :: l') := by
  funext c
  by_cases hc : c < n
  · rw [cat_lt hc, cat_lt hc, h c hc]
  · rw [cat_ge (by omega), cat_ge (by omega), e]

/-- A concatenation as a piece of another. -/
theorem cat_join (l l' : List (ℕ × (ℕ → EReal))) : cat ((wid l, cat l) :: l') = cat (l ++ l') := by
  induction l with
  | nil => funext c; rw [cat_ge (by simp [wid])]; simp [wid]
  | cons p l ih =>
    obtain ⟨n, f⟩ := p
    rw [show wid ((n, f) :: l) = n + wid l from rfl, cat_cut, show (fun c => cat ((n, f) :: l) (n + c)) = cat l from funext (cat_add n · f l)]
    exact cat_tail (fun c hc => cat_lt hc) ih

/-- The product of a concatenation is the sum of the pieces' products. -/
theorem sum_dotf : ∀ (l : List (ℕ × (ℕ → EReal))) (h : ℕ → EReal), ∑ c ∈ range (wid l), cat l c * h c = dotf l h
  | [], _ => by simp [wid, dotf]
  | (n, f) :: l, h => by
    rw [show wid ((n, f) :: l) = n + wid l from rfl, sum_range_add]
    refine congrArg₂ (· + ·) (sum_congr rfl fun k hk => ?_) ((sum_congr rfl fun k _ => ?_).trans (sum_dotf l fun c => h (n + c)))
    · rw [cat_lt (mem_range.1 hk)]
    · rw [cat_add]

/-- The matrices `xs`, all of `a` rows, hold the rows `l i` of pieces. -/
inductive Cols (a : ℕ) : List ((s : Shape) × (s.Idx → EReal)) → (ℕ → List (ℕ × (ℕ → EReal))) → Prop
  | nil : Cols a [] fun _ => []
  | cons {n : ℕ} {x : (⟨2, ![a, n]⟩ : Shape).Idx → EReal} {f : ℕ → ℕ → EReal} {xs : List ((s : Shape) × (s.Idx → EReal))}
      {l : ℕ → List (ℕ × (ℕ → EReal))} (hx : Ev2 (φ := .f32) x f) (h : Cols a xs l) : Cols a (⟨_, x⟩ :: xs) fun i => (n, f i) :: l i

theorem cols_at {a n : ℕ} (i : Fin a) (j : Fin n) {xs : List ((s : Shape) × (s.Idx → EReal))} {l : ℕ → List (ℕ × (ℕ → EReal))}
    (h : Cols a xs l) : ∀ (hs : ∀ s ∈ xs.map (·.1), s.FitsOff ⟨2, ![a, n]⟩ 1) (c : ℕ)
      (hc : c < (axisSizes ⟨2, ![a, n]⟩ 1 xs).sum), concatenateAt ⟨2, ![a, n]⟩ 1 (ix2 i j) xs hs c hc = cat (l i.val) c := by
  induction h with
  | nil => exact fun _ _ hc => absurd hc (Nat.not_lt_zero _)
  | @cons n' x f xs l hx h ih =>
    intro hs c hc
    cases xs with
    | nil =>
      rw [concatenateAt_singleton]
      have hc' : c < n' := by
        rw [axisSizes_cons _ _ _ _ (hs _ List.mem_cons_self)] at hc
        simpa using hc
      rw [cat_lt hc']
      exact hx.get _ (by rw [Shape.Idx.norm_def]; rfl) (by rw [Shape.Idx.norm_def]; rfl)
    | cons q xs =>
      rw [concatenateAt_cons]
      by_cases hc' : c < n'
      · refine (dif_pos hc').trans ?_
        rw [cat_lt hc']
        exact hx.get _ (by rw [Shape.Idx.norm_def]; rfl) (by rw [Shape.Idx.norm_def]; rfl)
      · refine (dif_neg hc').trans ?_
        rw [cat_ge (by omega)]
        exact ih _ _ _

/-- A concatenation of columns holds the pieces' rows, side by side. -/
theorem Cols.ev {a n : ℕ} {xs : List ((s : Shape) × (s.Idx → EReal))} {l : ℕ → List (ℕ × (ℕ → EReal))} (hl : Cols a xs l)
    (h : Shape.Concatenates (xs.map (·.1)) ⟨2, ![a, n]⟩ 1) :
    Ev2 (φ := .f32) (concatenate ⟨2, ![a, n]⟩ 1 xs h) fun i => cat (l i) := fun i j => by
  rw [concatenate_apply]
  exact cols_at i j hl _ _ _

end Ffn
-- ==== Proof.InDx.lean ====
/- The in-projection's gradient with respect to its input: the sixteen column pieces, taken four at a time, make the plain sum. -/
module

public import proofs.«01_k».proof.Proof.Cat
public import proofs.«01_k».proof.Defs
public import proofs.«01_k».proof.Proof.Gen.Kernel7Ideal.Frame
public import proofs.«01_k».proof.Proof.Gen.Reference7Ideal.Run
public import proofs.«01_k».proof.Proof.Gen.Reference7Ideal.Read

@[expose] public section

set_option maxRecDepth 16384

noncomputable section

namespace Ffn.InDx

open Idealize.ShloMosaic Finset
open Idealize.ShloMosaic.TcCoe Idealize.SL.Sem
open Cert.Kernel7Ideal Cert.Kernel7Ideal.Gen

/-! ## The pieces

`g k` is the `k`-th argument: `g 0` the weights, `g 1` to `g 16` the gradients of the in-projection's sixteen results. -/

/-- The weights' columns in the kernel's order, with zeros between. -/
def wts (w : ℕ → ℕ → EReal) (k : ℕ) : ℕ → EReal :=
  cat [(2048, fun c => w k (416 + c)), (2048, fun c => w k (2496 + c)), (3072, fun c => w k (4544 + c)), (384, fun c => w k (0 + c)),
    (64, fun _ => 0), (32, fun c => w k (384 + c)), (32, fun _ => 0), (32, fun c => w k (2464 + c)), (96, fun _ => 0), (384, fun _ => 0)]

/-- The attention's part and the two low-rank parts, each filled up to 512 columns with zeros. -/
def mla (g : ℕ → ℕ → ℕ → EReal) (i : ℕ) : List (ℕ × (ℕ → EReal)) :=
  [(256, g 1 i), (128, g 2 i), (64, fun _ => 0), (32, g 3 i), (32, fun _ => 0)]
def rank (g : ℕ → ℕ → ℕ → EReal) (i : ℕ) : List (ℕ × (ℕ → EReal)) := [(16, g 8 i), (16, g 9 i), (480, fun _ => 0)]

/-- The sixteen pieces of 512 columns. -/
def piece (g : ℕ → ℕ → ℕ → EReal) : ℕ → ℕ → ℕ → EReal
  | 0, i => g 4 i | 1, i => g 5 i | 2, i => g 6 i | 3, i => g 7 i
  | 4, i => g 10 i | 5, i => g 11 i | 6, i => g 12 i | 7, i => g 13 i
  | 8, i => fun c => g 14 i (0 + c) | 9, i => fun c => g 14 i (512 + c) | 10, i => fun c => g 15 i (0 + c) | 11, i => fun c => g 15 i (512 + c)
  | 12, i => fun c => g 16 i (0 + c) | 13, i => fun c => g 16 i (512 + c) | 14, i => cat (mla g i) | _, i => cat (rank g i)

/-- Four pieces, side by side. -/
def row4 (p1 p2 p3 p4 : ℕ → ℕ → EReal) (i : ℕ) : List (ℕ × (ℕ → EReal)) := [(512, p1 i), (512, p2 i), (512, p3 i), (512, p4 i)]

/-- The `j`-th group of four pieces. -/
def grp (g : ℕ → ℕ → ℕ → EReal) (j i : ℕ) : List (ℕ × (ℕ → EReal)) :=
  row4 (piece g (4 * j)) (piece g (4 * j + 1)) (piece g (4 * j + 2)) (piece g (4 * j + 3)) i

/-- The product of the `j`-th group with its weights. -/
def part (g : ℕ → ℕ → ℕ → EReal) (i k j : ℕ) : EReal := ∑ c ∈ range 2048, cat (grp g j i) c * wts (g 0) k (2048 * j + c)

/-! ## The body -/

theorem prod {x : FVec Ideal S384x2048 .bf16} {y : FVec Ideal S1024x2048 .bf16} {f g : ℕ → ℕ → EReal} (hx : Ev2 x f) (hy : Ev2 y g) :
    Ev2 (matmul dot_S384x2048_S1024x2048_S384x1024_1_1_0_0_n_n none x y (constant S384x1024 .f32 0x00000000#32)) (nt f g 2048) :=
  fun i j => by
    pointwise
    simp only [hx i _, hy j _]
    exact Fin.sum_univ_eq_sum_range (fun k => f i k * g j k) 2048

section Tile

variable {y1 y2 y3 y4 : Vec Ideal S384x512 .f32} {w : Vec Ideal S1024x2048 .bf16} {z : Vec Ideal S384x1024 .f32}
  {p1 p2 p3 p4 f h : ℕ → ℕ → EReal} (hy1 : Ev2 (φ := .f32) y1 p1) (hy2 : Ev2 (φ := .f32) y2 p2)
  (hy3 : Ev2 (φ := .f32) y3 p3) (hy4 : Ev2 (φ := .f32) y4 p4) (hw : Ev2 (φ := .bf16) w f) (hz : Ev2 (φ := .f32) z h)

include hy1 hy2 hy3 hy4 hw

theorem tile : Ev2 (k0_pay1 (F := Ideal) y1 y2 y3 y4 w) (nt (fun i => cat (row4 p1 p2 p3 p4 i)) f 2048) :=
  prod ((Cols.cons (hy1.truncf (ψ := .bf16) (h := Facts₀.bitsLt_bf16_f32)) (.cons (hy2.truncf (ψ := .bf16) (h := Facts₀.bitsLt_bf16_f32))
    (.cons (hy3.truncf (ψ := .bf16) (h := Facts₀.bitsLt_bf16_f32)) (.cons (hy4.truncf (ψ := .bf16) (h := Facts₀.bitsLt_bf16_f32)) .nil)))).ev
      Facts₀.concatenates_S384x512_S384x512_S384x512_S384x512_S384x2048_d1)
    (hw.cast (h := Facts₀.shapeCasts_S1024x2048_S1024x2048))

include hz

theorem step2 : Ev2 (k0_pay2 (F := Ideal) y1 y2 y3 y4 w z) fun i j => h i j + nt (fun i => cat (row4 p1 p2 p3 p4 i)) f 2048 i j :=
  Ev2.add (x := shapeCast S384x1024 z Facts₀.shapeCasts_S384x1024_S384x1024) hz.cast (tile hy1 hy2 hy3 hy4 hw)

theorem step3 : Ev2 (k0_pay3 (F := Ideal) y1 y2 y3 y4 w z) fun i j => h i j + nt (fun i => cat (row4 p1 p2 p3 p4 i)) f 2048 i j :=
  Ev2.add (x := shapeCast S384x1024 z Facts₀.shapeCasts_S384x1024_S384x1024) hz.cast
    (tile (hy1.cast (h := Facts₀.shapeCasts_S384x512_S384x512)) (hy2.cast (h := Facts₀.shapeCasts_S384x512_S384x512))
      (hy3.cast (h := Facts₀.shapeCasts_S384x512_S384x512)) (hy4.cast (h := Facts₀.shapeCasts_S384x512_S384x512)) hw)

theorem step4 : Ev2 (k0_pay4 (F := Ideal) y1 y2 y3 y4 w z) fun i j => h i j + nt (fun i => cat (row4 p1 p2 p3 p4 i)) f 2048 i j :=
  step3 hy1 hy2 hy3 hy4 hw hz

end Tile

section Cases

variable (c : Dev nD) (i : grid0.Coords)
  (a2 : Memref sig .tc .vmem S384x512 .f32) (h2 : a2.IsWhole)
  (a3 : Memref sig .tc .vmem S384x512 .f32) (h3 : a3.IsWhole)
  (a4 : Memref sig .tc .vmem S384x512 .f32) (h4 : a4.IsWhole)
  (a5 : Memref sig .tc .vmem S384x512 .f32) (h5 : a5.IsWhole)
  (a6 : Memref sig .tc .vmem S384x512 .f32) (h6 : a6.IsWhole)
  (a7 : Memref sig .tc .vmem S384x512 .f32) (h7 : a7.IsWhole)
  (a8 : Memref sig .tc .vmem S384x512 .f32) (h8 : a8.IsWhole)
  (a9 : Memref sig .tc .vmem S384x512 .f32) (h9 : a9.IsWhole)
  (a10 : Memref sig .tc .vmem S384x512 .f32) (h10 : a10.IsWhole)
  (a11 : Memref sig .tc .vmem S384x512 .f32) (h11 : a11.IsWhole)
  (a12 : Memref sig .tc .vmem S384x512 .f32) (h12 : a12.IsWhole)
  (a13 : Memref sig .tc .vmem S384x512 .f32) (h13 : a13.IsWhole)
  (a14 : Memref sig .tc .vmem S384x512 .f32) (h14 : a14.IsWhole)
  (a15 : Memref sig .tc .vmem S384x512 .f32) (h15 : a15.IsWhole)
  (a16 : Memref sig .tc .vmem S384x512 .f32) (h16 : a16.IsWhole)
  (a17 : Memref sig .tc .vmem S384x512 .f32) (h17 : a17.IsWhole)
  (a18 : Memref sig .tc .vmem S1024x2048 .bf16) (h18 : a18.IsWhole) (a19 : Memref sig .tc .vmem S384x1024 .f32) (h19 : a19.IsWhole)
  (x0 x1 x2 x3 x4 x5 x6 x7 x8 x9 x10 x11 x12 x13 x14 x15 : Vec Ideal S384x512 .f32) (x16 : Vec Ideal S1024x2048 .bf16) (x17 : Vec Ideal S384x1024 .f32)

theorem outA (hc0 : cond0_0 i) (hc1 : ¬cond0_1 i) (hc2 : ¬cond0_2 i) (hc3 : ¬cond0_3 i) :
    out0_A_17 c i a2 h2 a3 h3 a4 h4 a5 h5 a6 h6 a7 h7 a8 h8 a9 h9 a10 h10 a11 h11 a12 h12 a13 h13 a14 h14 a15 h15 a16 h16 a17 h17 a18 h18 a19 h19 hc0 hc1 hc2 hc3 x0 x1 x2 x3 x4 x5 x6 x7 x8 x9 x10 x11 x12 x13 x14 x15 x16 = k0_pay1 x0 x1 x2 x3 x16 := by
  frame_out

theorem outB (hc0 : ¬cond0_0 i) (hc1 : cond0_1 i) (hc2 : ¬cond0_2 i) (hc3 : ¬cond0_3 i) :
    out0_B_17 c i a2 h2 a3 h3 a4 h4 a5 h5 a6 h6 a7 h7 a8 h8 a9 h9 a10 h10 a11 h11 a12 h12 a13 h13 a14 h14 a15 h15 a16 h16 a17 h17 a18 h18 a19 h19 hc0 hc1 hc2 hc3 x0 x1 x2 x3 x4 x5 x6 x7 x8 x9 x10 x11 x12 x13 x14 x15 x16 x17 = k0_pay2 x4 x5 x6 x7 x16 x17 := by
  frame_out

theorem outC (hc0 : ¬cond0_0 i) (hc1 : ¬cond0_1 i) (hc2 : cond0_2 i) (hc3 : ¬cond0_3 i) :
    out0_C_17 c i a2 h2 a3 h3 a4 h4 a5 h5 a6 h6 a7 h7 a8 h8 a9 h9 a10 h10 a11 h11 a12 h12 a13 h13 a14 h14 a15 h15 a16 h16 a17 h17 a18 h18 a19 h19 hc0 hc1 hc2 hc3 x0 x1 x2 x3 x4 x5 x6 x7 x8 x9 x10 x11 x12 x13 x14 x15 x16 x17 = k0_pay3 x8 x9 x10 x11 x16 x17 := by
  frame_out

theorem outD (hc0 : ¬cond0_0 i) (hc1 : ¬cond0_1 i) (hc2 : ¬cond0_2 i) (hc3 : cond0_3 i) :
    out0_D_17 c i a2 h2 a3 h3 a4 h4 a5 h5 a6 h6 a7 h7 a8 h8 a9 h9 a10 h10 a11 h11 a12 h12 a13 h13 a14 h14 a15 h15 a16 h16 a17 h17 a18 h18 a19 h19 hc0 hc1 hc2 hc3 x0 x1 x2 x3 x4 x5 x6 x7 x8 x9 x10 x11 x12 x13 x14 x15 x16 x17 = k0_pay4 x12 x13 x14 x15 x16 x17 := by
  frame_out

end Cases

theorem idxW : ∀ t : Fin cfg0.N, win0_16.index t = ![0, t.val % 4] ∧ win0_17.index t = ![t.val / 4, 0] :=
  (by decide +kernel : ∀ t : Fin grid0.N, _)

theorem idxG : ∀ t : Fin cfg0.N, win0_0.index t = ![t.val / 4, 0] ∧ win0_1.index t = ![t.val / 4, 0] ∧ win0_2.index t = ![t.val / 4, 0] ∧ win0_3.index t = ![t.val / 4, 0] ∧ win0_4.index t = ![t.val / 4, 0] ∧ win0_5.index t = ![t.val / 4, 0] ∧ win0_6.index t = ![t.val / 4, 0] ∧ win0_7.index t = ![t.val / 4, 0] ∧ win0_8.index t = ![t.val / 4, 0] ∧ win0_9.index t = ![t.val / 4, 0] ∧ win0_10.index t = ![t.val / 4, 0] ∧ win0_11.index t = ![t.val / 4, 0] ∧ win0_12.index t = ![t.val / 4, 0] ∧ win0_13.index t = ![t.val / 4, 0] ∧ win0_14.index t = ![t.val / 4, 0] ∧ win0_15.index t = ![t.val / 4, 0] :=
  (by decide +kernel : ∀ t : Fin grid0.N, _)

variable (m : (ℓ : Loc nD τ sig) → Buf (Elt Ideal) ℓ) (c : Dev nD)

/-! ## What the host computes -/

theorem v0_eq : V m c main_v0 = (extractStridedSlice S8448x512 ![0, 0] (m ((c : Thread nD τ).loc main_arg14) : FVec Ideal S8448x1024 .f32) Facts₀.slices_S8448x1024_S8448x512_0_0 : FVec Ideal S8448x512 .f32) := by
  unfold_abbrev_sides
  after_results_simp

theorem v1_eq : V m c main_v1 = (extractStridedSlice S8448x512 ![0, 512] (m ((c : Thread nD τ).loc main_arg14) : FVec Ideal S8448x1024 .f32) Facts₀.slices_S8448x1024_S8448x512_0_512 : FVec Ideal S8448x512 .f32) := by
  unfold_abbrev_sides
  after_results_simp

theorem v2_eq : V m c main_v2 = (extractStridedSlice S8448x512 ![0, 0] (m ((c : Thread nD τ).loc main_arg15) : FVec Ideal S8448x1024 .f32) Facts₀.slices_S8448x1024_S8448x512_0_0 : FVec Ideal S8448x512 .f32) := by
  unfold_abbrev_sides
  after_results_simp

theorem v3_eq : V m c main_v3 = (extractStridedSlice S8448x512 ![0, 512] (m ((c : Thread nD τ).loc main_arg15) : FVec Ideal S8448x1024 .f32) Facts₀.slices_S8448x1024_S8448x512_0_512 : FVec Ideal S8448x512 .f32) := by
  unfold_abbrev_sides
  after_results_simp

theorem v4_eq : V m c main_v4 = (extractStridedSlice S8448x512 ![0, 0] (m ((c : Thread nD τ).loc main_arg16) : FVec Ideal S8448x1024 .f32) Facts₀.slices_S8448x1024_S8448x512_0_0 : FVec Ideal S8448x512 .f32) := by
  unfold_abbrev_sides
  after_results_simp

theorem v5_eq : V m c main_v5 = (extractStridedSlice S8448x512 ![0, 512] (m ((c : Thread nD τ).loc main_arg16) : FVec Ideal S8448x1024 .f32) Facts₀.slices_S8448x1024_S8448x512_0_512 : FVec Ideal S8448x512 .f32) := by
  unfold_abbrev_sides
  after_results_simp

theorem v8_eq : V m c main_v8 = concatenate S8448x512 1 [⟨S8448x256, (m ((c : Thread nD τ).loc main_arg1) : FVec Ideal S8448x256 .f32)⟩, ⟨S8448x128, (m ((c : Thread nD τ).loc main_arg2) : FVec Ideal S8448x128 .f32)⟩,
    ⟨S8448x64, broadcastInDim S8448x64 ![] Facts₀.bcast_S_S8448x64 (constant S_ .f32 0x00000000#32 : FVec Ideal S_ .f32)⟩,
    ⟨S8448x32, (m ((c : Thread nD τ).loc main_arg3) : FVec Ideal S8448x32 .f32)⟩, ⟨S8448x32, broadcastInDim S8448x32 ![] Facts₀.bcast_S_S8448x32 (constant S_ .f32 0x00000000#32 : FVec Ideal S_ .f32)⟩]
    Facts₀.concatenates_S8448x256_S8448x128_S8448x64_S8448x32_S8448x32_S8448x512_d1 := by
  unfold_abbrev_sides
  after_results_simp
  rfl

theorem v10_eq : V m c main_v10 = concatenate S8448x512 1 [⟨S8448x16, (m ((c : Thread nD τ).loc main_arg8) : FVec Ideal S8448x16 .f32)⟩, ⟨S8448x16, (m ((c : Thread nD τ).loc main_arg9) : FVec Ideal S8448x16 .f32)⟩,
    ⟨S8448x480, broadcastInDim S8448x480 ![] Facts₀.bcast_S_S8448x480 (constant S_ .f32 0x00000000#32 : FVec Ideal S_ .f32)⟩]
    Facts₀.concatenates_S8448x16_S8448x16_S8448x480_S8448x512_d1 := by
  unfold_abbrev_sides
  after_results_simp
  rfl

theorem v22_eq : V m c main_v22 = (truncf .bf16 (concatenate S1024x8192 1 [⟨S1024x2048, extractStridedSlice S1024x2048 ![0, 416] (m ((c : Thread nD τ).loc main_arg0) : FVec Ideal S1024x7616 .f32) Facts₀.slices_S1024x7616_S1024x2048_0_416⟩,
    ⟨S1024x2048, extractStridedSlice S1024x2048 ![0, 2496] (m ((c : Thread nD τ).loc main_arg0) : FVec Ideal S1024x7616 .f32) Facts₀.slices_S1024x7616_S1024x2048_0_2496⟩,
    ⟨S1024x3072, extractStridedSlice S1024x3072 ![0, 4544] (m ((c : Thread nD τ).loc main_arg0) : FVec Ideal S1024x7616 .f32) Facts₀.slices_S1024x7616_S1024x3072_0_4544⟩,
    ⟨S1024x384, extractStridedSlice S1024x384 ![0, 0] (m ((c : Thread nD τ).loc main_arg0) : FVec Ideal S1024x7616 .f32) Facts₀.slices_S1024x7616_S1024x384_0_0⟩,
    ⟨S1024x64, broadcastInDim S1024x64 ![] Facts₀.bcast_S_S1024x64 (constant S_ .f32 0x00000000#32 : FVec Ideal S_ .f32)⟩,
    ⟨S1024x32, extractStridedSlice S1024x32 ![0, 384] (m ((c : Thread nD τ).loc main_arg0) : FVec Ideal S1024x7616 .f32) Facts₀.slices_S1024x7616_S1024x32_0_384⟩,
    ⟨S1024x32, broadcastInDim S1024x32 ![] Facts₀.bcast_S_S1024x32 (constant S_ .f32 0x00000000#32 : FVec Ideal S_ .f32)⟩,
    ⟨S1024x32, extractStridedSlice S1024x32 ![0, 2464] (m ((c : Thread nD τ).loc main_arg0) : FVec Ideal S1024x7616 .f32) Facts₀.slices_S1024x7616_S1024x32_0_2464⟩,
    ⟨S1024x96, broadcastInDim S1024x96 ![] Facts₀.bcast_S_S1024x96 (constant S_ .f32 0x00000000#32 : FVec Ideal S_ .f32)⟩,
    ⟨S1024x384, broadcastInDim S1024x384 ![] Facts₀.bcast_S_S1024x384 (constant S_ .f32 0x00000000#32 : FVec Ideal S_ .f32)⟩]
    Facts₀.concatenates_S1024x2048_S1024x2048_S1024x3072_S1024x384_S1024x64_S1024x32_S1024x32_S1024x32_S1024x96_S1024x384_S1024x8192_d1 : FVec Ideal S1024x8192 .f32) Facts₀.bitsLt_bf16_f32 : FVec Ideal S1024x8192 .bf16) := by
  unfold_abbrev_sides
  after_results_simp
  rfl

theorem zero_ev {a b : ℕ} {h : S_.BroadcastsInDim (⟨2, ![a, b]⟩ : Shape) ![]} :
    Ev2 (φ := .f32) (broadcastInDim ⟨2, ![a, b]⟩ ![] h (constant S_ .f32 0x00000000#32 : FVec Ideal S_ .f32)) fun _ _ => 0 := fun i j => by
  pointwise

theorem slice_ev {a b n o : ℕ} {x : FVec Ideal ⟨2, ![a, b]⟩ .f32} {f : ℕ → ℕ → EReal} (hx : Ev2 x f) {h : (⟨2, ![a, b]⟩ : Shape).Slices ![0, o] ⟨2, ![a, n]⟩} :
    Ev2 (φ := .f32) (extractStridedSlice ⟨2, ![a, n]⟩ ![0, o] x h) fun i j => f i (o + j) := fun i j => by
  pointwise
  exact hx.get _ (Nat.zero_add _) rfl

variable {g : ℕ → ℕ → ℕ → EReal}

variable (h0 : Ev2 (φ := .f32) (m ((c : Thread nD τ).loc main_arg0) : FVec Ideal S1024x7616 .f32) (g 0))
  (h1 : Ev2 (φ := .f32) (m ((c : Thread nD τ).loc main_arg1) : FVec Ideal S8448x256 .f32) (g 1))
  (h2 : Ev2 (φ := .f32) (m ((c : Thread nD τ).loc main_arg2) : FVec Ideal S8448x128 .f32) (g 2))
  (h3 : Ev2 (φ := .f32) (m ((c : Thread nD τ).loc main_arg3) : FVec Ideal S8448x32 .f32) (g 3))
  (h4 : Ev2 (φ := .f32) (m ((c : Thread nD τ).loc main_arg4) : FVec Ideal S8448x512 .f32) (g 4))
  (h5 : Ev2 (φ := .f32) (m ((c : Thread nD τ).loc main_arg5) : FVec Ideal S8448x512 .f32) (g 5))
  (h6 : Ev2 (φ := .f32) (m ((c : Thread nD τ).loc main_arg6) : FVec Ideal S8448x512 .f32) (g 6))
  (h7 : Ev2 (φ := .f32) (m ((c : Thread nD τ).loc main_arg7) : FVec Ideal S8448x512 .f32) (g 7))
  (h8 : Ev2 (φ := .f32) (m ((c : Thread nD τ).loc main_arg8) : FVec Ideal S8448x16 .f32) (g 8))
  (h9 : Ev2 (φ := .f32) (m ((c : Thread nD τ).loc main_arg9) : FVec Ideal S8448x16 .f32) (g 9))
  (h10 : Ev2 (φ := .f32) (m ((c : Thread nD τ).loc main_arg10) : FVec Ideal S8448x512 .f32) (g 10))
  (h11 : Ev2 (φ := .f32) (m ((c : Thread nD τ).loc main_arg11) : FVec Ideal S8448x512 .f32) (g 11))
  (h12 : Ev2 (φ := .f32) (m ((c : Thread nD τ).loc main_arg12) : FVec Ideal S8448x512 .f32) (g 12))
  (h13 : Ev2 (φ := .f32) (m ((c : Thread nD τ).loc main_arg13) : FVec Ideal S8448x512 .f32) (g 13))
  (h14 : Ev2 (φ := .f32) (m ((c : Thread nD τ).loc main_arg14) : FVec Ideal S8448x1024 .f32) (g 14))
  (h15 : Ev2 (φ := .f32) (m ((c : Thread nD τ).loc main_arg15) : FVec Ideal S8448x1024 .f32) (g 15))
  (h16 : Ev2 (φ := .f32) (m ((c : Thread nD τ).loc main_arg16) : FVec Ideal S8448x1024 .f32) (g 16))

include h14 in
theorem v0_ev : Ev2 (φ := .f32) (V m c main_v0) (piece g 8) := by
  rw [v0_eq]
  exact slice_ev h14

include h14 in
theorem v1_ev : Ev2 (φ := .f32) (V m c main_v1) (piece g 9) := by
  rw [v1_eq]
  exact slice_ev h14

include h15 in
theorem v2_ev : Ev2 (φ := .f32) (V m c main_v2) (piece g 10) := by
  rw [v2_eq]
  exact slice_ev h15

include h15 in
theorem v3_ev : Ev2 (φ := .f32) (V m c main_v3) (piece g 11) := by
  rw [v3_eq]
  exact slice_ev h15

include h16 in
theorem v4_ev : Ev2 (φ := .f32) (V m c main_v4) (piece g 12) := by
  rw [v4_eq]
  exact slice_ev h16

include h16 in
theorem v5_ev : Ev2 (φ := .f32) (V m c main_v5) (piece g 13) := by
  rw [v5_eq]
  exact slice_ev h16

include h1 h2 h3 in
theorem v8_ev : Ev2 (φ := .f32) (V m c main_v8) (piece g 14) := by
  rw [v8_eq]
  exact (Cols.cons h1 (.cons h2 (.cons zero_ev (.cons h3 (.cons zero_ev .nil))))).ev _

include h8 h9 in
theorem v10_ev : Ev2 (φ := .f32) (V m c main_v10) (piece g 15) := by
  rw [v10_eq]
  exact (Cols.cons h8 (.cons h9 (.cons zero_ev .nil))).ev _

include h0 in
theorem v22_ev : Ev2 (φ := .bf16) (V m c main_v22) (wts (g 0)) := by
  rw [v22_eq]
  exact Ev2.truncf ((Cols.cons (slice_ev h0) (.cons (slice_ev h0) (.cons (slice_ev h0) (.cons (slice_ev h0) (.cons zero_ev (.cons (slice_ev h0)
    (.cons zero_ev (.cons (slice_ev h0) (.cons zero_ev (.cons zero_ev .nil)))))))))).ev _)

/-! ## The blocks -/

theorem blk0 {f : ℕ → ℕ → EReal} (h : Ev2 (φ := .f32) (V m c main_arg4) f) (t : Fin cfg0.N) :
    Ev2 (φ := .f32) (a := 384) (b := 512) (iblk m c 0 t) (fun i j => f (384 * (t.val / 4) + i) j) := fun i j => by
  blk_simp [iblk]
  refine (h.at _).trans ?_
  simp [idxG t, mul_comm]

theorem blk1 {f : ℕ → ℕ → EReal} (h : Ev2 (φ := .f32) (V m c main_arg5) f) (t : Fin cfg0.N) :
    Ev2 (φ := .f32) (a := 384) (b := 512) (iblk m c 1 t) (fun i j => f (384 * (t.val / 4) + i) j) := fun i j => by
  blk_simp [iblk]
  refine (h.at _).trans ?_
  simp [idxG t, mul_comm]

theorem blk2 {f : ℕ → ℕ → EReal} (h : Ev2 (φ := .f32) (V m c main_arg6) f) (t : Fin cfg0.N) :
    Ev2 (φ := .f32) (a := 384) (b := 512) (iblk m c 2 t) (fun i j => f (384 * (t.val / 4) + i) j) := fun i j => by
  blk_simp [iblk]
  refine (h.at _).trans ?_
  simp [idxG t, mul_comm]

theorem blk3 {f : ℕ → ℕ → EReal} (h : Ev2 (φ := .f32) (V m c main_arg7) f) (t : Fin cfg0.N) :
    Ev2 (φ := .f32) (a := 384) (b := 512) (iblk m c 3 t) (fun i j => f (384 * (t.val / 4) + i) j) := fun i j => by
  blk_simp [iblk]
  refine (h.at _).trans ?_
  simp [idxG t, mul_comm]

theorem blk4 {f : ℕ → ℕ → EReal} (h : Ev2 (φ := .f32) (V m c main_arg10) f) (t : Fin cfg0.N) :
    Ev2 (φ := .f32) (a := 384) (b := 512) (iblk m c 4 t) (fun i j => f (384 * (t.val / 4) + i) j) := fun i j => by
  blk_simp [iblk]
  refine (h.at _).trans ?_
  simp [idxG t, mul_comm]

theorem blk5 {f : ℕ → ℕ → EReal} (h : Ev2 (φ := .f32) (V m c main_arg11) f) (t : Fin cfg0.N) :
    Ev2 (φ := .f32) (a := 384) (b := 512) (iblk m c 5 t) (fun i j => f (384 * (t.val / 4) + i) j) := fun i j => by
  blk_simp [iblk]
  refine (h.at _).trans ?_
  simp [idxG t, mul_comm]

theorem blk6 {f : ℕ → ℕ → EReal} (h : Ev2 (φ := .f32) (V m c main_arg12) f) (t : Fin cfg0.N) :
    Ev2 (φ := .f32) (a := 384) (b := 512) (iblk m c 6 t) (fun i j => f (384 * (t.val / 4) + i) j) := fun i j => by
  blk_simp [iblk]
  refine (h.at _).trans ?_
  simp [idxG t, mul_comm]

theorem blk7 {f : ℕ → ℕ → EReal} (h : Ev2 (φ := .f32) (V m c main_arg13) f) (t : Fin cfg0.N) :
    Ev2 (φ := .f32) (a := 384) (b := 512) (iblk m c 7 t) (fun i j => f (384 * (t.val / 4) + i) j) := fun i j => by
  blk_simp [iblk]
  refine (h.at _).trans ?_
  simp [idxG t, mul_comm]

theorem blk8 {f : ℕ → ℕ → EReal} (h : Ev2 (φ := .f32) (V m c main_v0) f) (t : Fin cfg0.N) :
    Ev2 (φ := .f32) (a := 384) (b := 512) (iblk m c 8 t) (fun i j => f (384 * (t.val / 4) + i) j) := fun i j => by
  blk_simp [iblk]
  refine (h.at _).trans ?_
  simp [idxG t, mul_comm]

theorem blk9 {f : ℕ → ℕ → EReal} (h : Ev2 (φ := .f32) (V m c main_v1) f) (t : Fin cfg0.N) :
    Ev2 (φ := .f32) (a := 384) (b := 512) (iblk m c 9 t) (fun i j => f (384 * (t.val / 4) + i) j) := fun i j => by
  blk_simp [iblk]
  refine (h.at _).trans ?_
  simp [idxG t, mul_comm]

theorem blk10 {f : ℕ → ℕ → EReal} (h : Ev2 (φ := .f32) (V m c main_v2) f) (t : Fin cfg0.N) :
    Ev2 (φ := .f32) (a := 384) (b := 512) (iblk m c 10 t) (fun i j => f (384 * (t.val / 4) + i) j) := fun i j => by
  blk_simp [iblk]
  refine (h.at _).trans ?_
  simp [idxG t, mul_comm]

theorem blk11 {f : ℕ → ℕ → EReal} (h : Ev2 (φ := .f32) (V m c main_v3) f) (t : Fin cfg0.N) :
    Ev2 (φ := .f32) (a := 384) (b := 512) (iblk m c 11 t) (fun i j => f (384 * (t.val / 4) + i) j) := fun i j => by
  blk_simp [iblk]
  refine (h.at _).trans ?_
  simp [idxG t, mul_comm]

theorem blk12 {f : ℕ → ℕ → EReal} (h : Ev2 (φ := .f32) (V m c main_v4) f) (t : Fin cfg0.N) :
    Ev2 (φ := .f32) (a := 384) (b := 512) (iblk m c 12 t) (fun i j => f (384 * (t.val / 4) + i) j) := fun i j => by
  blk_simp [iblk]
  refine (h.at _).trans ?_
  simp [idxG t, mul_comm]

theorem blk13 {f : ℕ → ℕ → EReal} (h : Ev2 (φ := .f32) (V m c main_v5) f) (t : Fin cfg0.N) :
    Ev2 (φ := .f32) (a := 384) (b := 512) (iblk m c 13 t) (fun i j => f (384 * (t.val / 4) + i) j) := fun i j => by
  blk_simp [iblk]
  refine (h.at _).trans ?_
  simp [idxG t, mul_comm]

theorem blk14 {f : ℕ → ℕ → EReal} (h : Ev2 (φ := .f32) (V m c main_v8) f) (t : Fin cfg0.N) :
    Ev2 (φ := .f32) (a := 384) (b := 512) (iblk m c 14 t) (fun i j => f (384 * (t.val / 4) + i) j) := fun i j => by
  blk_simp [iblk]
  refine (h.at _).trans ?_
  simp [idxG t, mul_comm]

theorem blk15 {f : ℕ → ℕ → EReal} (h : Ev2 (φ := .f32) (V m c main_v10) f) (t : Fin cfg0.N) :
    Ev2 (φ := .f32) (a := 384) (b := 512) (iblk m c 15 t) (fun i j => f (384 * (t.val / 4) + i) j) := fun i j => by
  blk_simp [iblk]
  refine (h.at _).trans ?_
  simp [idxG t, mul_comm]

theorem blk16 {f : ℕ → ℕ → EReal} (h : Ev2 (φ := .bf16) (V m c main_v22) f) (t : Fin cfg0.N) :
    Ev2 (φ := .bf16) (a := 1024) (b := 2048) (iblk m c 16 t) (fun i j => f i (2048 * (t.val % 4) + j)) := fun i j => by
  blk_simp [iblk]
  refine (h.at _).trans ?_
  simp [idxW t, mul_comm]

include h0 h1 h2 h3 h4 h5 h6 h7 h8 h9 h10 h11 h12 h13 h14 h15 h16

/-- After point `n` the output's block holds the sum over the groups so far. -/
theorem outs (n : ℕ) (hn : n < cfg0.N) : Ev2 (φ := .f32) (outsAt0 m c n hn)
    fun i k => ∑ j ∈ range (n % 4 + 1), part g (384 * (n / 4) + i) k j := by
  induction n using Nat.strongRecOn with
  | ind n ih =>
    obtain ⟨t, rfl⟩ : ∃ t : Fin cfg0.N, t.val = n := ⟨⟨n, hn⟩, rfl⟩
    have w := blk16 m c (v22_ev m c h0) t
    obtain t0 | t0 | t0 | t0 : t.val % 4 = 0 ∨ t.val % 4 = 1 ∨ t.val % 4 = 2 ∨ t.val % 4 = 3 := by omega
    · rw [outsAt0_A m c t t0 (by omega) (by omega) (by omega), outA]
      refine (tile (blk0 m c h4 t) (blk1 m c h5 t) (blk2 m c h6 t) (blk3 m c h7 t) w).congr fun i _ k _ => ?_
      rw [t0, sum_range_one]
      rfl
    · have p := ih (t.val - 1) (by omega) (by omega)
      rw [show (t.val - 1) / 4 = t.val / 4 by omega, show (t.val - 1) % 4 + 1 = 1 by omega] at p
      rw [outsAt0_B m c t (by omega) t0 (by omega) (by omega), outB]
      refine (step2 (blk4 m c h10 t) (blk5 m c h11 t) (blk6 m c h12 t) (blk7 m c h13 t) w p).congr fun i _ k _ => ?_
      rw [t0]
      exact (sum_range_succ (part g (384 * (t.val / 4) + i) k) 1).symm
    · have p := ih (t.val - 1) (by omega) (by omega)
      rw [show (t.val - 1) / 4 = t.val / 4 by omega, show (t.val - 1) % 4 + 1 = 2 by omega] at p
      rw [outsAt0_C m c t (by omega) (by omega) t0 (by omega), outC]
      refine (step3 (blk8 m c (v0_ev m c h14) t) (blk9 m c (v1_ev m c h14) t) (blk10 m c (v2_ev m c h15) t) (blk11 m c (v3_ev m c h15) t) w p).congr fun i _ k _ => ?_
      rw [t0]
      exact (sum_range_succ (part g (384 * (t.val / 4) + i) k) 2).symm
    · have p := ih (t.val - 1) (by omega) (by omega)
      rw [show (t.val - 1) / 4 = t.val / 4 by omega, show (t.val - 1) % 4 + 1 = 3 by omega] at p
      rw [outsAt0_D m c t (by omega) (by omega) (by omega) t0, outD]
      refine (step4 (blk12 m c (v4_ev m c h16) t) (blk13 m c (v5_ev m c h16) t) (blk14 m c (v8_ev m c h1 h2 h3) t) (blk15 m c (v10_ev m c h8 h9) t) w p).congr fun i _ k _ => ?_
      rw [t0]
      exact (sum_range_succ (part g (384 * (t.val / 4) + i) k) 3).symm

/-- The result array holds the sums over all groups. -/
theorem arr : Ev2 (φ := .f32) (a := 8448) (b := 1024) ((dats m 0 c).arrAt 17 cfg0.N) fun i k => ∑ j ∈ range 4, part g i k j := fun i j => by
  refine (dats m 0 c).arrAt_forall_of_covers 17 (fun z w => w = ∑ j ∈ range 4, part g (z 0).val (z 1).val j)
    (by decide +kernel) (fun t hf x => ?_) (ValueIdx.ix2 i j)
  have ht := (flush0_17 t).mp hf
  blk_simp [idxW t]
  rw [after0_17]
  refine ((outs m c h0 h1 h2 h3 h4 h5 h6 h7 h8 h9 h10 h11 h12 h13 h14 h15 h16 t.val t.isLt).at x).trans ?_
  rw [ht]
  simp [mul_comm]

omit h0 h1 h2 h3 h4 h5 h6 h7 h8 h9 h10 h11 h12 h13 h14 h15 h16

/-! ## The plain sum -/

/-- A row of the gradient of one result with the weights that made it, which start at column `o`. -/
def dot (g : ℕ → ℕ → ℕ → EReal) (a o n i k : ℕ) : EReal := ∑ c ∈ range n, g a i c * g 0 k (o + c)

theorem wts_gla (w : ℕ → ℕ → EReal) (k c : ℕ) (h : c < 2048) : wts w k c = w k (416 + c) := by
  unfold wts; rw [cat_lt h]

theorem wts_ret (w : ℕ → ℕ → EReal) (k c : ℕ) (h : c < 2048) : wts w k (2048 + c) = w k (2496 + c) := by
  unfold wts; rw [cat_add, cat_lt h]

theorem wts_gate (w : ℕ → ℕ → EReal) (k c : ℕ) (h : c < 3072) : wts w k (4096 + c) = w k (4544 + c) := by
  unfold wts
  rw [show 4096 + c = 2048 + (2048 + c) by omega, cat_add, cat_add, cat_lt h]

theorem wts_mla (w : ℕ → ℕ → EReal) (k c : ℕ) (h : c < 384) : wts w k (7168 + c) = w k (0 + c) := by
  unfold wts
  rw [show 7168 + c = 2048 + (2048 + (3072 + c)) by omega, cat_add, cat_add, cat_add, cat_lt h]

theorem wts_kr (w : ℕ → ℕ → EReal) (k c : ℕ) (h : c < 32) : wts w k (7616 + c) = w k (384 + c) := by
  unfold wts
  rw [show 7616 + c = 2048 + (2048 + (3072 + (384 + (64 + c)))) by omega, cat_add, cat_add, cat_add, cat_add, cat_add, cat_lt h]

theorem wts_rank (w : ℕ → ℕ → EReal) (k c : ℕ) (h : c < 32) : wts w k (7680 + c) = w k (2464 + c) := by
  unfold wts
  rw [show 7680 + c = 2048 + (2048 + (3072 + (384 + (64 + (32 + (32 + c)))))) by omega, cat_add, cat_add, cat_add, cat_add, cat_add,
    cat_add, cat_add, cat_lt h]

theorem zero_dot (n : ℕ) (h : ℕ → EReal) : ∑ c ∈ range n, (fun _ : ℕ => (0 : EReal)) c * h c = 0 := by
  simp only [zero_mul, sum_const_zero]

theorem part_eq (i k j : ℕ) : part g i k j
    = ∑ c ∈ range 512, piece g (4 * j) i c * wts (g 0) k (2048 * j + c)
    + (∑ c ∈ range 512, piece g (4 * j + 1) i c * wts (g 0) k (2048 * j + (512 + c))
    + (∑ c ∈ range 512, piece g (4 * j + 2) i c * wts (g 0) k (2048 * j + (512 + (512 + c)))
    + (∑ c ∈ range 512, piece g (4 * j + 3) i c * wts (g 0) k (2048 * j + (512 + (512 + (512 + c)))) + 0))) :=
  sum_dotf (grp g j i) fun c => wts (g 0) k (2048 * j + c)

theorem part0 (i k : ℕ) : part g i k 0 = dot g 4 416 512 i k + (dot g 5 928 512 i k + (dot g 6 1440 512 i k + dot g 7 1952 512 i k)) := by
  rw [part_eq, add_zero]
  refine congrArg₂ (· + ·) (sum_congr rfl fun c hc => ?_) (congrArg₂ (· + ·) (sum_congr rfl fun c hc => ?_)
    (congrArg₂ (· + ·) (sum_congr rfl fun c hc => ?_) (sum_congr rfl fun c hc => ?_)))
  all_goals
    have := mem_range.1 hc
    rw [show ∀ n, 2048 * 0 + n = n from fun n => by omega, wts_gla _ _ _ (by omega)]
    refine congrArg₂ (· * ·) rfl (congrArg (g 0 k) (by omega))

theorem part1 (i k : ℕ) : part g i k 1 = dot g 10 2496 512 i k + (dot g 11 3008 512 i k + (dot g 12 3520 512 i k + dot g 13 4032 512 i k)) := by
  rw [part_eq, add_zero]
  refine congrArg₂ (· + ·) (sum_congr rfl fun c hc => ?_) (congrArg₂ (· + ·) (sum_congr rfl fun c hc => ?_)
    (congrArg₂ (· + ·) (sum_congr rfl fun c hc => ?_) (sum_congr rfl fun c hc => ?_)))
  all_goals
    have := mem_range.1 hc
    rw [show ∀ n, 2048 * 1 + n = 2048 + n from fun n => by omega, wts_ret _ _ _ (by omega)]
    refine congrArg₂ (· * ·) rfl (congrArg (g 0 k) (by omega))

/-- Half of a gate's part. -/
def half (g : ℕ → ℕ → ℕ → EReal) (a o s i k : ℕ) : EReal := ∑ c ∈ range 512, g a i (s + c) * g 0 k (o + (s + c))

theorem dot_halves (a o i k : ℕ) : dot g a o 1024 i k = half g a o 0 i k + half g a o 512 i k := by
  unfold dot half
  rw [show 1024 = 512 + 512 from rfl, sum_range_add]
  simp only [Nat.zero_add]

theorem part2 (i k : ℕ) : part g i k 2 = half g 14 4544 0 i k + (half g 14 4544 512 i k + (half g 15 5568 0 i k + half g 15 5568 512 i k)) := by
  rw [part_eq, add_zero]
  refine congrArg₂ (· + ·) (sum_congr rfl fun c hc => ?_) (congrArg₂ (· + ·) (sum_congr rfl fun c hc => ?_)
    (congrArg₂ (· + ·) (sum_congr rfl fun c hc => ?_) (sum_congr rfl fun c hc => ?_)))
  all_goals
    have := mem_range.1 hc
    rw [show ∀ n, 2048 * 2 + n = 4096 + n from fun n => by omega, wts_gate _ _ _ (by omega)]
    refine congrArg₂ (· * ·) rfl (congrArg (g 0 k) (by omega))

theorem mla_dot (i k : ℕ) : ∑ c ∈ range 512, piece g 14 i c * wts (g 0) k (7168 + c)
    = dot g 1 0 256 i k + (dot g 2 256 128 i k + dot g 3 384 32 i k) := by
  refine (sum_dotf (mla g i) fun c => wts (g 0) k (7168 + c)).trans ?_
  simp only [mla, dotf, zero_mul, sum_const_zero, zero_add, add_zero]
  refine congrArg₂ (· + ·) (sum_congr rfl fun c hc => ?_) (congrArg₂ (· + ·) (sum_congr rfl fun c hc => ?_) (sum_congr rfl fun c hc => ?_))
  · have := mem_range.1 hc
    rw [wts_mla _ _ _ (by omega)]
  · have := mem_range.1 hc
    rw [wts_mla _ _ _ (by omega)]
    exact congrArg₂ (· * ·) rfl (congrArg (g 0 k) (by omega))
  · have := mem_range.1 hc
    rw [show 7168 + (256 + (128 + (64 + c))) = 7616 + c by omega, wts_kr _ _ _ (by omega)]

theorem rank_dot (i k : ℕ) : ∑ c ∈ range 512, piece g 15 i c * wts (g 0) k (7680 + c)
    = dot g 8 2464 16 i k + dot g 9 2480 16 i k := by
  refine (sum_dotf (rank g i) fun c => wts (g 0) k (7680 + c)).trans ?_
  simp only [rank, dotf, zero_mul, sum_const_zero, add_zero]
  refine congrArg₂ (· + ·) (sum_congr rfl fun c hc => ?_) (sum_congr rfl fun c hc => ?_)
  · have := mem_range.1 hc
    rw [wts_rank _ _ _ (by omega)]
  · have := mem_range.1 hc
    rw [wts_rank _ _ _ (by omega)]
    exact congrArg₂ (· * ·) rfl (congrArg (g 0 k) (by omega))

theorem part3 (i k : ℕ) : part g i k 3 = half g 16 6592 0 i k + (half g 16 6592 512 i k
    + (dot g 1 0 256 i k + (dot g 2 256 128 i k + dot g 3 384 32 i k) + (dot g 8 2464 16 i k + dot g 9 2480 16 i k))) := by
  rw [part_eq, add_zero, ← mla_dot, ← rank_dot]
  refine congrArg₂ (· + ·) (sum_congr rfl fun c hc => ?_) (congrArg₂ (· + ·) (sum_congr rfl fun c hc => ?_)
    (congrArg₂ (· + ·) (sum_congr rfl fun c hc => ?_) (sum_congr rfl fun c hc => ?_)))
  · have := mem_range.1 hc
    rw [show 2048 * 3 + c = 4096 + (2048 + c) by omega, wts_gate _ _ _ (by omega)]
    refine congrArg₂ (· * ·) rfl (congrArg (g 0 k) (by omega))
  · have := mem_range.1 hc
    rw [show 2048 * 3 + (512 + c) = 4096 + (2560 + c) by omega, wts_gate _ _ _ (by omega)]
    refine congrArg₂ (· * ·) rfl (congrArg (g 0 k) (by omega))
  · rw [show 2048 * 3 + (512 + (512 + c)) = 7168 + c by omega]
  · rw [show 2048 * 3 + (512 + (512 + (512 + c))) = 7680 + c by omega]

theorem total (i k : ℕ) : dot g 16 6592 1024 i k + dot g 15 5568 1024 i k + dot g 14 4544 1024 i k + dot g 13 4032 512 i k + dot g 12 3520 512 i k + dot g 11 3008 512 i k + dot g 10 2496 512 i k + dot g 9 2480 16 i k + dot g 8 2464 16 i k + dot g 7 1952 512 i k + dot g 6 1440 512 i k + dot g 5 928 512 i k + dot g 4 416 512 i k + dot g 3 384 32 i k + dot g 2 256 128 i k + dot g 1 0 256 i k
    = ∑ j ∈ range 4, part g i k j := by
  simp only [sum_range_succ, range_zero, sum_empty, part0, part1, part2, part3, dot_halves]
  abel

section Ref

open Cert.Reference7Ideal.Read

variable {x0 : FVec Ideal S1024x7616 .f32} {x1 : FVec Ideal S8448x256 .f32} {x2 : FVec Ideal S8448x128 .f32} {x3 : FVec Ideal S8448x32 .f32} {x4 : FVec Ideal S8448x512 .f32} {x5 : FVec Ideal S8448x512 .f32} {x6 : FVec Ideal S8448x512 .f32} {x7 : FVec Ideal S8448x512 .f32} {x8 : FVec Ideal S8448x16 .f32} {x9 : FVec Ideal S8448x16 .f32} {x10 : FVec Ideal S8448x512 .f32} {x11 : FVec Ideal S8448x512 .f32} {x12 : FVec Ideal S8448x512 .f32} {x13 : FVec Ideal S8448x512 .f32} {x14 : FVec Ideal S8448x1024 .f32} {x15 : FVec Ideal S8448x1024 .f32} {x16 : FVec Ideal S8448x1024 .f32}
variable (k0 : Ev2 x0 (g 0)) (k1 : Ev2 x1 (g 1)) (k2 : Ev2 x2 (g 2)) (k3 : Ev2 x3 (g 3)) (k4 : Ev2 x4 (g 4)) (k5 : Ev2 x5 (g 5)) (k6 : Ev2 x6 (g 6)) (k7 : Ev2 x7 (g 7)) (k8 : Ev2 x8 (g 8)) (k9 : Ev2 x9 (g 9)) (k10 : Ev2 x10 (g 10)) (k11 : Ev2 x11 (g 11)) (k12 : Ev2 x12 (g 12)) (k13 : Ev2 x13 (g 13)) (k14 : Ev2 x14 (g 14)) (k15 : Ev2 x15 (g 15)) (k16 : Ev2 x16 (g 16))

include k0 k16 in
theorem ref16 (z : S8448x1024.Idx) : val_main_v33 (F := Ideal) x0 x16 z = dot g 16 6592 1024 (z 0).val (z 1).val := by
  rw [val_main_v33_apply]
  refine (sum_congr rfl fun c _ => ?_).trans (Fin.sum_univ_eq_sum_range (fun c => g 16 (z 0).val c * g 0 (z 1).val (6592 + c)) 1024)
  rw [val_main_v31_apply]
  exact congrArg₂ (· * ·) (k16.get _ rfl rfl) (k0.get _ rfl rfl)

include k0 k15 in
theorem ref15 (z : S8448x1024.Idx) : val_main_v34 (F := Ideal) x0 x15 z = dot g 15 5568 1024 (z 0).val (z 1).val := by
  rw [val_main_v34_apply]
  refine (sum_congr rfl fun c _ => ?_).trans (Fin.sum_univ_eq_sum_range (fun c => g 15 (z 0).val c * g 0 (z 1).val (5568 + c)) 1024)
  rw [val_main_v29_apply]
  exact congrArg₂ (· * ·) (k15.get _ rfl rfl) (k0.get _ rfl rfl)

include k0 k14 in
theorem ref14 (z : S8448x1024.Idx) : val_main_v36 (F := Ideal) x0 x14 z = dot g 14 4544 1024 (z 0).val (z 1).val := by
  rw [val_main_v36_apply]
  refine (sum_congr rfl fun c _ => ?_).trans (Fin.sum_univ_eq_sum_range (fun c => g 14 (z 0).val c * g 0 (z 1).val (4544 + c)) 1024)
  rw [val_main_v27_apply]
  exact congrArg₂ (· * ·) (k14.get _ rfl rfl) (k0.get _ rfl rfl)

include k0 k13 in
theorem ref13 (z : S8448x1024.Idx) : val_main_v38 (F := Ideal) x0 x13 z = dot g 13 4032 512 (z 0).val (z 1).val := by
  rw [val_main_v38_apply]
  refine (sum_congr rfl fun c _ => ?_).trans (Fin.sum_univ_eq_sum_range (fun c => g 13 (z 0).val c * g 0 (z 1).val (4032 + c)) 512)
  rw [val_main_v25_apply]
  exact congrArg₂ (· * ·) (k13.get _ rfl rfl) (k0.get _ rfl rfl)

include k0 k12 in
theorem ref12 (z : S8448x1024.Idx) : val_main_v40 (F := Ideal) x0 x12 z = dot g 12 3520 512 (z 0).val (z 1).val := by
  rw [val_main_v40_apply]
  refine (sum_congr rfl fun c _ => ?_).trans (Fin.sum_univ_eq_sum_range (fun c => g 12 (z 0).val c * g 0 (z 1).val (3520 + c)) 512)
  rw [val_main_v23_apply]
  exact congrArg₂ (· * ·) (k12.get _ rfl rfl) (k0.get _ rfl rfl)

include k0 k11 in
theorem ref11 (z : S8448x1024.Idx) : val_main_v42 (F := Ideal) x0 x11 z = dot g 11 3008 512 (z 0).val (z 1).val := by
  rw [val_main_v42_apply]
  refine (sum_congr rfl fun c _ => ?_).trans (Fin.sum_univ_eq_sum_range (fun c => g 11 (z 0).val c * g 0 (z 1).val (3008 + c)) 512)
  rw [val_main_v21_apply]
  exact congrArg₂ (· * ·) (k11.get _ rfl rfl) (k0.get _ rfl rfl)

include k0 k10 in
theorem ref10 (z : S8448x1024.Idx) : val_main_v44 (F := Ideal) x0 x10 z = dot g 10 2496 512 (z 0).val (z 1).val := by
  rw [val_main_v44_apply]
  refine (sum_congr rfl fun c _ => ?_).trans (Fin.sum_univ_eq_sum_range (fun c => g 10 (z 0).val c * g 0 (z 1).val (2496 + c)) 512)
  rw [val_main_v19_apply]
  exact congrArg₂ (· * ·) (k10.get _ rfl rfl) (k0.get _ rfl rfl)

include k0 k9 in
theorem ref9 (z : S8448x1024.Idx) : val_main_v46 (F := Ideal) x0 x9 z = dot g 9 2480 16 (z 0).val (z 1).val := by
  rw [val_main_v46_apply]
  refine (sum_congr rfl fun c _ => ?_).trans (Fin.sum_univ_eq_sum_range (fun c => g 9 (z 0).val c * g 0 (z 1).val (2480 + c)) 16)
  rw [val_main_v17_apply]
  exact congrArg₂ (· * ·) (k9.get _ rfl rfl) (k0.get _ rfl rfl)

include k0 k8 in
theorem ref8 (z : S8448x1024.Idx) : val_main_v48 (F := Ideal) x0 x8 z = dot g 8 2464 16 (z 0).val (z 1).val := by
  rw [val_main_v48_apply]
  refine (sum_congr rfl fun c _ => ?_).trans (Fin.sum_univ_eq_sum_range (fun c => g 8 (z 0).val c * g 0 (z 1).val (2464 + c)) 16)
  rw [val_main_v15_apply]
  exact congrArg₂ (· * ·) (k8.get _ rfl rfl) (k0.get _ rfl rfl)

include k0 k7 in
theorem ref7 (z : S8448x1024.Idx) : val_main_v50 (F := Ideal) x0 x7 z = dot g 7 1952 512 (z 0).val (z 1).val := by
  rw [val_main_v50_apply]
  refine (sum_congr rfl fun c _ => ?_).trans (Fin.sum_univ_eq_sum_range (fun c => g 7 (z 0).val c * g 0 (z 1).val (1952 + c)) 512)
  rw [val_main_v13_apply]
  exact congrArg₂ (· * ·) (k7.get _ rfl rfl) (k0.get _ rfl rfl)

include k0 k6 in
theorem ref6 (z : S8448x1024.Idx) : val_main_v52 (F := Ideal) x0 x6 z = dot g 6 1440 512 (z 0).val (z 1).val := by
  rw [val_main_v52_apply]
  refine (sum_congr rfl fun c _ => ?_).trans (Fin.sum_univ_eq_sum_range (fun c => g 6 (z 0).val c * g 0 (z 1).val (1440 + c)) 512)
  rw [val_main_v11_apply]
  exact congrArg₂ (· * ·) (k6.get _ rfl rfl) (k0.get _ rfl rfl)

include k0 k5 in
theorem ref5 (z : S8448x1024.Idx) : val_main_v54 (F := Ideal) x0 x5 z = dot g 5 928 512 (z 0).val (z 1).val := by
  rw [val_main_v54_apply]
  refine (sum_congr rfl fun c _ => ?_).trans (Fin.sum_univ_eq_sum_range (fun c => g 5 (z 0).val c * g 0 (z 1).val (928 + c)) 512)
  rw [val_main_v9_apply]
  exact congrArg₂ (· * ·) (k5.get _ rfl rfl) (k0.get _ rfl rfl)

include k0 k4 in
theorem ref4 (z : S8448x1024.Idx) : val_main_v56 (F := Ideal) x0 x4 z = dot g 4 416 512 (z 0).val (z 1).val := by
  rw [val_main_v56_apply]
  refine (sum_congr rfl fun c _ => ?_).trans (Fin.sum_univ_eq_sum_range (fun c => g 4 (z 0).val c * g 0 (z 1).val (416 + c)) 512)
  rw [val_main_v7_apply]
  exact congrArg₂ (· * ·) (k4.get _ rfl rfl) (k0.get _ rfl rfl)

include k0 k3 in
theorem ref3 (z : S8448x1024.Idx) : val_main_v58 (F := Ideal) x0 x3 z = dot g 3 384 32 (z 0).val (z 1).val := by
  rw [val_main_v58_apply]
  refine (sum_congr rfl fun c _ => ?_).trans (Fin.sum_univ_eq_sum_range (fun c => g 3 (z 0).val c * g 0 (z 1).val (384 + c)) 32)
  rw [val_main_v5_apply]
  exact congrArg₂ (· * ·) (k3.get _ rfl rfl) (k0.get _ rfl rfl)

include k0 k2 in
theorem ref2 (z : S8448x1024.Idx) : val_main_v60 (F := Ideal) x0 x2 z = dot g 2 256 128 (z 0).val (z 1).val := by
  rw [val_main_v60_apply]
  refine (sum_congr rfl fun c _ => ?_).trans (Fin.sum_univ_eq_sum_range (fun c => g 2 (z 0).val c * g 0 (z 1).val (256 + c)) 128)
  rw [val_main_v3_apply]
  exact congrArg₂ (· * ·) (k2.get _ rfl rfl) (k0.get _ rfl rfl)

include k0 k1 in
theorem ref1 (z : S8448x1024.Idx) : val_main_v62 (F := Ideal) x0 x1 z = dot g 1 0 256 (z 0).val (z 1).val := by
  rw [val_main_v62_apply]
  refine (sum_congr rfl fun c _ => ?_).trans (Fin.sum_univ_eq_sum_range (fun c => g 1 (z 0).val c * g 0 (z 1).val (0 + c)) 256)
  rw [val_main_v1_apply]
  exact congrArg₂ (· * ·) (k1.get _ rfl rfl) (k0.get _ rfl (Nat.zero_add _).symm)

include k0 k1 k2 k3 k4 k5 k6 k7 k8 k9 k10 k11 k12 k13 k14 k15 k16

theorem ref : Ev2 (φ := .f32) (a := 8448) (b := 1024) (val_main_v63 (F := Ideal) x0 x1 x2 x3 x4 x5 x6 x7 x8 x9 x10 x11 x12 x13 x14 x15 x16) fun i k => ∑ j ∈ range 4, part g i k j := fun i k => by
  refine Eq.trans ?_ (total i k)
  rw [val_main_v63_apply, val_main_v61_apply, val_main_v59_apply, val_main_v57_apply, val_main_v55_apply, val_main_v53_apply, val_main_v51_apply, val_main_v49_apply, val_main_v47_apply, val_main_v45_apply, val_main_v43_apply, val_main_v41_apply, val_main_v39_apply, val_main_v37_apply, val_main_v35_apply]
  rw [ref16 k0 k16, ref15 k0 k15, ref14 k0 k14, ref13 k0 k13, ref12 k0 k12, ref11 k0 k11, ref10 k0 k10, ref9 k0 k9, ref8 k0 k8, ref7 k0 k7, ref6 k0 k6, ref5 k0 k5, ref4 k0 k4, ref3 k0 k3, ref2 k0 k2, ref1 k0 k1]
  rfl

end Ref

/-- Each argument's entries. -/
def args (m : (ℓ : Loc nD τ sig) → Buf (Elt Ideal) ℓ) (c : Dev nD) : ℕ → ℕ → ℕ → EReal
  | 0 => ent (φ := .f32) (m ((c : Thread nD τ).loc main_arg0) : FVec Ideal S1024x7616 .f32)
  | 1 => ent (φ := .f32) (m ((c : Thread nD τ).loc main_arg1) : FVec Ideal S8448x256 .f32)
  | 2 => ent (φ := .f32) (m ((c : Thread nD τ).loc main_arg2) : FVec Ideal S8448x128 .f32)
  | 3 => ent (φ := .f32) (m ((c : Thread nD τ).loc main_arg3) : FVec Ideal S8448x32 .f32)
  | 4 => ent (φ := .f32) (m ((c : Thread nD τ).loc main_arg4) : FVec Ideal S8448x512 .f32)
  | 5 => ent (φ := .f32) (m ((c : Thread nD τ).loc main_arg5) : FVec Ideal S8448x512 .f32)
  | 6 => ent (φ := .f32) (m ((c : Thread nD τ).loc main_arg6) : FVec Ideal S8448x512 .f32)
  | 7 => ent (φ := .f32) (m ((c : Thread nD τ).loc main_arg7) : FVec Ideal S8448x512 .f32)
  | 8 => ent (φ := .f32) (m ((c : Thread nD τ).loc main_arg8) : FVec Ideal S8448x16 .f32)
  | 9 => ent (φ := .f32) (m ((c : Thread nD τ).loc main_arg9) : FVec Ideal S8448x16 .f32)
  | 10 => ent (φ := .f32) (m ((c : Thread nD τ).loc main_arg10) : FVec Ideal S8448x512 .f32)
  | 11 => ent (φ := .f32) (m ((c : Thread nD τ).loc main_arg11) : FVec Ideal S8448x512 .f32)
  | 12 => ent (φ := .f32) (m ((c : Thread nD τ).loc main_arg12) : FVec Ideal S8448x512 .f32)
  | 13 => ent (φ := .f32) (m ((c : Thread nD τ).loc main_arg13) : FVec Ideal S8448x512 .f32)
  | 14 => ent (φ := .f32) (m ((c : Thread nD τ).loc main_arg14) : FVec Ideal S8448x1024 .f32)
  | 15 => ent (φ := .f32) (m ((c : Thread nD τ).loc main_arg15) : FVec Ideal S8448x1024 .f32)
  | _ => ent (φ := .f32) (m ((c : Thread nD τ).loc main_arg16) : FVec Ideal S8448x1024 .f32)

theorem algebraic : Cert.algebraic_Kernel7Ideal_Reference7Ideal := by
  intro m ρ m' ρ' _ harg
  refine ⟨fun c => (dats m 0 c).arrAt 17 cfg0.N, (θ_run _ _ _).mono (fun r h c => ⟨(h.1 c).1 17, h.2 c⟩)
      (θ_run_and (run_main m ρ) (unchanged m ρ)),
    (θ_run _ _ _).mono (fun r h c => ⟨(h c).1.trans ?_, (h c).2⟩) (Cert.Reference7Ideal.Value.run (F := Ideal) m' ρ')⟩
  obtain ⟨a0, a1, a2, a3, a4, a5, a6, a7, a8, a9, a10, a11, a12, a13, a14, a15, a16⟩ := harg c
  rw [Cert.Reference7Ideal.Read.val_main_v63_eq, a0, a1, a2, a3, a4, a5, a6, a7, a8, a9, a10, a11, a12, a13, a14, a15, a16]
  exact (ref (g := args m c) (ev_ent _) (ev_ent _) (ev_ent _) (ev_ent _) (ev_ent _) (ev_ent _) (ev_ent _) (ev_ent _) (ev_ent _) (ev_ent _) (ev_ent _) (ev_ent _) (ev_ent _) (ev_ent _) (ev_ent _) (ev_ent _) (ev_ent _) ).eq
    (arr m c (g := args m c) (ev_ent _) (ev_ent _) (ev_ent _) (ev_ent _) (ev_ent _) (ev_ent _) (ev_ent _) (ev_ent _) (ev_ent _) (ev_ent _) (ev_ent _) (ev_ent _) (ev_ent _) (ev_ent _) (ev_ent _) (ev_ent _) (ev_ent _) ) fun i _ j _ => rfl

end Ffn.InDx
-- ==== Proof.InDw.lean ====
/- The gradient of the in-projection's weights, for four of its columns' parts: the tiled product of the eighth kernel is the plain ones. -/
module

public import proofs.«01_k».proof.Proof.Cat
public import proofs.«01_k».proof.Defs
public import proofs.«01_k».proof.Proof.Gen.Kernel8Ideal.Frame
public import proofs.«01_k».proof.Proof.Gen.Reference8Ideal.Run
public import proofs.«01_k».proof.Proof.Gen.Reference8Ideal.Read

@[expose] public section

set_option maxRecDepth 16384

noncomputable section

namespace Ffn.InDw

open Idealize.ShloMosaic Finset
open Idealize.ShloMosaic.TcCoe Idealize.SL.Sem
open Cert.Kernel8Ideal Cert.Kernel8Ideal.Gen

/-- Four pieces of 512 columns. -/
def four (g1 g2 g3 g4 : ℕ → ℕ → EReal) (i : ℕ) : ℕ → EReal := cat [(512, g1 i), (512, g2 i), (512, g3 i), (512, g4 i)]

/-- A product with four pieces is the four products, side by side. -/
theorem tn_four (f g1 g2 g3 g4 : ℕ → ℕ → EReal) (n i j : ℕ) : tn f (four g1 g2 g3 g4) n i j
    = cat [(512, tn f g1 n i), (512, tn f g2 n i), (512, tn f g3 n i), (512, tn f g4 n i)] j := by
  unfold tn four
  by_cases h1 : j < 512
  · simp only [cat_lt h1]
  simp only [cat_ge (Nat.not_lt.1 h1)]
  generalize j - 512 = j
  by_cases h1 : j < 512
  · simp only [cat_lt h1]
  simp only [cat_ge (Nat.not_lt.1 h1)]
  generalize j - 512 = j
  by_cases h1 : j < 512
  · simp only [cat_lt h1]
  simp only [cat_ge (Nat.not_lt.1 h1)]
  generalize j - 512 = j
  by_cases h1 : j < 512
  · simp only [cat_lt h1]
  · simp only [cat_ge (Nat.not_lt.1 h1), cat, if_neg h1, mul_zero, sum_const_zero]

theorem prod {x : FVec Ideal S768x1024 .bf16} {y : FVec Ideal S768x2048 .bf16} {f g : ℕ → ℕ → EReal} (hx : Ev2 x f) (hy : Ev2 y g) :
    Ev2 (matmul dot_S768x1024_S768x2048_S1024x2048_0_0_1_1_n_n none x y (constant S1024x2048 .f32 0x00000000#32)) (tn f g 768) :=
  fun i j => by
    pointwise
    simp only [hx _ i, hy _ j]
    exact Fin.sum_univ_eq_sum_range (fun k => f k i * g k j) 768

section Tile

variable {x : Vec Ideal S768x1024 .f32} {y1 y2 y3 y4 : Vec Ideal S768x512 .f32} {z : Vec Ideal S1024x2048 .f32}
  {f g1 g2 g3 g4 h : ℕ → ℕ → EReal} (hx : Ev2 (φ := .f32) x f) (hy1 : Ev2 (φ := .f32) y1 g1) (hy2 : Ev2 (φ := .f32) y2 g2)
  (hy3 : Ev2 (φ := .f32) y3 g3) (hy4 : Ev2 (φ := .f32) y4 g4) (hz : Ev2 (φ := .f32) z h)

include hx hy1 hy2 hy3 hy4

theorem tile : Ev2 (k0_pay1 (F := Ideal) x y1 y2 y3 y4) (tn f (four g1 g2 g3 g4) 768) :=
  prod hx.truncf ((Cols.cons (hy1.truncf (ψ := .bf16) (h := Facts₀.bitsLt_bf16_f32)) (.cons (hy2.truncf (ψ := .bf16) (h := Facts₀.bitsLt_bf16_f32))
    (.cons (hy3.truncf (ψ := .bf16) (h := Facts₀.bitsLt_bf16_f32)) (.cons (hy4.truncf (ψ := .bf16) (h := Facts₀.bitsLt_bf16_f32)) .nil)))).ev
      Facts₀.concatenates_S768x512_S768x512_S768x512_S768x512_S768x2048_d1)

include hz in
theorem step : Ev2 (k0_pay2 (F := Ideal) x y1 y2 y3 y4 z) fun i j => h i j + tn f (four g1 g2 g3 g4) 768 i j :=
  Ev2.add (x := shapeCast S1024x2048 z Facts₀.shapeCasts_S1024x2048_S1024x2048) hz.cast (tile hx hy1 hy2 hy3 hy4)

end Tile

section Cases

variable (c : Dev nD) (i : grid0.Coords) (a1 : Memref sig .tc .vmem S768x1024 .f32) (h1 : a1.IsWhole)
  (a2 : Memref sig .tc .vmem S768x512 .f32) (h2 : a2.IsWhole) (a3 : Memref sig .tc .vmem S768x512 .f32) (h3 : a3.IsWhole)
  (a4 : Memref sig .tc .vmem S768x512 .f32) (h4 : a4.IsWhole) (a5 : Memref sig .tc .vmem S768x512 .f32) (h5 : a5.IsWhole)
  (a6 : Memref sig .tc .vmem S1024x2048 .f32) (h6 : a6.IsWhole)
  (x0 : Vec Ideal S768x1024 .f32) (x1 x2 x3 x4 : Vec Ideal S768x512 .f32) (x5 : Vec Ideal S1024x2048 .f32)

theorem outA (hc0 : cond0_0 i) (hc1 : ¬cond0_1 i) :
    out0_A_5 c i a1 h1 a2 h2 a3 h3 a4 h4 a5 h5 a6 h6 hc0 hc1 x0 x1 x2 x3 x4 = k0_pay1 x0 x1 x2 x3 x4 := by
  frame_out

theorem outB (hc0 : ¬cond0_0 i) (hc1 : cond0_1 i) :
    out0_B_5 c i a1 h1 a2 h2 a3 h3 a4 h4 a5 h5 a6 h6 hc0 hc1 x0 x1 x2 x3 x4 x5 = k0_pay2 x0 x1 x2 x3 x4 x5 := by
  frame_out

end Cases

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] :=
  (by decide +kernel : ∀ t : Fin grid0.N, _)

variable (m : (ℓ : Loc nD τ sig) → Buf (Elt Ideal) ℓ) (c : Dev nD) {f g1 g2 g3 g4 : ℕ → ℕ → EReal}

theorem blk0 (h : Ev2 (φ := .f32) (V m c main_arg0) f) (t : Fin cfg0.N) :
    Ev2 (φ := .f32) (a := 768) (b := 1024) (iblk m c 0 t) (fun k i => f (768 * t.val + k) i) := fun i j => by
  blk_simp [iblk]
  refine (h.at _).trans ?_
  simp [idx t, mul_comm]

theorem blk1 (h : Ev2 (φ := .f32) (V m c main_arg1) g1) (t : Fin cfg0.N) :
    Ev2 (φ := .f32) (a := 768) (b := 512) (iblk m c 1 t) (fun k i => g1 (768 * t.val + k) i) := fun i j => by
  blk_simp [iblk]
  refine (h.at _).trans ?_
  simp [idx t, mul_comm]

theorem blk2 (h : Ev2 (φ := .f32) (V m c main_arg2) g2) (t : Fin cfg0.N) :
    Ev2 (φ := .f32) (a := 768) (b := 512) (iblk m c 2 t) (fun k i => g2 (768 * t.val + k) i) := fun i j => by
  blk_simp [iblk]
  refine (h.at _).trans ?_
  simp [idx t, mul_comm]

theorem blk3 (h : Ev2 (φ := .f32) (V m c main_arg3) g3) (t : Fin cfg0.N) :
    Ev2 (φ := .f32) (a := 768) (b := 512) (iblk m c 3 t) (fun k i => g3 (768 * t.val + k) i) := fun i j => by
  blk_simp [iblk]
  refine (h.at _).trans ?_
  simp [idx t, mul_comm]

theorem blk4 (h : Ev2 (φ := .f32) (V m c main_arg4) g4) (t : Fin cfg0.N) :
    Ev2 (φ := .f32) (a := 768) (b := 512) (iblk m c 4 t) (fun k i => g4 (768 * t.val + k) i) := fun i j => by
  blk_simp [iblk]
  refine (h.at _).trans ?_
  simp [idx t, mul_comm]

variable (h0 : Ev2 (φ := .f32) (V m c main_arg0) f) (h1 : Ev2 (φ := .f32) (V m c main_arg1) g1) (h2 : Ev2 (φ := .f32) (V m c main_arg2) g2)
  (h3 : Ev2 (φ := .f32) (V m c main_arg3) g3) (h4 : Ev2 (φ := .f32) (V m c main_arg4) g4)

include h0 h1 h2 h3 h4

/-- After point `n` the output's block holds the sum over the row tiles so far. -/
theorem outs (n : ℕ) (hn : n < cfg0.N) : Ev2 (φ := .f32) (outsAt0 m c n hn) (tn f (four g1 g2 g3 g4) (768 * n + 768)) := by
  induction n using Nat.strongRecOn with
  | ind n ih =>
    obtain ⟨t, rfl⟩ : ∃ t : Fin cfg0.N, t.val = n := ⟨⟨n, hn⟩, rfl⟩
    have hN : t.val < 11 := t.isLt
    have b0 := blk0 m c h0 t
    have b1 := blk1 m c h1 t
    have b2 := blk2 m c h2 t
    have b3 := blk3 m c h3 t
    have b4 := blk4 m c h4 t
    by_cases t0 : t.val % 11 = 0
    · rw [outsAt0_A m c t t0 (by omega), outA]
      refine (tile b0 b1 b2 b3 b4).congr fun i _ j _ => ?_
      rw [show t.val = 0 by omega]
      simp only [tn, four, Nat.mul_zero, Nat.zero_add]
    · have p := ih (t.val - 1) (by omega) (by omega)
      rw [show 768 * (t.val - 1) + 768 = 768 * t.val by omega] at p
      rw [outsAt0_B m c t t0 (by omega), outB]
      refine (step b0 b1 b2 b3 b4 p).congr fun i _ j _ => ?_
      exact sum_tile t.val 768 fun k => f k i * four g1 g2 g3 g4 k j

/-- The result array holds the sums over all rows. -/
theorem arr : Ev2 (φ := .f32) (a := 1024) (b := 2048) ((dats m 0 c).arrAt 5 cfg0.N) (tn f (four g1 g2 g3 g4) 8448) := fun i j => by
  refine (dats m 0 c).arrAt_forall_of_covers 5 (fun z w => w = tn f (four g1 g2 g3 g4) 8448 (z 0).val (z 1).val)
    (by decide +kernel) (fun t hf x => ?_) (ValueIdx.ix2 i j)
  have h5 := (flush0_5 t).mp hf
  have hN : t.val < 11 := t.isLt
  have e : t.val = 10 := by omega
  blk_simp [idx t]
  rw [after0_5]
  refine ((outs m c h0 h1 h2 h3 h4 t.val t.isLt).at x).trans ?_
  simp [e]

omit h0 h1 h2 h3 h4

section Ref

open Cert.Reference8Ideal.Read

variable {x : FVec Ideal S8448x1024 .f32} {y1 y2 y3 y4 : FVec Ideal S8448x512 .f32} (hx : Ev2 x f) (hy1 : Ev2 y1 g1) (hy2 : Ev2 y2 g2)
  (hy3 : Ev2 y3 g3) (hy4 : Ev2 y4 g4)

theorem ref1 {x : FVec Ideal S8448x1024 .f32} {y : FVec Ideal S8448x512 .f32} {g : ℕ → ℕ → EReal} (hx : Ev2 x f) (hy : Ev2 y g) :
    Ev2 (φ := .f32) (a := 1024) (b := 512) (val_main_v3 (F := Ideal) x y) (tn f g 8448) := fun i j => by
  rw [val_main_v3_apply, val_main_v2_apply]
  refine (sum_congr rfl fun k _ => ?_).trans (Fin.sum_univ_eq_sum_range (fun k => f k i * g k j) 8448)
  rw [mul_comm]
  exact congrArg₂ (· * ·) (hx.get _ rfl rfl) (hy.get _ rfl rfl)

theorem ref2 {x : FVec Ideal S8448x1024 .f32} {y : FVec Ideal S8448x512 .f32} {g : ℕ → ℕ → EReal} (hx : Ev2 x f) (hy : Ev2 y g) :
    Ev2 (φ := .f32) (a := 1024) (b := 512) (val_main_v7 (F := Ideal) x y) (tn f g 8448) := fun i j => by
  rw [val_main_v7_apply, val_main_v6_apply]
  refine (sum_congr rfl fun k _ => ?_).trans (Fin.sum_univ_eq_sum_range (fun k => f k i * g k j) 8448)
  rw [mul_comm]
  exact congrArg₂ (· * ·) (hx.get _ rfl rfl) (hy.get _ rfl rfl)

theorem ref3 {x : FVec Ideal S8448x1024 .f32} {y : FVec Ideal S8448x512 .f32} {g : ℕ → ℕ → EReal} (hx : Ev2 x f) (hy : Ev2 y g) :
    Ev2 (φ := .f32) (a := 1024) (b := 512) (val_main_v11 (F := Ideal) x y) (tn f g 8448) := fun i j => by
  rw [val_main_v11_apply, val_main_v10_apply]
  refine (sum_congr rfl fun k _ => ?_).trans (Fin.sum_univ_eq_sum_range (fun k => f k i * g k j) 8448)
  rw [mul_comm]
  exact congrArg₂ (· * ·) (hx.get _ rfl rfl) (hy.get _ rfl rfl)

theorem ref4 {x : FVec Ideal S8448x1024 .f32} {y : FVec Ideal S8448x512 .f32} {g : ℕ → ℕ → EReal} (hx : Ev2 x f) (hy : Ev2 y g) :
    Ev2 (φ := .f32) (a := 1024) (b := 512) (val_main_v15 (F := Ideal) x y) (tn f g 8448) := fun i j => by
  rw [val_main_v15_apply, val_main_v14_apply]
  refine (sum_congr rfl fun k _ => ?_).trans (Fin.sum_univ_eq_sum_range (fun k => f k i * g k j) 8448)
  rw [mul_comm]
  exact congrArg₂ (· * ·) (hx.get _ rfl rfl) (hy.get _ rfl rfl)

include hx hy1 hy2 hy3 hy4

theorem ref : Ev2 (φ := .f32) (a := 1024) (b := 2048) (val_main_v16 (F := Ideal) x y1 y2 y3 y4) (tn f (four g1 g2 g3 g4) 8448) := by
  unfold val_main_v16
  refine ((Cols.cons (ref1 hx hy1) (.cons (ref2 hx hy2) (.cons (ref3 hx hy3) (.cons (ref4 hx hy4) .nil)))).ev
    Cert.Reference8Ideal.Facts₀.concatenates_S1024x512_S1024x512_S1024x512_S1024x512_S1024x2048_d1).congr fun i _ j hj => ?_
  exact (tn_four f g1 g2 g3 g4 8448 i j).symm

end Ref

theorem algebraic : Cert.algebraic_Kernel8Ideal_Reference8Ideal := by
  intro m ρ m' ρ' _ harg
  refine ⟨fun c => (dats m 0 c).arrAt 5 cfg0.N, (θ_run _ _ _).mono (fun r h c => ⟨(h.1 c).1 5, h.2 c⟩)
      (θ_run_and (run_main m ρ) (unchanged m ρ)),
    (θ_run _ _ _).mono (fun r h c => ⟨(h c).1.trans ?_, (h c).2⟩) (Cert.Reference8Ideal.Value.run (F := Ideal) m' ρ')⟩
  obtain ⟨a0, a1, a2, a3, a4⟩ := harg c
  rw [Cert.Reference8Ideal.Read.val_main_v16_eq, a0, a1, a2, a3, a4]
  exact (ref (ev_ent _) (ev_ent _) (ev_ent _) (ev_ent _) (ev_ent _)).eq
    (arr m c (ev_ent _) (ev_ent _) (ev_ent _) (ev_ent _) (ev_ent _)) fun i _ j _ => rfl

end Ffn.InDw
-- ==== Proof.OutProj.lean ====
/- The output projection's and one branch's products, forward and back, tiled over blocks of rows: they are the plain products. -/
module

public import proofs.«01_k».proof.Proof.FfnDefs
public import proofs.«01_k».proof.Defs
public import proofs.«01_k».proof.Proof.Gen.Kernel9Ideal.Frame
public import proofs.«01_k».proof.Proof.Gen.Reference9Ideal.Run
public import proofs.«01_k».proof.Proof.Gen.Reference9Ideal.Read

@[expose] public section

set_option maxRecDepth 16384

noncomputable section

namespace Ffn.Out

open Cert.Kernel9Ideal Cert.Kernel9Ideal.Gen
open Idealize.ShloMosaic Idealize.ShloMosaic.TcCoe Idealize.ShloMosaic.Tactic

section Products

open Finset

theorem nn_1024_1024 {x : FVec Ideal S768x1024 .bf16} {y : FVec Ideal S1024x1024 .bf16} {f g : ℕ → ℕ → EReal} (hx : Ev2 x f) (hy : Ev2 y g) :
    Ev2 (matmul dot_S768x1024_S1024x1024_S768x1024_1_0_0_1_n_n none x y (constant S768x1024 .f32 0x00000000#32)) (nn f g 1024) :=
  fun i j => by
    pointwise
    simp only [hx i _, hy _ j]
    exact Fin.sum_univ_eq_sum_range (fun k => f i k * g k j) 1024

theorem nt_1024_1024 {x : FVec Ideal S768x1024 .bf16} {y : FVec Ideal S1024x1024 .bf16} {f g : ℕ → ℕ → EReal} (hx : Ev2 x f) (hy : Ev2 y g) :
    Ev2 (matmul dot_S768x1024_S1024x1024_S768x1024_1_1_0_0_n_n none x y (constant S768x1024 .f32 0x00000000#32)) (nt f g 1024) :=
  fun i j => by
    pointwise
    simp only [hx i _, hy j _]
    exact Fin.sum_univ_eq_sum_range (fun k => f i k * g j k) 1024

theorem nn_512_1024 {x : FVec Ideal S768x512 .bf16} {y : FVec Ideal S512x1024 .bf16} {f g : ℕ → ℕ → EReal} (hx : Ev2 x f) (hy : Ev2 y g) :
    Ev2 (matmul dot_S768x512_S512x1024_S768x1024_1_0_0_1_n_n none x y (constant S768x1024 .f32 0x00000000#32)) (nn f g 512) :=
  fun i j => by
    pointwise
    simp only [hx i _, hy _ j]
    exact Fin.sum_univ_eq_sum_range (fun k => f i k * g k j) 512

theorem nt_1024_512 {x : FVec Ideal S768x1024 .bf16} {y : FVec Ideal S512x1024 .bf16} {f g : ℕ → ℕ → EReal} (hx : Ev2 x f) (hy : Ev2 y g) :
    Ev2 (matmul dot_S768x1024_S512x1024_S768x512_1_1_0_0_n_n none x y (constant S768x512 .f32 0x00000000#32)) (nt f g 1024) :=
  fun i j => by
    pointwise
    simp only [hx i _, hy j _]
    exact Fin.sum_univ_eq_sum_range (fun k => f i k * g j k) 1024

variable (V : (c : Dev nD) → (b : Ref sig .tc) → Buf (Elt Ideal) ((c : Thread nD τ).loc b)) (c : Dev nD) {f g : ℕ → ℕ → EReal}

/-! ## Call 0 -/

theorem out0_eq (x0 : Vec Ideal S768x1024 .f32) (x1 : Vec Ideal S1024x1024 .bf16) : out0_2 x0 x1 = k0_pay1 x0 x1 := by
  frame_out

theorem tile0 {x : Vec Ideal S768x1024 .f32} {y : Vec Ideal S1024x1024 .bf16} {f g : ℕ → ℕ → EReal} (hx : Ev2 (φ := .f32) x f)
    (hy : Ev2 (φ := .bf16) y g) : Ev2 (k0_pay1 (F := Ideal) x y) (nn f g 1024) :=
  nn_1024_1024 (Ev2.truncf hx) (Ev2.cast hy)

theorem idx0 : ∀ t : Fin cfg0.N, win0_0.index t = ![t.val, 0] ∧ win0_1.index t = ![0, 0] ∧ win0_2.index t = ![t.val, 0] :=
  (by decide +kernel : ∀ t : Fin grid0.N, _)

theorem blk0_0 (h : Ev2 (φ := .f32) (V c (Pipeline.arrRef spec0 0)) f) (t : Fin cfg0.N) :
    Ev2 (φ := .f32) (a := 768) (b := 1024) (iblk0 V c 0 t) (fun i k => f (768 * t.val + i) k) := fun i j => by
  blk_simp [iblk0]
  refine (h.at _).trans ?_
  simp [idx0 t, mul_comm]

theorem blk0_1 (h : Ev2 (φ := .bf16) (V c (Pipeline.arrRef spec0 1)) g) (t : Fin cfg0.N) :
    Ev2 (φ := .bf16) (a := 1024) (b := 1024) (iblk0 V c 1 t) g := fun i j => by
  blk_simp [iblk0]
  refine (h.at _).trans ?_
  simp [idx0 t]

theorem row0 (h0 : Ev2 (φ := .f32) (V c (Pipeline.arrRef spec0 0)) f) (h1 : Ev2 (φ := .bf16) (V c (Pipeline.arrRef spec0 1)) g)
    (t : Fin cfg0.N) : Ev2 (φ := .f32) (a := 768) (b := 1024) ((dat0 V c).after 2 t) (fun i j => nn f g 1024 (768 * t.val + i) j) := by
  rw [after0_2, out0_eq]
  exact tile0 (blk0_0 V c h0 t) (blk0_1 V c h1 t)

theorem arr0 (h0 : Ev2 (φ := .f32) (V c (Pipeline.arrRef spec0 0)) f) (h1 : Ev2 (φ := .bf16) (V c (Pipeline.arrRef spec0 1)) g) :
    Ev2 (φ := .f32) (a := 8448) (b := 1024) ((dat0 V c).arrAt 2 cfg0.N) (nn f g 1024) := fun i j => by
  refine (dat0 V c).arrAt_forall_of_covers 2 (fun z w => w = nn f g 1024 (z 0).val (z 1).val)
    (by decide +kernel) (fun t hf x => ?_) (ValueIdx.ix2 i j)
  blk_simp [idx0 t]
  refine ((row0 V c h0 h1 t).at x).trans ?_
  simp [mul_comm]

/-! ## Call 1 -/

theorem out1_eq (x0 : Vec Ideal S768x1024 .f32) (x1 : Vec Ideal S1024x1024 .bf16) : out1_2 x0 x1 = k1_pay1 x0 x1 := by
  frame_out

theorem tile1 {x : Vec Ideal S768x1024 .f32} {y : Vec Ideal S1024x1024 .bf16} {f g : ℕ → ℕ → EReal} (hx : Ev2 (φ := .f32) x f)
    (hy : Ev2 (φ := .bf16) y g) : Ev2 (k1_pay1 (F := Ideal) x y) (nt f g 1024) :=
  nt_1024_1024 (Ev2.truncf hx) (Ev2.cast hy)

theorem idx1 : ∀ t : Fin cfg1.N, win1_0.index t = ![t.val, 0] ∧ win1_1.index t = ![0, 0] ∧ win1_2.index t = ![t.val, 0] :=
  (by decide +kernel : ∀ t : Fin grid1.N, _)

theorem blk1_0 (h : Ev2 (φ := .f32) (V c (Pipeline.arrRef spec1 0)) f) (t : Fin cfg1.N) :
    Ev2 (φ := .f32) (a := 768) (b := 1024) (iblk1 V c 0 t) (fun i k => f (768 * t.val + i) k) := fun i j => by
  blk_simp [iblk1]
  refine (h.at _).trans ?_
  simp [idx1 t, mul_comm]

theorem blk1_1 (h : Ev2 (φ := .bf16) (V c (Pipeline.arrRef spec1 1)) g) (t : Fin cfg1.N) :
    Ev2 (φ := .bf16) (a := 1024) (b := 1024) (iblk1 V c 1 t) g := fun i j => by
  blk_simp [iblk1]
  refine (h.at _).trans ?_
  simp [idx1 t]

theorem row1 (h0 : Ev2 (φ := .f32) (V c (Pipeline.arrRef spec1 0)) f) (h1 : Ev2 (φ := .bf16) (V c (Pipeline.arrRef spec1 1)) g)
    (t : Fin cfg1.N) : Ev2 (φ := .f32) (a := 768) (b := 1024) ((dat1 V c).after 2 t) (fun i j => nt f g 1024 (768 * t.val + i) j) := by
  rw [after1_2, out1_eq]
  exact tile1 (blk1_0 V c h0 t) (blk1_1 V c h1 t)

theorem arr1 (h0 : Ev2 (φ := .f32) (V c (Pipeline.arrRef spec1 0)) f) (h1 : Ev2 (φ := .bf16) (V c (Pipeline.arrRef spec1 1)) g) :
    Ev2 (φ := .f32) (a := 8448) (b := 1024) ((dat1 V c).arrAt 2 cfg1.N) (nt f g 1024) := fun i j => by
  refine (dat1 V c).arrAt_forall_of_covers 2 (fun z w => w = nt f g 1024 (z 0).val (z 1).val)
    (by decide +kernel) (fun t hf x => ?_) (ValueIdx.ix2 i j)
  blk_simp [idx1 t]
  refine ((row1 V c h0 h1 t).at x).trans ?_
  simp [mul_comm]

/-! ## Call 2 -/

theorem out2_eq (x0 : Vec Ideal S768x512 .f32) (x1 : Vec Ideal S512x1024 .bf16) : out2_2 x0 x1 = k2_pay1 x0 x1 := by
  frame_out

theorem tile2 {x : Vec Ideal S768x512 .f32} {y : Vec Ideal S512x1024 .bf16} {f g : ℕ → ℕ → EReal} (hx : Ev2 (φ := .f32) x f)
    (hy : Ev2 (φ := .bf16) y g) : Ev2 (k2_pay1 (F := Ideal) x y) (nn f g 512) :=
  nn_512_1024 (Ev2.truncf hx) (Ev2.cast hy)

theorem idx2 : ∀ t : Fin cfg2.N, win2_0.index t = ![t.val, 0] ∧ win2_1.index t = ![0, 0] ∧ win2_2.index t = ![t.val, 0] :=
  (by decide +kernel : ∀ t : Fin grid2.N, _)

theorem blk2_0 (h : Ev2 (φ := .f32) (V c (Pipeline.arrRef spec2 0)) f) (t : Fin cfg2.N) :
    Ev2 (φ := .f32) (a := 768) (b := 512) (iblk2 V c 0 t) (fun i k => f (768 * t.val + i) k) := fun i j => by
  blk_simp [iblk2]
  refine (h.at _).trans ?_
  simp [idx2 t, mul_comm]

theorem blk2_1 (h : Ev2 (φ := .bf16) (V c (Pipeline.arrRef spec2 1)) g) (t : Fin cfg2.N) :
    Ev2 (φ := .bf16) (a := 512) (b := 1024) (iblk2 V c 1 t) g := fun i j => by
  blk_simp [iblk2]
  refine (h.at _).trans ?_
  simp [idx2 t]

theorem row2 (h0 : Ev2 (φ := .f32) (V c (Pipeline.arrRef spec2 0)) f) (h1 : Ev2 (φ := .bf16) (V c (Pipeline.arrRef spec2 1)) g)
    (t : Fin cfg2.N) : Ev2 (φ := .f32) (a := 768) (b := 1024) ((dat2 V c).after 2 t) (fun i j => nn f g 512 (768 * t.val + i) j) := by
  rw [after2_2, out2_eq]
  exact tile2 (blk2_0 V c h0 t) (blk2_1 V c h1 t)

theorem arr2 (h0 : Ev2 (φ := .f32) (V c (Pipeline.arrRef spec2 0)) f) (h1 : Ev2 (φ := .bf16) (V c (Pipeline.arrRef spec2 1)) g) :
    Ev2 (φ := .f32) (a := 8448) (b := 1024) ((dat2 V c).arrAt 2 cfg2.N) (nn f g 512) := fun i j => by
  refine (dat2 V c).arrAt_forall_of_covers 2 (fun z w => w = nn f g 512 (z 0).val (z 1).val)
    (by decide +kernel) (fun t hf x => ?_) (ValueIdx.ix2 i j)
  blk_simp [idx2 t]
  refine ((row2 V c h0 h1 t).at x).trans ?_
  simp [mul_comm]

/-! ## Call 3 -/

theorem out3_eq (x0 : Vec Ideal S768x1024 .f32) (x1 : Vec Ideal S512x1024 .bf16) : out3_2 x0 x1 = k3_pay1 x0 x1 := by
  frame_out

theorem tile3 {x : Vec Ideal S768x1024 .f32} {y : Vec Ideal S512x1024 .bf16} {f g : ℕ → ℕ → EReal} (hx : Ev2 (φ := .f32) x f)
    (hy : Ev2 (φ := .bf16) y g) : Ev2 (k3_pay1 (F := Ideal) x y) (nt f g 1024) :=
  nt_1024_512 (Ev2.truncf hx) (Ev2.cast hy)

theorem idx3 : ∀ t : Fin cfg3.N, win3_0.index t = ![t.val, 0] ∧ win3_1.index t = ![0, 0] ∧ win3_2.index t = ![t.val, 0] :=
  (by decide +kernel : ∀ t : Fin grid3.N, _)

theorem blk3_0 (h : Ev2 (φ := .f32) (V c (Pipeline.arrRef spec3 0)) f) (t : Fin cfg3.N) :
    Ev2 (φ := .f32) (a := 768) (b := 1024) (iblk3 V c 0 t) (fun i k => f (768 * t.val + i) k) := fun i j => by
  blk_simp [iblk3]
  refine (h.at _).trans ?_
  simp [idx3 t, mul_comm]

theorem blk3_1 (h : Ev2 (φ := .bf16) (V c (Pipeline.arrRef spec3 1)) g) (t : Fin cfg3.N) :
    Ev2 (φ := .bf16) (a := 512) (b := 1024) (iblk3 V c 1 t) g := fun i j => by
  blk_simp [iblk3]
  refine (h.at _).trans ?_
  simp [idx3 t]

theorem row3 (h0 : Ev2 (φ := .f32) (V c (Pipeline.arrRef spec3 0)) f) (h1 : Ev2 (φ := .bf16) (V c (Pipeline.arrRef spec3 1)) g)
    (t : Fin cfg3.N) : Ev2 (φ := .f32) (a := 768) (b := 512) ((dat3 V c).after 2 t) (fun i j => nt f g 1024 (768 * t.val + i) j) := by
  rw [after3_2, out3_eq]
  exact tile3 (blk3_0 V c h0 t) (blk3_1 V c h1 t)

theorem arr3 (h0 : Ev2 (φ := .f32) (V c (Pipeline.arrRef spec3 0)) f) (h1 : Ev2 (φ := .bf16) (V c (Pipeline.arrRef spec3 1)) g) :
    Ev2 (φ := .f32) (a := 8448) (b := 512) ((dat3 V c).arrAt 2 cfg3.N) (nt f g 1024) := fun i j => by
  refine (dat3 V c).arrAt_forall_of_covers 2 (fun z w => w = nt f g 1024 (z 0).val (z 1).val)
    (by decide +kernel) (fun t hf x => ?_) (ValueIdx.ix2 i j)
  blk_simp [idx3 t]
  refine ((row3 V c h0 h1 t).at x).trans ?_
  simp [mul_comm]

end Products

section Run

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- From the launch memory `m` every device's buffers end at the folds of the five segments. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => h)

end Run

open Idealize.SL.Sem

variable (m : (ℓ : Loc nD τ sig) → Buf (Elt Ideal) ℓ) (ρ : Dev nD → PrngReg) (c : Dev nD)

theorem w1_v0 : W1 m ρ c (Proc.devRef .tc main_v0) = (truncf .bf16 (m ((c : Thread nD τ).loc main_arg1) : FVec Ideal S1024x1024 .f32)
    Facts₀.bitsLt_bf16_f32 : FVec Ideal S1024x1024 .bf16) := by
  unfold_abbrev_sides
  after_results_simp

theorem w1_v1 : W1 m ρ c (Proc.devRef .tc main_v1) = (truncf .bf16 (m ((c : Thread nD τ).loc main_arg4) : FVec Ideal S512x1024 .f32)
    Facts₀.bitsLt_bf16_f32 : FVec Ideal S512x1024 .bf16) := by
  unfold_abbrev_sides
  after_results_simp

variable {a0 a1 a2 a3 a4 a5 : ℕ → ℕ → EReal}
variable (h0 : Ev2 (φ := .f32) (m ((c : Thread nD τ).loc main_arg0) : FVec Ideal S8448x1024 .f32) a0)
variable (h1 : Ev2 (φ := .f32) (m ((c : Thread nD τ).loc main_arg1) : FVec Ideal S1024x1024 .f32) a1)
variable (h2 : Ev2 (φ := .f32) (m ((c : Thread nD τ).loc main_arg2) : FVec Ideal S8448x1024 .f32) a2)
variable (h3 : Ev2 (φ := .f32) (m ((c : Thread nD τ).loc main_arg3) : FVec Ideal S8448x512 .f32) a3)
variable (h4 : Ev2 (φ := .f32) (m ((c : Thread nD τ).loc main_arg4) : FVec Ideal S512x1024 .f32) a4)
variable (h5 : Ev2 (φ := .f32) (m ((c : Thread nD τ).loc main_arg5) : FVec Ideal S8448x1024 .f32) a5)

include h0 h1 in
theorem v2_ev : Ev2 (φ := .f32) (W5 m ρ c (Proc.devRef .tc main_v2) : FVec Ideal S8448x1024 .f32) (nn a0 a1 1024) := by
  have e : W2 m ρ c (Proc.devRef .tc main_v2) = (dat0 (V1 m ρ) c).arrAt 2 cfg0.N := W2_arr m ρ c 2
  have x : W1 m ρ c (Proc.devRef .tc main_arg0) = m ((c : Thread nD τ).loc main_arg0) := W1_args m ρ c _ (by decide)
  have l : Ev2 (φ := .f32) (W1 m ρ c (Proc.devRef .tc main_arg0) : FVec Ideal S8448x1024 .f32) a0 := by rw [x]; exact h0
  have r : Ev2 (φ := .bf16) (W1 m ρ c (Proc.devRef .tc main_v0) : FVec Ideal S1024x1024 .bf16) a1 := by
    rw [w1_v0]
    exact h1.truncf
  rw [W5_of m ρ c main_v2 (by decide +kernel), W4_of m ρ c main_v2 (by decide +kernel), W3_of m ρ c main_v2 (by decide +kernel), e]
  exact arr0 (V1 m ρ) c l r

include h2 h1 in
theorem v3_ev : Ev2 (φ := .f32) (W5 m ρ c (Proc.devRef .tc main_v3) : FVec Ideal S8448x1024 .f32) (nt a2 a1 1024) := by
  have e : W3 m ρ c (Proc.devRef .tc main_v3) = (dat1 (V2 m ρ) c).arrAt 2 cfg1.N := W3_arr m ρ c 2
  have x : W2 m ρ c (Proc.devRef .tc main_arg2) = m ((c : Thread nD τ).loc main_arg2) := W2_args m ρ c _ (by decide)
  have l : Ev2 (φ := .f32) (W2 m ρ c (Proc.devRef .tc main_arg2) : FVec Ideal S8448x1024 .f32) a2 := by rw [x]; exact h2
  have r : Ev2 (φ := .bf16) (W2 m ρ c (Proc.devRef .tc main_v0) : FVec Ideal S1024x1024 .bf16) a1 := by
    rw [W2_of m ρ c main_v0 (by decide +kernel), w1_v0]
    exact h1.truncf
  rw [W5_of m ρ c main_v3 (by decide +kernel), W4_of m ρ c main_v3 (by decide +kernel), e]
  exact arr1 (V2 m ρ) c l r

include h3 h4 in
theorem v4_ev : Ev2 (φ := .f32) (W5 m ρ c (Proc.devRef .tc main_v4) : FVec Ideal S8448x1024 .f32) (nn a3 a4 512) := by
  have e : W4 m ρ c (Proc.devRef .tc main_v4) = (dat2 (V3 m ρ) c).arrAt 2 cfg2.N := W4_arr m ρ c 2
  have x : W3 m ρ c (Proc.devRef .tc main_arg3) = m ((c : Thread nD τ).loc main_arg3) := W3_args m ρ c _ (by decide)
  have l : Ev2 (φ := .f32) (W3 m ρ c (Proc.devRef .tc main_arg3) : FVec Ideal S8448x512 .f32) a3 := by rw [x]; exact h3
  have r : Ev2 (φ := .bf16) (W3 m ρ c (Proc.devRef .tc main_v1) : FVec Ideal S512x1024 .bf16) a4 := by
    rw [W3_of m ρ c main_v1 (by decide +kernel), W2_of m ρ c main_v1 (by decide +kernel), w1_v1]
    exact h4.truncf
  rw [W5_of m ρ c main_v4 (by decide +kernel), e]
  exact arr2 (V3 m ρ) c l r

include h5 h4 in
theorem v5_ev : Ev2 (φ := .f32) (W5 m ρ c (Proc.devRef .tc main_v5) : FVec Ideal S8448x512 .f32) (nt a5 a4 1024) := by
  have e : W5 m ρ c (Proc.devRef .tc main_v5) = (dat3 (V4 m ρ) c).arrAt 2 cfg3.N := W5_arr m ρ c 2
  have x : W4 m ρ c (Proc.devRef .tc main_arg5) = m ((c : Thread nD τ).loc main_arg5) := W4_args m ρ c _ (by decide)
  have l : Ev2 (φ := .f32) (W4 m ρ c (Proc.devRef .tc main_arg5) : FVec Ideal S8448x1024 .f32) a5 := by rw [x]; exact h5
  have r : Ev2 (φ := .bf16) (W4 m ρ c (Proc.devRef .tc main_v1) : FVec Ideal S512x1024 .bf16) a4 := by
    rw [W4_of m ρ c main_v1 (by decide +kernel), W3_of m ρ c main_v1 (by decide +kernel), W2_of m ρ c main_v1 (by decide +kernel), w1_v1]
    exact h4.truncf
  rw [e]
  exact arr3 (V4 m ρ) c l r

section Ref

open Finset
open Cert.Reference9Ideal.Read

variable {x0 : FVec Ideal S8448x1024 .f32}
variable {x1 : FVec Ideal S1024x1024 .f32}
variable {x2 : FVec Ideal S8448x1024 .f32}
variable {x3 : FVec Ideal S8448x512 .f32}
variable {x4 : FVec Ideal S512x1024 .f32}
variable {x5 : FVec Ideal S8448x1024 .f32}
variable (k0 : Ev2 x0 a0)
variable (k1 : Ev2 x1 a1)
variable (k2 : Ev2 x2 a2)
variable (k3 : Ev2 x3 a3)
variable (k4 : Ev2 x4 a4)
variable (k5 : Ev2 x5 a5)

include k0 k1 in
theorem ref0 : Ev2 (φ := .f32) (a := 8448) (b := 1024) (val_main_v0 (F := Ideal) x0 x1) (nn a0 a1 1024) := fun i j => by
  rw [val_main_v0_apply]
  refine (sum_congr rfl fun k _ => ?_).trans (Fin.sum_univ_eq_sum_range (fun k => a0 i k * a1 k j) 1024)
  exact congrArg₂ (· * ·) (k0.get _ rfl rfl) (k1.get _ rfl rfl)

include k2 k1 in
theorem ref2 : Ev2 (φ := .f32) (a := 8448) (b := 1024) (val_main_v2 (F := Ideal) x1 x2) (nt a2 a1 1024) := fun i j => by
  rw [val_main_v2_apply]
  refine (sum_congr rfl fun k _ => ?_).trans (Fin.sum_univ_eq_sum_range (fun k => a2 i k * a1 j k) 1024)
  exact congrArg₂ (· * ·) (k2.get _ rfl rfl) (k1.get _ rfl rfl)

include k3 k4 in
theorem ref1 : Ev2 (φ := .f32) (a := 8448) (b := 1024) (val_main_v1 (F := Ideal) x3 x4) (nn a3 a4 512) := fun i j => by
  rw [val_main_v1_apply]
  refine (sum_congr rfl fun k _ => ?_).trans (Fin.sum_univ_eq_sum_range (fun k => a3 i k * a4 k j) 512)
  exact congrArg₂ (· * ·) (k3.get _ rfl rfl) (k4.get _ rfl rfl)

include k5 k4 in
theorem ref3 : Ev2 (φ := .f32) (a := 8448) (b := 512) (val_main_v3 (F := Ideal) x4 x5) (nt a5 a4 1024) := fun i j => by
  rw [val_main_v3_apply]
  refine (sum_congr rfl fun k _ => ?_).trans (Fin.sum_univ_eq_sum_range (fun k => a5 i k * a4 j k) 1024)
  exact congrArg₂ (· * ·) (k5.get _ rfl rfl) (k4.get _ rfl rfl)

end Ref

theorem algebraic : Cert.algebraic_Kernel9Ideal_Reference9Ideal := by
  intro m g m' g' _ harg
  refine ⟨fun c => W5 m g c (Proc.devRef .tc main_v2), fun c => W5 m g c (Proc.devRef .tc main_v3), fun c => W5 m g c (Proc.devRef .tc main_v4), fun c => W5 m g c (Proc.devRef .tc main_v5),
    (θ_run _ _ _).mono (fun r h c => ⟨h c _ (mem_uc _ (by decide)), h c _ (mem_uc _ (by decide)), h c _ (mem_uc _ (by decide)), h c _ (mem_uc _ (by decide)),
      (h c _ (mem_uc _ (by decide))).trans (W5_main_arg0 m g c),
      (h c _ (mem_uc _ (by decide))).trans (W5_main_arg1 m g c),
      (h c _ (mem_uc _ (by decide))).trans (W5_main_arg2 m g c),
      (h c _ (mem_uc _ (by decide))).trans (W5_main_arg3 m g c),
      (h c _ (mem_uc _ (by decide))).trans (W5_main_arg4 m g c),
      (h c _ (mem_uc _ (by decide))).trans (W5_main_arg5 m g c)⟩) (run_all m g),
    (θ_run _ _ _).mono (fun r h c => ?_) (Cert.Reference9Ideal.Value.run (F := Ideal) m' g')⟩
  obtain ⟨b0, b1, b2, b3, b4, b5⟩ := harg c
  refine ⟨(h c).1.trans ?_, (h c).2.1.trans ?_, (h c).2.2.1.trans ?_, (h c).2.2.2.1.trans ?_, (h c).2.2.2.2⟩
  · rw [Cert.Reference9Ideal.Read.val_main_v0_eq, b0, b1]
    exact (ref0 (ev_ent _) (ev_ent _)).eq (v2_ev m g c (ev_ent _) (ev_ent _)) fun _ _ _ _ => rfl
  · rw [Cert.Reference9Ideal.Read.val_main_v2_eq, b1, b2]
    exact (ref2 (ev_ent _) (ev_ent _)).eq (v3_ev m g c (ev_ent _) (ev_ent _)) fun _ _ _ _ => rfl
  · rw [Cert.Reference9Ideal.Read.val_main_v1_eq, b3, b4]
    exact (ref1 (ev_ent _) (ev_ent _)).eq (v4_ev m g c (ev_ent _) (ev_ent _)) fun _ _ _ _ => rfl
  · rw [Cert.Reference9Ideal.Read.val_main_v3_eq, b4, b5]
    exact (ref3 (ev_ent _) (ev_ent _)).eq (v5_ev m g c (ev_ent _) (ev_ent _)) fun _ _ _ _ => rfl

end Ffn.Out
-- ==== Proof.DwProj.lean ====
/- The gradient of the out-projection's weights: the tiled product of the tenth kernel is the plain one. -/
module

public import proofs.«01_k».proof.Proof.Ent
public import proofs.«01_k».proof.Defs
public import proofs.«01_k».proof.Proof.Gen.Kernel10Ideal.Frame
public import proofs.«01_k».proof.Proof.Gen.Reference10Ideal.Run
public import proofs.«01_k».proof.Proof.Gen.Reference10Ideal.Read

@[expose] public section

set_option maxRecDepth 16384

noncomputable section

namespace Ffn.DwProj

open Idealize.ShloMosaic Finset
open Idealize.ShloMosaic.TcCoe Idealize.SL.Sem
open Cert.Kernel10Ideal Cert.Kernel10Ideal.Gen

theorem prod {x : FVec Ideal S1408x1024 .bf16} {y : FVec Ideal S1408x1024 .bf16} {f g : ℕ → ℕ → EReal} (hx : Ev2 x f) (hy : Ev2 y g) :
    Ev2 (matmul dot_S1408x1024_S1408x1024_S1024x1024_0_0_1_1_n_n none x y (constant S1024x1024 .f32 0x00000000#32)) (tn f g 1408) :=
  fun i j => by
    pointwise
    simp only [hx _ i, hy _ j]
    exact Fin.sum_univ_eq_sum_range (fun k => f k i * g k j) 1408

theorem tile {x : Vec Ideal S1408x1024 .f32} {y : Vec Ideal S1408x1024 .f32} {f g : ℕ → ℕ → EReal}
    (hx : Ev2 (φ := .f32) x f) (hy : Ev2 (φ := .f32) y g) : Ev2 (k0_pay1 (F := Ideal) x y) (tn f g 1408) :=
  prod hx.truncf hy.truncf

theorem step {x : Vec Ideal S1408x1024 .f32} {y : Vec Ideal S1408x1024 .f32} {z : Vec Ideal S1024x1024 .f32}
    {f g h : ℕ → ℕ → EReal} (hx : Ev2 (φ := .f32) x f) (hy : Ev2 (φ := .f32) y g) (hz : Ev2 (φ := .f32) z h) :
    Ev2 (k0_pay2 (F := Ideal) x y z) fun i j => h i j + tn f g 1408 i j :=
  Ev2.add (x := shapeCast S1024x1024 z Facts₀.shapeCasts_S1024x1024_S1024x1024) hz.cast (tile hx hy)

section Cases

variable (c : Dev nD) (i : grid0.Coords) (a3 : Memref sig .tc .vmem S1408x1024 .f32) (h3 : a3.IsWhole)
  (a4 : Memref sig .tc .vmem S1408x1024 .f32) (h4 : a4.IsWhole) (a5 : Memref sig .tc .vmem S1024x1024 .f32) (h5 : a5.IsWhole)
  (x0 : Vec Ideal S1408x1024 .f32) (x1 : Vec Ideal S1408x1024 .f32) (x2 : Vec Ideal S1024x1024 .f32)

theorem outA (hc0 : cond0_0 i) (hc1 : ¬cond0_1 i) : out0_A_2 c i a3 h3 a4 h4 a5 h5 hc0 hc1 x0 x1 = k0_pay1 x0 x1 := by
  frame_out

theorem outB (hc0 : ¬cond0_0 i) (hc1 : cond0_1 i) : out0_B_2 c i a3 h3 a4 h4 a5 h5 hc0 hc1 x0 x1 x2 = k0_pay2 x0 x1 x2 := by
  frame_out

end Cases

theorem idx : ∀ t : Fin cfg0.N, win0_0.index t = ![t.val % 6, 0] ∧ win0_1.index t = ![t.val % 6, t.val / 6]
    ∧ win0_2.index t = ![0, t.val / 6] :=
  (by decide +kernel : ∀ t : Fin grid0.N, _)

variable (m : (ℓ : Loc nD τ sig) → Buf (Elt Ideal) ℓ) (c : Dev nD) {f g : ℕ → ℕ → EReal}

theorem blk0 (h : Ev2 (φ := .f32) (V m c main_arg0) f) (t : Fin cfg0.N) :
    Ev2 (φ := .f32) (a := 1408) (b := 1024) (iblk m c 0 t) (fun k i => f (1408 * (t.val % 6) + k) i) := fun i j => by
  blk_simp [iblk]
  refine (h.at _).trans ?_
  simp [idx t, mul_comm]

theorem blk1 (h : Ev2 (φ := .f32) (V m c main_arg1) g) (t : Fin cfg0.N) :
    Ev2 (φ := .f32) (a := 1408) (b := 1024) (iblk m c 1 t) (fun k j => g (1408 * (t.val % 6) + k) (1024 * (t.val / 6) + j)) :=
  fun i j => by
  blk_simp [iblk]
  refine (h.at _).trans ?_
  simp [idx t, mul_comm]

variable (h0 : Ev2 (φ := .f32) (V m c main_arg0) f) (h1 : Ev2 (φ := .f32) (V m c main_arg1) g)

include h0 h1

/-- After point `n` the output's block holds the sum over the row tiles so far. -/
theorem outs (n : ℕ) (hn : n < cfg0.N) : Ev2 (φ := .f32) (outsAt0 m c n hn)
    fun i j => tn f g (1408 * (n % 6) + 1408) i (1024 * (n / 6) + j) := by
  induction n using Nat.strongRecOn with
  | ind n ih =>
    obtain ⟨t, rfl⟩ : ∃ t : Fin cfg0.N, t.val = n := ⟨⟨n, hn⟩, rfl⟩
    have hN : t.val < 6 := t.isLt
    have b0 := blk0 m c h0 t
    have b1 := blk1 m c h1 t
    by_cases t0 : t.val % 6 = 0
    · rw [outsAt0_A m c t t0 (by omega), outA]
      refine (tile b0 b1).congr fun i _ j _ => ?_
      rw [t0]
      simp only [tn, Nat.mul_zero, Nat.zero_add]
    · have p := ih (t.val - 1) (by omega) (by omega)
      rw [show (t.val - 1) / 6 = t.val / 6 by omega, show 1408 * ((t.val - 1) % 6) + 1408 = 1408 * (t.val % 6) by omega] at p
      rw [outsAt0_B m c t t0 (by omega), outB]
      refine (step b0 b1 p).congr fun i _ j _ => ?_
      exact sum_tile (t.val % 6) 1408 fun k => f k i * g k (1024 * (t.val / 6) + j)

/-- The result array holds the sums over all rows. -/
theorem arr : Ev2 (φ := .f32) (a := 1024) (b := 1024) ((dats m 0 c).arrAt 2 cfg0.N) (tn f g 8448) := fun i j => by
  refine (dats m 0 c).arrAt_forall_of_covers 2 (fun z w => w = tn f g 8448 (z 0).val (z 1).val)
    (by decide +kernel) (fun t hf x => ?_) (ValueIdx.ix2 i j)
  have h5 := (flush0_2 t).mp hf
  blk_simp [idx t]
  rw [after0_2]
  refine ((outs m c h0 h1 t.val t.isLt).at x).trans ?_
  simp [h5, mul_comm]

omit h0 h1 in
theorem ref {x : FVec Ideal S8448x1024 .f32} {y : FVec Ideal S8448x1024 .f32} (hx : Ev2 x f) (hy : Ev2 y g) :
    Ev2 (φ := .f32) (a := 1024) (b := 1024) (Cert.Reference10Ideal.Read.val_main_v3 (F := Ideal) x y) (tn f g 8448) := fun i j => by
  rw [Cert.Reference10Ideal.Read.val_main_v3_apply, Cert.Reference10Ideal.Read.val_main_v2_apply]
  refine (sum_congr rfl fun k _ => ?_).trans (Fin.sum_univ_eq_sum_range (fun k => f k i * g k j) 8448)
  rw [mul_comm]
  exact congrArg₂ (· * ·) (hx.get _ rfl rfl) (hy.get _ rfl rfl)

omit c h0 h1 in
theorem algebraic : Cert.algebraic_Kernel10Ideal_Reference10Ideal := by
  intro m ρ m' ρ' _ harg
  refine ⟨fun c => (dats m 0 c).arrAt 2 cfg0.N, (θ_run _ _ _).mono (fun r h c => ⟨(h.1 c).1 2, h.2 c⟩)
      (θ_run_and (run_main m ρ) (unchanged m ρ)),
    (θ_run _ _ _).mono (fun r h c => ⟨(h c).1.trans ?_, (h c).2⟩) (Cert.Reference10Ideal.Value.run (F := Ideal) m' ρ')⟩
  obtain ⟨a0, a1⟩ := harg c
  rw [Cert.Reference10Ideal.Read.val_main_v3_eq, a0, a1]
  exact (ref (ev_ent _) (ev_ent _)).eq (arr m c (ev_ent _) (ev_ent _)) fun i _ j _ => rfl

end Ffn.DwProj
-- ==== Proof.DwBranch.lean ====
/- The gradient of a branch's weights: the tiled product of the eleventh kernel is the plain one. -/
module

public import proofs.«01_k».proof.Proof.Ent
public import proofs.«01_k».proof.Defs
public import proofs.«01_k».proof.Proof.Gen.Kernel11Ideal.Frame
public import proofs.«01_k».proof.Proof.Gen.Reference11Ideal.Run
public import proofs.«01_k».proof.Proof.Gen.Reference11Ideal.Read

@[expose] public section

set_option maxRecDepth 16384

noncomputable section

namespace Ffn.DwBranch

open Idealize.ShloMosaic Finset
open Idealize.ShloMosaic.TcCoe Idealize.SL.Sem
open Cert.Kernel11Ideal Cert.Kernel11Ideal.Gen

theorem prod {x : FVec Ideal S1408x512 .bf16} {y : FVec Ideal S1408x1024 .bf16} {f g : ℕ → ℕ → EReal} (hx : Ev2 x f) (hy : Ev2 y g) :
    Ev2 (matmul dot_S1408x512_S1408x1024_S512x1024_0_0_1_1_n_n none x y (constant S512x1024 .f32 0x00000000#32)) (tn f g 1408) :=
  fun i j => by
    pointwise
    simp only [hx _ i, hy _ j]
    exact Fin.sum_univ_eq_sum_range (fun k => f k i * g k j) 1408

theorem tile {x : Vec Ideal S1408x512 .f32} {y : Vec Ideal S1408x1024 .f32} {f g : ℕ → ℕ → EReal}
    (hx : Ev2 (φ := .f32) x f) (hy : Ev2 (φ := .f32) y g) : Ev2 (k0_pay1 (F := Ideal) x y) (tn f g 1408) :=
  prod hx.truncf hy.truncf

theorem step {x : Vec Ideal S1408x512 .f32} {y : Vec Ideal S1408x1024 .f32} {z : Vec Ideal S512x1024 .f32}
    {f g h : ℕ → ℕ → EReal} (hx : Ev2 (φ := .f32) x f) (hy : Ev2 (φ := .f32) y g) (hz : Ev2 (φ := .f32) z h) :
    Ev2 (k0_pay2 (F := Ideal) x y z) fun i j => h i j + tn f g 1408 i j :=
  Ev2.add (x := shapeCast S512x1024 z Facts₀.shapeCasts_S512x1024_S512x1024) hz.cast (tile hx hy)

section Cases

variable (c : Dev nD) (i : grid0.Coords) (a3 : Memref sig .tc .vmem S1408x512 .f32) (h3 : a3.IsWhole)
  (a4 : Memref sig .tc .vmem S1408x1024 .f32) (h4 : a4.IsWhole) (a5 : Memref sig .tc .vmem S512x1024 .f32) (h5 : a5.IsWhole)
  (x0 : Vec Ideal S1408x512 .f32) (x1 : Vec Ideal S1408x1024 .f32) (x2 : Vec Ideal S512x1024 .f32)

theorem outA (hc0 : cond0_0 i) (hc1 : ¬cond0_1 i) : out0_A_2 c i a3 h3 a4 h4 a5 h5 hc0 hc1 x0 x1 = k0_pay1 x0 x1 := by
  frame_out

theorem outB (hc0 : ¬cond0_0 i) (hc1 : cond0_1 i) : out0_B_2 c i a3 h3 a4 h4 a5 h5 hc0 hc1 x0 x1 x2 = k0_pay2 x0 x1 x2 := by
  frame_out

end Cases

theorem idx : ∀ t : Fin cfg0.N, win0_0.index t = ![t.val % 6, 0] ∧ win0_1.index t = ![t.val % 6, t.val / 6]
    ∧ win0_2.index t = ![0, t.val / 6] :=
  (by decide +kernel : ∀ t : Fin grid0.N, _)

variable (m : (ℓ : Loc nD τ sig) → Buf (Elt Ideal) ℓ) (c : Dev nD) {f g : ℕ → ℕ → EReal}

theorem blk0 (h : Ev2 (φ := .f32) (V m c main_arg0) f) (t : Fin cfg0.N) :
    Ev2 (φ := .f32) (a := 1408) (b := 512) (iblk m c 0 t) (fun k i => f (1408 * (t.val % 6) + k) i) := fun i j => by
  blk_simp [iblk]
  refine (h.at _).trans ?_
  simp [idx t, mul_comm]

theorem blk1 (h : Ev2 (φ := .f32) (V m c main_arg1) g) (t : Fin cfg0.N) :
    Ev2 (φ := .f32) (a := 1408) (b := 1024) (iblk m c 1 t) (fun k j => g (1408 * (t.val % 6) + k) (1024 * (t.val / 6) + j)) :=
  fun i j => by
  blk_simp [iblk]
  refine (h.at _).trans ?_
  simp [idx t, mul_comm]

variable (h0 : Ev2 (φ := .f32) (V m c main_arg0) f) (h1 : Ev2 (φ := .f32) (V m c main_arg1) g)

include h0 h1

/-- After point `n` the output's block holds the sum over the row tiles so far. -/
theorem outs (n : ℕ) (hn : n < cfg0.N) : Ev2 (φ := .f32) (outsAt0 m c n hn)
    fun i j => tn f g (1408 * (n % 6) + 1408) i (1024 * (n / 6) + j) := by
  induction n using Nat.strongRecOn with
  | ind n ih =>
    obtain ⟨t, rfl⟩ : ∃ t : Fin cfg0.N, t.val = n := ⟨⟨n, hn⟩, rfl⟩
    have hN : t.val < 6 := t.isLt
    have b0 := blk0 m c h0 t
    have b1 := blk1 m c h1 t
    by_cases t0 : t.val % 6 = 0
    · rw [outsAt0_A m c t t0 (by omega), outA]
      refine (tile b0 b1).congr fun i _ j _ => ?_
      rw [t0]
      simp only [tn, Nat.mul_zero, Nat.zero_add]
    · have p := ih (t.val - 1) (by omega) (by omega)
      rw [show (t.val - 1) / 6 = t.val / 6 by omega, show 1408 * ((t.val - 1) % 6) + 1408 = 1408 * (t.val % 6) by omega] at p
      rw [outsAt0_B m c t t0 (by omega), outB]
      refine (step b0 b1 p).congr fun i _ j _ => ?_
      exact sum_tile (t.val % 6) 1408 fun k => f k i * g k (1024 * (t.val / 6) + j)

/-- The result array holds the sums over all rows. -/
theorem arr : Ev2 (φ := .f32) (a := 512) (b := 1024) ((dats m 0 c).arrAt 2 cfg0.N) (tn f g 8448) := fun i j => by
  refine (dats m 0 c).arrAt_forall_of_covers 2 (fun z w => w = tn f g 8448 (z 0).val (z 1).val)
    (by decide +kernel) (fun t hf x => ?_) (ValueIdx.ix2 i j)
  have h5 := (flush0_2 t).mp hf
  blk_simp [idx t]
  rw [after0_2]
  refine ((outs m c h0 h1 t.val t.isLt).at x).trans ?_
  simp [h5, mul_comm]

omit h0 h1 in
theorem ref {x : FVec Ideal S8448x512 .f32} {y : FVec Ideal S8448x1024 .f32} (hx : Ev2 x f) (hy : Ev2 y g) :
    Ev2 (φ := .f32) (a := 512) (b := 1024) (Cert.Reference11Ideal.Read.val_main_v3 (F := Ideal) x y) (tn f g 8448) := fun i j => by
  rw [Cert.Reference11Ideal.Read.val_main_v3_apply, Cert.Reference11Ideal.Read.val_main_v2_apply]
  refine (sum_congr rfl fun k _ => ?_).trans (Fin.sum_univ_eq_sum_range (fun k => f k i * g k j) 8448)
  rw [mul_comm]
  exact congrArg₂ (· * ·) (hx.get _ rfl rfl) (hy.get _ rfl rfl)

omit c h0 h1 in
theorem algebraic : Cert.algebraic_Kernel11Ideal_Reference11Ideal := by
  intro m ρ m' ρ' _ harg
  refine ⟨fun c => (dats m 0 c).arrAt 2 cfg0.N, (θ_run _ _ _).mono (fun r h c => ⟨(h.1 c).1 2, h.2 c⟩)
      (θ_run_and (run_main m ρ) (unchanged m ρ)),
    (θ_run _ _ _).mono (fun r h c => ⟨(h c).1.trans ?_, (h c).2⟩) (Cert.Reference11Ideal.Value.run (F := Ideal) m' ρ')⟩
  obtain ⟨a0, a1⟩ := harg c
  rw [Cert.Reference11Ideal.Read.val_main_v3_eq, a0, a1]
  exact (ref (ev_ent _) (ev_ent _)).eq (arr m c (ev_ent _) (ev_ent _)) fun i _ j _ => rfl

end Ffn.DwBranch
-- ==== Proof.Fill.lean ====
/- Heads of 64 lanes filled up to 128 by zeros: a product over the filled lanes is the product over the heads' own. -/
module

public import proofs.«01_k».proof.Proof.FfnDefs

@[expose] public section

noncomputable section

namespace Ffn

open Idealize.ShloMosaic Finset

/-- Columns in groups of 64, every group followed by 64 columns of zeros. -/
def fillC (f : ℕ → ℕ → EReal) (i l : ℕ) : EReal := if l % 128 < 64 then f i (l / 128 * 64 + l % 128) else 0

/-- Rows in groups of 64, every group followed by 64 rows of zeros. -/
def fillR (f : ℕ → ℕ → EReal) (l j : ℕ) : EReal := if l % 128 < 64 then f (l / 128 * 64 + l % 128) j else 0

/-- Where the filled lanes hold column `k`. -/
def lane (k : ℕ) : ℕ := k / 64 * 128 + k % 64

theorem fillR_lane (f : ℕ → ℕ → EReal) (k j : ℕ) : fillR f (lane k) j = f k j := by
  unfold fillR lane
  rw [if_pos (by omega)]
  exact congrArg (f · j) (by omega)

theorem fillC_lane (f : ℕ → ℕ → EReal) (i k : ℕ) : fillC f i (lane k) = f i k := by
  unfold fillC lane
  rw [if_pos (by omega)]
  exact congrArg (f i) (by omega)

/-- The sum over the filled lanes is the sum over the heads' own. -/
theorem sum_fill (h : ℕ → EReal) (n : ℕ) :
    ∑ l ∈ range (128 * n), (if l % 128 < 64 then h (l / 128 * 64 + l % 128) else 0) = ∑ k ∈ range (64 * n), h k := by
  induction n with
  | zero => rfl
  | succ n ih =>
    rw [Nat.mul_succ, Nat.mul_succ, sum_range_add, sum_range_add, ih]
    congr 1
    rw [show (128 : ℕ) = 64 + 64 from rfl, sum_range_add, show (64 + 64 : ℕ) = 128 from rfl]
    have z : ∑ x ∈ range 64, (if (128 * n + (64 + x)) % 128 < 64
        then h ((128 * n + (64 + x)) / 128 * 64 + (128 * n + (64 + x)) % 128) else 0) = 0 :=
      sum_eq_zero fun x hx => by rw [if_neg]; have := mem_range.1 hx; omega
    rw [z, add_zero]
    refine sum_congr rfl fun x hx => ?_
    have := mem_range.1 hx
    rw [if_pos (by omega)]
    exact congrArg h (by omega)

theorem nn_fill (f g : ℕ → ℕ → EReal) (i j : ℕ) : nn (fillC f) (fillR g) 1024 i j = nn f g 512 i j := by
  unfold nn
  refine (sum_congr rfl fun l _ => ?_).trans (sum_fill (fun k => f i k * g k j) 8)
  unfold fillC fillR
  split_ifs
  · rfl
  · exact mul_zero _

theorem nt_fill (f g : ℕ → ℕ → EReal) (i k : ℕ) : nt f (fillR g) 1024 i (lane k) = nt f g 1024 i k := by
  unfold nt
  exact sum_congr rfl fun j _ => by rw [fillR_lane]

theorem tn_fill (f g : ℕ → ℕ → EReal) (n k j : ℕ) : tn (fillC f) g n (lane k) j = tn f g n k j := by
  unfold tn
  exact sum_congr rfl fun i _ => by rw [fillC_lane]

end Ffn
-- ==== Proof.OutMla.lean ====
/- The attention's branch, forward and back, over heads filled up to 128 lanes by zeros: its products are the plain ones. -/
module

public import proofs.«01_k».proof.Proof.Fill
public import proofs.«01_k».proof.Defs
public import proofs.«01_k».proof.Proof.Gen.Kernel12Ideal.Frame
public import proofs.«01_k».proof.Proof.Gen.Reference12Ideal.Run
public import proofs.«01_k».proof.Proof.Gen.Reference12Ideal.Read

@[expose] public section

set_option maxRecDepth 16384

noncomputable section

namespace Ffn.Mla

open Cert.Kernel12Ideal Cert.Kernel12Ideal.Gen
open Idealize.ShloMosaic Idealize.ShloMosaic.TcCoe Idealize.ShloMosaic.Tactic

section Products

open Finset

theorem nn_1024_1024 {x : FVec Ideal S768x1024 .bf16} {y : FVec Ideal S1024x1024 .bf16} {f g : ℕ → ℕ → EReal} (hx : Ev2 x f) (hy : Ev2 y g) :
    Ev2 (matmul dot_S768x1024_S1024x1024_S768x1024_1_0_0_1_n_n none x y (constant S768x1024 .f32 0x00000000#32)) (nn f g 1024) :=
  fun i j => by
    pointwise
    simp only [hx i _, hy _ j]
    exact Fin.sum_univ_eq_sum_range (fun k => f i k * g k j) 1024

theorem nt_1024_1024 {x : FVec Ideal S768x1024 .bf16} {y : FVec Ideal S1024x1024 .bf16} {f g : ℕ → ℕ → EReal} (hx : Ev2 x f) (hy : Ev2 y g) :
    Ev2 (matmul dot_S768x1024_S1024x1024_S768x1024_1_1_0_0_n_n none x y (constant S768x1024 .f32 0x00000000#32)) (nt f g 1024) :=
  fun i j => by
    pointwise
    simp only [hx i _, hy j _]
    exact Fin.sum_univ_eq_sum_range (fun k => f i k * g j k) 1024

variable (V : (c : Dev nD) → (b : Ref sig .tc) → Buf (Elt Ideal) ((c : Thread nD τ).loc b)) (c : Dev nD) {f g : ℕ → ℕ → EReal}

/-! ## Call 0 -/

theorem out0_eq (x0 : Vec Ideal S768x1024 .f32) (x1 : Vec Ideal S1024x1024 .bf16) : out0_2 x0 x1 = k0_pay1 x0 x1 := by
  frame_out

theorem tile0 {x : Vec Ideal S768x1024 .f32} {y : Vec Ideal S1024x1024 .bf16} {f g : ℕ → ℕ → EReal} (hx : Ev2 (φ := .f32) x f)
    (hy : Ev2 (φ := .bf16) y g) : Ev2 (k0_pay1 (F := Ideal) x y) (nt f g 1024) :=
  nt_1024_1024 (Ev2.truncf hx) (Ev2.cast hy)

theorem idx0 : ∀ t : Fin cfg0.N, win0_0.index t = ![t.val, 0] ∧ win0_1.index t = ![0, 0] ∧ win0_2.index t = ![t.val, 0] :=
  (by decide +kernel : ∀ t : Fin grid0.N, _)

theorem blk0_0 (h : Ev2 (φ := .f32) (V c (Pipeline.arrRef spec0 0)) f) (t : Fin cfg0.N) :
    Ev2 (φ := .f32) (a := 768) (b := 1024) (iblk0 V c 0 t) (fun i k => f (768 * t.val + i) k) := fun i j => by
  blk_simp [iblk0]
  refine (h.at _).trans ?_
  simp [idx0 t, mul_comm]

theorem blk0_1 (h : Ev2 (φ := .bf16) (V c (Pipeline.arrRef spec0 1)) g) (t : Fin cfg0.N) :
    Ev2 (φ := .bf16) (a := 1024) (b := 1024) (iblk0 V c 1 t) g := fun i j => by
  blk_simp [iblk0]
  refine (h.at _).trans ?_
  simp [idx0 t]

theorem row0 (h0 : Ev2 (φ := .f32) (V c (Pipeline.arrRef spec0 0)) f) (h1 : Ev2 (φ := .bf16) (V c (Pipeline.arrRef spec0 1)) g)
    (t : Fin cfg0.N) : Ev2 (φ := .f32) (a := 768) (b := 1024) ((dat0 V c).after 2 t) (fun i j => nt f g 1024 (768 * t.val + i) j) := by
  rw [after0_2, out0_eq]
  exact tile0 (blk0_0 V c h0 t) (blk0_1 V c h1 t)

theorem arr0 (h0 : Ev2 (φ := .f32) (V c (Pipeline.arrRef spec0 0)) f) (h1 : Ev2 (φ := .bf16) (V c (Pipeline.arrRef spec0 1)) g) :
    Ev2 (φ := .f32) (a := 8448) (b := 1024) ((dat0 V c).arrAt 2 cfg0.N) (nt f g 1024) := fun i j => by
  refine (dat0 V c).arrAt_forall_of_covers 2 (fun z w => w = nt f g 1024 (z 0).val (z 1).val)
    (by decide +kernel) (fun t hf x => ?_) (ValueIdx.ix2 i j)
  blk_simp [idx0 t]
  refine ((row0 V c h0 h1 t).at x).trans ?_
  simp [mul_comm]

/-! ## Call 1 -/

theorem out1_eq (x0 : Vec Ideal S768x1024 .f32) (x1 : Vec Ideal S1024x1024 .bf16) : out1_2 x0 x1 = k1_pay1 x0 x1 := by
  frame_out

theorem tile1 {x : Vec Ideal S768x1024 .f32} {y : Vec Ideal S1024x1024 .bf16} {f g : ℕ → ℕ → EReal} (hx : Ev2 (φ := .f32) x f)
    (hy : Ev2 (φ := .bf16) y g) : Ev2 (k1_pay1 (F := Ideal) x y) (nn f g 1024) :=
  nn_1024_1024 (Ev2.truncf (Ev2.cast hx)) (Ev2.cast hy)

theorem idx1 : ∀ t : Fin cfg1.N, win1_0.index t = ![t.val, 0] ∧ win1_1.index t = ![0, 0] ∧ win1_2.index t = ![t.val, 0] :=
  (by decide +kernel : ∀ t : Fin grid1.N, _)

theorem blk1_0 (h : Ev2 (φ := .f32) (V c (Pipeline.arrRef spec1 0)) f) (t : Fin cfg1.N) :
    Ev2 (φ := .f32) (a := 768) (b := 1024) (iblk1 V c 0 t) (fun i k => f (768 * t.val + i) k) := fun i j => by
  blk_simp [iblk1]
  refine (h.at _).trans ?_
  simp [idx1 t, mul_comm]

theorem blk1_1 (h : Ev2 (φ := .bf16) (V c (Pipeline.arrRef spec1 1)) g) (t : Fin cfg1.N) :
    Ev2 (φ := .bf16) (a := 1024) (b := 1024) (iblk1 V c 1 t) g := fun i j => by
  blk_simp [iblk1]
  refine (h.at _).trans ?_
  simp [idx1 t]

theorem row1 (h0 : Ev2 (φ := .f32) (V c (Pipeline.arrRef spec1 0)) f) (h1 : Ev2 (φ := .bf16) (V c (Pipeline.arrRef spec1 1)) g)
    (t : Fin cfg1.N) : Ev2 (φ := .f32) (a := 768) (b := 1024) ((dat1 V c).after 2 t) (fun i j => nn f g 1024 (768 * t.val + i) j) := by
  rw [after1_2, out1_eq]
  exact tile1 (blk1_0 V c h0 t) (blk1_1 V c h1 t)

theorem arr1 (h0 : Ev2 (φ := .f32) (V c (Pipeline.arrRef spec1 0)) f) (h1 : Ev2 (φ := .bf16) (V c (Pipeline.arrRef spec1 1)) g) :
    Ev2 (φ := .f32) (a := 8448) (b := 1024) ((dat1 V c).arrAt 2 cfg1.N) (nn f g 1024) := fun i j => by
  refine (dat1 V c).arrAt_forall_of_covers 2 (fun z w => w = nn f g 1024 (z 0).val (z 1).val)
    (by decide +kernel) (fun t hf x => ?_) (ValueIdx.ix2 i j)
  blk_simp [idx1 t]
  refine ((row1 V c h0 h1 t).at x).trans ?_
  simp [mul_comm]

end Products

section Run

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- From the launch memory `m` every device's buffers end at the folds of the eight segments. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => h)

end Run

open Idealize.SL.Sem

variable (m : (ℓ : Loc nD τ sig) → Buf (Elt Ideal) ℓ) (ρ : Dev nD → PrngReg) (c : Dev nD)

/-- The rows' heads, each filled up to 128 lanes. -/
def wide (y : FVec Ideal S8448x512 .f32) : FVec Ideal S8448x1024 .f32 :=
  shapeCast S8448x1024 (pad S8448x8x128 ![0, 0, 0] ![0, 0, 64] ![0, 0, 0]
    (shapeCast S8448x8x64 y Facts₀.shapeCasts_S8448x512_S8448x8x64) (sitofp .f32 (constantI S_ 32 0#32))
    Facts₀.pads_S8448x8x64_S8448x8x128_000_000_0640 Facts₀.h_S_) Facts₀.shapeCasts_S8448x8x128_S8448x1024

/-- The weights' rows, every head's filled up to 128. -/
def tall (w : FVec Ideal S512x1024 .f32) : FVec Ideal S1024x1024 .f32 :=
  shapeCast S1024x1024 (transpose S8x128x1024 [0, 2, 1] (pad S8x1024x128 ![0, 0, 0] ![0, 0, 64] ![0, 0, 0]
    (transpose S8x1024x64 [0, 2, 1] (shapeCast S8x64x1024 w Facts₀.shapeCasts_S512x1024_S8x64x1024)
      Facts₀.transposes_S8x64x1024_S8x1024x64_0_2_1) (sitofp .f32 (constantI S_ 32 0#32))
    Facts₀.pads_S8x1024x64_S8x1024x128_000_000_0640 Facts₀.h_S_) Facts₀.transposes_S8x1024x128_S8x128x1024_0_2_1)
    Facts₀.shapeCasts_S8x128x1024_S1024x1024

/-- Every head's 64 lanes taken back. -/
def narrow (x : FVec Ideal S8448x1024 .f32) : FVec Ideal S8448x512 .f32 :=
  shapeCast S8448x512 (extractStridedSlice S8448x8x64 ![0, 0, 0]
    (shapeCast S8448x8x128 x Facts₀.shapeCasts_S8448x1024_S8448x8x128) Facts₀.slices_S8448x8x128_S8448x8x64_0_0_0)
    Facts₀.shapeCasts_S8448x8x64_S8448x512

theorem zero_word : (FloatOps.sitofp .f32 0#32 : Ideal .f32) = (0 : EReal) := by
  show ((((0#32 : BitVec 32).toInt : ℤ) : ℝ) : EReal) = _
  simp

theorem wide_ev {y : FVec Ideal S8448x512 .f32} {f : ℕ → ℕ → EReal} (h : Ev2 y f) : Ev2 (wide y) (fillC f) := fun i j => by
  unfold wide fillC
  pointwise
  split_ifs with h1 h2 h2
  · exact h.get _ (by simp) (by simp)
  · exact absurd h1.2 h2
  · exact absurd ⟨by omega, h2⟩ h1
  · exact zero_word

theorem tall_ev {w : FVec Ideal S512x1024 .f32} {g : ℕ → ℕ → EReal} (h : Ev2 w g) : Ev2 (tall w) (fillR g) := fun i j => by
  unfold tall fillR
  pointwise
  split_ifs with h1 h2 h2
  · exact h.get _ (by simp) (by simp)
  · exact absurd h1.2 h2
  · exact absurd ⟨by omega, h2⟩ h1
  · exact zero_word

theorem narrow_ev {x : FVec Ideal S8448x1024 .f32} {f : ℕ → ℕ → EReal} (h : Ev2 x f) : Ev2 (narrow x) fun i k => f i (lane k) :=
  fun i j => by
  unfold narrow lane
  pointwise
  exact h.get _ (by simp) (by simp)

theorem w5_v2 : W5 m ρ c (Proc.devRef .tc main_v2) = wide (m ((c : Thread nD τ).loc main_arg0)) := by
  unfold_abbrev_sides
  after_results_simp
  rfl

theorem w5_v8 : W5 m ρ c (Proc.devRef .tc main_v8) = truncf .bf16 (tall (m ((c : Thread nD τ).loc main_arg1))) Facts₀.bitsLt_bf16_f32 := by
  unfold_abbrev_sides
  after_results_simp
  rfl

theorem w8_v13 : W8 m ρ c (Proc.devRef .tc main_v13) = narrow (W7 m ρ c (Proc.devRef .tc main_v9)) := by
  unfold_abbrev_sides
  after_results_simp
  rfl

variable {a0 a1 a2 : ℕ → ℕ → EReal}
variable (h0 : Ev2 (φ := .f32) (m ((c : Thread nD τ).loc main_arg0) : FVec Ideal S8448x512 .f32) a0)
variable (h1 : Ev2 (φ := .f32) (m ((c : Thread nD τ).loc main_arg1) : FVec Ideal S512x1024 .f32) a1)
variable (h2 : Ev2 (φ := .f32) (m ((c : Thread nD τ).loc main_arg2) : FVec Ideal S8448x1024 .f32) a2)

include h0 h1 in
theorem v10_ev : Ev2 (φ := .f32) (W8 m ρ c (Proc.devRef .tc main_v10) : FVec Ideal S8448x1024 .f32) (nn a0 a1 512) := by
  have e : W7 m ρ c (Proc.devRef .tc main_v10) = (dat1 (V6 m ρ) c).arrAt 2 cfg1.N := W7_arr m ρ c 2
  have l : Ev2 (φ := .f32) (W6 m ρ c (Proc.devRef .tc main_v2) : FVec Ideal S8448x1024 .f32) (fillC a0) := by
    rw [W6_of m ρ c main_v2 (by decide +kernel), w5_v2]
    exact wide_ev h0
  have r : Ev2 (φ := .bf16) (W6 m ρ c (Proc.devRef .tc main_v8) : FVec Ideal S1024x1024 .bf16) (fillR a1) := by
    rw [W6_of m ρ c main_v8 (by decide +kernel), w5_v8]
    exact (tall_ev h1).truncf
  rw [W8_of m ρ c main_v10 (by decide +kernel), e]
  exact (arr1 (V6 m ρ) c l r).congr fun i _ j _ => nn_fill a0 a1 i j

include h1 h2 in
theorem v13_ev : Ev2 (φ := .f32) (W8 m ρ c (Proc.devRef .tc main_v13) : FVec Ideal S8448x512 .f32) (nt a2 a1 1024) := by
  have e : W6 m ρ c (Proc.devRef .tc main_v9) = (dat0 (V5 m ρ) c).arrAt 2 cfg0.N := W6_arr m ρ c 2
  have x : W5 m ρ c (Proc.devRef .tc main_arg2) = m ((c : Thread nD τ).loc main_arg2) := W5_args m ρ c _ (by decide)
  have l : Ev2 (φ := .f32) (W5 m ρ c (Proc.devRef .tc main_arg2) : FVec Ideal S8448x1024 .f32) a2 := by rw [x]; exact h2
  have r : Ev2 (φ := .bf16) (W5 m ρ c (Proc.devRef .tc main_v8) : FVec Ideal S1024x1024 .bf16) (fillR a1) := by
    rw [w5_v8]
    exact (tall_ev h1).truncf
  rw [w8_v13, W7_of m ρ c main_v9 (by decide +kernel), e]
  exact (narrow_ev (arr0 (V5 m ρ) c l r)).congr fun i _ j _ => nt_fill a2 a1 i j

section Ref

open Finset
open Cert.Reference12Ideal.Read

variable {x0 : FVec Ideal S8448x512 .f32} {x1 : FVec Ideal S512x1024 .f32} {x2 : FVec Ideal S8448x1024 .f32}
variable (k0 : Ev2 x0 a0) (k1 : Ev2 x1 a1) (k2 : Ev2 x2 a2)

include k0 k1 in
theorem ref0 : Ev2 (φ := .f32) (a := 8448) (b := 1024) (val_main_v0 (F := Ideal) x0 x1) (nn a0 a1 512) := fun i j => by
  rw [val_main_v0_apply]
  refine (sum_congr rfl fun k _ => ?_).trans (Fin.sum_univ_eq_sum_range (fun k => a0 i k * a1 k j) 512)
  exact congrArg₂ (· * ·) (k0.get _ rfl rfl) (k1.get _ rfl rfl)

include k2 k1 in
theorem ref1 : Ev2 (φ := .f32) (a := 8448) (b := 512) (val_main_v1 (F := Ideal) x1 x2) (nt a2 a1 1024) := fun i j => by
  rw [val_main_v1_apply]
  refine (sum_congr rfl fun k _ => ?_).trans (Fin.sum_univ_eq_sum_range (fun k => a2 i k * a1 j k) 1024)
  exact congrArg₂ (· * ·) (k2.get _ rfl rfl) (k1.get _ rfl rfl)

end Ref

theorem algebraic : Cert.algebraic_Kernel12Ideal_Reference12Ideal := by
  intro m g m' g' _ harg
  refine ⟨fun c => W8 m g c (Proc.devRef .tc main_v10), fun c => W8 m g c (Proc.devRef .tc main_v13),
    (θ_run _ _ _).mono (fun r h c => ⟨h c _ (mem_uc _ (by decide)), h c _ (mem_uc _ (by decide)),
      (h c _ (mem_uc _ (by decide))).trans (W8_main_arg0 m g c),
      (h c _ (mem_uc _ (by decide))).trans (W8_main_arg1 m g c),
      (h c _ (mem_uc _ (by decide))).trans (W8_main_arg2 m g c)⟩) (run_all m g),
    (θ_run _ _ _).mono (fun r h c => ?_) (Cert.Reference12Ideal.Value.run (F := Ideal) m' g')⟩
  obtain ⟨b0, b1, b2⟩ := harg c
  refine ⟨(h c).1.trans ?_, (h c).2.1.trans ?_, (h c).2.2⟩
  · rw [Cert.Reference12Ideal.Read.val_main_v0_eq, b0, b1]
    exact (ref0 (ev_ent _) (ev_ent _)).eq (v10_ev m g c (ev_ent _) (ev_ent _)) fun _ _ _ _ => rfl
  · rw [Cert.Reference12Ideal.Read.val_main_v1_eq, b1, b2]
    exact (ref1 (ev_ent _) (ev_ent _)).eq (v13_ev m g c (ev_ent _) (ev_ent _)) fun _ _ _ _ => rfl

end Ffn.Mla
-- ==== Proof.Adam.lean ====
/- One step of AdamW on extended reals, and stacks of matrices of extended reals: `Ev3 x f` says that the stack `x` holds `f k i j`
   at slab `k`, row `i` and column `j`. -/
module

public import proofs.«01_k».proof.Proof.Ent

@[expose] public section

noncomputable section

namespace Ffn

open Idealize.ShloMosaic Finset

/-- The number a float word stands for. -/
abbrev num (b : BitVec 32) : Ideal .f32 := FloatOps.ofBits .f32 b

/-- The new first moment, from the gradient and the old one. -/
def newM (g m : Ideal .f32) : Ideal .f32 :=
  FloatOps.addf (FloatOps.mulf (num 0x3F666666#32) m) (FloatOps.mulf (num 0x3DCCCCCD#32) g)

/-- The new second moment, from the gradient and the old one. -/
def newV (g v : Ideal .f32) : Ideal .f32 :=
  FloatOps.addf (FloatOps.mulf (num 0x3F7FBE77#32) v) (FloatOps.mulf (num 0x3A83126F#32) (FloatOps.mulf g g))

/-- The weight's change, from the gradient, the weight and the old moments. -/
def delta (g w m v : Ideal .f32) : Ideal .f32 :=
  FloatOps.mulf (num 0xBA83126F#32) (FloatOps.addf
    (FloatOps.divf (FloatOps.divf (newM g m) (num 0x3F26BD02#32))
      (FloatOps.addf (FloatOps.sqrt (FloatOps.divf (newV g v) (num 0x3C231ACC#32))) (num 0x322BCC77#32)))
    (FloatOps.mulf (num 0x3C23D70A#32) w))

/-- The stack `x` holds `f k i j` at slab `k`, row `i` and column `j`. -/
def Ev3 {n a b : ℕ} {φ : FTy} (x : FVec Ideal ⟨3, ![n, a, b]⟩ φ) (f : ℕ → ℕ → ℕ → EReal) : Prop :=
  ∀ z : (⟨3, ![n, a, b]⟩ : Shape).Idx, x z = f (z 0).val (z 1).val (z 2).val

/-- The entries of a stack, zero outside of it. -/
def ent3 {n a b : ℕ} {φ : FTy} (x : FVec Ideal ⟨3, ![n, a, b]⟩ φ) (k i j : ℕ) : EReal :=
  if h : k < n ∧ i < a ∧ j < b then x (ix3 ⟨k, h.1⟩ ⟨i, h.2.1⟩ ⟨j, h.2.2⟩) else 0

theorem ev_ent3 {n a b : ℕ} {φ : FTy} (x : FVec Ideal ⟨3, ![n, a, b]⟩ φ) : Ev3 x (ent3 x) := fun z => by
  unfold ent3
  rw [dif_pos ⟨(z 0).isLt, (z 1).isLt, (z 2).isLt⟩]
  exact congrArg x (by funext a; fin_cases a <;> rfl)

/-- Read a stack at an index whose coordinates are known. -/
theorem Ev3.get {n a b : ℕ} {φ : FTy} {x : FVec Ideal ⟨3, ![n, a, b]⟩ φ} {f : ℕ → ℕ → ℕ → EReal} (h : Ev3 x f)
    (z : (⟨3, ![n, a, b]⟩ : Shape).Idx) {k i j : ℕ} (hk : (z 0).val = k) (hi : (z 1).val = i) (hj : (z 2).val = j) :
    x z = f k i j := by rw [h z, hk, hi, hj]

/-- The only slab of a stack, as a matrix. -/
theorem Ev3.drop {a b : ℕ} {φ : FTy} {x : FVec Ideal ⟨3, ![1, a, b]⟩ φ} {f : ℕ → ℕ → ℕ → EReal} (h : Ev3 x f)
    {hc : (⟨3, ![1, a, b]⟩ : Shape).ShapeCasts ⟨2, ![a, b]⟩} : Ev2 (shapeCast ⟨2, ![a, b]⟩ x hc) (f 0) := fun i j =>
  (shapeCast_dropUnit_apply ![a, b] x hc (ix2 i j)).trans (h.get _ rfl rfl rfl)

theorem Ev2.extf {a b : ℕ} {φ ψ : FTy} {x : FVec Ideal ⟨2, ![a, b]⟩ φ} {f : ℕ → ℕ → EReal} {h : φ.bits < ψ.bits} (hx : Ev2 x f) :
    Ev2 (extf ψ x h) f := fun i j => by
  rw [extf_apply, Ideal.extf_def]; exact hx i j

end Ffn
-- ==== Proof.AdamAda.lean ====
/- The optimiser's call on the adaptive layer's weight: change and new moments are the plain AdamW's of its gradient, the weight being
   packed into rows of 1024 numbers and unpacked again. -/
module

public import proofs.«01_k».proof.Proof.Adam
public import proofs.«01_k».proof.Defs
public import proofs.«01_k».proof.Proof.Gen.Kernel14Ideal.Frame
public import proofs.«01_k».proof.Proof.Gen.Reference14Ideal.Run
public import proofs.«01_k».proof.Proof.Gen.Reference14Ideal.Read

@[expose] public section

set_option maxRecDepth 16384

noncomputable section

namespace Ffn.AdamAda

open Idealize.ShloMosaic Finset
open Idealize.ShloMosaic.TcCoe Idealize.SL.Sem
open Cert.Kernel14Ideal Cert.Kernel14Ideal.Gen

section Body

variable (x0 : Vec Ideal S1x128x1024 .f32) (x1 x2 x3 : Vec Ideal S128x1024 .f32)

theorem out4 : out0_4 x0 x1 x2 x3 = k0_pay1 x0 := by
  frame_out

theorem out5 : out0_5 x0 x1 x2 x3 = fun z => delta (out0_4 x0 x1 x2 x3 z) (x1 z) (x2 z) (x3 z) := by
  rw [out4]
  frame_out
  funext z
  simp only [k0_pay4, k0_pay3, k0_pay2, shapeCast_self]
  rfl

theorem out6 : out0_6 x0 x1 x2 x3 = fun z => newM (out0_4 x0 x1 x2 x3 z) (x2 z) := by
  rw [out4]
  frame_out
  funext z
  simp only [k0_pay2, shapeCast_self]
  rfl

theorem out7 : out0_7 x0 x1 x2 x3 = fun z => newV (out0_4 x0 x1 x2 x3 z) (x3 z) := by
  rw [out4]
  frame_out
  funext z
  simp only [k0_pay3, shapeCast_self]
  rfl

theorem slab {g : ℕ → ℕ → ℕ → EReal} (h : Ev3 (φ := .f32) x0 g) : Ev2 (φ := .f32) (out0_4 x0 x1 x2 x3) (g 0) := by
  rw [out4]
  exact h.drop

end Body

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

variable (m : (ℓ : Loc nD τ sig) → Buf (Elt Ideal) ℓ) (c : Dev nD) {g : ℕ → ℕ → ℕ → EReal} {w f v : ℕ → ℕ → EReal}

theorem blk0 (h : Ev3 (φ := .f32) (V m c main_v1) g) (t : Fin cfg0.N) :
    Ev3 (φ := .f32) (n := 1) (a := 128) (b := 1024) (iblk m c 0 t) (fun k i j => g k (128 * t.val + i) j) := fun z => by
  blk_simp [iblk]
  refine (h _).trans ?_
  simp [idx t, mul_comm]

theorem blk1 (h : Ev2 (φ := .f32) (V m c main_v2) w) (t : Fin cfg0.N) :
    Ev2 (φ := .f32) (a := 128) (b := 1024) (iblk m c 1 t) (fun i j => w (128 * t.val + i) j) := fun i j => by
  blk_simp [iblk]
  refine (h.at _).trans ?_
  simp [idx t, mul_comm]

theorem blk2 (h : Ev2 (φ := .f32) (V m c main_v3) f) (t : Fin cfg0.N) :
    Ev2 (φ := .f32) (a := 128) (b := 1024) (iblk m c 2 t) (fun i j => f (128 * t.val + i) j) := fun i j => by
  blk_simp [iblk]
  refine (h.at _).trans ?_
  simp [idx t, mul_comm]

theorem blk3 (h : Ev2 (φ := .f32) (V m c main_v4) v) (t : Fin cfg0.N) :
    Ev2 (φ := .f32) (a := 128) (b := 1024) (iblk m c 3 t) (fun i j => v (128 * t.val + i) j) := fun i j => by
  blk_simp [iblk]
  refine (h.at _).trans ?_
  simp [idx t, mul_comm]

variable (h0 : Ev3 (φ := .f32) (V m c main_v1) g) (h1 : Ev2 (φ := .f32) (V m c main_v2) w)
  (h2 : Ev2 (φ := .f32) (V m c main_v3) f) (h3 : Ev2 (φ := .f32) (V m c main_v4) v)

include h0

theorem row4 (t : Fin cfg0.N) : Ev2 (φ := .f32) (a := 128) (b := 1024)
    (out0_4 (iblk m c 0 t) (iblk m c 1 t) (iblk m c 2 t) (iblk m c 3 t)) (fun i j => g 0 (128 * t.val + i) j) :=
  slab _ _ _ _ (blk0 m c h0 t)

/-- The gradient. -/
theorem arr4 : Ev2 (φ := .f32) (a := 1536) (b := 1024) ((dats m 0 c).arrAt 4 cfg0.N) (g 0) := fun i j => by
  refine (dats m 0 c).arrAt_forall_of_covers 4 (fun z x => x = g 0 (z 0).val (z 1).val)
    (by decide +kernel) (fun t hf x => ?_) (ValueIdx.ix2 i j)
  blk_simp [idx t]
  rw [after0_4]
  refine ((row4 m c h0 t).at x).trans ?_
  simp [mul_comm]

include h2 in
/-- The new first moment. -/
theorem arr6 : Ev2 (φ := .f32) (a := 1536) (b := 1024) ((dats m 0 c).arrAt 6 cfg0.N) (fun i j => newM (g 0 i j) (f i j)) := fun i j => by
  refine (dats m 0 c).arrAt_forall_of_covers 6 (fun z x => x = newM (g 0 (z 0).val (z 1).val) (f (z 0).val (z 1).val))
    (by decide +kernel) (fun t hf x => ?_) (ValueIdx.ix2 i j)
  blk_simp [idx t]
  rw [after0_6, out6]
  refine (congrArg₂ newM ((row4 m c h0 t).at x) ((blk2 m c h2 t).at x)).trans ?_
  simp [mul_comm]

include h3 in
/-- The new second moment. -/
theorem arr7 : Ev2 (φ := .f32) (a := 1536) (b := 1024) ((dats m 0 c).arrAt 7 cfg0.N) (fun i j => newV (g 0 i j) (v i j)) := fun i j => by
  refine (dats m 0 c).arrAt_forall_of_covers 7 (fun z x => x = newV (g 0 (z 0).val (z 1).val) (v (z 0).val (z 1).val))
    (by decide +kernel) (fun t hf x => ?_) (ValueIdx.ix2 i j)
  blk_simp [idx t]
  rw [after0_7, out7]
  refine (congrArg₂ newV ((row4 m c h0 t).at x) ((blk3 m c h3 t).at x)).trans ?_
  simp [mul_comm]

include h1 h2 h3 in
/-- The weight's change. -/
theorem arr5 : Ev2 (φ := .f32) (a := 1536) (b := 1024) ((dats m 0 c).arrAt 5 cfg0.N)
    (fun i j => delta (g 0 i j) (w i j) (f i j) (v i j)) := fun i j => by
  refine (dats m 0 c).arrAt_forall_of_covers 5
    (fun z x => x = delta (g 0 (z 0).val (z 1).val) (w (z 0).val (z 1).val) (f (z 0).val (z 1).val) (v (z 0).val (z 1).val))
    (by decide +kernel) (fun t hf x => ?_) (ValueIdx.ix2 i j)
  blk_simp [idx t]
  rw [after0_5, out5]
  dsimp only
  rw [(row4 m c h0 t).at x, (blk1 m c h1 t).at x, (blk2 m c h2 t).at x, (blk3 m c h3 t).at x]
  simp [mul_comm]

omit h0

/-- A weight as rows of 1024 numbers. -/
def pack (x : FVec Ideal S2x1024x768 .f32) : FVec Ideal S1536x1024 .f32 := shapeCast S1536x1024 x Facts₀.shapeCasts_S2x1024x768_S1536x1024

/-- The rows as the weight again. -/
def unpack (x : FVec Ideal S1536x1024 .f32) : FVec Ideal S2x1024x768 .f32 := shapeCast S2x1024x768 x Facts₀.shapeCasts_S1536x1024_S2x1024x768

/-- The place in the rows of an entry of the weight. -/
def place (z : S2x1024x768.Idx) : S1536x1024.Idx := Shape.reshapeEquiv Facts₀.shapeCasts_S1536x1024_S2x1024x768 z

theorem unpack_apply (x : FVec Ideal S1536x1024 .f32) (z) : unpack x z = x (place z) := rfl

theorem pack_place (x : FVec Ideal S2x1024x768 .f32) (z) : pack x (place z) = x z := by
  rw [← unpack_apply (pack x) z]
  unfold unpack pack
  rw [shapeCast_shapeCast]

theorem v1_eq : V m c main_v1 = broadcastInDim S1x1536x1024 ![1, 2] Facts₀.bcast_S1536x1024_S1x1536x1024_1_2 (pack (m ((c : Thread nD τ).loc main_arg0))) := by
  show StableHlo.after (List.flatten [hostOps0]) (fun b => m (c, b)) (Proc.devRef .tc main_v1) = _
  simp only [hostOps0, List.flatten_cons, List.flatten_nil, List.append_nil, List.cons_append, List.nil_append]
  after_results_simp
  rfl

theorem v2_eq : V m c main_v2 = pack (m ((c : Thread nD τ).loc main_arg1)) := by
  show StableHlo.after (List.flatten [hostOps0]) (fun b => m (c, b)) (Proc.devRef .tc main_v2) = _
  simp only [hostOps0, List.flatten_cons, List.flatten_nil, List.append_nil, List.cons_append, List.nil_append]
  after_results_simp
  rfl

theorem v3_eq : V m c main_v3 = pack (m ((c : Thread nD τ).loc main_arg2)) := by
  show StableHlo.after (List.flatten [hostOps0]) (fun b => m (c, b)) (Proc.devRef .tc main_v3) = _
  simp only [hostOps0, List.flatten_cons, List.flatten_nil, List.append_nil, List.cons_append, List.nil_append]
  after_results_simp
  rfl

theorem v4_eq : V m c main_v4 = pack (m ((c : Thread nD τ).loc main_arg3)) := by
  show StableHlo.after (List.flatten [hostOps0]) (fun b => m (c, b)) (Proc.devRef .tc main_v4) = _
  simp only [hostOps0, List.flatten_cons, List.flatten_nil, List.append_nil, List.cons_append, List.nil_append]
  after_results_simp
  rfl

theorem tail6 (W : Valuation τ sig (Elt Ideal)) : StableHlo.after [hostOps1].flatten W (Proc.devRef .tc main_v6)
    = unpack (W (Proc.devRef .tc main_v5_0)) := by
  simp only [hostOps1, List.flatten_cons, List.flatten_nil, List.append_nil, List.cons_append, List.nil_append]
  after_results_simp
  rfl

theorem v6_eq : Pipeline.afterTail₀ cfgs (dats m) 0 (V0 m) [hostOps1] c main_v6 = unpack ((dats m 0 c).arrAt 4 cfg0.N) := by
  unfold Pipeline.afterTail₀
  rw [tail6]
  exact congrArg unpack (Pipeline.withArrays_arr _ launch0.win.arr_inj c (V0 m c) _ 4)

theorem tail7 (W : Valuation τ sig (Elt Ideal)) : StableHlo.after [hostOps1].flatten W (Proc.devRef .tc main_v7)
    = unpack (W (Proc.devRef .tc main_v5_1)) := by
  simp only [hostOps1, List.flatten_cons, List.flatten_nil, List.append_nil, List.cons_append, List.nil_append]
  after_results_simp
  rfl

theorem v7_eq : Pipeline.afterTail₀ cfgs (dats m) 0 (V0 m) [hostOps1] c main_v7 = unpack ((dats m 0 c).arrAt 5 cfg0.N) := by
  unfold Pipeline.afterTail₀
  rw [tail7]
  exact congrArg unpack (Pipeline.withArrays_arr _ launch0.win.arr_inj c (V0 m c) _ 5)

theorem tail8 (W : Valuation τ sig (Elt Ideal)) : StableHlo.after [hostOps1].flatten W (Proc.devRef .tc main_v8)
    = unpack (W (Proc.devRef .tc main_v5_2)) := by
  simp only [hostOps1, List.flatten_cons, List.flatten_nil, List.append_nil, List.cons_append, List.nil_append]
  after_results_simp
  rfl

theorem v8_eq : Pipeline.afterTail₀ cfgs (dats m) 0 (V0 m) [hostOps1] c main_v8 = unpack ((dats m 0 c).arrAt 6 cfg0.N) := by
  unfold Pipeline.afterTail₀
  rw [tail8]
  exact congrArg unpack (Pipeline.withArrays_arr _ launch0.win.arr_inj c (V0 m c) _ 6)

theorem tail9 (W : Valuation τ sig (Elt Ideal)) : StableHlo.after [hostOps1].flatten W (Proc.devRef .tc main_v9)
    = unpack (W (Proc.devRef .tc main_v5_3)) := by
  simp only [hostOps1, List.flatten_cons, List.flatten_nil, List.append_nil, List.cons_append, List.nil_append]
  after_results_simp
  rfl

theorem v9_eq : Pipeline.afterTail₀ cfgs (dats m) 0 (V0 m) [hostOps1] c main_v9 = unpack ((dats m 0 c).arrAt 7 cfg0.N) := by
  unfold Pipeline.afterTail₀
  rw [tail9]
  exact congrArg unpack (Pipeline.withArrays_arr _ launch0.win.arr_inj c (V0 m c) _ 7)

theorem g_ev : Ev3 (φ := .f32) (V m c main_v1) (fun _ => ent (pack (m ((c : Thread nD τ).loc main_arg0)))) := fun z => by
  rw [v1_eq]
  exact (ev_ent (pack (m ((c : Thread nD τ).loc main_arg0)))).at _

theorem w_ev : Ev2 (φ := .f32) (V m c main_v2) (ent (pack (m ((c : Thread nD τ).loc main_arg1)))) := by
  rw [v2_eq]; exact ev_ent _

theorem f_ev : Ev2 (φ := .f32) (V m c main_v3) (ent (pack (m ((c : Thread nD τ).loc main_arg2)))) := by
  rw [v3_eq]; exact ev_ent _

theorem v_ev : Ev2 (φ := .f32) (V m c main_v4) (ent (pack (m ((c : Thread nD τ).loc main_arg3)))) := by
  rw [v4_eq]; exact ev_ent _

/-- An entry of a packed weight at the place of the weight's entry. -/
theorem ent_place (x : FVec Ideal S2x1024x768 .f32) (z) : ent (pack x) (place z 0).val (place z 1).val = x z :=
  ((ev_ent (pack x)).at (place z)).symm.trans (pack_place x z)

theorem ref_m (x0 x2 : FVec Ideal S2x1024x768 .f32) (z) : Cert.Reference14Ideal.Read.val_main_v4 (F := Ideal) x0 x2 z = newM (x0 z) (x2 z) := rfl

theorem ref_v (x0 x3 : FVec Ideal S2x1024x768 .f32) (z) : Cert.Reference14Ideal.Read.val_main_v10 (F := Ideal) x0 x3 z = newV (x0 z) (x3 z) := rfl

theorem ref_d (x0 x1 x2 x3 : FVec Ideal S2x1024x768 .f32) (z) :
    Cert.Reference14Ideal.Read.val_main_v23 (F := Ideal) x0 x1 x2 x3 z = delta (x0 z) (x1 z) (x2 z) (x3 z) := rfl

omit c in
theorem algebraic : Cert.algebraic_Kernel14Ideal_Reference14Ideal := by
  intro m ρ m' ρ' _ harg
  refine ⟨fun c => Pipeline.afterTail₀ cfgs (dats m) 0 (V0 m) [hostOps1] c main_v6,
    fun c => Pipeline.afterTail₀ cfgs (dats m) 0 (V0 m) [hostOps1] c main_v7,
    fun c => Pipeline.afterTail₀ cfgs (dats m) 0 (V0 m) [hostOps1] c main_v8,
    fun c => Pipeline.afterTail₀ cfgs (dats m) 0 (V0 m) [hostOps1] c main_v9,
    (θ_run _ _ _).mono (fun r h c => ⟨(h.1 c).2 main_v6 (Pipeline.mem_restRefs_of main_v6 (by decide) (by decide)),
      (h.1 c).2 main_v7 (Pipeline.mem_restRefs_of main_v7 (by decide) (by decide)),
      (h.1 c).2 main_v8 (Pipeline.mem_restRefs_of main_v8 (by decide) (by decide)),
      (h.1 c).2 main_v9 (Pipeline.mem_restRefs_of main_v9 (by decide) (by decide)), h.2 c⟩)
      (θ_run_and (run_main m ρ) (unchanged m ρ)),
    (θ_run _ _ _).mono (fun r h c => ?_) (Cert.Reference14Ideal.Value.run (F := Ideal) m' ρ')⟩
  obtain ⟨a0, a1, a2, a3⟩ := harg c
  obtain ⟨r0, r1, r2, r3, rest⟩ := h c
  refine ⟨r0.trans ?_, r1.trans ?_, r2.trans ?_, r3.trans ?_, rest⟩
  · rw [a0]
    dsimp only
    rw [v6_eq]
    funext z
    rw [unpack_apply]
    exact (((arr4 m c (g_ev m c)).at (place z)).trans (ent_place _ z)).symm
  · rw [Cert.Reference14Ideal.Read.val_main_v23_eq, a0, a1, a2, a3]
    dsimp only
    rw [v7_eq]
    funext z
    rw [ref_d, unpack_apply]
    refine (((arr5 m c (g_ev m c) (w_ev m c) (f_ev m c) (v_ev m c)).at (place z)).trans ?_).symm
    dsimp only
    rw [ent_place, ent_place, ent_place, ent_place]
  · rw [Cert.Reference14Ideal.Read.val_main_v4_eq, a0, a2]
    dsimp only
    rw [v8_eq]
    funext z
    rw [ref_m, unpack_apply]
    refine (((arr6 m c (g_ev m c) (f_ev m c)).at (place z)).trans ?_).symm
    dsimp only
    rw [ent_place, ent_place]
  · rw [Cert.Reference14Ideal.Read.val_main_v10_eq, a0, a3]
    dsimp only
    rw [v9_eq]
    funext z
    rw [ref_v, unpack_apply]
    refine (((arr7 m c (g_ev m c) (v_ev m c)).at (place z)).trans ?_).symm
    dsimp only
    rw [ent_place, ent_place]

end Ffn.AdamAda
-- ==== Proof.AdamBig.lean ====
/- The optimiser's call on the large weights: gradient, change and new moments are the plain AdamW's of the four slabs' sum. -/
module

public import proofs.«01_k».proof.Proof.Adam
public import proofs.«01_k».proof.Defs
public import proofs.«01_k».proof.Proof.Gen.Kernel15Ideal.Frame
public import proofs.«01_k».proof.Proof.Gen.Reference15Ideal.Run
public import proofs.«01_k».proof.Proof.Gen.Reference15Ideal.Read

@[expose] public section

set_option maxRecDepth 16384

noncomputable section

namespace Ffn.AdamBig

open Idealize.ShloMosaic Finset
open Idealize.ShloMosaic.TcCoe Idealize.SL.Sem
open Cert.Kernel15Ideal Cert.Kernel15Ideal.Gen

section Body

variable (x0 : Vec Ideal S4x128x1024 .bf16) (x1 x2 x3 : Vec Ideal S128x1024 .f32)

/-- The four slabs' sum. -/
def sum4 (g : ℕ → ℕ → ℕ → EReal) (i j : ℕ) : EReal := g 0 i j + g 1 i j + g 2 i j + g 3 i j

theorem out4 : out0_4 x0 x1 x2 x3 = k0_pay2 (View.ld x0 r0_0) (View.ld x0 r0_1) (View.ld x0 r0_2) (View.ld x0 r0_3) := by
  frame_out

theorem out5 : out0_5 x0 x1 x2 x3 = fun z => delta (out0_4 x0 x1 x2 x3 z) (x1 z) (x2 z) (x3 z) := by
  rw [out4]
  frame_out
  rfl

theorem out6 : out0_6 x0 x1 x2 x3 = fun z => newM (out0_4 x0 x1 x2 x3 z) (x2 z) := by
  rw [out4]
  frame_out
  rfl

theorem out7 : out0_7 x0 x1 x2 x3 = fun z => newV (out0_4 x0 x1 x2 x3 z) (x3 z) := by
  rw [out4]
  frame_out
  rfl

theorem ld0 {g : ℕ → ℕ → ℕ → EReal} (h : Ev3 (φ := .bf16) x0 g) :
    Ev3 (φ := .bf16) (n := 1) (a := 128) (b := 1024) (View.ld x0 r0_0) (fun k i j => g (0 + k) i j) := fun z => by
  refine (View.ld_apply _ _ _).trans (h.get (r0_0.idx z) ?_ ?_ ?_) <;> simp [r0_0]

theorem ld1 {g : ℕ → ℕ → ℕ → EReal} (h : Ev3 (φ := .bf16) x0 g) :
    Ev3 (φ := .bf16) (n := 1) (a := 128) (b := 1024) (View.ld x0 r0_1) (fun k i j => g (1 + k) i j) := fun z => by
  refine (View.ld_apply _ _ _).trans (h.get (r0_1.idx z) ?_ ?_ ?_) <;> simp [r0_1]

theorem ld2 {g : ℕ → ℕ → ℕ → EReal} (h : Ev3 (φ := .bf16) x0 g) :
    Ev3 (φ := .bf16) (n := 1) (a := 128) (b := 1024) (View.ld x0 r0_2) (fun k i j => g (2 + k) i j) := fun z => by
  refine (View.ld_apply _ _ _).trans (h.get (r0_2.idx z) ?_ ?_ ?_) <;> simp [r0_2]

theorem ld3 {g : ℕ → ℕ → ℕ → EReal} (h : Ev3 (φ := .bf16) x0 g) :
    Ev3 (φ := .bf16) (n := 1) (a := 128) (b := 1024) (View.ld x0 r0_3) (fun k i j => g (3 + k) i j) := fun z => by
  refine (View.ld_apply _ _ _).trans (h.get (r0_3.idx z) ?_ ?_ ?_) <;> simp [r0_3]

theorem slabs {g : ℕ → ℕ → ℕ → EReal} (h : Ev3 (φ := .bf16) x0 g) : Ev2 (φ := .f32) (out0_4 x0 x1 x2 x3) (sum4 g) := by
  rw [out4]
  exact (((ld0 x0 h).drop.extf.add (ld1 x0 h).drop.extf).add (ld2 x0 h).drop.extf).add (ld3 x0 h).drop.extf

end Body

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

variable (m : (ℓ : Loc nD τ sig) → Buf (Elt Ideal) ℓ) (c : Dev nD) {g : ℕ → ℕ → ℕ → EReal} {w f v : ℕ → ℕ → EReal}

theorem blk0 (h : Ev3 (φ := .bf16) (V m c main_arg0) g) (t : Fin cfg0.N) :
    Ev3 (φ := .bf16) (n := 4) (a := 128) (b := 1024) (iblk m c 0 t) (fun k i j => g k (128 * t.val + i) j) := fun z => by
  blk_simp [iblk]
  refine (h _).trans ?_
  simp [idx t, mul_comm]

theorem blk1 (h : Ev2 (φ := .f32) (V m c main_arg1) w) (t : Fin cfg0.N) :
    Ev2 (φ := .f32) (a := 128) (b := 1024) (iblk m c 1 t) (fun i j => w (128 * t.val + i) j) := fun i j => by
  blk_simp [iblk]
  refine (h.at _).trans ?_
  simp [idx t, mul_comm]

theorem blk2 (h : Ev2 (φ := .f32) (V m c main_arg2) f) (t : Fin cfg0.N) :
    Ev2 (φ := .f32) (a := 128) (b := 1024) (iblk m c 2 t) (fun i j => f (128 * t.val + i) j) := fun i j => by
  blk_simp [iblk]
  refine (h.at _).trans ?_
  simp [idx t, mul_comm]

theorem blk3 (h : Ev2 (φ := .f32) (V m c main_arg3) v) (t : Fin cfg0.N) :
    Ev2 (φ := .f32) (a := 128) (b := 1024) (iblk m c 3 t) (fun i j => v (128 * t.val + i) j) := fun i j => by
  blk_simp [iblk]
  refine (h.at _).trans ?_
  simp [idx t, mul_comm]

variable (h0 : Ev3 (φ := .bf16) (V m c main_arg0) g) (h1 : Ev2 (φ := .f32) (V m c main_arg1) w)
  (h2 : Ev2 (φ := .f32) (V m c main_arg2) f) (h3 : Ev2 (φ := .f32) (V m c main_arg3) v)

include h0

theorem row4 (t : Fin cfg0.N) : Ev2 (φ := .f32) (a := 128) (b := 1024)
    (out0_4 (iblk m c 0 t) (iblk m c 1 t) (iblk m c 2 t) (iblk m c 3 t)) (fun i j => sum4 g (128 * t.val + i) j) :=
  slabs _ _ _ _ (blk0 m c h0 t)

/-- The gradient. -/
theorem arr4 : Ev2 (φ := .f32) (a := 4736) (b := 1024) ((dats m 0 c).arrAt 4 cfg0.N) (sum4 g) := fun i j => by
  refine (dats m 0 c).arrAt_forall_of_covers 4 (fun z x => x = sum4 g (z 0).val (z 1).val)
    (by decide +kernel) (fun t hf x => ?_) (ValueIdx.ix2 i j)
  blk_simp [idx t]
  rw [after0_4]
  refine ((row4 m c h0 t).at x).trans ?_
  simp [mul_comm]

include h2 in
/-- The new first moment. -/
theorem arr6 : Ev2 (φ := .f32) (a := 4736) (b := 1024) ((dats m 0 c).arrAt 6 cfg0.N) (fun i j => newM (sum4 g i j) (f i j)) := fun i j => by
  refine (dats m 0 c).arrAt_forall_of_covers 6 (fun z x => x = newM (sum4 g (z 0).val (z 1).val) (f (z 0).val (z 1).val))
    (by decide +kernel) (fun t hf x => ?_) (ValueIdx.ix2 i j)
  blk_simp [idx t]
  rw [after0_6, out6]
  refine (congrArg₂ newM ((row4 m c h0 t).at x) ((blk2 m c h2 t).at x)).trans ?_
  simp [mul_comm]

include h3 in
/-- The new second moment. -/
theorem arr7 : Ev2 (φ := .f32) (a := 4736) (b := 1024) ((dats m 0 c).arrAt 7 cfg0.N) (fun i j => newV (sum4 g i j) (v i j)) := fun i j => by
  refine (dats m 0 c).arrAt_forall_of_covers 7 (fun z x => x = newV (sum4 g (z 0).val (z 1).val) (v (z 0).val (z 1).val))
    (by decide +kernel) (fun t hf x => ?_) (ValueIdx.ix2 i j)
  blk_simp [idx t]
  rw [after0_7, out7]
  refine (congrArg₂ newV ((row4 m c h0 t).at x) ((blk3 m c h3 t).at x)).trans ?_
  simp [mul_comm]

include h1 h2 h3 in
/-- The weights' change. -/
theorem arr5 : Ev2 (φ := .f32) (a := 4736) (b := 1024) ((dats m 0 c).arrAt 5 cfg0.N)
    (fun i j => delta (sum4 g i j) (w i j) (f i j) (v i j)) := fun i j => by
  refine (dats m 0 c).arrAt_forall_of_covers 5
    (fun z x => x = delta (sum4 g (z 0).val (z 1).val) (w (z 0).val (z 1).val) (f (z 0).val (z 1).val) (v (z 0).val (z 1).val))
    (by decide +kernel) (fun t hf x => ?_) (ValueIdx.ix2 i j)
  blk_simp [idx t]
  rw [after0_5, out5]
  dsimp only
  rw [(row4 m c h0 t).at x, (blk1 m c h1 t).at x, (blk2 m c h2 t).at x, (blk3 m c h3 t).at x]
  simp [mul_comm]

omit h0 in
theorem ref {x0 : FVec Ideal S4x4736x1024 .bf16} (h0 : Ev3 x0 g) :
    Ev2 (φ := .f32) (a := 4736) (b := 1024) (Cert.Reference15Ideal.Read.val_main_v1 (F := Ideal) x0) (sum4 g) := fun i j => by
  rw [Cert.Reference15Ideal.Read.val_main_v1_apply, Cert.Reference15Ideal.Read.val_main_cst_apply, Fin.sum_univ_four]
  simp only [Cert.Reference15Ideal.Read.val_main_v0_apply]
  pointwise
  rw [h0.get _ (k := 0) (i := i) (j := j) rfl rfl rfl, h0.get _ (k := 1) (i := i) (j := j) rfl rfl rfl,
    h0.get _ (k := 2) (i := i) (j := j) rfl rfl rfl, h0.get _ (k := 3) (i := i) (j := j) rfl rfl rfl]
  simp [sum4]

omit h0 in
theorem ref_m (x0 : FVec Ideal S4x4736x1024 .bf16) (x2 : FVec Ideal S4736x1024 .f32) (z) :
    Cert.Reference15Ideal.Read.val_main_v6 (F := Ideal) x0 x2 z = newM (Cert.Reference15Ideal.Read.val_main_v1 (F := Ideal) x0 z) (x2 z) := rfl

omit h0 in
theorem ref_v (x0 : FVec Ideal S4x4736x1024 .bf16) (x3 : FVec Ideal S4736x1024 .f32) (z) :
    Cert.Reference15Ideal.Read.val_main_v12 (F := Ideal) x0 x3 z = newV (Cert.Reference15Ideal.Read.val_main_v1 (F := Ideal) x0 z) (x3 z) := rfl

omit h0 in
theorem ref_d (x0 : FVec Ideal S4x4736x1024 .bf16) (x1 x2 x3 : FVec Ideal S4736x1024 .f32) (z) :
    Cert.Reference15Ideal.Read.val_main_v25 (F := Ideal) x0 x1 x2 x3 z
      = delta (Cert.Reference15Ideal.Read.val_main_v1 (F := Ideal) x0 z) (x1 z) (x2 z) (x3 z) := rfl

omit c h0 in
theorem algebraic : Cert.algebraic_Kernel15Ideal_Reference15Ideal := by
  intro m ρ m' ρ' _ harg
  refine ⟨fun c => (dats m 0 c).arrAt 4 cfg0.N, fun c => (dats m 0 c).arrAt 5 cfg0.N, fun c => (dats m 0 c).arrAt 6 cfg0.N,
    fun c => (dats m 0 c).arrAt 7 cfg0.N,
    (θ_run _ _ _).mono (fun r h c => ⟨(h.1 c).1 4, (h.1 c).1 5, (h.1 c).1 6, (h.1 c).1 7, h.2 c⟩)
      (θ_run_and (run_main m ρ) (unchanged m ρ)),
    (θ_run _ _ _).mono (fun r h c => ?_) (Cert.Reference15Ideal.Value.run (F := Ideal) m' ρ')⟩
  obtain ⟨a0, a1, a2, a3⟩ := harg c
  obtain ⟨r4, r5, r6, r7, rest⟩ := h c
  refine ⟨r4.trans ?_, r5.trans ?_, r6.trans ?_, r7.trans ?_, rest⟩
  · rw [Cert.Reference15Ideal.Read.val_main_v1_eq, a0]
    exact (ref (ev_ent3 _)).eq (arr4 m c (ev_ent3 _)) fun i _ j _ => rfl
  · rw [Cert.Reference15Ideal.Read.val_main_v25_eq, a0, a1, a2, a3]
    refine Ev2.eq (φ := .f32) (a := 4736) (b := 1024) (fun i j => ?_) (arr5 m c (ev_ent3 _) (ev_ent _) (ev_ent _) (ev_ent _)) fun i _ j _ => rfl
    rw [ref_d, ref (ev_ent3 _) i j]
    exact congr (congrArg₂ (delta _) (ev_ent _ i j) (ev_ent _ i j)) (ev_ent _ i j)
  · rw [Cert.Reference15Ideal.Read.val_main_v6_eq, a0, a2]
    refine Ev2.eq (φ := .f32) (a := 4736) (b := 1024) (fun i j => ?_) (arr6 m c (ev_ent3 _) (ev_ent _)) fun i _ j _ => rfl
    rw [ref_m, ref (ev_ent3 _) i j]
    exact congrArg (newM _) (ev_ent _ i j)
  · rw [Cert.Reference15Ideal.Read.val_main_v12_eq, a0, a3]
    refine Ev2.eq (φ := .f32) (a := 4736) (b := 1024) (fun i j => ?_) (arr7 m c (ev_ent3 _) (ev_ent _)) fun i _ j _ => rfl
    rw [ref_v, ref (ev_ent3 _) i j]
    exact congrArg (newV _) (ev_ent _ i j)

end Ffn.AdamBig
-- ==== Proof.AdamSmall.lean ====
/- The optimiser's call on the pack of the small weights: change and new moments are the plain AdamW's of its gradient. -/
module

public import proofs.«01_k».proof.Proof.Adam
public import proofs.«01_k».proof.Defs
public import proofs.«01_k».proof.Proof.Gen.Kernel18Ideal.Frame
public import proofs.«01_k».proof.Proof.Gen.Reference18Ideal.Run
public import proofs.«01_k».proof.Proof.Gen.Reference18Ideal.Read

@[expose] public section

set_option maxRecDepth 16384

noncomputable section

namespace Ffn.AdamSmall

open Idealize.ShloMosaic Finset
open Idealize.ShloMosaic.TcCoe Idealize.SL.Sem
open Cert.Kernel18Ideal Cert.Kernel18Ideal.Gen

section Body

variable (x0 : Vec Ideal S1x128x1024 .f32) (x1 x2 x3 : Vec Ideal S128x1024 .f32)

theorem out4 : out0_4 x0 x1 x2 x3 = k0_pay1 x0 := by
  frame_out

theorem out5 : out0_5 x0 x1 x2 x3 = fun z => delta (out0_4 x0 x1 x2 x3 z) (x1 z) (x2 z) (x3 z) := by
  rw [out4]
  frame_out
  funext z
  simp only [k0_pay4, k0_pay3, k0_pay2, shapeCast_self]
  rfl

theorem out6 : out0_6 x0 x1 x2 x3 = fun z => newM (out0_4 x0 x1 x2 x3 z) (x2 z) := by
  rw [out4]
  frame_out
  funext z
  simp only [k0_pay2, shapeCast_self]
  rfl

theorem out7 : out0_7 x0 x1 x2 x3 = fun z => newV (out0_4 x0 x1 x2 x3 z) (x3 z) := by
  rw [out4]
  frame_out
  funext z
  simp only [k0_pay3, shapeCast_self]
  rfl

theorem slab {g : ℕ → ℕ → ℕ → EReal} (h : Ev3 (φ := .f32) x0 g) : Ev2 (φ := .f32) (out0_4 x0 x1 x2 x3) (g 0) := by
  rw [out4]
  exact h.drop

end Body

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

variable (m : (ℓ : Loc nD τ sig) → Buf (Elt Ideal) ℓ) (c : Dev nD) {g : ℕ → ℕ → ℕ → EReal} {w f v : ℕ → ℕ → EReal}

theorem blk0 (h : Ev3 (φ := .f32) (V m c main_v0) g) (t : Fin cfg0.N) :
    Ev3 (φ := .f32) (n := 1) (a := 128) (b := 1024) (iblk m c 0 t) (fun k i j => g k (128 * t.val + i) j) := fun z => by
  blk_simp [iblk]
  refine (h _).trans ?_
  simp [idx t, mul_comm]

theorem blk1 (h : Ev2 (φ := .f32) (V m c main_arg1) w) (t : Fin cfg0.N) :
    Ev2 (φ := .f32) (a := 128) (b := 1024) (iblk m c 1 t) (fun i j => w (128 * t.val + i) j) := fun i j => by
  blk_simp [iblk]
  refine (h.at _).trans ?_
  simp [idx t, mul_comm]

theorem blk2 (h : Ev2 (φ := .f32) (V m c main_arg2) f) (t : Fin cfg0.N) :
    Ev2 (φ := .f32) (a := 128) (b := 1024) (iblk m c 2 t) (fun i j => f (128 * t.val + i) j) := fun i j => by
  blk_simp [iblk]
  refine (h.at _).trans ?_
  simp [idx t, mul_comm]

theorem blk3 (h : Ev2 (φ := .f32) (V m c main_arg3) v) (t : Fin cfg0.N) :
    Ev2 (φ := .f32) (a := 128) (b := 1024) (iblk m c 3 t) (fun i j => v (128 * t.val + i) j) := fun i j => by
  blk_simp [iblk]
  refine (h.at _).trans ?_
  simp [idx t, mul_comm]

variable (h0 : Ev3 (φ := .f32) (V m c main_v0) g) (h1 : Ev2 (φ := .f32) (V m c main_arg1) w)
  (h2 : Ev2 (φ := .f32) (V m c main_arg2) f) (h3 : Ev2 (φ := .f32) (V m c main_arg3) v)

include h0

theorem row4 (t : Fin cfg0.N) : Ev2 (φ := .f32) (a := 128) (b := 1024)
    (out0_4 (iblk m c 0 t) (iblk m c 1 t) (iblk m c 2 t) (iblk m c 3 t)) (fun i j => g 0 (128 * t.val + i) j) :=
  slab _ _ _ _ (blk0 m c h0 t)

/-- The gradient. -/
theorem arr4 : Ev2 (φ := .f32) (a := 128) (b := 1024) ((dats m 0 c).arrAt 4 cfg0.N) (g 0) := fun i j => by
  refine (dats m 0 c).arrAt_forall_of_covers 4 (fun z x => x = g 0 (z 0).val (z 1).val)
    (by decide +kernel) (fun t hf x => ?_) (ValueIdx.ix2 i j)
  blk_simp [idx t]
  rw [after0_4]
  refine ((row4 m c h0 t).at x).trans ?_
  simp [mul_comm]

include h2 in
/-- The new first moment. -/
theorem arr6 : Ev2 (φ := .f32) (a := 128) (b := 1024) ((dats m 0 c).arrAt 6 cfg0.N) (fun i j => newM (g 0 i j) (f i j)) := fun i j => by
  refine (dats m 0 c).arrAt_forall_of_covers 6 (fun z x => x = newM (g 0 (z 0).val (z 1).val) (f (z 0).val (z 1).val))
    (by decide +kernel) (fun t hf x => ?_) (ValueIdx.ix2 i j)
  blk_simp [idx t]
  rw [after0_6, out6]
  refine (congrArg₂ newM ((row4 m c h0 t).at x) ((blk2 m c h2 t).at x)).trans ?_
  simp [mul_comm]

include h3 in
/-- The new second moment. -/
theorem arr7 : Ev2 (φ := .f32) (a := 128) (b := 1024) ((dats m 0 c).arrAt 7 cfg0.N) (fun i j => newV (g 0 i j) (v i j)) := fun i j => by
  refine (dats m 0 c).arrAt_forall_of_covers 7 (fun z x => x = newV (g 0 (z 0).val (z 1).val) (v (z 0).val (z 1).val))
    (by decide +kernel) (fun t hf x => ?_) (ValueIdx.ix2 i j)
  blk_simp [idx t]
  rw [after0_7, out7]
  refine (congrArg₂ newV ((row4 m c h0 t).at x) ((blk3 m c h3 t).at x)).trans ?_
  simp [mul_comm]

include h1 h2 h3 in
/-- The weight's change. -/
theorem arr5 : Ev2 (φ := .f32) (a := 128) (b := 1024) ((dats m 0 c).arrAt 5 cfg0.N)
    (fun i j => delta (g 0 i j) (w i j) (f i j) (v i j)) := fun i j => by
  refine (dats m 0 c).arrAt_forall_of_covers 5
    (fun z x => x = delta (g 0 (z 0).val (z 1).val) (w (z 0).val (z 1).val) (f (z 0).val (z 1).val) (v (z 0).val (z 1).val))
    (by decide +kernel) (fun t hf x => ?_) (ValueIdx.ix2 i j)
  blk_simp [idx t]
  rw [after0_5, out5]
  dsimp only
  rw [(row4 m c h0 t).at x, (blk1 m c h1 t).at x, (blk2 m c h2 t).at x, (blk3 m c h3 t).at x]
  simp [mul_comm]

omit h0

theorem v0_eq : V m c main_v0 = broadcastInDim S1x128x1024 ![1, 2] Facts₀.bcast_S128x1024_S1x128x1024_1_2 (m ((c : Thread nD τ).loc main_arg0)) := by
  show StableHlo.after (List.flatten [hostOps0]) (fun b => m (c, b)) (Proc.devRef .tc main_v0) = _
  simp only [hostOps0, List.flatten_cons, List.flatten_nil, List.append_nil, List.cons_append, List.nil_append]
  after_results_simp

theorem arg1_eq : V m c main_arg1 = m ((c : Thread nD τ).loc main_arg1) := by
  show StableHlo.after (List.flatten [hostOps0]) (fun b => m (c, b)) (Proc.devRef .tc main_arg1) = _
  simp only [hostOps0, List.flatten_cons, List.flatten_nil, List.append_nil, List.cons_append, List.nil_append]
  after_results_simp

theorem arg2_eq : V m c main_arg2 = m ((c : Thread nD τ).loc main_arg2) := by
  show StableHlo.after (List.flatten [hostOps0]) (fun b => m (c, b)) (Proc.devRef .tc main_arg2) = _
  simp only [hostOps0, List.flatten_cons, List.flatten_nil, List.append_nil, List.cons_append, List.nil_append]
  after_results_simp

theorem arg3_eq : V m c main_arg3 = m ((c : Thread nD τ).loc main_arg3) := by
  show StableHlo.after (List.flatten [hostOps0]) (fun b => m (c, b)) (Proc.devRef .tc main_arg3) = _
  simp only [hostOps0, List.flatten_cons, List.flatten_nil, List.append_nil, List.cons_append, List.nil_append]
  after_results_simp

theorem g_ev : Ev3 (φ := .f32) (V m c main_v0) (fun _ => ent (φ := .f32) (a := 128) (b := 1024) (m ((c : Thread nD τ).loc main_arg0))) := fun z => by
  rw [v0_eq]
  exact (ev_ent (φ := .f32) (a := 128) (b := 1024) (m ((c : Thread nD τ).loc main_arg0))).at _

theorem w_ev : Ev2 (φ := .f32) (V m c main_arg1) (ent (φ := .f32) (a := 128) (b := 1024) (m ((c : Thread nD τ).loc main_arg1))) := by
  rw [arg1_eq]; exact ev_ent _

theorem f_ev : Ev2 (φ := .f32) (V m c main_arg2) (ent (φ := .f32) (a := 128) (b := 1024) (m ((c : Thread nD τ).loc main_arg2))) := by
  rw [arg2_eq]; exact ev_ent _

theorem v_ev : Ev2 (φ := .f32) (V m c main_arg3) (ent (φ := .f32) (a := 128) (b := 1024) (m ((c : Thread nD τ).loc main_arg3))) := by
  rw [arg3_eq]; exact ev_ent _

theorem ref_m (x0 x2 : FVec Ideal S128x1024 .f32) (z) : Cert.Reference18Ideal.Read.val_main_v4 (F := Ideal) x0 x2 z = newM (x0 z) (x2 z) := rfl

theorem ref_v (x0 x3 : FVec Ideal S128x1024 .f32) (z) : Cert.Reference18Ideal.Read.val_main_v10 (F := Ideal) x0 x3 z = newV (x0 z) (x3 z) := rfl

theorem ref_d (x0 x1 x2 x3 : FVec Ideal S128x1024 .f32) (z) :
    Cert.Reference18Ideal.Read.val_main_v23 (F := Ideal) x0 x1 x2 x3 z = delta (x0 z) (x1 z) (x2 z) (x3 z) := rfl

/-- An entry of a pack. -/
theorem ent_at (x : FVec Ideal S128x1024 .f32) (z : S128x1024.Idx) : ent x (z 0).val (z 1).val = x z := ((ev_ent x).at z).symm

omit c in
theorem algebraic : Cert.algebraic_Kernel18Ideal_Reference18Ideal := by
  intro m ρ m' ρ' _ harg
  refine ⟨fun c => (dats m 0 c).arrAt 4 cfg0.N, fun c => (dats m 0 c).arrAt 5 cfg0.N, fun c => (dats m 0 c).arrAt 6 cfg0.N,
    fun c => (dats m 0 c).arrAt 7 cfg0.N,
    (θ_run _ _ _).mono (fun r h c => ⟨(h.1 c).1 4, (h.1 c).1 5, (h.1 c).1 6, (h.1 c).1 7, h.2 c⟩)
      (θ_run_and (run_main m ρ) (unchanged m ρ)),
    (θ_run _ _ _).mono (fun r h c => ?_) (Cert.Reference18Ideal.Value.run (F := Ideal) m' ρ')⟩
  obtain ⟨a0, a1, a2, a3⟩ := harg c
  obtain ⟨r0, r1, r2, r3, rest⟩ := h c
  refine ⟨r0.trans ?_, r1.trans ?_, r2.trans ?_, r3.trans ?_, rest⟩
  · rw [a0]
    exact (ev_ent (φ := .f32) (a := 128) (b := 1024) _).eq (arr4 m c (g_ev m c)) fun i _ j _ => rfl
  · rw [Cert.Reference18Ideal.Read.val_main_v23_eq, a0, a1, a2, a3]
    funext z
    rw [ref_d]
    refine (((arr5 m c (g_ev m c) (w_ev m c) (f_ev m c) (v_ev m c)).at z).trans ?_).symm
    dsimp only
    rw [ent_at, ent_at, ent_at, ent_at]
  · rw [Cert.Reference18Ideal.Read.val_main_v4_eq, a0, a2]
    funext z
    rw [ref_m]
    refine (((arr6 m c (g_ev m c) (f_ev m c)).at z).trans ?_).symm
    dsimp only
    rw [ent_at, ent_at]
  · rw [Cert.Reference18Ideal.Read.val_main_v10_eq, a0, a3]
    funext z
    rw [ref_v]
    refine (((arr7 m c (g_ev m c) (v_ev m c)).at z).trans ?_).symm
    dsimp only
    rw [ent_at, ent_at]

end Ffn.AdamSmall
-- ==== Proof.AdaFwd.lean ====
/- The adaptive layer's forward call: for each layer, the conditioning through `x / (1 + exp (-x))`, times that layer's matrix, plus its
   bias row. -/
module

public import proofs.«01_k».proof.Proof.Adam
public import proofs.«01_k».proof.Defs
public import proofs.«01_k».proof.Proof.Gen.Kernel19Ideal.Frame
public import proofs.«01_k».proof.Proof.Gen.Reference19Ideal.Run
public import proofs.«01_k».proof.Proof.Gen.Reference19Ideal.Read

@[expose] public section

set_option maxRecDepth 16384

noncomputable section

namespace Ffn.AdaFwd

open Idealize.ShloMosaic Finset
open Idealize.ShloMosaic.TcCoe Idealize.SL.Sem
open Cert.Kernel19Ideal Cert.Kernel19Ideal.Gen

/-- Entry `i j` of layer `k`: row `i` of `s` times column `j` of the layer's matrix, plus the bias. -/
def ada (s : ℕ → ℕ → EReal) (w b : ℕ → ℕ → ℕ → EReal) (k i j : ℕ) : EReal := ∑ q ∈ range 1024, s i q * w k q j + b k 0 j

/-- `x / (1 + exp (-x))` on every entry. -/
def act (f : ℕ → ℕ → EReal) (i j : ℕ) : EReal := f i j * Ideal.logistic (f i j)

variable {f : ℕ → ℕ → EReal} {w b : ℕ → ℕ → ℕ → EReal}

section Body

theorem pay1 {x : Vec Ideal S16x1024 .f32} (h : Ev2 (φ := .f32) x f) : Ev2 (φ := .f32) (k0_pay1 (F := Ideal) x) (act f) := fun i j => by
  unfold k0_pay1
  pointwise
  rw [h i j]
  rfl

theorem mm {x : FVec Ideal S16x1024 .bf16} {y : FVec Ideal S1024x768 .bf16} {f g : ℕ → ℕ → EReal} (hx : Ev2 x f) (hy : Ev2 y g) :
    Ev2 (matmul dot_S16x1024_S1024x768_S16x768_1_0_0_1_n_n none x y (constant S16x768 .f32 0x00000000#32))
      (fun i j => ∑ k ∈ range 1024, f i k * g k j) :=
  fun i j => by
    pointwise
    simp only [hx i _, hy _ j]
    exact Fin.sum_univ_eq_sum_range (fun k => f i k * g k j) 1024

theorem bias {x : FVec Ideal S1x768 .f32} {g : ℕ → ℕ → EReal} (hx : Ev2 x g) :
    Ev2 (a := 16) (b := 768) (broadcastTo S16x768 x Facts₀.broadcasts_S1x768_S16x768) (fun _ j => g 0 j) := fun i j => by
  pointwise
  exact hx.get _ rfl rfl

theorem lift {x : FVec Ideal S16x768 .f32} {g : ℕ → ℕ → EReal} (hx : Ev2 x g) (z : S1x16x768.Idx) :
    shapeCast S1x16x768 x Facts₀.shapeCasts_S16x768_S1x16x768 z = g (z 1).val (z 2).val :=
  (shapeCast_addUnit_apply ![16, 768] x _ z).trans (hx.get _ rfl rfl)

variable {x0 : Vec Ideal S16x1024 .f32} {v : Vec Ideal S1x1024x768 .f32} {u : Vec Ideal S1x1x768 .f32}

theorem pay2 (h0 : Ev2 (φ := .f32) x0 f) (hv : Ev3 (φ := .f32) v w) (hu : Ev3 (φ := .f32) u b) (z : S1x16x768.Idx) :
    k0_pay2 (F := Ideal) x0 v u z = ada (act f) w b 0 (z 1).val (z 2).val :=
  lift ((mm (Ev2.truncf (pay1 h0)) (Ev2.truncf hv.drop)).add (bias hu.drop)) z

theorem pay3 (h0 : Ev2 (φ := .f32) x0 f) (hv : Ev3 (φ := .f32) v w) (hu : Ev3 (φ := .f32) u b) (z : S1x16x768.Idx) :
    k0_pay3 (F := Ideal) x0 v u z = ada (act f) w b 0 (z 1).val (z 2).val :=
  lift ((mm (Ev2.truncf (pay1 h0)) (Ev2.truncf hv.drop)).add (bias hu.drop)) z

variable {x1 : Vec Ideal S2x1024x768 .f32} {x2 : Vec Ideal S2x1x768 .f32}

theorem ld0 (h : Ev2 (φ := .f32) x0 f) : Ev2 (φ := .f32) (a := 16) (b := 1024) (View.ld x0 r0_0) f := fun i j => by
  refine (View.ld_apply _ _ _).trans (h.get (r0_0.idx (ValueIdx.ix2 i j)) ?_ ?_) <;> simp [r0_0]

theorem ld1 (h : Ev3 (φ := .f32) x1 w) : Ev3 (φ := .f32) (n := 1) (a := 1024) (b := 768) (View.ld x1 r0_1) (fun k => w k) := fun z => by
  refine (View.ld_apply _ _ _).trans (h.get (r0_1.idx z) ?_ ?_ ?_) <;> simp [r0_1]

theorem ld4 (h : Ev3 (φ := .f32) x1 w) : Ev3 (φ := .f32) (n := 1) (a := 1024) (b := 768) (View.ld x1 r0_4) (fun k => w (1 + k)) := fun z => by
  refine (View.ld_apply _ _ _).trans (h.get (r0_4.idx z) ?_ ?_ ?_) <;> simp [r0_4]

theorem ld2 (h : Ev3 (φ := .f32) x2 b) : Ev3 (φ := .f32) (n := 1) (a := 1) (b := 768) (View.ld x2 r0_2) (fun k => b k) := fun z => by
  refine (View.ld_apply _ _ _).trans (h.get (r0_2.idx z) ?_ ?_ ?_) <;> simp [r0_2]

theorem ld5 (h : Ev3 (φ := .f32) x2 b) : Ev3 (φ := .f32) (n := 1) (a := 1) (b := 768) (View.ld x2 r0_5) (fun k => b (1 + k)) := fun z => by
  refine (View.ld_apply _ _ _).trans (h.get (r0_5.idx z) ?_ ?_ ?_) <;> simp [r0_5]

/-- The layers as a stack. -/
def stack (g : ℕ → ℕ → ℕ → EReal) : Vec Ideal S2x16x768 .f32 := fun z => g (z 0).val (z 1).val (z 2).val

theorem out3 (h0 : Ev2 (φ := .f32) x0 f) (h1 : Ev3 (φ := .f32) x1 w) (h2 : Ev3 (φ := .f32) x2 b) :
    Ev3 (φ := .f32) (n := 2) (a := 16) (b := 768) (out0_3 x0 x1 x2) (ada (act f) w b) := fun z => by
  have c0 : ∀ x, (r0_3.emb x 0).val = 0 ∧ (r0_3.emb x 1).val = (x 1).val ∧ (r0_3.emb x 2).val = (x 2).val := fun x => by
    refine ⟨?_, ?_, ?_⟩
    · have := (x 0).isLt
      show 0 + 1 * (x 0).val = 0
      change (x 0).val < 1 at this
      omega
    · show 0 + 1 * (x 1).val = _; omega
    · show 0 + 1 * (x 2).val = _; omega
  have c1 : ∀ x, (r0_6.emb x 0).val = 1 ∧ (r0_6.emb x 1).val = (x 1).val ∧ (r0_6.emb x 2).val = (x 2).val := fun x => by
    refine ⟨?_, ?_, ?_⟩
    · have := (x 0).isLt
      show 1 + 1 * (x 0).val = 1
      change (x 0).val < 1 at this
      omega
    · show 0 + 1 * (x 1).val = _; omega
    · show 0 + 1 * (x 2).val = _; omega
  unfold out0_3
  refine View.canon_apply_of_pieces (stack (ada (act f) w b)) _ (fun p hp x => ?_) z ?_
  · rcases List.mem_cons.mp hp with rfl | hp
    · refine (pay3 (ld0 h0) (ld4 h1) (ld5 h2) x).trans ?_
      unfold stack
      dsimp only
      rw [(c1 x).1, (c1 x).2.1, (c1 x).2.2]
      rfl
    · obtain rfl := List.mem_singleton.mp hp
      refine (pay2 (ld0 h0) (ld1 h1) (ld2 h2) x).trans ?_
      unfold stack
      dsimp only
      rw [(c0 x).1, (c0 x).2.1, (c0 x).2.2]
  · exact View.cover_of_tiled _ ![1, 16, 768] (by rfl) z

end Body

variable (m : (ℓ : Loc nD τ sig) → Buf (Elt Ideal) ℓ) (c : Dev nD)

theorem idx : ∀ t : Fin cfg0.N, win0_0.index t = ![0, 0] ∧ win0_1.index t = ![0, 0, 0] ∧ win0_2.index t = ![0, 0, 0]
    ∧ win0_3.index t = ![0, 0, 0] :=
  (by decide +kernel : ∀ t : Fin grid0.N, _)

theorem blk0 (h : Ev2 (φ := .f32) (V m c main_arg0) f) (t : Fin cfg0.N) :
    Ev2 (φ := .f32) (a := 16) (b := 1024) (iblk m c 0 t) f := fun i j => by
  blk_simp [iblk]
  refine (h.at _).trans ?_
  simp [idx t]

theorem blk1 (h : Ev3 (φ := .f32) (V m c main_arg1) w) (t : Fin cfg0.N) :
    Ev3 (φ := .f32) (n := 2) (a := 1024) (b := 768) (iblk m c 1 t) w := fun z => by
  blk_simp [iblk]
  refine (h _).trans ?_
  simp [idx t]

theorem blk2 (h : Ev3 (φ := .f32) (V m c main_arg2) b) (t : Fin cfg0.N) :
    Ev3 (φ := .f32) (n := 2) (a := 1) (b := 768) (iblk m c 2 t) b := fun z => by
  blk_simp [iblk]
  refine (h _).trans ?_
  simp [idx t]

theorem arr3 (h0 : Ev2 (φ := .f32) (V m c main_arg0) f) (h1 : Ev3 (φ := .f32) (V m c main_arg1) w)
    (h2 : Ev3 (φ := .f32) (V m c main_arg2) b) :
    Ev3 (φ := .f32) (n := 2) (a := 16) (b := 768) ((dats m 0 c).arrAt 3 cfg0.N) (ada (act f) w b) := fun z => by
  refine (dats m 0 c).arrAt_forall_of_covers 3
    (fun z x => x = ada (act f) w b (z 0).val (z 1).val (z 2).val) (by decide +kernel) (fun t hf x => ?_) z
  blk_simp [idx t]
  rw [after0_3]
  refine (out3 (blk0 m c h0 t) (blk1 m c h1 t) (blk2 m c h2 t) x).trans ?_
  simp

open Cert.Reference19Ideal.Read in
theorem refAct {x0 : FVec Ideal S16x1024 .f32} (h0 : Ev2 x0 f) : Ev2 (φ := .f32) (a := 16) (b := 1024) (val_main_v0 (F := Ideal) x0) (act f) :=
  fun i j => by
  rw [val_main_v0_apply, val_main_call0_v5_apply, val_main_call0_v4_apply, val_main_call0_v3_apply, val_main_call0_v2_apply,
    val_main_call0_v1_apply, val_main_call0_v0_apply, val_main_call0_cst_apply, val_main_call0_cst_0_apply, h0 i j]
  pointwise
  simp [act, Ideal.logistic]

open Cert.Reference19Ideal.Read in
theorem ref7 {x0 : FVec Ideal S16x1024 .f32} {x1 : FVec Ideal S2x1024x768 .f32} {x2 : FVec Ideal S2x1x768 .f32} (h0 : Ev2 x0 f) (h1 : Ev3 x1 w)
    (h2 : Ev3 x2 b) (i : S16x768.Idx) : val_main_v7 (F := Ideal) x0 x1 x2 i = ada (act f) w b 0 (i 0).val (i 1).val := by
  have l0 : (i 0).val < 16 := (i 0).isLt
  have l1 : (i 1).val < 768 := (i 1).isLt
  rw [val_main_v7_apply, val_main_v3_apply, val_main_v6_apply, val_main_v5_apply, val_main_v4_apply, Ideal.addf_def]
  refine congrArg₂ (· + ·) ?_ (h2.get _ rfl rfl ?_)
  · rw [← Fin.sum_univ_eq_sum_range (fun k => act f (i 0).val k * w 0 k (i 1).val) 1024]
    refine Finset.sum_congr rfl fun k _ => ?_
    rw [val_main_v2_apply, val_main_v1_apply]
    refine congrArg₂ (· * ·) ((refAct h0).get _ rfl rfl) (h1.get _ rfl ?_ ?_)
    · show (k.val * 768 + (i 1).val) / 768 % 1024 = k.val
      have := k.isLt; omega
    · show (k.val * 768 + (i 1).val) % 768 = (i 1).val
      omega
  · show (0 * 768 + (i 1).val) % 768 = (i 1).val
    omega

open Cert.Reference19Ideal.Read in
theorem ref14 {x0 : FVec Ideal S16x1024 .f32} {x1 : FVec Ideal S2x1024x768 .f32} {x2 : FVec Ideal S2x1x768 .f32} (h0 : Ev2 x0 f) (h1 : Ev3 x1 w)
    (h2 : Ev3 x2 b) (i : S16x768.Idx) : val_main_v14 (F := Ideal) x0 x1 x2 i = ada (act f) w b 1 (i 0).val (i 1).val := by
  have l0 : (i 0).val < 16 := (i 0).isLt
  have l1 : (i 1).val < 768 := (i 1).isLt
  rw [val_main_v14_apply, val_main_v10_apply, val_main_v13_apply, val_main_v12_apply, val_main_v11_apply, Ideal.addf_def]
  refine congrArg₂ (· + ·) ?_ (h2.get _ rfl rfl ?_)
  · rw [← Fin.sum_univ_eq_sum_range (fun k => act f (i 0).val k * w 1 k (i 1).val) 1024]
    refine Finset.sum_congr rfl fun k _ => ?_
    rw [val_main_v9_apply, val_main_v8_apply]
    refine congrArg₂ (· * ·) ((refAct h0).get _ rfl rfl) (h1.get _ rfl ?_ ?_)
    · show (k.val * 768 + (i 1).val) / 768 % 1024 = k.val
      have := k.isLt; omega
    · show (k.val * 768 + (i 1).val) % 768 = (i 1).val
      omega
  · show (0 * 768 + (i 1).val) % 768 = (i 1).val
    omega

open Cert.Reference19Ideal.Read in
theorem ref {x0 : FVec Ideal S16x1024 .f32} {x1 : FVec Ideal S2x1024x768 .f32} {x2 : FVec Ideal S2x1x768 .f32} (h0 : Ev2 x0 f) (h1 : Ev3 x1 w)
    (h2 : Ev3 x2 b) : Ev3 (φ := .f32) (n := 2) (a := 16) (b := 768) (val_main_v17 (F := Ideal) x0 x1 x2) (ada (act f) w b) := fun z => by
  unfold val_main_v17
  pointwise
  have hz : (z 0).val < 2 := (z 0).isLt
  split_ifs with hlt
  · rw [val_main_v15_apply, ref7 h0 h1 h2]
    have e : (z 0).val = 0 := by simpa using hlt
    exact congrArg (fun k => ada (act f) w b k (z 1).val (z 2).val) e.symm
  · rw [val_main_v16_apply, ref14 h0 h1 h2]
    have e : (z 0).val = 1 := by
      have : ¬ (z 0).val < 1 := by simpa using hlt
      omega
    exact congrArg (fun k => ada (act f) w b k (z 1).val (z 2).val) e.symm
  · rename_i h
    exact absurd rfl h

omit c in
theorem algebraic : Cert.algebraic_Kernel19Ideal_Reference19Ideal := by
  intro m ρ m' ρ' _ harg
  refine ⟨fun c => (dats m 0 c).arrAt 3 cfg0.N,
    (θ_run _ _ _).mono (fun r h c => ⟨(h.1 c).1 3, h.2 c⟩) (θ_run_and (run_main m ρ) (unchanged m ρ)),
    (θ_run _ _ _).mono (fun r h c => ⟨(h c).1.trans ?_, (h c).2⟩) (Cert.Reference19Ideal.Value.run (F := Ideal) m' ρ')⟩
  obtain ⟨a0, a1, a2⟩ := harg c
  rw [Cert.Reference19Ideal.Read.val_main_v17_eq, a0, a1, a2]
  funext z
  exact (ref (ev_ent _) (ev_ent3 _) (ev_ent3 _) z).trans (arr3 m c (ev_ent _) (ev_ent3 _) (ev_ent3 _) z).symm

end Ffn.AdaFwd
-- ==== Proof.SlabSum.lean ====
/- The sum of the eight gradient slabs of the small weights: the kernel's adds, slab after slab, are the plain sum over the leading axis. -/
module

public import proofs.«01_k».proof.Proof.Adam
public import proofs.«01_k».proof.Defs
public import proofs.«01_k».proof.Proof.Gen.Kernel16Ideal.Frame
public import proofs.«01_k».proof.Proof.Gen.Reference16Ideal.Run
public import proofs.«01_k».proof.Proof.Gen.Reference16Ideal.Read

@[expose] public section

set_option maxRecDepth 16384

noncomputable section

namespace Ffn.SlabSum

open Idealize.ShloMosaic Finset
open Idealize.ShloMosaic.TcCoe Idealize.SL.Sem
open Cert.Kernel16Ideal Cert.Kernel16Ideal.Gen

section Body

variable (x0 : Vec Ideal S8x128x1024 .f32)

/-- The eight slabs' sum. -/
def sum8 (g : ℕ → ℕ → ℕ → EReal) (i j : ℕ) : EReal := g 0 i j + g 1 i j + g 2 i j + g 3 i j + g 4 i j + g 5 i j + g 6 i j + g 7 i j

theorem out1 : out0_1 x0 = k0_pay1 (View.ld x0 r0_0) (View.ld x0 r0_1) (View.ld x0 r0_2) (View.ld x0 r0_3) (View.ld x0 r0_4)
    (View.ld x0 r0_5) (View.ld x0 r0_6) (View.ld x0 r0_7) := by
  frame_out

theorem ld0 {g : ℕ → ℕ → ℕ → EReal} (h : Ev3 (φ := .f32) x0 g) :
    Ev3 (φ := .f32) (n := 1) (a := 128) (b := 1024) (View.ld x0 r0_0) (fun k i j => g (0 + k) i j) := fun z => by
  refine (View.ld_apply _ _ _).trans (h.get (r0_0.idx z) ?_ ?_ ?_) <;> simp [r0_0]

theorem ld1 {g : ℕ → ℕ → ℕ → EReal} (h : Ev3 (φ := .f32) x0 g) :
    Ev3 (φ := .f32) (n := 1) (a := 128) (b := 1024) (View.ld x0 r0_1) (fun k i j => g (1 + k) i j) := fun z => by
  refine (View.ld_apply _ _ _).trans (h.get (r0_1.idx z) ?_ ?_ ?_) <;> simp [r0_1]

theorem ld2 {g : ℕ → ℕ → ℕ → EReal} (h : Ev3 (φ := .f32) x0 g) :
    Ev3 (φ := .f32) (n := 1) (a := 128) (b := 1024) (View.ld x0 r0_2) (fun k i j => g (2 + k) i j) := fun z => by
  refine (View.ld_apply _ _ _).trans (h.get (r0_2.idx z) ?_ ?_ ?_) <;> simp [r0_2]

theorem ld3 {g : ℕ → ℕ → ℕ → EReal} (h : Ev3 (φ := .f32) x0 g) :
    Ev3 (φ := .f32) (n := 1) (a := 128) (b := 1024) (View.ld x0 r0_3) (fun k i j => g (3 + k) i j) := fun z => by
  refine (View.ld_apply _ _ _).trans (h.get (r0_3.idx z) ?_ ?_ ?_) <;> simp [r0_3]

theorem ld4 {g : ℕ → ℕ → ℕ → EReal} (h : Ev3 (φ := .f32) x0 g) :
    Ev3 (φ := .f32) (n := 1) (a := 128) (b := 1024) (View.ld x0 r0_4) (fun k i j => g (4 + k) i j) := fun z => by
  refine (View.ld_apply _ _ _).trans (h.get (r0_4.idx z) ?_ ?_ ?_) <;> simp [r0_4]

theorem ld5 {g : ℕ → ℕ → ℕ → EReal} (h : Ev3 (φ := .f32) x0 g) :
    Ev3 (φ := .f32) (n := 1) (a := 128) (b := 1024) (View.ld x0 r0_5) (fun k i j => g (5 + k) i j) := fun z => by
  refine (View.ld_apply _ _ _).trans (h.get (r0_5.idx z) ?_ ?_ ?_) <;> simp [r0_5]

theorem ld6 {g : ℕ → ℕ → ℕ → EReal} (h : Ev3 (φ := .f32) x0 g) :
    Ev3 (φ := .f32) (n := 1) (a := 128) (b := 1024) (View.ld x0 r0_6) (fun k i j => g (6 + k) i j) := fun z => by
  refine (View.ld_apply _ _ _).trans (h.get (r0_6.idx z) ?_ ?_ ?_) <;> simp [r0_6]

theorem ld7 {g : ℕ → ℕ → ℕ → EReal} (h : Ev3 (φ := .f32) x0 g) :
    Ev3 (φ := .f32) (n := 1) (a := 128) (b := 1024) (View.ld x0 r0_7) (fun k i j => g (7 + k) i j) := fun z => by
  refine (View.ld_apply _ _ _).trans (h.get (r0_7.idx z) ?_ ?_ ?_) <;> simp [r0_7]

theorem slabs {g : ℕ → ℕ → ℕ → EReal} (h : Ev3 (φ := .f32) x0 g) : Ev2 (φ := .f32) (out0_1 x0) (sum8 g) := by
  rw [out1]
  exact (((((((ld0 x0 h).drop.add (ld1 x0 h).drop).add (ld2 x0 h).drop).add (ld3 x0 h).drop).add (ld4 x0 h).drop).add (ld5 x0 h).drop).add (ld6 x0 h).drop).add (ld7 x0 h).drop

end Body

theorem idx : ∀ t : Fin cfg0.N, win0_0.index t = ![0, t.val, 0] ∧ win0_1.index t = ![t.val, 0] :=
  (by decide +kernel : ∀ t : Fin grid0.N, _)

variable (m : (ℓ : Loc nD τ sig) → Buf (Elt Ideal) ℓ) (c : Dev nD) {g : ℕ → ℕ → ℕ → EReal}

theorem blk0 (h : Ev3 (φ := .f32) (V m c main_arg0) g) (t : Fin cfg0.N) :
    Ev3 (φ := .f32) (n := 8) (a := 128) (b := 1024) (iblk m c 0 t) (fun k i j => g k (128 * t.val + i) j) := fun z => by
  blk_simp [iblk]
  refine (h _).trans ?_
  simp [idx t, mul_comm]

theorem arr1 (h0 : Ev3 (φ := .f32) (V m c main_arg0) g) :
    Ev2 (φ := .f32) (a := 256) (b := 1024) ((dats m 0 c).arrAt 1 cfg0.N) (sum8 g) := fun i j => by
  refine (dats m 0 c).arrAt_forall_of_covers 1 (fun z x => x = sum8 g (z 0).val (z 1).val)
    (by decide +kernel) (fun t hf x => ?_) (ValueIdx.ix2 i j)
  blk_simp [idx t]
  rw [after0_1]
  refine ((slabs _ (blk0 m c h0 t)).at x).trans ?_
  simp [sum8, mul_comm]

theorem ref {x0 : FVec Ideal S8x256x1024 .f32} (h0 : Ev3 x0 g) :
    Ev2 (φ := .f32) (a := 256) (b := 1024) (Cert.Reference16Ideal.Read.val_main_v0 (F := Ideal) x0) (sum8 g) := fun i j => by
  rw [Cert.Reference16Ideal.Read.val_main_v0_apply, Cert.Reference16Ideal.Read.val_main_cst_apply, Fin.sum_univ_eight]
  rw [h0.get _ (k := 0) (i := i) (j := j) rfl rfl rfl, h0.get _ (k := 1) (i := i) (j := j) rfl rfl rfl, h0.get _ (k := 2) (i := i) (j := j) rfl rfl rfl, h0.get _ (k := 3) (i := i) (j := j) rfl rfl rfl,
    h0.get _ (k := 4) (i := i) (j := j) rfl rfl rfl, h0.get _ (k := 5) (i := i) (j := j) rfl rfl rfl, h0.get _ (k := 6) (i := i) (j := j) rfl rfl rfl, h0.get _ (k := 7) (i := i) (j := j) rfl rfl rfl]
  pointwise
  simp [sum8]

omit c in
theorem algebraic : Cert.algebraic_Kernel16Ideal_Reference16Ideal := by
  intro m ρ m' ρ' _ harg
  refine ⟨fun c => (dats m 0 c).arrAt 1 cfg0.N,
    (θ_run _ _ _).mono (fun r h c => ⟨(h.1 c).1 1, h.2 c⟩) (θ_run_and (run_main m ρ) (unchanged m ρ)),
    (θ_run _ _ _).mono (fun r h c => ⟨(h c).1.trans ?_, (h c).2⟩) (Cert.Reference16Ideal.Value.run (F := Ideal) m' ρ')⟩
  have a0 := harg c
  rw [Cert.Reference16Ideal.Read.val_main_v0_eq, a0]
  exact (ref (ev_ent3 _)).eq (arr1 m c (ev_ent3 _)) fun i _ j _ => rfl

end Ffn.SlabSum
-- ==== Proof.PairAdd.lean ====
/- The sum of two packs of gradients, kept in sixteen bits: the kernel, block by block, is the plain sum. -/
module

public import proofs.«01_k».proof.Proof.Adam
public import proofs.«01_k».proof.Defs
public import proofs.«01_k».proof.Proof.Gen.Kernel17Ideal.Frame
public import proofs.«01_k».proof.Proof.Gen.Reference17Ideal.Run
public import proofs.«01_k».proof.Proof.Gen.Reference17Ideal.Read

@[expose] public section

set_option maxRecDepth 16384

noncomputable section

namespace Ffn.PairAdd

open Idealize.ShloMosaic Finset
open Idealize.ShloMosaic.TcCoe Idealize.SL.Sem
open Cert.Kernel17Ideal Cert.Kernel17Ideal.Gen

/-- Two stacks of one number each add up to their sum. -/
theorem out2 (x0 x1 : Vec Ideal S1x128x1024 .bf16) : out0_2 x0 x1 = fun z => (x0 z + x1 z : EReal) := by
  have h : out0_2 x0 x1 = k0_pay1 x0 x1 := by frame_out
  rw [h]
  rfl

theorem idx : ∀ t : Fin cfg0.N, win0_0.index t = ![t.val / 37, t.val % 37, 0] ∧ win0_1.index t = ![t.val / 37, t.val % 37, 0]
    ∧ win0_2.index t = ![t.val / 37, t.val % 37, 0] :=
  (by decide +kernel : ∀ t : Fin grid0.N, _)

variable (m : (ℓ : Loc nD τ sig) → Buf (Elt Ideal) ℓ) (c : Dev nD) {f g : ℕ → ℕ → ℕ → EReal}

theorem blk0 (h : Ev3 (φ := .bf16) (V m c main_arg0) f) (t : Fin cfg0.N) :
    Ev3 (φ := .bf16) (n := 1) (a := 128) (b := 1024) (iblk m c 0 t) (fun k i j => f (t.val / 37 + k) (128 * (t.val % 37) + i) j) :=
  fun z => by
  blk_simp [iblk]
  refine (h _).trans ?_
  simp [idx t, mul_comm]

theorem blk1 (h : Ev3 (φ := .bf16) (V m c main_arg1) g) (t : Fin cfg0.N) :
    Ev3 (φ := .bf16) (n := 1) (a := 128) (b := 1024) (iblk m c 1 t) (fun k i j => g (t.val / 37 + k) (128 * (t.val % 37) + i) j) :=
  fun z => by
  blk_simp [iblk]
  refine (h _).trans ?_
  simp [idx t, mul_comm]

theorem arr2 (h0 : Ev3 (φ := .bf16) (V m c main_arg0) f) (h1 : Ev3 (φ := .bf16) (V m c main_arg1) g) :
    Ev3 (φ := .bf16) (n := 4) (a := 4736) (b := 1024) ((dats m 0 c).arrAt 2 cfg0.N) (fun k i j => f k i j + g k i j) := fun z => by
  refine (dats m 0 c).arrAt_forall_of_covers 2
    (fun z x => x = f (z 0).val (z 1).val (z 2).val + g (z 0).val (z 1).val (z 2).val) (by decide +kernel) (fun t hf x => ?_) z
  blk_simp [idx t]
  rw [after0_2, out2]
  refine (congrArg₂ (· + ·) (blk0 m c h0 t x) (blk1 m c h1 t x)).trans ?_
  simp [mul_comm]

omit c in
theorem algebraic : Cert.algebraic_Kernel17Ideal_Reference17Ideal := by
  intro m ρ m' ρ' _ harg
  refine ⟨fun c => (dats m 0 c).arrAt 2 cfg0.N,
    (θ_run _ _ _).mono (fun r h c => ⟨(h.1 c).1 2, h.2 c⟩) (θ_run_and (run_main m ρ) (unchanged m ρ)),
    (θ_run _ _ _).mono (fun r h c => ⟨(h c).1.trans ?_, (h c).2⟩) (Cert.Reference17Ideal.Value.run (F := Ideal) m' ρ')⟩
  obtain ⟨a0, a1⟩ := harg c
  rw [Cert.Reference17Ideal.Read.val_main_v3_eq, a0, a1]
  funext z
  refine Eq.trans ?_ (arr2 m c (ev_ent3 _) (ev_ent3 _) z).symm
  exact congrArg₂ (· + ·) (ev_ent3 _ z) (ev_ent3 _ z)

end Ffn.PairAdd
-- ==== Proof.DwMla.lean ====
/- The gradient of the weights of the attention's branch, over heads filled up to 128 lanes by zeros: it is the plain product. -/
module

public import proofs.«01_k».proof.Proof.Fill
public import proofs.«01_k».proof.Defs
public import proofs.«01_k».proof.Proof.Gen.Kernel13Ideal.Frame
public import proofs.«01_k».proof.Proof.Gen.Reference13Ideal.Run
public import proofs.«01_k».proof.Proof.Gen.Reference13Ideal.Read

@[expose] public section

set_option maxRecDepth 16384

noncomputable section

namespace Ffn.DwMla

open Idealize.ShloMosaic Finset
open Idealize.ShloMosaic.TcCoe Idealize.SL.Sem
open Cert.Kernel13Ideal Cert.Kernel13Ideal.Gen

theorem prod {x : FVec Ideal S1408x1024 .bf16} {y : FVec Ideal S1408x1024 .bf16} {f g : ℕ → ℕ → EReal} (hx : Ev2 x f) (hy : Ev2 y g) :
    Ev2 (matmul dot_S1408x1024_S1408x1024_S1024x1024_0_0_1_1_n_n none x y (constant S1024x1024 .f32 0x00000000#32)) (tn f g 1408) :=
  fun i j => by
    pointwise
    simp only [hx _ i, hy _ j]
    exact Fin.sum_univ_eq_sum_range (fun k => f k i * g k j) 1408

theorem tile {x : Vec Ideal S1408x1024 .f32} {y : Vec Ideal S1408x1024 .f32} {f g : ℕ → ℕ → EReal}
    (hx : Ev2 (φ := .f32) x f) (hy : Ev2 (φ := .f32) y g) : Ev2 (k0_pay1 (F := Ideal) x y) (tn f g 1408) :=
  prod (Ev2.truncf (Ev2.cast hx)) hy.truncf

theorem step {x : Vec Ideal S1408x1024 .f32} {y : Vec Ideal S1408x1024 .f32} {z : Vec Ideal S1024x1024 .f32}
    {f g h : ℕ → ℕ → EReal} (hx : Ev2 (φ := .f32) x f) (hy : Ev2 (φ := .f32) y g) (hz : Ev2 (φ := .f32) z h) :
    Ev2 (k0_pay2 (F := Ideal) x y z) fun i j => h i j + tn f g 1408 i j :=
  Ev2.add (x := shapeCast S1024x1024 z Facts₀.shapeCasts_S1024x1024_S1024x1024) hz.cast (tile hx hy)

section Cases

variable (c : Dev nD) (i : grid0.Coords) (a3 : Memref sig .tc .vmem S1408x1024 .f32) (h3 : a3.IsWhole)
  (a4 : Memref sig .tc .vmem S1408x1024 .f32) (h4 : a4.IsWhole) (a5 : Memref sig .tc .vmem S1024x1024 .f32) (h5 : a5.IsWhole)
  (x0 : Vec Ideal S1408x1024 .f32) (x1 : Vec Ideal S1408x1024 .f32) (x2 : Vec Ideal S1024x1024 .f32)

theorem outA (hc0 : cond0_0 i) (hc1 : ¬cond0_1 i) : out0_A_2 c i a3 h3 a4 h4 a5 h5 hc0 hc1 x0 x1 = k0_pay1 x0 x1 := by
  frame_out

theorem outB (hc0 : ¬cond0_0 i) (hc1 : cond0_1 i) : out0_B_2 c i a3 h3 a4 h4 a5 h5 hc0 hc1 x0 x1 x2 = k0_pay2 x0 x1 x2 := by
  frame_out

end Cases

theorem idx : ∀ t : Fin cfg0.N, win0_0.index t = ![t.val % 6, 0] ∧ win0_1.index t = ![t.val % 6, t.val / 6]
    ∧ win0_2.index t = ![0, t.val / 6] :=
  (by decide +kernel : ∀ t : Fin grid0.N, _)

variable (m : (ℓ : Loc nD τ sig) → Buf (Elt Ideal) ℓ) (c : Dev nD) {f g : ℕ → ℕ → EReal}

theorem blk0 (h : Ev2 (φ := .f32) (V m c main_v2) f) (t : Fin cfg0.N) :
    Ev2 (φ := .f32) (a := 1408) (b := 1024) (iblk m c 0 t) (fun k i => f (1408 * (t.val % 6) + k) i) := fun i j => by
  blk_simp [iblk]
  refine (h.at _).trans ?_
  simp [idx t, mul_comm]

theorem blk1 (h : Ev2 (φ := .f32) (V m c main_arg1) g) (t : Fin cfg0.N) :
    Ev2 (φ := .f32) (a := 1408) (b := 1024) (iblk m c 1 t) (fun k j => g (1408 * (t.val % 6) + k) (1024 * (t.val / 6) + j)) :=
  fun i j => by
  blk_simp [iblk]
  refine (h.at _).trans ?_
  simp [idx t, mul_comm]

variable (h0 : Ev2 (φ := .f32) (V m c main_v2) f) (h1 : Ev2 (φ := .f32) (V m c main_arg1) g)

include h0 h1

/-- After point `n` the output's block holds the sum over the row tiles so far. -/
theorem outs (n : ℕ) (hn : n < cfg0.N) : Ev2 (φ := .f32) (outsAt0 m c n hn)
    fun i j => tn f g (1408 * (n % 6) + 1408) i (1024 * (n / 6) + j) := by
  induction n using Nat.strongRecOn with
  | ind n ih =>
    obtain ⟨t, rfl⟩ : ∃ t : Fin cfg0.N, t.val = n := ⟨⟨n, hn⟩, rfl⟩
    have hN : t.val < 6 := t.isLt
    have b0 := blk0 m c h0 t
    have b1 := blk1 m c h1 t
    by_cases t0 : t.val % 6 = 0
    · rw [outsAt0_A m c t t0 (by omega), outA]
      refine (tile b0 b1).congr fun i _ j _ => ?_
      rw [t0]
      simp only [tn, Nat.mul_zero, Nat.zero_add]
    · have p := ih (t.val - 1) (by omega) (by omega)
      rw [show (t.val - 1) / 6 = t.val / 6 by omega, show 1408 * ((t.val - 1) % 6) + 1408 = 1408 * (t.val % 6) by omega] at p
      rw [outsAt0_B m c t t0 (by omega), outB]
      refine (step b0 b1 p).congr fun i _ j _ => ?_
      exact sum_tile (t.val % 6) 1408 fun k => f k i * g k (1024 * (t.val / 6) + j)

/-- The result array holds the sums over all rows. -/
theorem arr : Ev2 (φ := .f32) (a := 1024) (b := 1024) ((dats m 0 c).arrAt 2 cfg0.N) (tn f g 8448) := fun i j => by
  refine (dats m 0 c).arrAt_forall_of_covers 2 (fun z w => w = tn f g 8448 (z 0).val (z 1).val)
    (by decide +kernel) (fun t hf x => ?_) (ValueIdx.ix2 i j)
  have h5 := (flush0_2 t).mp hf
  blk_simp [idx t]
  rw [after0_2]
  refine ((outs m c h0 h1 t.val t.isLt).at x).trans ?_
  simp [h5, mul_comm]

/-- The rows' heads, each filled up to 128 lanes. -/
def wide (y : FVec Ideal S8448x512 .f32) : FVec Ideal S8448x1024 .f32 :=
  shapeCast S8448x1024 (pad S8448x8x128 ![0, 0, 0] ![0, 0, 64] ![0, 0, 0]
    (shapeCast S8448x8x64 y Facts₀.shapeCasts_S8448x512_S8448x8x64) (sitofp .f32 (constantI S_ 32 0#32))
    Facts₀.pads_S8448x8x64_S8448x8x128_000_000_0640 Facts₀.h_S_) Facts₀.shapeCasts_S8448x8x128_S8448x1024

/-- Every head's 64 rows taken back. -/
def short (x : FVec Ideal S1024x1024 .f32) : FVec Ideal S512x1024 .f32 :=
  shapeCast S512x1024 (extractStridedSlice S8x64x1024 ![0, 0, 0]
    (shapeCast S8x128x1024 x Facts₀.shapeCasts_S1024x1024_S8x128x1024) Facts₀.slices_S8x128x1024_S8x64x1024_0_0_0)
    Facts₀.shapeCasts_S8x64x1024_S512x1024

omit h0 h1 in
theorem zero_word : (FloatOps.sitofp .f32 0#32 : Ideal .f32) = (0 : EReal) := by
  show ((((0#32 : BitVec 32).toInt : ℤ) : ℝ) : EReal) = _
  simp

omit h0 h1 in
theorem wide_ev {y : FVec Ideal S8448x512 .f32} (h : Ev2 y f) : Ev2 (wide y) (fillC f) := fun i j => by
  unfold wide fillC
  pointwise
  split_ifs with h1 h2 h2
  · exact h.get _ (by simp) (by simp)
  · exact absurd h1.2 h2
  · exact absurd ⟨by omega, h2⟩ h1
  · exact zero_word

omit h0 h1 in
theorem short_ev {x : FVec Ideal S1024x1024 .f32} (h : Ev2 x f) : Ev2 (short x) fun k j => f (lane k) j :=
  fun i j => by
  unfold short lane
  pointwise
  exact h.get _ (by simp) (by simp)

omit h0 h1 in
theorem v2_eq : V m c main_v2 = wide (m ((c : Thread nD τ).loc main_arg0)) := by
  show StableHlo.after (List.flatten [hostOps0, hostOps0_1, hostOps0_2]) (fun b => m (c, b)) (Proc.devRef .tc main_v2) = _
  simp only [hostOps0, hostOps0_1, hostOps0_2, List.flatten_cons, List.flatten_nil, List.append_nil, List.cons_append, List.nil_append]
  after_results_simp
  rfl

omit h0 h1 in
theorem tail_eq (W : Valuation τ sig (Elt Ideal)) : StableHlo.after [hostOps1].flatten W (Proc.devRef .tc main_v6)
    = short (W (Proc.devRef .tc main_v3)) := by
  simp only [hostOps1, List.flatten_cons, List.flatten_nil, List.append_nil, List.cons_append, List.nil_append]
  after_results_simp
  rfl

omit h0 h1 in
theorem v6_eq : Pipeline.afterTail₀ cfgs (dats m) 0 (V0 m) [hostOps1] c main_v6 = short ((dats m 0 c).arrAt 2 cfg0.N) := by
  unfold Pipeline.afterTail₀
  rw [tail_eq]
  exact congrArg short (Pipeline.withArrays_arr _ launch0.win.arr_inj c (V0 m c) _ 2)

omit h0 h1 in
theorem v6_ev {x : FVec Ideal S8448x512 .f32} (hx : (m ((c : Thread nD τ).loc main_arg0) : FVec Ideal S8448x512 .f32) = x) (h : Ev2 x f)
    (hg : Ev2 (φ := .f32) (V m c main_arg1) g) :
    Ev2 (φ := .f32) (a := 512) (b := 1024) (Pipeline.afterTail₀ cfgs (dats m) 0 (V0 m) [hostOps1] c main_v6) (tn f g 8448) := by
  have l : Ev2 (φ := .f32) (V m c main_v2) (fillC f) := by
    rw [v2_eq, hx]
    exact wide_ev h
  rw [v6_eq]
  exact (short_ev (arr m c l hg)).congr fun i _ j _ => tn_fill f g 8448 i j

omit h0 h1 in
theorem ref {x : FVec Ideal S8448x512 .f32} {y : FVec Ideal S8448x1024 .f32} (hx : Ev2 x f) (hy : Ev2 y g) :
    Ev2 (φ := .f32) (a := 512) (b := 1024) (Cert.Reference13Ideal.Read.val_main_v3 (F := Ideal) x y) (tn f g 8448) := fun i j => by
  rw [Cert.Reference13Ideal.Read.val_main_v3_apply, Cert.Reference13Ideal.Read.val_main_v2_apply]
  refine (sum_congr rfl fun k _ => ?_).trans (Fin.sum_univ_eq_sum_range (fun k => f k i * g k j) 8448)
  rw [mul_comm]
  exact congrArg₂ (· * ·) (hx.get _ rfl rfl) (hy.get _ rfl rfl)

omit c h0 h1 in
theorem algebraic : Cert.algebraic_Kernel13Ideal_Reference13Ideal := by
  intro m ρ m' ρ' _ harg
  refine ⟨fun c => Pipeline.afterTail₀ cfgs (dats m) 0 (V0 m) [hostOps1] c main_v6,
    (θ_run _ _ _).mono (fun r h c => ⟨(h.1 c).2 main_v6 (Pipeline.mem_restRefs_of main_v6 (by decide) (by decide)), h.2 c⟩)
      (θ_run_and (run_main m ρ) (unchanged m ρ)),
    (θ_run _ _ _).mono (fun r h c => ⟨(h c).1.trans ?_, (h c).2⟩) (Cert.Reference13Ideal.Value.run (F := Ideal) m' ρ')⟩
  obtain ⟨a0, a1⟩ := harg c
  rw [Cert.Reference13Ideal.Read.val_main_v3_eq, a0, a1]
  exact (ref (ev_ent _) (ev_ent _)).eq (v6_ev m c rfl (ev_ent _) (ev_ent _)) fun i _ j _ => rfl

end Ffn.DwMla
-- ==== Proof.lean ====
module

public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal.Run
public import proofs.«01_k».proof.Proof.Gen.Reference19Ideal.Read
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal.Run
public import proofs.«01_k».proof.Proof.Gen.Reference18Ideal.Read
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal.Run
public import proofs.«01_k».proof.Proof.Gen.Reference14Ideal.Read
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal.Run
public import proofs.«01_k».proof.Proof.Gen.Reference15Ideal.Read
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal.Run
public import proofs.«01_k».proof.Proof.Gen.Reference16Ideal.Read
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal.Run
public import proofs.«01_k».proof.Proof.Gen.Reference17Ideal.Read
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal.Run
public import proofs.«01_k».proof.Proof.Gen.Reference12Ideal.Read
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal.Run
public import proofs.«01_k».proof.Proof.Gen.Reference13Ideal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal.Run
public import proofs.«01_k».proof.Proof.Gen.Pre_finite
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal.Run
public import proofs.«01_k».proof.Proof.Gen.Reference5Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal.Run
public import proofs.«01_k».proof.Proof.Gen.Reference11Ideal.Read
public import proofs.«01_k».proof.Proof.Value
public import proofs.«01_k».proof.Proof.FfnValue
public import proofs.«01_k».proof.Proof.DwIn
public import proofs.«01_k».proof.Proof.DwOut
public import proofs.«01_k».proof.Proof.InDx
public import proofs.«01_k».proof.Proof.InDw
public import proofs.«01_k».proof.Proof.OutProj
public import proofs.«01_k».proof.Proof.DwProj
public import proofs.«01_k».proof.Proof.DwBranch
public import proofs.«01_k».proof.Proof.OutMla
public import proofs.«01_k».proof.Proof.AdamAda
public import proofs.«01_k».proof.Proof.AdamBig
public import proofs.«01_k».proof.Proof.AdamSmall
public import proofs.«01_k».proof.Proof.AdaFwd
public import proofs.«01_k».proof.Proof.SlabSum
public import proofs.«01_k».proof.Proof.PairAdd
public import proofs.«01_k».proof.Proof.DwMla
public import Idealize.ShloMosaic.Adequacy
public import Idealize.ShloMosaic.Init

@[expose] public section

noncomputable section

namespace Cert.Proof

open Idealize.ShloMosaic Idealize.SL.Sem Cert.Kernel

/-- The reference has no semaphores, so its counters stay at zero. -/
theorem frameR : Cert.quiescent_ReferenceIdeal := fun m ρ _ =>
  (θ_run _ _ _).mono (fun r h => ⟨fun c => (h c).2.2.2.2, sem_eq_zero_of_no_sems (by decide) r.2⟩)
    (Cert.ReferenceIdeal.Value.run (F := Ideal) m ρ)

/-- The feed-forward reference likewise. -/
theorem frameR3 : Cert.quiescent_Reference3Ideal := fun m ρ _ =>
  (θ_run _ _ _).mono (fun r h => ⟨fun c => (h c).2.2.2, sem_eq_zero_of_no_sems (by decide) r.2⟩)
    (Cert.Reference3Ideal.Value.run (F := Ideal) m ρ)

/-- The reference of the gate's weight gradient likewise. -/
theorem frameR4 : Cert.quiescent_Reference4Ideal := fun m ρ _ =>
  (θ_run _ _ _).mono (fun r h => ⟨fun c => (h c).2, sem_eq_zero_of_no_sems (by decide) r.2⟩)
    (Cert.Reference4Ideal.Value.run (F := Ideal) m ρ)

/-- The reference of the last weight's gradient likewise. -/
theorem frameR5 : Cert.quiescent_Reference5Ideal := fun m ρ _ =>
  (θ_run _ _ _).mono (fun r h => ⟨fun c => (h c).2, sem_eq_zero_of_no_sems (by decide) r.2⟩)
    (Cert.Reference5Ideal.Value.run (F := Ideal) m ρ)

/-- The reference of the in-projection's input gradient likewise. -/
theorem frameR7 : Cert.quiescent_Reference7Ideal := fun m ρ _ =>
  (θ_run _ _ _).mono (fun r h => ⟨fun c => (h c).2, sem_eq_zero_of_no_sems (by decide) r.2⟩)
    (Cert.Reference7Ideal.Value.run (F := Ideal) m ρ)

/-- The reference of the in-projection's weight gradient likewise. -/
theorem frameR8 : Cert.quiescent_Reference8Ideal := fun m ρ _ =>
  (θ_run _ _ _).mono (fun r h => ⟨fun c => (h c).2, sem_eq_zero_of_no_sems (by decide) r.2⟩)
    (Cert.Reference8Ideal.Value.run (F := Ideal) m ρ)

/-- The reference of the output projection likewise. -/
theorem frameR9 : Cert.quiescent_Reference9Ideal := fun m ρ _ =>
  (θ_run _ _ _).mono (fun r h => ⟨fun c => (h c).2.2.2.2, sem_eq_zero_of_no_sems (by decide) r.2⟩)
    (Cert.Reference9Ideal.Value.run (F := Ideal) m ρ)

/-- The reference of the output projection's weight gradient likewise. -/
theorem frameR10 : Cert.quiescent_Reference10Ideal := fun m ρ _ =>
  (θ_run _ _ _).mono (fun r h => ⟨fun c => (h c).2, sem_eq_zero_of_no_sems (by decide) r.2⟩)
    (Cert.Reference10Ideal.Value.run (F := Ideal) m ρ)

/-- The reference of the branch's weight gradient likewise. -/
theorem frameR11 : Cert.quiescent_Reference11Ideal := fun m ρ _ =>
  (θ_run _ _ _).mono (fun r h => ⟨fun c => (h c).2, sem_eq_zero_of_no_sems (by decide) r.2⟩)
    (Cert.Reference11Ideal.Value.run (F := Ideal) m ρ)

/-- The reference of the attention's branch likewise. -/
theorem frameR12 : Cert.quiescent_Reference12Ideal := fun m ρ _ =>
  (θ_run _ _ _).mono (fun r h => ⟨fun c => (h c).2.2, sem_eq_zero_of_no_sems (by decide) r.2⟩)
    (Cert.Reference12Ideal.Value.run (F := Ideal) m ρ)

/-- The reference of the attention's branch's weight gradient likewise. -/
theorem frameR13 : Cert.quiescent_Reference13Ideal := fun m ρ _ =>
  (θ_run _ _ _).mono (fun r h => ⟨fun c => (h c).2, sem_eq_zero_of_no_sems (by decide) r.2⟩)
    (Cert.Reference13Ideal.Value.run (F := Ideal) m ρ)

/-- The reference of the optimiser's step on the adaptive layer's weight likewise. -/
theorem frameR14 : Cert.quiescent_Reference14Ideal := fun m ρ _ =>
  (θ_run _ _ _).mono (fun r h => ⟨fun c => (h c).2.2.2.2, sem_eq_zero_of_no_sems (by decide) r.2⟩)
    (Cert.Reference14Ideal.Value.run (F := Ideal) m ρ)

/-- The reference of the optimiser's step on the large weights likewise. -/
theorem frameR15 : Cert.quiescent_Reference15Ideal := fun m ρ _ =>
  (θ_run _ _ _).mono (fun r h => ⟨fun c => (h c).2.2.2.2, sem_eq_zero_of_no_sems (by decide) r.2⟩)
    (Cert.Reference15Ideal.Value.run (F := Ideal) m ρ)

/-- The reference of the sum of the small gradients likewise. -/
theorem frameR16 : Cert.quiescent_Reference16Ideal := fun m ρ _ =>
  (θ_run _ _ _).mono (fun r h => ⟨fun c => (h c).2, sem_eq_zero_of_no_sems (by decide) r.2⟩)
    (Cert.Reference16Ideal.Value.run (F := Ideal) m ρ)

/-- The reference of the sum of two packs likewise. -/
theorem frameR17 : Cert.quiescent_Reference17Ideal := fun m ρ _ =>
  (θ_run _ _ _).mono (fun r h => ⟨fun c => (h c).2, sem_eq_zero_of_no_sems (by decide) r.2⟩)
    (Cert.Reference17Ideal.Value.run (F := Ideal) m ρ)

/-- The reference of the optimiser's step on the small weights likewise. -/
theorem frameR18 : Cert.quiescent_Reference18Ideal := fun m ρ _ =>
  (θ_run _ _ _).mono (fun r h => ⟨fun c => (h c).2.2.2.2, sem_eq_zero_of_no_sems (by decide) r.2⟩)
    (Cert.Reference18Ideal.Value.run (F := Ideal) m ρ)

/-- The reference of the adaptive layer's forward call likewise. -/
theorem frameR19 : Cert.quiescent_Reference19Ideal := fun m ρ _ =>
  (θ_run _ _ _).mono (fun r h => ⟨fun c => (h c).2, sem_eq_zero_of_no_sems (by decide) r.2⟩)
    (Cert.Reference19Ideal.Value.run (F := Ideal) m ρ)

theorem claim : Cert.Claim := ⟨Cert.Kernel.Gen.facts, Cert.KernelIdeal.Gen.facts, Cert.ReferenceIdeal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Pre_finite.Gen.facts,
  fun m ρ _ => Cert.Kernel.Gen.frame m ρ, fun m ρ _ => Cert.KernelIdeal.Gen.frame m ρ, fun m ρ _ => Cert.KernelIdeal.Gen.frame m ρ,
  frameR, fun m ρ _ => frameR m ρ trivial,
  fun m ρ _ => Cert.Kernel3.Gen.frame m ρ, fun m ρ _ => Cert.Kernel3Ideal.Gen.frame m ρ, frameR3,
  fun m ρ _ => Cert.Kernel4.Gen.frame m ρ, fun m ρ _ => Cert.Kernel4Ideal.Gen.frame m ρ, frameR4,
  fun m ρ _ => Cert.Kernel5.Gen.frame m ρ, fun m ρ _ => Cert.Kernel5Ideal.Gen.frame m ρ, frameR5,
  fun m ρ _ => Cert.Kernel7.Gen.frame m ρ, fun m ρ _ => Cert.Kernel7Ideal.Gen.frame m ρ, frameR7,
  fun m ρ _ => Cert.Kernel8.Gen.frame m ρ, fun m ρ _ => Cert.Kernel8Ideal.Gen.frame m ρ, frameR8,
  fun m ρ _ => Cert.Kernel9.Gen.frame m ρ, fun m ρ _ => Cert.Kernel9Ideal.Gen.frame m ρ, frameR9,
  fun m ρ _ => Cert.Kernel10.Gen.frame m ρ, fun m ρ _ => Cert.Kernel10Ideal.Gen.frame m ρ, frameR10,
  fun m ρ _ => Cert.Kernel11.Gen.frame m ρ, fun m ρ _ => Cert.Kernel11Ideal.Gen.frame m ρ, frameR11,
  fun m ρ _ => Cert.Kernel12.Gen.frame m ρ, fun m ρ _ => Cert.Kernel12Ideal.Gen.frame m ρ, frameR12,
  fun m ρ _ => Cert.Kernel13.Gen.frame m ρ, fun m ρ _ => Cert.Kernel13Ideal.Gen.frame m ρ, frameR13,
  fun m ρ _ => Cert.Kernel14.Gen.frame m ρ, fun m ρ _ => Cert.Kernel14Ideal.Gen.frame m ρ, frameR14,
  fun m ρ _ => Cert.Kernel15.Gen.frame m ρ, fun m ρ _ => Cert.Kernel15Ideal.Gen.frame m ρ, frameR15,
  fun m ρ _ => Cert.Kernel16.Gen.frame m ρ, fun m ρ _ => Cert.Kernel16Ideal.Gen.frame m ρ, frameR16,
  fun m ρ _ => Cert.Kernel17.Gen.frame m ρ, fun m ρ _ => Cert.Kernel17Ideal.Gen.frame m ρ, frameR17,
  fun m ρ _ => Cert.Kernel18.Gen.frame m ρ, fun m ρ _ => Cert.Kernel18Ideal.Gen.frame m ρ, frameR18,
  fun m ρ _ => Cert.Kernel19.Gen.frame m ρ, fun m ρ _ => Cert.Kernel19Ideal.Gen.frame m ρ, frameR19,
  ⟨IdealRules.named_const.statement Cert.KernelIdeal.κ "log2e" .f32 0x3FB8AA3B#32 (((Real.log 2)⁻¹ : ℝ) : EReal) rfl,
   IdealRules.named_const.statement Cert.KernelIdeal.κ "ln2" .f32 0x3F317218#32 ((Real.log 2 : ℝ) : EReal) rfl⟩,
  Attn.algebraic, trivial, Ffn.Mid.algebraic, trivial, Ffn.DwIn.algebraic, trivial, Ffn.DwOut.algebraic,
  trivial, Ffn.InDx.algebraic, trivial, Ffn.InDw.algebraic, trivial, Ffn.Out.algebraic, trivial, Ffn.DwProj.algebraic, trivial, Ffn.DwBranch.algebraic, trivial, Ffn.Mla.algebraic, trivial, Ffn.DwMla.algebraic,
  trivial, Ffn.AdamAda.algebraic, trivial, Ffn.AdamBig.algebraic, trivial, Ffn.SlabSum.algebraic, trivial, Ffn.PairAdd.algebraic, trivial, Ffn.AdamSmall.algebraic, trivial, Ffn.AdaFwd.algebraic⟩

end Cert.Proof

end
